-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesReferenceIdeal (m : (ℓ : Loc Cert.StatesReferenceIdeal.nD Cert.StatesReferenceIdeal.τ Cert.StatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2)
      ∧ r.2.mem ((c.tc : Thread Cert.States.nD Cert.States.τ).loc Cert.States.main_arg3) = m ((c.tc : Thread Cert.States.nD Cert.States.τ).loc Cert.States.main_arg3)
      ∧ r.2.mem ((c.tc : Thread Cert.States.nD Cert.States.τ).loc Cert.States.main_arg4) = m ((c.tc : Thread Cert.States.nD Cert.States.τ).loc Cert.States.main_arg4)
      ∧ r.2.mem ((c.tc : Thread Cert.States.nD Cert.States.τ).loc Cert.States.main_arg5) = m ((c.tc : Thread Cert.States.nD Cert.States.τ).loc Cert.States.main_arg5)
      ∧ r.2.mem ((c.tc : Thread Cert.States.nD Cert.States.τ).loc Cert.States.main_arg6) = m ((c.tc : Thread Cert.States.nD Cert.States.τ).loc Cert.States.main_arg6)
      ∧ r.2.mem ((c.tc : Thread Cert.States.nD Cert.States.τ).loc Cert.States.main_arg7) = m ((c.tc : Thread Cert.States.nD Cert.States.τ).loc Cert.States.main_arg7)
      ∧ r.2.mem ((c.tc : Thread Cert.States.nD Cert.States.τ).loc Cert.States.main_arg8) = m ((c.tc : Thread Cert.States.nD Cert.States.τ).loc Cert.States.main_arg8))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
      ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
      ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
      ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
      ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6)
      ∧ r.2.mem ((c.tc : Thread Cert.StatesIdeal.nD Cert.StatesIdeal.τ).loc Cert.StatesIdeal.main_arg7) = m ((c.tc : Thread Cert.StatesIdeal.nD Cert.StatesIdeal.τ).loc Cert.StatesIdeal.main_arg7)
      ∧ r.2.mem ((c.tc : Thread Cert.StatesIdeal.nD Cert.StatesIdeal.τ).loc Cert.StatesIdeal.main_arg8) = m ((c.tc : Thread Cert.StatesIdeal.nD Cert.StatesIdeal.τ).loc Cert.StatesIdeal.main_arg8))
      ∧ r.2.sem = fun _ => 0)

def quiescent_StatesReferenceIdeal [hStatesReferenceIdeal : Cert.StatesReferenceIdeal.Facts] : Prop :=
  ∀ (m : (ℓ : Loc Cert.StatesReferenceIdeal.nD Cert.StatesReferenceIdeal.τ Cert.StatesReferenceIdeal.sig) → Buf (Elt Ideal) ℓ) (g : Dev Cert.StatesReferenceIdeal.nD → PrngReg), Pre_StatesReferenceIdeal m →
    θ_run (Cert.StatesReferenceIdeal.defs (F := Ideal)) (onTc (τ := Cert.StatesReferenceIdeal.τ) (Cert.StatesReferenceIdeal.main (F := Ideal))) ⟨m, fun _ => 0, g⟩ (fun r => (∀ c : Dev Cert.StatesReferenceIdeal.nD,
      r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1)
      ∧ r.2.mem ((c.tc : Thread Cert.StatesReferenceIdeal.nD Cert.StatesReferenceIdeal.τ).loc Cert.StatesReferenceIdeal.main_arg2) = m ((c.tc : Thread Cert.StatesReferenceIdeal.nD Cert.StatesReferenceIdeal.τ).loc Cert.StatesReferenceIdeal.main_arg2)
      ∧ r.2.mem ((c.tc : Thread Cert.StatesReferenceIdeal.nD Cert.StatesReferenceIdeal.τ).loc Cert.StatesReferenceIdeal.main_arg3) = m ((c.tc : Thread Cert.StatesReferenceIdeal.nD Cert.StatesReferenceIdeal.τ).loc Cert.StatesReferenceIdeal.main_arg3)
      ∧ r.2.mem ((c.tc : Thread Cert.StatesReferenceIdeal.nD Cert.StatesReferenceIdeal.τ).loc Cert.StatesReferenceIdeal.main_arg4) = m ((c.tc : Thread Cert.StatesReferenceIdeal.nD Cert.StatesReferenceIdeal.τ).loc Cert.StatesReferenceIdeal.main_arg4)
      ∧ r.2.mem ((c.tc : Thread Cert.StatesReferenceIdeal.nD Cert.StatesReferenceIdeal.τ).loc Cert.StatesReferenceIdeal.main_arg5) = m ((c.tc : Thread Cert.StatesReferenceIdeal.nD Cert.StatesReferenceIdeal.τ).loc Cert.StatesReferenceIdeal.main_arg5)
      ∧ r.2.mem ((c.tc : Thread Cert.StatesReferenceIdeal.nD Cert.StatesReferenceIdeal.τ).loc Cert.StatesReferenceIdeal.main_arg6) = m ((c.tc : Thread Cert.StatesReferenceIdeal.nD Cert.StatesReferenceIdeal.τ).loc Cert.StatesReferenceIdeal.main_arg6)
      ∧ r.2.mem ((c.tc : Thread Cert.StatesReferenceIdeal.nD Cert.StatesReferenceIdeal.τ).loc Cert.StatesReferenceIdeal.main_arg7) = m ((c.tc : Thread Cert.StatesReferenceIdeal.nD Cert.StatesReferenceIdeal.τ).loc Cert.StatesReferenceIdeal.main_arg7)
      ∧ r.2.mem ((c.tc : Thread Cert.StatesReferenceIdeal.nD Cert.StatesReferenceIdeal.τ).loc Cert.StatesReferenceIdeal.main_arg8) = m ((c.tc : Thread Cert.StatesReferenceIdeal.nD Cert.StatesReferenceIdeal.τ).loc Cert.StatesReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v16) = v0 c
          ∧ r.2.mem ((c.tc : Thread Cert.PostReferenceIdeal.nD Cert.PostReferenceIdeal.τ).loc Cert.PostReferenceIdeal.main_v36) = v1 c
          ∧ r.2.mem ((c.tc : Thread Cert.PostReferenceIdeal.nD Cert.PostReferenceIdeal.τ).loc Cert.PostReferenceIdeal.main_v39) = v2 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11))

def preserves_States_StatesIdeal : Prop :=
  True

def algebraic_StatesIdeal_StatesReferenceIdeal [hStatesIdeal : Cert.StatesIdeal.Facts] [hStatesReferenceIdeal : Cert.StatesReferenceIdeal.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesReferenceIdeal.nD Cert.StatesReferenceIdeal.τ Cert.StatesReferenceIdeal.sig) → Buf (Elt Ideal) ℓ) (g' : Dev Cert.StatesReferenceIdeal.nD → PrngReg), Pre_StatesIdeal m →
    (∀ c : Dev Cert.StatesIdeal.nD,
      m' ((c.tc : Thread Cert.StatesReferenceIdeal.nD Cert.StatesReferenceIdeal.τ).loc Cert.StatesReferenceIdeal.main_arg0) = m ((c.tc : Thread Cert.StatesIdeal.nD Cert.StatesIdeal.τ).loc Cert.StatesIdeal.main_arg0)
      ∧ m' ((c.tc : Thread Cert.StatesReferenceIdeal.nD Cert.StatesReferenceIdeal.τ).loc Cert.StatesReferenceIdeal.main_arg1) = m ((c.tc : Thread Cert.StatesIdeal.nD Cert.StatesIdeal.τ).loc Cert.StatesIdeal.main_arg1)
      ∧ m' ((c.tc : Thread Cert.StatesReferenceIdeal.nD Cert.StatesReferenceIdeal.τ).loc Cert.StatesReferenceIdeal.main_arg2) = m ((c.tc : Thread Cert.StatesIdeal.nD Cert.StatesIdeal.τ).loc Cert.StatesIdeal.main_arg2)
      ∧ m' ((c.tc : Thread Cert.StatesReferenceIdeal.nD Cert.StatesReferenceIdeal.τ).loc Cert.StatesReferenceIdeal.main_arg3) = m ((c.tc : Thread Cert.StatesIdeal.nD Cert.StatesIdeal.τ).loc Cert.StatesIdeal.main_arg3)
      ∧ m' ((c.tc : Thread Cert.StatesReferenceIdeal.nD Cert.StatesReferenceIdeal.τ).loc Cert.StatesReferenceIdeal.main_arg4) = m ((c.tc : Thread Cert.StatesIdeal.nD Cert.StatesIdeal.τ).loc Cert.StatesIdeal.main_arg4)
      ∧ m' ((c.tc : Thread Cert.StatesReferenceIdeal.nD Cert.StatesReferenceIdeal.τ).loc Cert.StatesReferenceIdeal.main_arg5) = m ((c.tc : Thread Cert.StatesIdeal.nD Cert.StatesIdeal.τ).loc Cert.StatesIdeal.main_arg5)
      ∧ m' ((c.tc : Thread Cert.StatesReferenceIdeal.nD Cert.StatesReferenceIdeal.τ).loc Cert.StatesReferenceIdeal.main_arg6) = m ((c.tc : Thread Cert.StatesIdeal.nD Cert.StatesIdeal.τ).loc Cert.StatesIdeal.main_arg6)
      ∧ m' ((c.tc : Thread Cert.StatesReferenceIdeal.nD Cert.StatesReferenceIdeal.τ).loc Cert.StatesReferenceIdeal.main_arg7) = m ((c.tc : Thread Cert.StatesIdeal.nD Cert.StatesIdeal.τ).loc Cert.StatesIdeal.main_arg7)
      ∧ m' ((c.tc : Thread Cert.StatesReferenceIdeal.nD Cert.StatesReferenceIdeal.τ).loc Cert.StatesReferenceIdeal.main_arg8) = m ((c.tc : Thread Cert.StatesIdeal.nD Cert.StatesIdeal.τ).loc Cert.StatesIdeal.main_arg8)) →
    ∃ (v0 : (c : Dev Cert.StatesIdeal.nD) → Buf (Elt Ideal) ((c.tc : Thread Cert.StatesIdeal.nD Cert.StatesIdeal.τ).loc Cert.StatesIdeal.main_v115)) (v1 : (c : Dev Cert.StatesIdeal.nD) → Buf (Elt Ideal) ((c.tc : Thread Cert.StatesIdeal.nD Cert.StatesIdeal.τ).loc Cert.StatesIdeal.main_v117)) (v2 : (c : Dev Cert.StatesIdeal.nD) → Buf (Elt Ideal) ((c.tc : Thread Cert.StatesIdeal.nD Cert.StatesIdeal.τ).loc Cert.StatesIdeal.main_v118)) (v3 : (c : Dev Cert.StatesIdeal.nD) → Buf (Elt Ideal) ((c.tc : Thread Cert.StatesIdeal.nD Cert.StatesIdeal.τ).loc Cert.StatesIdeal.main_v119)) (v4 : (c : Dev Cert.StatesIdeal.nD) → Buf (Elt Ideal) ((c.tc : Thread Cert.StatesIdeal.nD Cert.StatesIdeal.τ).loc Cert.StatesIdeal.main_v114_0)) (v5 : (c : Dev Cert.StatesIdeal.nD) → Buf (Elt Ideal) ((c.tc : Thread Cert.StatesIdeal.nD Cert.StatesIdeal.τ).loc Cert.StatesIdeal.main_v114_3)) (v6 : (c : Dev Cert.StatesIdeal.nD) → Buf (Elt Ideal) ((c.tc : Thread Cert.StatesIdeal.nD Cert.StatesIdeal.τ).loc Cert.StatesIdeal.main_v114_6)) (v7 : (c : Dev Cert.StatesIdeal.nD) → Buf (Elt Ideal) ((c.tc : Thread Cert.StatesIdeal.nD Cert.StatesIdeal.τ).loc Cert.StatesIdeal.main_v114_7)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v115) = v0 c
          ∧ r.2.mem ((c.tc : Thread Cert.StatesIdeal.nD Cert.StatesIdeal.τ).loc Cert.StatesIdeal.main_v117) = v1 c
          ∧ r.2.mem ((c.tc : Thread Cert.StatesIdeal.nD Cert.StatesIdeal.τ).loc Cert.StatesIdeal.main_v118) = v2 c
          ∧ r.2.mem ((c.tc : Thread Cert.StatesIdeal.nD Cert.StatesIdeal.τ).loc Cert.StatesIdeal.main_v119) = v3 c
          ∧ r.2.mem ((c.tc : Thread Cert.StatesIdeal.nD Cert.StatesIdeal.τ).loc Cert.StatesIdeal.main_v114_0) = v4 c
          ∧ r.2.mem ((c.tc : Thread Cert.StatesIdeal.nD Cert.StatesIdeal.τ).loc Cert.StatesIdeal.main_v114_3) = v5 c
          ∧ r.2.mem ((c.tc : Thread Cert.StatesIdeal.nD Cert.StatesIdeal.τ).loc Cert.StatesIdeal.main_v114_6) = v6 c
          ∧ r.2.mem ((c.tc : Thread Cert.StatesIdeal.nD Cert.StatesIdeal.τ).loc Cert.StatesIdeal.main_v114_7) = v7 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2)
          ∧ r.2.mem ((c.tc : Thread Cert.StatesIdeal.nD Cert.StatesIdeal.τ).loc Cert.StatesIdeal.main_arg3) = m ((c.tc : Thread Cert.StatesIdeal.nD Cert.StatesIdeal.τ).loc Cert.StatesIdeal.main_arg3)
          ∧ r.2.mem ((c.tc : Thread Cert.StatesIdeal.nD Cert.StatesIdeal.τ).loc Cert.StatesIdeal.main_arg4) = m ((c.tc : Thread Cert.StatesIdeal.nD Cert.StatesIdeal.τ).loc Cert.StatesIdeal.main_arg4)
          ∧ r.2.mem ((c.tc : Thread Cert.StatesIdeal.nD Cert.StatesIdeal.τ).loc Cert.StatesIdeal.main_arg5) = m ((c.tc : Thread Cert.StatesIdeal.nD Cert.StatesIdeal.τ).loc Cert.StatesIdeal.main_arg5)
          ∧ r.2.mem ((c.tc : Thread Cert.StatesIdeal.nD Cert.StatesIdeal.τ).loc Cert.StatesIdeal.main_arg6) = m ((c.tc : Thread Cert.StatesIdeal.nD Cert.StatesIdeal.τ).loc Cert.StatesIdeal.main_arg6)
          ∧ r.2.mem ((c.tc : Thread Cert.StatesIdeal.nD Cert.StatesIdeal.τ).loc Cert.StatesIdeal.main_arg7) = m ((c.tc : Thread Cert.StatesIdeal.nD Cert.StatesIdeal.τ).loc Cert.StatesIdeal.main_arg7)
          ∧ r.2.mem ((c.tc : Thread Cert.StatesIdeal.nD Cert.StatesIdeal.τ).loc Cert.StatesIdeal.main_arg8) = m ((c.tc : Thread Cert.StatesIdeal.nD Cert.StatesIdeal.τ).loc Cert.StatesIdeal.main_arg8))
      ∧ θ_run (Cert.StatesReferenceIdeal.defs (F := Ideal)) (onTc (τ := Cert.StatesReferenceIdeal.τ) (Cert.StatesReferenceIdeal.main (F := Ideal))) ⟨m', fun _ => 0, g'⟩ (fun r => ∀ c : Dev Cert.StatesReferenceIdeal.nD,
          r.2.mem ((c.tc : Thread Cert.StatesReferenceIdeal.nD Cert.StatesReferenceIdeal.τ).loc Cert.StatesReferenceIdeal.main_v166) = v0 c
          ∧ r.2.mem ((c.tc : Thread Cert.StatesReferenceIdeal.nD Cert.StatesReferenceIdeal.τ).loc Cert.StatesReferenceIdeal.main_v167) = v1 c
          ∧ r.2.mem ((c.tc : Thread Cert.StatesReferenceIdeal.nD Cert.StatesReferenceIdeal.τ).loc Cert.StatesReferenceIdeal.main_v168) = v2 c
          ∧ r.2.mem ((c.tc : Thread Cert.StatesReferenceIdeal.nD Cert.StatesReferenceIdeal.τ).loc Cert.StatesReferenceIdeal.main_v170) = v3 c
          ∧ r.2.mem ((c.tc : Thread Cert.StatesReferenceIdeal.nD Cert.StatesReferenceIdeal.τ).loc Cert.StatesReferenceIdeal.main_v185) = v4 c
          ∧ r.2.mem ((c.tc : Thread Cert.StatesReferenceIdeal.nD Cert.StatesReferenceIdeal.τ).loc Cert.StatesReferenceIdeal.main_v187) = v5 c
          ∧ r.2.mem ((c.tc : Thread Cert.StatesReferenceIdeal.nD Cert.StatesReferenceIdeal.τ).loc Cert.StatesReferenceIdeal.main_v194) = v6 c
          ∧ r.2.mem ((c.tc : Thread Cert.StatesReferenceIdeal.nD Cert.StatesReferenceIdeal.τ).loc Cert.StatesReferenceIdeal.main_v165) = v7 c
          ∧ r.2.mem ((c.tc : Thread Cert.StatesReferenceIdeal.nD Cert.StatesReferenceIdeal.τ).loc Cert.StatesReferenceIdeal.main_arg0) = m' ((c.tc : Thread Cert.StatesReferenceIdeal.nD Cert.StatesReferenceIdeal.τ).loc Cert.StatesReferenceIdeal.main_arg0)
          ∧ r.2.mem ((c.tc : Thread Cert.StatesReferenceIdeal.nD Cert.StatesReferenceIdeal.τ).loc Cert.StatesReferenceIdeal.main_arg1) = m' ((c.tc : Thread Cert.StatesReferenceIdeal.nD Cert.StatesReferenceIdeal.τ).loc Cert.StatesReferenceIdeal.main_arg1)
          ∧ r.2.mem ((c.tc : Thread Cert.StatesReferenceIdeal.nD Cert.StatesReferenceIdeal.τ).loc Cert.StatesReferenceIdeal.main_arg2) = m' ((c.tc : Thread Cert.StatesReferenceIdeal.nD Cert.StatesReferenceIdeal.τ).loc Cert.StatesReferenceIdeal.main_arg2)
          ∧ r.2.mem ((c.tc : Thread Cert.StatesReferenceIdeal.nD Cert.StatesReferenceIdeal.τ).loc Cert.StatesReferenceIdeal.main_arg3) = m' ((c.tc : Thread Cert.StatesReferenceIdeal.nD Cert.StatesReferenceIdeal.τ).loc Cert.StatesReferenceIdeal.main_arg3)
          ∧ r.2.mem ((c.tc : Thread Cert.StatesReferenceIdeal.nD Cert.StatesReferenceIdeal.τ).loc Cert.StatesReferenceIdeal.main_arg4) = m' ((c.tc : Thread Cert.StatesReferenceIdeal.nD Cert.StatesReferenceIdeal.τ).loc Cert.StatesReferenceIdeal.main_arg4)
          ∧ r.2.mem ((c.tc : Thread Cert.StatesReferenceIdeal.nD Cert.StatesReferenceIdeal.τ).loc Cert.StatesReferenceIdeal.main_arg5) = m' ((c.tc : Thread Cert.StatesReferenceIdeal.nD Cert.StatesReferenceIdeal.τ).loc Cert.StatesReferenceIdeal.main_arg5)
          ∧ r.2.mem ((c.tc : Thread Cert.StatesReferenceIdeal.nD Cert.StatesReferenceIdeal.τ).loc Cert.StatesReferenceIdeal.main_arg6) = m' ((c.tc : Thread Cert.StatesReferenceIdeal.nD Cert.StatesReferenceIdeal.τ).loc Cert.StatesReferenceIdeal.main_arg6)
          ∧ r.2.mem ((c.tc : Thread Cert.StatesReferenceIdeal.nD Cert.StatesReferenceIdeal.τ).loc Cert.StatesReferenceIdeal.main_arg7) = m' ((c.tc : Thread Cert.StatesReferenceIdeal.nD Cert.StatesReferenceIdeal.τ).loc Cert.StatesReferenceIdeal.main_arg7)
          ∧ r.2.mem ((c.tc : Thread Cert.StatesReferenceIdeal.nD Cert.StatesReferenceIdeal.τ).loc Cert.StatesReferenceIdeal.main_arg8) = m' ((c.tc : Thread Cert.StatesReferenceIdeal.nD Cert.StatesReferenceIdeal.τ).loc Cert.StatesReferenceIdeal.main_arg8))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hStates : Cert.States.Facts) (hStatesIdeal : Cert.StatesIdeal.Facts) (hStatesReferenceIdeal : Cert.StatesReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Post (hPost := hPost)
    ∧ quiescent_PostIdeal (hPostIdeal := hPostIdeal)
    ∧ quiescent_PostReferenceIdeal (hPostReferenceIdeal := hPostReferenceIdeal)
    ∧ quiescent_States (hStates := hStates)
    ∧ quiescent_StatesIdeal (hStatesIdeal := hStatesIdeal)
    ∧ quiescent_StatesReferenceIdeal (hStatesReferenceIdeal := hStatesReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Post_PostIdeal
    ∧ algebraic_PostIdeal_PostReferenceIdeal (hPostIdeal := hPostIdeal) (hPostReferenceIdeal := hPostReferenceIdeal)
    ∧ preserves_States_StatesIdeal
    ∧ algebraic_StatesIdeal_StatesReferenceIdeal (hStatesIdeal := hStatesIdeal) (hStatesReferenceIdeal := hStatesReferenceIdeal)
-- ==== Pre_finite_scores.lean ====
abbrev S32x2048x1024 : Shape := ⟨3, ![32, 2048, 1024]⟩
abbrev S32x2048x512 : Shape := ⟨3, ![32, 2048, 512]⟩
abbrev S_ : Shape := ⟨0, ![]⟩

class Facts : Prop where
  bitsLt_bf16_f32 : FTy.bits .bf16 < FTy.bits .f32
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .bf16) (main_arg1 : FVec F S32x2048x1024 .bf16) (main_arg2 : FVec F S32x2048x512 .bf16) : IVec S_ 1 :=
  let main_v0 : FVec F S32x2048x1024 .f32 := (extf .f32 · bitsLt_bf16_f32) main_arg0
  let main_v1 : FVec F S32x2048x1024 .f32 := Host.absf main_v0
  let main_cst : FVec F S_ .f32 := constant S_ .f32 0x7F800000#32
  let main_v2 : FVec F S32x2048x1024 .f32 := broadcastInDim S32x2048x1024 ![] bcast_S_S32x2048x1024 main_cst
  let main_v3 : IVec S32x2048x1024 1 := cmpf .olt main_v1 main_v2
  let main_c : IVec S_ 1 := constantI S_ 1 1#1
  let main_v4 : IVec S_ 1 := (fun x v => Host.reduce IntOp.andi x v reducesTo_S32x2048x1024_S_d0_1_2 h_S_) main_v3 main_c
  let main_v5 : FVec F S32x2048x1024 .f32 := (extf .f32 · bitsLt_bf16_f32) main_arg1
  let main_v6 : FVec F S32x2048x1024 .f32 := Host.absf main_v5
  let main_cst_0 : FVec F S_ .f32 := constant S_ .f32 0x7F800000#32
  let main_v7 : FVec F S32x2048x1024 .f32 := broadcastInDim S32x2048x1024 ![] bcast_S_S32x2048x1024 main_cst_0
  let main_v8 : IVec S32x2048x1024 1 := cmpf .olt main_v6 main_v7
  let main_c_1 : IVec S_ 1 := constantI S_ 1 1#1
  let main_v9 : IVec S_ 1 := (fun x v => Host.reduce IntOp.andi x v reducesTo_S32x2048x1024_S_d0_1_2 h_S_) main_v8 main_c_1
  let main_v10 : IVec S_ 1 := andi main_v4 main_v9
  main_v10
-- ==== Kernel.lean ====
abbrev S32x2048x1024 : Shape := ⟨3, ![32, 2048, 1024]⟩
abbrev S32x2048x512 : Shape := ⟨3, ![32, 2048, 512]⟩
abbrev S1x512x1024 : Shape := ⟨3, ![1, 512, 1024]⟩
abbrev S1x512x512 : Shape := ⟨3, ![1, 512, 512]⟩
abbrev S8x512x1 : Shape := ⟨3, ![8, 512, 1]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S512x64 : Shape := ⟨2, ![512, 64]⟩

abbrev nBuf : Space → Nat
  | .hbm => 4
  | .vmem => 11
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x512, .bf16⟩
  | .hbm, ⟨3, _⟩ => ⟨S32x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S8x512x1, .f32⟩
  | .local _ .vmem, ⟨9, _⟩ => ⟨S8x512x1, .f32⟩
  | .local _ .vmem, ⟨10, _⟩ => ⟨S8x512x128, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 4], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S32x2048x1024 : Shape := ⟨3, ![32, 2048, 1024]⟩
abbrev S32x2048x512 : Shape := ⟨3, ![32, 2048, 512]⟩
abbrev S32x2048x8x128 : Shape := ⟨4, ![32, 2048, 8, 128]⟩
abbrev S32x2048x8x64 : Shape := ⟨4, ![32, 2048, 8, 64]⟩
abbrev S32x8x2048x2048 : Shape := ⟨4, ![32, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 42
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x1024, .bf16⟩
  | .hbm, ⟨2, _⟩ => ⟨S32x2048x512, .bf16⟩
  | .hbm, ⟨3, _⟩ => ⟨S32x2048x1024, .f32⟩
  | .hbm, ⟨4, _⟩ => ⟨S32x2048x8x128, .f32⟩
  | .hbm, ⟨5, _⟩ => ⟨S32x2048x1024, .f32⟩
  | .hbm, ⟨6, _⟩ => ⟨S32x2048x8x128, .f32⟩
  | .hbm, ⟨7, _⟩ => ⟨S32x2048x512, .f32⟩
  | .hbm, ⟨8, _⟩ => ⟨S32x2048x8x64, .f32⟩
  | .hbm, ⟨9, _⟩ => ⟨S32x8x2048x2048, .f32⟩
  | .hbm, ⟨10, _⟩ => ⟨S_, .f32⟩
  | .hbm, ⟨11, _⟩ => ⟨S32x8x2048x2048, .f32⟩
  | .hbm, ⟨12, _⟩ => ⟨S32x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S32x8x2048x2048, .i1⟩
  | .hbm, ⟨22, _⟩ => ⟨S32x8x2048x2048, .f32⟩
  | .hbm, ⟨23, _⟩ => ⟨S32x8x2048x2048, .f32⟩
  | .hbm, ⟨24, _⟩ => ⟨S_, .f32⟩
  | .hbm, ⟨25, _⟩ => ⟨S32x8x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S32x8x2048x1, .f32⟩
  | .hbm, ⟨30, _⟩ => ⟨S32x8x2048x2048, .f32⟩
  | .hbm, ⟨31, _⟩ => ⟨S32x8x2048x2048, .f32⟩
  | .hbm, ⟨32, _⟩ => ⟨S32x8x2048x2048, .f32⟩
  | .hbm, ⟨33, _⟩ => ⟨S_, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x8x64x2048, .f32⟩
  | .hbm, ⟨39, _⟩ => ⟨S32x2048x8x64, .f32⟩
  | .hbm, ⟨40, _⟩ => ⟨S32x2048x512, .f32⟩
  | .hbm, ⟨41, _⟩ => ⟨S32x2048x512, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Post.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x1x1024 : Shape := ⟨3, ![32, 1, 1024]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S1x256x512 : Shape := ⟨3, ![1, 256, 512]⟩
abbrev S1x256x2048 : Shape := ⟨3, ![1, 256, 2048]⟩
abbrev S1x256x1024 : Shape := ⟨3, ![1, 256, 1024]⟩
abbrev S1x1x1024 : Shape := ⟨3, ![1, 1, 1024]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 15
  | .vmem => 25
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x2048, .bf16⟩
  | .hbm, ⟨12, _⟩ => ⟨S32x2048x1024, .f32⟩
  | .hbm, ⟨13, _⟩ => ⟨S32x2048x1024, .f32⟩
  | .hbm, ⟨14, _⟩ => ⟨S32x2048x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2048, .bf16⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x2048, .bf16⟩
  | .local _ .vmem, ⟨24, _⟩ => ⟨S1x256x2048, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PostReferenceIdeal.lean ====
abbrev S32x2048x512 : Shape := ⟨3, ![32, 2048, 512]⟩
abbrev S32x2048x2048 : Shape := ⟨3, ![32, 2048, 2048]⟩
abbrev S32x2048x1024 : Shape := ⟨3, ![32, 2048, 1024]⟩
abbrev S32x1x1024 : Shape := ⟨3, ![32, 1, 1024]⟩
abbrev S512x1024 : Shape := ⟨2, ![512, 1024]⟩
abbrev S1024x1024 : Shape := ⟨2, ![1024, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x2048, .bf16⟩
  | .hbm, ⟨3, _⟩ => ⟨S32x2048x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1024x2048, .bf16⟩
  | .hbm, ⟨12, _⟩ => ⟨S32x2048x512, .f32⟩
  | .hbm, ⟨13, _⟩ => ⟨S512x1024, .f32⟩
  | .hbm, ⟨14, _⟩ => ⟨S32x2048x1024, .f32⟩
  | .hbm, ⟨15, _⟩ => ⟨S32x2048x512, .f32⟩
  | .hbm, ⟨16, _⟩ => ⟨S512x1024, .f32⟩
  | .hbm, ⟨17, _⟩ => ⟨S32x2048x1024, .f32⟩
  | .hbm, ⟨18, _⟩ => ⟨S32x2048x2048, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S1024x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S1024, .f32⟩
  | .hbm, ⟨30, _⟩ => ⟨S32x2048x1024, .f32⟩
  | .hbm, ⟨31, _⟩ => ⟨S_, .f32⟩
  | .hbm, ⟨32, _⟩ => ⟨S32x2048, .f32⟩
  | .hbm, ⟨33, _⟩ => ⟨S32x2048x1, .f32⟩
  | .hbm, ⟨34, _⟩ => ⟨S_, .f32⟩
  | .hbm, ⟨35, _⟩ => ⟨S32x2048x1, .f32⟩
  | .hbm, ⟨36, _⟩ => ⟨S32x2048x1, .f32⟩
  | .hbm, ⟨37, _⟩ => ⟨S_, .f32⟩
  | .hbm, ⟨38, _⟩ => ⟨S32x2048x1, .f32⟩
  | .hbm, ⟨39, _⟩ => ⟨S32x2048x1, .f32⟩
  | .hbm, ⟨40, _⟩ => ⟨S32x2048x1, .f32⟩
  | .hbm, ⟨41, _⟩ => ⟨S32x2048x1024, .f32⟩
  | .hbm, ⟨42, _⟩ => ⟨S32x2048x1024, .f32⟩
  | .hbm, ⟨43, _⟩ => ⟨S1x1x1024, .f32⟩
  | .hbm, ⟨44, _⟩ => ⟨S32x2048x1024, .f32⟩
  | .hbm, ⟨45, _⟩ => ⟨S32x2048x1024, .f32⟩
  | .hbm, ⟨46, _⟩ => ⟨S_, .f32⟩
  | .hbm, ⟨47, _⟩ => ⟨S32x1x1024, .f32⟩
  | .hbm, ⟨48, _⟩ => ⟨S32x1x1024, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S1024x2048, .f32⟩
  | .hbm, ⟨54, _⟩ => ⟨S32x2048x2048, .f32⟩
  | .hbm, ⟨55, _⟩ => ⟨S32x2048x2048, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== States.lean ====
abbrev S32x2048x1024 : Shape := ⟨3, ![32, 2048, 1024]⟩
abbrev S32x1024 : Shape := ⟨2, ![32, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x4256 : Shape := ⟨3, ![1, 1024, 4256]⟩
abbrev S1x384 : Shape := ⟨2, ![1, 384]⟩
abbrev S1x256 : Shape := ⟨2, ![1, 256]⟩
abbrev S1024x4256 : Shape := ⟨2, ![1024, 4256]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x1024 : Shape := ⟨2, ![1024, 1024]⟩
abbrev S_ : Shape := ⟨0, ![]⟩
abbrev S1024x128 : Shape := ⟨2, ![1024, 128]⟩
abbrev S1 : Shape := ⟨1, ![1]⟩
abbrev S1024x4352 : Shape := ⟨2, ![1024, 4352]⟩
abbrev S1024x6144 : Shape := ⟨2, ![1024, 6144]⟩
abbrev S1024 : Shape := ⟨1, ![1024]⟩
abbrev S384 : Shape := ⟨1, ![384]⟩
abbrev S256 : Shape := ⟨1, ![256]⟩
abbrev S160x1024 : Shape := ⟨2, ![160, 1024]⟩
abbrev S6144 : Shape := ⟨1, ![6144]⟩
abbrev S160x6144 : Shape := ⟨2, ![160, 6144]⟩
abbrev S1024x1536 : Shape := ⟨2, ![1024, 1536]⟩
abbrev S1x1536 : Shape := ⟨2, ![1, 1536]⟩
abbrev S160x1536 : Shape := ⟨2, ![160, 1536]⟩
abbrev S32x6144 : Shape := ⟨2, ![32, 6144]⟩
abbrev S32x1x1024 : Shape := ⟨3, ![32, 1, 1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x48 : Shape := ⟨2, ![2048, 48]⟩
abbrev S2048x80 : Shape := ⟨2, ![2048, 80]⟩
abbrev S1x2048x1x128 : Shape := ⟨4, ![1, 2048, 1, 128]⟩
abbrev S1x2048x128 : Shape := ⟨3, ![1, 2048, 128]⟩
abbrev S3x2048x128 : Shape := ⟨3, ![3, 2048, 128]⟩
abbrev S8 : Shape := ⟨1, ![8]⟩
abbrev S1x8 : Shape := ⟨2, ![1, 8]⟩
abbrev S2048x8 : Shape := ⟨2, ![2048, 8]⟩
abbrev S2048x0 : Shape := ⟨2, ![2048, 0]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S32x2048x384 : Shape := ⟨3, ![32, 2048, 384]⟩
abbrev S32x2048x256 : Shape := ⟨3, ![32, 2048, 256]⟩
abbrev S32x2048x128 : Shape := ⟨3, ![32, 2048, 128]⟩
abbrev S32x2048x512 : Shape := ⟨3, ![32, 2048, 512]⟩
abbrev S32x2048x2048 : Shape := ⟨3, ![32, 2048, 2048]⟩
abbrev S32x8x1x512 : Shape := ⟨4, ![32, 8, 1, 512]⟩
abbrev S1x256x1024 : Shape := ⟨3, ![1, 256, 1024]⟩
abbrev S1x1x1024 : Shape := ⟨3, ![1, 1, 1024]⟩
abbrev S3x256x128 : Shape := ⟨3, ![3, 256, 128]⟩
abbrev S1x256x384 : Shape := ⟨3, ![1, 256, 384]⟩
abbrev S1x256x256 : Shape := ⟨3, ![1, 256, 256]⟩
abbrev S1x256x128 : Shape := ⟨3, ![1, 256, 128]⟩
abbrev S1x256x512 : Shape := ⟨3, ![1, 256, 512]⟩
abbrev S1x256x2048 : Shape := ⟨3, ![1, 256, 2048]⟩
abbrev S1x1x1x512 : Shape := ⟨4, ![1, 1, 1, 512]⟩
abbrev S256x1024 : Shape := ⟨2, ![256, 1024]⟩
abbrev S256x1 : Shape := ⟨2, ![256, 1]⟩
abbrev S256x384 : Shape := ⟨2, ![256, 384]⟩
abbrev S256x256 : Shape := ⟨2, ![256, 256]⟩
abbrev S256x128 : Shape := ⟨2, ![256, 128]⟩
abbrev S256x512 : Shape := ⟨2, ![256, 512]⟩
abbrev S512 : Shape := ⟨1, ![512]⟩
abbrev S1x512 : Shape := ⟨2, ![1, 512]⟩
abbrev S1024x2048 : Shape := ⟨2, ![1024, 2048]⟩
abbrev S256x2048 : Shape := ⟨2, ![256, 2048]⟩
abbrev S1x32x2048x256 : Shape := ⟨4, ![1, 32, 2048, 256]⟩
abbrev S32x2048x32 : Shape := ⟨3, ![32, 2048, 32]⟩
abbrev S1x32x2048x32 : Shape := ⟨4, ![1, 32, 2048, 32]⟩
abbrev S1x32x2048x8x64 : Shape := ⟨5, ![1, 32, 2048, 8, 64]⟩

abbrev nBuf : Space → Nat
  | .hbm => 154
  | .vmem => 37
  | .smem => 0
  | _ => 0

abbrev hbmTy0_0 (i : Nat) : BufTy := match i % 128 with
  | 0 => ⟨S32x2048x1024, .f32⟩
  | 1 => ⟨S32x1024, .f32⟩
  | 2 => ⟨S128x1024, .f32⟩
  | 3 => ⟨S1x1024x6144, .f32⟩
  | 4 => ⟨S1x6144, .f32⟩
  | 5 => ⟨S1x1024, .f32⟩
  | 6 => ⟨S1x1024x4256, .f32⟩
  | 7 => ⟨S1x384, .f32⟩
  | 8 => ⟨S1x256, .f32⟩
  | 9 => ⟨S1024x4256, .f32⟩
  | 10 => ⟨S1024x384, .f32⟩
  | 11 => ⟨S1024x256, .f32⟩
  | 12 => ⟨S1024x32, .f32⟩
  | 13 => ⟨S1024x512, .f32⟩
  | 14 => ⟨S1024x512, .f32⟩
  | 15 => ⟨S1024x512, .f32⟩
  | 16 => ⟨S1024x1024, .f32⟩
  | 17 => ⟨S1024x1024, .f32⟩
  | 18 => ⟨S_, .f32⟩
  | 19 => ⟨S1024x128, .f32⟩
  | 20 => ⟨S_, .i32⟩
  | 21 => ⟨S1, .i32⟩
  | 22 => ⟨S1024x128, .f32⟩
  | 23 => ⟨S1024x4352, .f32⟩
  | 24 => ⟨S1024x4352, .bf16⟩
  | 25 => ⟨S1024x6144, .f32⟩
  | 26 => ⟨S1024x6144, .bf16⟩
  | 27 => ⟨S1024, .f32⟩
  | 28 => ⟨S1x1024, .f32⟩
  | 29 => ⟨S384, .f32⟩
  | 30 => ⟨S1x384, .f32⟩
  | 31 => ⟨S256, .f32⟩
  | 32 => ⟨S1x256, .f32⟩
  | 33 => ⟨S160x1024, .f32⟩
  | 34 => ⟨S6144, .f32⟩
  | 35 => ⟨S1x6144, .f32⟩
  | 36 => ⟨S160x6144, .f32⟩
  | 37 => ⟨S32x6144, .f32⟩
  | 38 => ⟨S32x1024, .f32⟩
  | 39 => ⟨S32x1024, .f32⟩
  | 40 => ⟨S32x1024, .f32⟩
  | 41 => ⟨S32x1024, .f32⟩
  | 42 => ⟨S32x1024, .f32⟩
  | 43 => ⟨S32x1024, .f32⟩
  | 44 => ⟨S32x1x1024, .f32⟩
  | 45 => ⟨S32x1x1024, .f32⟩
  | 46 => ⟨S32x1x1024, .f32⟩
  | 47 => ⟨S32x1x1024, .f32⟩
  | 48 => ⟨S32x1x1024, .f32⟩
  | 49 => ⟨S32x1x1024, .f32⟩
  | 50 => ⟨S2048, .i32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16, .f32⟩
  | 59 => ⟨S2048, .f32⟩
  | 60 => ⟨S2048x1, .f32⟩
  | 61 => ⟨S1x16, .f32⟩
  | 62 => ⟨S2048x16, .f32⟩
  | 63 => ⟨S2048x16, .f32⟩
  | 64 => ⟨S2048x16, .f32⟩
  | 65 => ⟨S2048x16, .f32⟩
  | 66 => ⟨S2048x16, .f32⟩
  | 67 => ⟨S_, .f32⟩
  | 68 => ⟨S2048x64, .f32⟩
  | 69 => ⟨S_, .f32⟩
  | 70 => ⟨S2048x32, .f32⟩
  | 71 => ⟨S2048x128, .f32⟩
  | 72 => ⟨S_, .f32⟩
  | 73 => ⟨S2048x64, .f32⟩
  | 74 => ⟨S2048x16, .f32⟩
  | 75 => ⟨S_, .f32⟩
  | 76 => ⟨S2048x48, .f32⟩
  | 77 => ⟨S2048x128, .f32⟩
  | 78 => ⟨S_, .f32⟩
  | 79 => ⟨S2048x80, .f32⟩
  | 80 => ⟨S_, .f32⟩
  | 81 => ⟨S2048x32, .f32⟩
  | 82 => ⟨S2048x128, .f32⟩
  | 83 => ⟨S1x2048x1x128, .f32⟩
  | 84 => ⟨S1x2048x1x128, .f32⟩
  | 85 => ⟨S2048x128, .f32⟩
  | 86 => ⟨S1x2048x1x128, .f32⟩
  | 87 => ⟨S1x2048x1x128, .f32⟩
  | 88 => ⟨S2048x128, .f32⟩
  | 89 => ⟨S1x2048x1x128, .f32⟩
  | 90 => ⟨S1x2048x1x128, .f32⟩
  | 91 => ⟨S2048x128, .f32⟩
  | 92 => ⟨S1x2048x128, .f32⟩
  | 93 => ⟨S1x2048x128, .f32⟩
  | 94 => ⟨S1x2048x128, .f32⟩
  | 95 => ⟨S3x2048x128, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S8, .f32⟩
  | 104 => ⟨S2048, .f32⟩
  | 105 => ⟨S2048x1, .f32⟩
  | 106 => ⟨S1x8, .f32⟩
  | 107 => ⟨S2048x8, .f32⟩
  | 108 => ⟨S2048x8, .f32⟩
  | 109 => ⟨S2048x8, .f32⟩
  | 110 => ⟨S2048x8, .f32⟩
  | 111 => ⟨S2048x8, .f32⟩
  | 112 => ⟨S_, .f32⟩
  | 113 => ⟨S2048x0, .f32⟩
  | 114 => ⟨S_, .f32⟩
  | 115 => ⟨S2048x48, .f32⟩
  | 116 => ⟨S2048x64, .f32⟩
  | 117 => ⟨S_, .f32⟩
  | 118 => ⟨S2048x0, .f32⟩
  | 119 => ⟨S2048x8, .f32⟩
  | 120 => ⟨S_, .f32⟩
  | 121 => ⟨S2048x56, .f32⟩
  | 122 => ⟨S2048x64, .f32⟩
  | 123 => ⟨S_, .f32⟩
  | 124 => ⟨S2048x8, .f32⟩
  | 125 => ⟨S_, .f32⟩
  | 126 => ⟨S2048x48, .f32⟩
  | 127 => ⟨S2048x64, .f32⟩
  | _ => ⟨S32x2048x1024, .f32⟩

abbrev hbmTy0_1 (i : Nat) : BufTy := match i % 128 with
  | 0 => ⟨S1x2048x1x64, .f32⟩
  | 1 => ⟨S1x2048x2x64, .f32⟩
  | 2 => ⟨S2048x128, .f32⟩
  | 3 => ⟨S1x2048x1x64, .f32⟩
  | 4 => ⟨S1x2048x2x64, .f32⟩
  | 5 => ⟨S2048x128, .f32⟩
  | 6 => ⟨S1x2048x1x64, .f32⟩
  | 7 => ⟨S1x2048x2x64, .f32⟩
  | 8 => ⟨S2048x128, .f32⟩
  | 9 => ⟨S1x2048x128, .f32⟩
  | 10 => ⟨S1x2048x128, .f32⟩
  | 11 => ⟨S1x2048x128, .f32⟩
  | 12 => ⟨S3x2048x128, .f32⟩
  | 13 => ⟨S32x2048x384, .bf16⟩
  | 14 => ⟨S32x2048x256, .f32⟩
  | 15 => ⟨S32x2048x128, .f32⟩
  | 16 => ⟨S32x2048x512, .bf16⟩
  | 17 => ⟨S32x2048x512, .f32⟩
  | 18 => ⟨S32x2048x512, .f32⟩
  | 19 => ⟨S32x2048x2048, .bf16⟩
  | 20 => ⟨S32x8x1x512, .f32⟩
  | 21 => ⟨S1x32x2048x256, .f32⟩
  | 22 => ⟨S32x2048x32, .f32⟩
  | 23 => ⟨S1x32x2048x32, .f32⟩
  | 24 => ⟨S1x32x2048x8x64, .f32⟩
  | 25 => ⟨S1x32x2048x8x64, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S160x1024, .f32⟩
  | .local _ .vmem, ⟨1, _⟩ => ⟨S1024x1536, .bf16⟩
  | .local _ .vmem, ⟨2, _⟩ => ⟨S1024x1536, .bf16⟩
  | .local _ .vmem, ⟨3, _⟩ => ⟨S1x1536, .f32⟩
  | .local _ .vmem, ⟨4, _⟩ => ⟨S1x1536, .f32⟩
  | .local _ .vmem, ⟨5, _⟩ => ⟨S160x1536, .f32⟩
  | .local _ .vmem, ⟨6, _⟩ => ⟨S160x1536, .f32⟩
  | .local _ .vmem, ⟨7, _⟩ => ⟨S1x256x1024, .f32⟩
  | .local _ .vmem, ⟨8, _⟩ => ⟨S1x256x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x4352, .bf16⟩
  | .local _ .vmem, ⟨15, _⟩ => ⟨S1x384, .f32⟩
  | .local _ .vmem, ⟨16, _⟩ => ⟨S1x256, .f32⟩
  | .local _ .vmem, ⟨17, _⟩ => ⟨S3x256x128, .f32⟩
  | .local _ .vmem, ⟨18, _⟩ => ⟨S3x256x128, .f32⟩
  | .local _ .vmem, ⟨19, _⟩ => ⟨S3x256x128, .f32⟩
  | .local _ .vmem, ⟨20, _⟩ => ⟨S3x256x128, .f32⟩
  | .local _ .vmem, ⟨21, _⟩ => ⟨S1x256x384, .bf16⟩
  | .local _ .vmem, ⟨22, _⟩ => ⟨S1x256x384, .bf16⟩
  | .local _ .vmem, ⟨23, _⟩ => ⟨S1x256x256, .f32⟩
  | .local _ .vmem, ⟨24, _⟩ => ⟨S1x256x256, .f32⟩
  | .local _ .vmem, ⟨25, _⟩ => ⟨S1x256x128, .f32⟩
  | .local _ .vmem, ⟨26, _⟩ => ⟨S1x256x128, .f32⟩
  | .local _ .vmem, ⟨27, _⟩ => ⟨S1x256x512, .bf16⟩
  | .local _ .vmem, ⟨28, _⟩ => ⟨S1x256x512, .bf16⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x256x2048, .bf16⟩
  | .local _ .vmem, ⟨34, _⟩ => ⟨S1x256x2048, .bf16⟩
  | .local _ .vmem, ⟨35, _⟩ => ⟨S1x1x1x512, .f32⟩
  | .local _ .vmem, ⟨36, _⟩ => ⟨S1x1x1x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_cst_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_2 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_cst_9 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_10 : Ref sig .tc := ⟨.hbm, 112, rfl⟩
abbrev main_v91 : Ref sig .tc := ⟨.hbm, 113, rfl⟩
abbrev main_cst_11 : Ref sig .tc := ⟨.hbm, 114, rfl⟩
abbrev main_v92 : Ref sig .tc := ⟨.hbm, 115, rfl⟩
abbrev main_v93 : Ref sig .tc := ⟨.hbm, 116, rfl⟩
abbrev main_cst_12 : Ref sig .tc := ⟨.hbm, 117, rfl⟩
abbrev main_v94 : Ref sig .tc := ⟨.hbm, 118, rfl⟩
abbrev main_v95 : Ref sig .tc := ⟨.hbm, 119, rfl⟩
abbrev main_cst_13 : Ref sig .tc := ⟨.hbm, 120, rfl⟩
abbrev main_v96 : Ref sig .tc := ⟨.hbm, 121, rfl⟩
abbrev main_v97 : Ref sig .tc := ⟨.hbm, 122, rfl⟩
abbrev main_cst_14 : Ref sig .tc := ⟨.hbm, 123, rfl⟩
abbrev main_v98 : Ref sig .tc := ⟨.hbm, 124, rfl⟩
abbrev main_cst_15 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114_0 : Ref sig .tc := ⟨.hbm, 141, rfl⟩
abbrev main_v114_1 : Ref sig .tc := ⟨.hbm, 142, rfl⟩
abbrev main_v114_2 : Ref sig .tc := ⟨.hbm, 143, rfl⟩
abbrev main_v114_3 : Ref sig .tc := ⟨.hbm, 144, rfl⟩
abbrev main_v114_4 : Ref sig .tc := ⟨.hbm, 145, rfl⟩
abbrev main_v114_5 : Ref sig .tc := ⟨.hbm, 146, rfl⟩
abbrev main_v114_6 : Ref sig .tc := ⟨.hbm, 147, rfl⟩
abbrev main_v114_7 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc1_stg11_1 : Ref sig .tc := ⟨.vmem, 26, rfl⟩
abbrev cc1_stg12_0 : Ref sig .tc := ⟨.vmem, 27, rfl⟩
abbrev cc1_stg12_1 : Ref sig .tc := ⟨.vmem, 28, rfl⟩
abbrev cc1_stg13_0 : Ref sig .tc := ⟨.vmem, 29, rfl⟩
abbrev cc1_stg13_1 : Ref sig .tc := ⟨.vmem, 30, rfl⟩
abbrev cc1_stg14_0 : Ref sig .tc := ⟨.vmem, 31, rfl⟩
abbrev cc1_stg14_1 : Ref sig .tc := ⟨.vmem, 32, rfl⟩
abbrev cc1_stg15_0 : Ref sig .tc := ⟨.vmem, 33, rfl⟩
abbrev cc1_stg15_1 : Ref sig .tc := ⟨.vmem, 34, rfl⟩
abbrev cc1_stg16_0 : Ref sig .tc := ⟨.vmem, 35, rfl⟩
abbrev cc1_stg16_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25
abbrev cc1_sem11_1 : DmaSem sig := 26
abbrev cc1_sem12_0 : DmaSem sig := 27
abbrev cc1_sem12_1 : DmaSem sig := 28
abbrev cc1_sem13_0 : DmaSem sig := 29
abbrev cc1_sem13_1 : DmaSem sig := 30
abbrev cc1_sem14_0 : DmaSem sig := 31
abbrev cc1_sem14_1 : DmaSem sig := 32
abbrev cc1_sem15_0 : DmaSem sig := 33
abbrev cc1_sem15_1 : DmaSem sig := 34
abbrev cc1_sem16_0 : DmaSem sig := 35
abbrev cc1_sem16_1 : DmaSem sig := 36

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x4352 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S3x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S3x256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1x256x384 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x256x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x256x2048 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x1x1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]
-- ==== StatesReferenceIdeal.lean ====
abbrev S32x2048x1024 : Shape := ⟨3, ![32, 2048, 1024]⟩
abbrev S32x1024 : Shape := ⟨2, ![32, 1024]⟩
abbrev S128x1024 : Shape := ⟨2, ![128, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x4256 : Shape := ⟨3, ![1, 1024, 4256]⟩
abbrev S1x384 : Shape := ⟨2, ![1, 384]⟩
abbrev S1x256 : Shape := ⟨2, ![1, 256]⟩
abbrev S_ : Shape := ⟨0, ![]⟩
abbrev S1024x6144 : Shape := ⟨2, ![1024, 6144]⟩
abbrev S32x6144 : Shape := ⟨2, ![32, 6144]⟩
abbrev S6144 : Shape := ⟨1, ![6144]⟩
abbrev S32x1x1024 : Shape := ⟨3, ![32, 1, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S1024x4256 : Shape := ⟨2, ![1024, 4256]⟩
abbrev S32x2048x4256 : Shape := ⟨3, ![32, 2048, 4256]⟩
abbrev S32x2048x384 : Shape := ⟨3, ![32, 2048, 384]⟩
abbrev S32x2048x256 : Shape := ⟨3, ![32, 2048, 256]⟩
abbrev S32x2048x32 : Shape := ⟨3, ![32, 2048, 32]⟩
abbrev S32x2048x512 : Shape := ⟨3, ![32, 2048, 512]⟩
abbrev S32x2048x2048 : Shape := ⟨3, ![32, 2048, 2048]⟩
abbrev S2048 : Shape := ⟨1, ![2048]⟩
abbrev S256 : Shape := ⟨1, ![256]⟩
abbrev S1x1x256 : Shape := ⟨3, ![1, 1, 256]⟩
abbrev S32x2048x1x32 : Shape := ⟨4, ![32, 2048, 1, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S32x2048x1x16 : Shape := ⟨4, ![32, 2048, 1, 16]⟩
abbrev S1x2048x1x16 : Shape := ⟨4, ![1, 2048, 1, 16]⟩
abbrev S32x2048x1x0 : Shape := ⟨4, ![32, 2048, 1, 0]⟩
abbrev S32x2048x8x64 : Shape := ⟨4, ![32, 2048, 8, 64]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S32x2048x8x8 : Shape := ⟨4, ![32, 2048, 8, 8]⟩
abbrev S1x2048x1x8 : Shape := ⟨4, ![1, 2048, 1, 8]⟩
abbrev S32x2048x8x48 : Shape := ⟨4, ![32, 2048, 8, 48]⟩
abbrev S32x8x256x512 : Shape := ⟨4, ![32, 8, 256, 512]⟩
abbrev S32x8x512 : Shape := ⟨3, ![32, 8, 512]⟩
abbrev S32x8x1x512 : Shape := ⟨4, ![32, 8, 1, 512]⟩
abbrev S1x32x2048x256 : Shape := ⟨4, ![1, 32, 2048, 256]⟩
abbrev S1x32x2048x32 : Shape := ⟨4, ![1, 32, 2048, 32]⟩
abbrev S1x32x2048x8x64 : Shape := ⟨5, ![1, 32, 2048, 8, 64]⟩
abbrev S384 : Shape := ⟨1, ![384]⟩
abbrev S1x1x384 : Shape := ⟨3, ![1, 1, 384]⟩

abbrev nBuf : Space → Nat
  | .hbm => 232
  | .vmem => 0
  | .smem => 0
  | _ => 0

abbrev hbmTy0_0 (i : Nat) : BufTy := match i % 128 with
  | 0 => ⟨S32x2048x1024, .f32⟩
  | 1 => ⟨S32x1024, .f32⟩
  | 2 => ⟨S128x1024, .f32⟩
  | 3 => ⟨S1x1024x6144, .f32⟩
  | 4 => ⟨S1x6144, .f32⟩
  | 5 => ⟨S1x1024, .f32⟩
  | 6 => ⟨S1x1024x4256, .f32⟩
  | 7 => ⟨S1x384, .f32⟩
  | 8 => ⟨S1x256, .f32⟩
  | 9 => ⟨S32x1024, .f32⟩
  | 10 => ⟨S32x1024, .f32⟩
  | 11 => ⟨S_, .f32⟩
  | 12 => ⟨S32x1024, .f32⟩
  | 13 => ⟨S32x1024, .f32⟩
  | 14 => ⟨S_, .f32⟩
  | 15 => ⟨S32x1024, .f32⟩
  | 16 => ⟨S32x1024, .f32⟩
  | 17 => ⟨S32x1024, .f32⟩
  | 18 => ⟨S1024x6144, .f32⟩
  | 19 => ⟨S32x6144, .f32⟩
  | 20 => ⟨S6144, .f32⟩
  | 21 => ⟨S1x6144, .f32⟩
  | 22 => ⟨S32x6144, .f32⟩
  | 23 => ⟨S32x6144, .f32⟩
  | 24 => ⟨S32x1024, .f32⟩
  | 25 => ⟨S32x1x1024, .f32⟩
  | 26 => ⟨S32x1024, .f32⟩
  | 27 => ⟨S32x1x1024, .f32⟩
  | 28 => ⟨S1024, .f32⟩
  | 29 => ⟨S32x2048x1024, .f32⟩
  | 30 => ⟨S_, .f32⟩
  | 31 => ⟨S32x2048, .f32⟩
  | 32 => ⟨S32x2048x1, .f32⟩
  | 33 => ⟨S_, .f32⟩
  | 34 => ⟨S32x2048x1, .f32⟩
  | 35 => ⟨S32x2048x1, .f32⟩
  | 36 => ⟨S_, .f32⟩
  | 37 => ⟨S32x2048x1, .f32⟩
  | 38 => ⟨S32x2048x1, .f32⟩
  | 39 => ⟨S32x2048x1, .f32⟩
  | 40 => ⟨S32x2048x1024, .f32⟩
  | 41 => ⟨S32x2048x1024, .f32⟩
  | 42 => ⟨S1x1x1024, .f32⟩
  | 43 => ⟨S32x2048x1024, .f32⟩
  | 44 => ⟨S32x2048x1024, .f32⟩
  | 45 => ⟨S_, .f32⟩
  | 46 => ⟨S32x1x1024, .f32⟩
  | 47 => ⟨S32x1x1024, .f32⟩
  | 48 => ⟨S32x2048x1024, .f32⟩
  | 49 => ⟨S32x2048x1024, .f32⟩
  | 50 => ⟨S32x2048x1024, .f32⟩
  | 51 => ⟨S32x2048x1024, .f32⟩
  | 52 => ⟨S1024x4256, .f32⟩
  | 53 => ⟨S32x2048x4256, .f32⟩
  | 54 => ⟨S32x2048x384, .f32⟩
  | 55 => ⟨S32x2048x256, .f32⟩
  | 56 => ⟨S32x2048x32, .f32⟩
  | 57 => ⟨S32x2048x512, .f32⟩
  | 58 => ⟨S32x2048x512, .f32⟩
  | 59 => ⟨S32x2048x512, .f32⟩
  | 60 => ⟨S32x2048x2048, .f32⟩
  | 61 => ⟨S2048, .i32⟩
  | 62 => ⟨S256, .f32⟩
  | 63 => ⟨S32x2048x256, .f32⟩
  | 64 => ⟨S_, .f32⟩
  | 65 => ⟨S32x2048, .f32⟩
  | 66 => ⟨S32x2048x1, .f32⟩
  | 67 => ⟨S_, .f32⟩
  | 68 => ⟨S32x2048x1, .f32⟩
  | 69 => ⟨S32x2048x1, .f32⟩
  | 70 => ⟨S_, .f32⟩
  | 71 => ⟨S32x2048x1, .f32⟩
  | 72 => ⟨S32x2048x1, .f32⟩
  | 73 => ⟨S32x2048x1, .f32⟩
  | 74 => ⟨S32x2048x256, .f32⟩
  | 75 => ⟨S32x2048x256, .f32⟩
  | 76 => ⟨S1x1x256, .f32⟩
  | 77 => ⟨S32x2048x256, .f32⟩
  | 78 => ⟨S32x2048x256, .f32⟩
  | 79 => ⟨S32x2048x1x32, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S16, .f32⟩
  | 88 => ⟨S2048, .f32⟩
  | 89 => ⟨S2048x1, .f32⟩
  | 90 => ⟨S1x16, .f32⟩
  | 91 => ⟨S2048x16, .f32⟩
  | 92 => ⟨S2048x16, .f32⟩
  | 93 => ⟨S2048x16, .f32⟩
  | 94 => ⟨S2048x16, .f32⟩
  | 95 => ⟨S2048x1x16, .f32⟩
  | 96 => ⟨S2048x16, .f32⟩
  | 97 => ⟨S2048x1x16, .f32⟩
  | 98 => ⟨S32x2048x1x16, .f32⟩
  | 99 => ⟨S32x2048x1x16, .f32⟩
  | 100 => ⟨S1x2048x1x16, .f32⟩
  | 101 => ⟨S32x2048x1x16, .f32⟩
  | 102 => ⟨S32x2048x1x16, .f32⟩
  | 103 => ⟨S1x2048x1x16, .f32⟩
  | 104 => ⟨S32x2048x1x16, .f32⟩
  | 105 => ⟨S32x2048x1x16, .f32⟩
  | 106 => ⟨S32x2048x1x16, .f32⟩
  | 107 => ⟨S1x2048x1x16, .f32⟩
  | 108 => ⟨S32x2048x1x16, .f32⟩
  | 109 => ⟨S32x2048x1x16, .f32⟩
  | 110 => ⟨S1x2048x1x16, .f32⟩
  | 111 => ⟨S32x2048x1x16, .f32⟩
  | 112 => ⟨S32x2048x1x16, .f32⟩
  | 113 => ⟨S32x2048x1x16, .f32⟩
  | 114 => ⟨S32x2048x1x0, .f32⟩
  | 115 => ⟨S32x2048x1x32, .f32⟩
  | 116 => ⟨S32x2048x32, .f32⟩
  | 117 => ⟨S32x2048x8x64, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S8, .f32⟩
  | 126 => ⟨S2048, .f32⟩
  | 127 => ⟨S2048x1, .f32⟩
  | _ => ⟨S32x2048x1024, .f32⟩

abbrev hbmTy0_1 (i : Nat) : BufTy := match i % 128 with
  | 0 => ⟨S1x8, .f32⟩
  | 1 => ⟨S2048x8, .f32⟩
  | 2 => ⟨S2048x8, .f32⟩
  | 3 => ⟨S2048x8, .f32⟩
  | 4 => ⟨S2048x8, .f32⟩
  | 5 => ⟨S2048x1x8, .f32⟩
  | 6 => ⟨S2048x8, .f32⟩
  | 7 => ⟨S2048x1x8, .f32⟩
  | 8 => ⟨S32x2048x8x8, .f32⟩
  | 9 => ⟨S32x2048x8x8, .f32⟩
  | 10 => ⟨S1x2048x1x8, .f32⟩
  | 11 => ⟨S32x2048x8x8, .f32⟩
  | 12 => ⟨S32x2048x8x8, .f32⟩
  | 13 => ⟨S1x2048x1x8, .f32⟩
  | 14 => ⟨S32x2048x8x8, .f32⟩
  | 15 => ⟨S32x2048x8x8, .f32⟩
  | 16 => ⟨S32x2048x8x8, .f32⟩
  | 17 => ⟨S1x2048x1x8, .f32⟩
  | 18 => ⟨S32x2048x8x8, .f32⟩
  | 19 => ⟨S32x2048x8x8, .f32⟩
  | 20 => ⟨S1x2048x1x8, .f32⟩
  | 21 => ⟨S32x2048x8x8, .f32⟩
  | 22 => ⟨S32x2048x8x8, .f32⟩
  | 23 => ⟨S32x2048x8x8, .f32⟩
  | 24 => ⟨S32x2048x8x48, .f32⟩
  | 25 => ⟨S32x2048x8x64, .f32⟩
  | 26 => ⟨S32x2048x8x64, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S2048, .f32⟩
  | 36 => ⟨S2048x1, .f32⟩
  | 37 => ⟨S1x8, .f32⟩
  | 38 => ⟨S2048x8, .f32⟩
  | 39 => ⟨S2048x8, .f32⟩
  | 40 => ⟨S2048x8, .f32⟩
  | 41 => ⟨S2048x8, .f32⟩
  | 42 => ⟨S2048x1x8, .f32⟩
  | 43 => ⟨S2048x8, .f32⟩
  | 44 => ⟨S2048x1x8, .f32⟩
  | 45 => ⟨S32x2048x8x8, .f32⟩
  | 46 => ⟨S32x2048x8x8, .f32⟩
  | 47 => ⟨S1x2048x1x8, .f32⟩
  | 48 => ⟨S32x2048x8x8, .f32⟩
  | 49 => ⟨S32x2048x8x8, .f32⟩
  | 50 => ⟨S1x2048x1x8, .f32⟩
  | 51 => ⟨S32x2048x8x8, .f32⟩
  | 52 => ⟨S32x2048x8x8, .f32⟩
  | 53 => ⟨S32x2048x8x8, .f32⟩
  | 54 => ⟨S1x2048x1x8, .f32⟩
  | 55 => ⟨S32x2048x8x8, .f32⟩
  | 56 => ⟨S32x2048x8x8, .f32⟩
  | 57 => ⟨S1x2048x1x8, .f32⟩
  | 58 => ⟨S32x2048x8x8, .f32⟩
  | 59 => ⟨S32x2048x8x8, .f32⟩
  | 60 => ⟨S32x2048x8x8, .f32⟩
  | 61 => ⟨S32x2048x8x48, .f32⟩
  | 62 => ⟨S32x2048x8x64, .f32⟩
  | 63 => ⟨S32x8x256x512, .f32⟩
  | 64 => ⟨S_, .f32⟩
  | 65 => ⟨S32x8x512, .f32⟩
  | 66 => ⟨S32x8x1x512, .f32⟩
  | 67 => ⟨S_, .f32⟩
  | 68 => ⟨S32x8x1x512, .f32⟩
  | 69 => ⟨S32x8x1x512, .f32⟩
  | 70 => ⟨S1x32x2048x256, .f32⟩
  | 71 => ⟨S1x32x2048x32, .f32⟩
  | 72 => ⟨S1x32x2048x8x64, .f32⟩
  | 73 => ⟨S32x2048x8x64, .f32⟩
  | 74 => ⟨S1x32x2048x8x64, .f32⟩
  | 75 => ⟨S384, .f32⟩
  | 76 => ⟨S32x2048x384, .f32⟩
  | 77 => ⟨S_, .f32⟩
  | 78 => ⟨S32x2048, .f32⟩
  | 79 => ⟨S32x2048x1, .f32⟩
  | 80 => ⟨S_, .f32⟩
  | 81 => ⟨S32x2048x1, .f32⟩
  | 82 => ⟨S32x2048x1, .f32⟩
  | 83 => ⟨S_, .f32⟩
  | 84 => ⟨S32x2048x1, .f32⟩
  | 85 => ⟨S32x2048x1, .f32⟩
  | 86 => ⟨S32x2048x1, .f32⟩
  | 87 => ⟨S32x2048x384, .f32⟩
  | 88 => ⟨S32x2048x384, .f32⟩
  | 89 => ⟨S1x1x384, .f32⟩
  | 90 => ⟨S32x2048x384, .f32⟩
  | 91 => ⟨S32x2048x384, .f32⟩
  | 92 => ⟨S32x2048x384, .bf16⟩
  | 93 => ⟨S32x2048x512, .f32⟩
  | 94 => ⟨S32x2048x512, .bf16⟩
  | 95 => ⟨S32x2048x2048, .f32⟩
  | 96 => ⟨S32x2048x2048, .f32⟩
  | 97 => ⟨S_, .f32⟩
  | 98 => ⟨S32x2048x2048, .f32⟩
  | 99 => ⟨S32x2048x2048, .f32⟩
  | 100 => ⟨S_, .f32⟩
  | 101 => ⟨S32x2048x2048, .f32⟩
  | 102 => ⟨S32x2048x2048, .f32⟩
  | 103 => ⟨S32x2048x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_8 : Ref sig .tc := ⟨.hbm, 119, rfl⟩
abbrev main_v93 : Ref sig .tc := ⟨.hbm, 120, rfl⟩
abbrev main_v94 : Ref sig .tc := ⟨.hbm, 121, rfl⟩
abbrev main_cst_9 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_10 : Ref sig .tc := ⟨.hbm, 156, rfl⟩
abbrev main_v128 : Ref sig .tc := ⟨.hbm, 157, rfl⟩
abbrev main_v129 : Ref sig .tc := ⟨.hbm, 158, rfl⟩
abbrev main_cst_11 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_12 : Ref sig .tc := ⟨.hbm, 192, rfl⟩
abbrev main_v162 : Ref sig .tc := ⟨.hbm, 193, rfl⟩
abbrev main_v163 : Ref sig .tc := ⟨.hbm, 194, rfl⟩
abbrev main_cst_13 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_cst_14 : Ref sig .tc := ⟨.hbm, 205, rfl⟩
abbrev main_v173 : Ref sig .tc := ⟨.hbm, 206, rfl⟩
abbrev main_v174 : Ref sig .tc := ⟨.hbm, 207, rfl⟩
abbrev main_cst_15 : Ref sig .tc := ⟨.hbm, 208, rfl⟩
abbrev main_v175 : Ref sig .tc := ⟨.hbm, 209, rfl⟩
abbrev main_v176 : Ref sig .tc := ⟨.hbm, 210, rfl⟩
abbrev main_cst_16 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_cst_17 : Ref sig .tc := ⟨.hbm, 225, rfl⟩
abbrev main_v190 : Ref sig .tc := ⟨.hbm, 226, rfl⟩
abbrev main_v191 : Ref sig .tc := ⟨.hbm, 227, rfl⟩
abbrev main_cst_18 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩

abbrev nD : Nat := 1
abbrev τ : Topo := Topo.v7x

variable {F : FTy → Type} [FloatOps F]
-- ==== Proof.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev firstBlock (i : grid0.Coords) : Prop := (Scalar.cmpi .ne (Scalar.extui (Scalar.cmpi .eq (BitVec.ofNat 32 (i 2).val) 0#32)) 0#32) = 1#1
/-- It holds at the points ≡ 0 (mod 4) — by arithmetic of the point. -/
theorem hfirstBlock : ∀ t : Fin cfg0.N, firstBlock (grid0.coords t) ↔ t.val % 4 = 0 :=
  (fun t => by
    have ht : t.val < 512 := Nat.lt_of_lt_of_eq t.isLt N_0
    have e0 : (grid0.coords t 0).val = t.val / 16 % 32 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [firstBlock, e0, e1, e2]
    word_cmp
   : ∀ t : Fin grid0.N, firstBlock (grid0.coords t) ↔ t.val % 4 = 0)

/-- The condition of the body's `scf.if` 1 (`k0_h2`), from the grid coordinates (the skeleton's scalar
    chain substituted). -/
abbrev pastBlock (i : grid0.Coords) : Prop := (Scalar.cmpi .ne (Scalar.extui (Scalar.cmpi .sle (BitVec.ofNat 32 (i 2).val) (BitVec.ofNat 32 (i 1).val))) 0#32) = 1#1
/-- It holds at the points whose coordinates have i2 ≤ i1 — decided over the grid. -/
theorem hpastBlock : ∀ t : Fin cfg0.N, pastBlock (grid0.coords t) ↔ t.val % 4 ≤ t.val / 4 % 4 :=
  (by decide +kernel : ∀ t : Fin grid0.N, pastBlock (grid0.coords t) ↔ t.val % 4 ≤ t.val / 4 % 4)

/-- The condition of the body's `scf.if` 2 (`k0_h3`), from the grid coordinates (the skeleton's scalar
    chain substituted). -/
abbrev lastBlock (i : grid0.Coords) : Prop := k0_cond3 i = 1#1
/-- It holds at the points whose coordinates have i1 = i2 — decided over the grid. -/
theorem hlastBlock : ∀ t : Fin cfg0.N, lastBlock (grid0.coords t) ↔ t.val / 4 % 4 = t.val % 4 :=
  (by decide +kernel : ∀ t : Fin grid0.N, lastBlock (grid0.coords t) ↔ t.val / 4 % 4 = t.val % 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x512x1 .f32 := Memref.whole cc0_scratch0
abbrev scM0_1 : Memref sig .tc .vmem S8x512x1 .f32 := Memref.whole cc0_scratch1
abbrev scM0_2 : Memref sig .tc .vmem S8x512x128 .f32 := Memref.whole cc0_scratch2
/-- The scratch `arg7` the kernel carries between points, as a view: what it holds is stated through it. -/
abbrev VS0_0 : View sig .tc .vmem S8x512x1 .f32 := scM0_0.view
/-- The scratch `arg8` the kernel carries between points, as a view: what it holds is stated through it. -/
abbrev VS0_1 : View sig .tc .vmem S8x512x1 .f32 := scM0_1.view
/-- The scratch `arg9` the kernel carries between points, as a view: what it holds is stated through it. -/
abbrev VS0_2 : View sig .tc .vmem S8x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.RunA.lean ====
module

public import proofs.«01_k».proof.Proof.Base

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at a first key block that is also the last one (its own query block): start, attend, store. The witness of this definition is what the stores of the body leave in the buffers, as lists of
    rectangles with their contents. -/
noncomputable def runA (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : firstBlock i) (hc1 : pastBlock i) (hc2 : lastBlock i)
    (x0 : Vec F S1x512x1024 .bf16) (x1 : Vec F S1x512x1024 .bf16) (x2 : Vec F S1x512x512 .bf16) :
    Σ' (LS0 : List (View.Piece (Elt F) S8x512x1 .f32)), Σ' (LS1 : List (View.Piece (Elt F) S8x512x1 .f32)), Σ' (LO : List (View.Piece (Elt F) S1x512x512 .bf16)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_prompt_attn i arg3 harg3 arg4 harg4 arg5 harg5 arg6 harg6 arg7 harg7 arg8 harg8 arg9 harg9) K } := by
  refine ⟨?_, ?_, ?_, ?_, fun E K => ?run⟩
  case run =>
    simp only [cc0_mla_prompt_attn_eq_skeleton]; unfold cc0_mla_prompt_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Run

end
-- ==== Proof.State.lean ====
module

public import proofs.«01_k».proof.Proof.Base
public import Idealize.ShloMosaic.Lib.ValueIdxCore
public import Idealize.ShloMosaic.Lib.WholeRead

/-! What one visit of a key block does to the running maximum, the running sum and the running weighted values of the
eight heads, and how loads and stores of one head's slab read in terms of that. -/

@[expose] public section

set_option maxRecDepth 16384

noncomputable section

namespace Cert.KernelIdeal.Run

open Idealize.ShloMosaic Idealize.ShloMosaic.TcCoe Idealize.ShloMosaic.ValueIdx
open Cert.KernelIdeal.Gen

variable {F : FTy → Type} [FloatOps F] [Named F]

/-! ## One head's part of a block -/

/-- Head `h`'s 128 lanes of a query or key block. -/
def laneOf (h : Fin 8) (x : Vec F S1x512x1024 .bf16) : Vec F S1x512x128 .bf16 :=
  fun j => x (ix3 0 (j 1) ⟨128 * h.val + (j 2).val, by have h2 : (j 2).val < 128 := (j 2).isLt; have := h.isLt; omega⟩)

/-- The 128 lanes of a value block that head `h` shares with its neighbour. -/
def pairOf (h : Fin 8) (x : Vec F S1x512x512 .bf16) : Vec F S1x512x128 .bf16 :=
  fun j => x (ix3 0 (j 1) ⟨128 * (h.val / 2) + (j 2).val, by have h2 : (j 2).val < 128 := (j 2).isLt; have := h.isLt; omega⟩)

/-- Head `h`'s column of a running statistic. -/
def colOf (h : Fin 8) (m : Vec F S8x512x1 .f32) : Vec F S1x512x1 .f32 := fun j => m (ix3 h (j 1) (j 2))

/-- Head `h`'s slab of the running weighted values. -/
def slabOf (h : Fin 8) (a : Vec F S8x512x128 .f32) : Vec F S1x512x128 .f32 := fun j => a (ix3 h (j 1) (j 2))

/-! ## One visit of a key block -/

/-- The second grid coordinate as the word the kernel reads. -/
abbrev wq (i : grid0.Coords) : BitVec 32 := BitVec.ofNat 32 (i 1).val
/-- The third grid coordinate as the word the kernel reads. -/
abbrev wk (i : grid0.Coords) : BitVec 32 := BitVec.ofNat 32 (i 2).val

/-- One head's new running maximum. -/
def oneM (i : grid0.Coords) (q k : Vec F S1x512x128 .bf16) (m : Vec F S1x512x1 .f32) : Vec F S1x512x1 .f32 :=
  k0_pay20 (k0_pay15 (wq i) (wk i) q k m)
/-- One head's new running sum. -/
def oneL (i : grid0.Coords) (q k : Vec F S1x512x128 .bf16) (m l : Vec F S1x512x1 .f32) : Vec F S1x512x1 .f32 :=
  k0_pay21 (k0_pay18 (wq i) (wk i) q k m l)
/-- One head's new running weighted values. -/
def oneA (i : grid0.Coords) (q k v : Vec F S1x512x128 .bf16) (m : Vec F S1x512x1 .f32) (a : Vec F S1x512x128 .f32) :
    Vec F S1x512x128 .f32 :=
  k0_pay22 (k0_pay13 v) (k0_pay17 (wq i) (wk i) q k m) (k0_pay19 (wq i) (wk i) q k m a)

/-- All heads' running maxima after the visit. -/
def stepM (i : grid0.Coords) (x0 x1 : Vec F S1x512x1024 .bf16) (m : Vec F S8x512x1 .f32) : Vec F S8x512x1 .f32 :=
  fun y => oneM i (laneOf (y 0) x0) (laneOf (y 0) x1) (colOf (y 0) m) (ix3 0 (y 1) (y 2))
/-- All heads' running sums after the visit. -/
def stepL (i : grid0.Coords) (x0 x1 : Vec F S1x512x1024 .bf16) (m l : Vec F S8x512x1 .f32) : Vec F S8x512x1 .f32 :=
  fun y => oneL i (laneOf (y 0) x0) (laneOf (y 0) x1) (colOf (y 0) m) (colOf (y 0) l) (ix3 0 (y 1) (y 2))
/-- All heads' running weighted values after the visit. -/
def stepA (i : grid0.Coords) (x0 x1 : Vec F S1x512x1024 .bf16) (x2 : Vec F S1x512x512 .bf16) (m : Vec F S8x512x1 .f32)
    (a : Vec F S8x512x128 .f32) : Vec F S8x512x128 .f32 :=
  fun y => oneA i (laneOf (y 0) x0) (laneOf (y 0) x1) (pairOf (y 0) x2) (colOf (y 0) m) (slabOf (y 0) a) (ix3 0 (y 1) (y 2))

/-- The block of results from each head's slab and sum: the weighted values over the sum, the head's own half kept, side by side. -/
def outRaw (a0 : Vec F S1x512x128 .f32) (l0 : Vec F S1x512x1 .f32) (a1 : Vec F S1x512x128 .f32) (l1 : Vec F S1x512x1 .f32)
    (a2 : Vec F S1x512x128 .f32) (l2 : Vec F S1x512x1 .f32) (a3 : Vec F S1x512x128 .f32) (l3 : Vec F S1x512x1 .f32)
    (a4 : Vec F S1x512x128 .f32) (l4 : Vec F S1x512x1 .f32) (a5 : Vec F S1x512x128 .f32) (l5 : Vec F S1x512x1 .f32)
    (a6 : Vec F S1x512x128 .f32) (l6 : Vec F S1x512x1 .f32) (a7 : Vec F S1x512x128 .f32) (l7 : Vec F S1x512x1 .f32) :
    Vec F S1x512x512 .bf16 :=
  k0_pay10 (k0_pay89 a0 l0) (k0_pay90 a1 l1) (k0_pay91 a2 l2) (k0_pay92 a3 l3) (k0_pay93 a4) l4 a5 l5 a6 l6 a7 l7

/-- The block of results from the sums and the weighted values of the eight heads. -/
def outOf (l : Vec F S8x512x1 .f32) (a : Vec F S8x512x128 .f32) : Vec F S1x512x512 .bf16 :=
  outRaw (slabOf 0 a) (colOf 0 l) (slabOf 1 a) (colOf 1 l) (slabOf 2 a) (colOf 2 l) (slabOf 3 a) (colOf 3 l)
    (slabOf 4 a) (colOf 4 l) (slabOf 5 a) (colOf 5 l) (slabOf 6 a) (colOf 6 l) (slabOf 7 a) (colOf 7 l)

theorem outRaw_congr {a0 a1 a2 a3 a4 a5 a6 a7 : Vec F S1x512x128 .f32} {l0 l1 l2 l3 l4 l5 l6 l7 : Vec F S1x512x1 .f32}
    {b0 b1 b2 b3 b4 b5 b6 b7 : Vec F S1x512x128 .f32} {k0 k1 k2 k3 k4 k5 k6 k7 : Vec F S1x512x1 .f32}
    (ha0 : a0 = b0) (hl0 : l0 = k0)
    (ha1 : a1 = b1) (hl1 : l1 = k1)
    (ha2 : a2 = b2) (hl2 : l2 = k2)
    (ha3 : a3 = b3) (hl3 : l3 = k3)
    (ha4 : a4 = b4) (hl4 : l4 = k4)
    (ha5 : a5 = b5) (hl5 : l5 = k5)
    (ha6 : a6 = b6) (hl6 : l6 = k6)
    (ha7 : a7 = b7) (hl7 : l7 = k7) :
    outRaw a0 l0 a1 l1 a2 l2 a3 l3 a4 l4 a5 l5 a6 l6 a7 l7 = outRaw b0 k0 b1 k1 b2 k2 b3 k3 b4 k4 b5 k5 b6 k6 b7 k7 := by
  subst ha0 hl0 ha1 hl1 ha2 hl2 ha3 hl3 ha4 hl4 ha5 hl5 ha6 hl6 ha7 hl7
  rfl

theorem oneM_congr (i : grid0.Coords) {q q' k k' : Vec F S1x512x128 .bf16} {m m' : Vec F S1x512x1 .f32} (hq : q = q') (hk : k = k')
    (hm : m = m') : oneM i q k m = oneM i q' k' m' := by subst hq hk hm; rfl
theorem oneL_congr (i : grid0.Coords) {q q' k k' : Vec F S1x512x128 .bf16} {m m' l l' : Vec F S1x512x1 .f32} (hq : q = q') (hk : k = k')
    (hm : m = m') (hl : l = l') : oneL i q k m l = oneL i q' k' m' l' := by subst hq hk hm hl; rfl
theorem oneA_congr (i : grid0.Coords) {q q' k k' v v' : Vec F S1x512x128 .bf16} {m m' : Vec F S1x512x1 .f32}
    {a a' : Vec F S1x512x128 .f32} (hq : q = q') (hk : k = k') (hv : v = v') (hm : m = m') (ha : a = a') :
    oneA i q k v m a = oneA i q' k' v' m' a' := by subst hq hk hv hm ha; rfl

/-! ## Loads of one head's part -/

theorem load_lane (h : Fin 8) {o : ℕ} (ho : o = 128 * h.val) {M : Memref sig .tc .vmem S1x512x1024 .bf16} (hM : M.IsWhole)
    (x : Vec F S1x512x1024 .bf16) (inb : ∀ a, (![0, 0, o] : Fin 3 → ℕ) a + S1x512x128.size a ≤ S1x512x1024.size a) :
    View.readAt (Elt F) M.view (Rect.unit (s := S1x512x1024) ![0, 0, o] S1x512x128.size inb).toLoadRect (hM.unread x) = laneOf h x := by
  funext j
  rw [hM.readAt_unread]
  unfold laneOf
  congr 1
  subst ho
  have h0 : (j 0).val < 1 := (j 0).isLt
  funext d
  match d with
  | ⟨0, _⟩ => exact Fin.ext (show 0 + 1 * (j 0).val = 0 by omega)
  | ⟨1, _⟩ => exact Fin.ext (show 0 + 1 * (j 1).val = (j 1).val by omega)
  | ⟨2, _⟩ => exact Fin.ext (show 128 * h.val + 1 * (j 2).val = 128 * h.val + (j 2).val by omega)

theorem load_pair (h : Fin 8) {o : ℕ} (ho : o = 128 * (h.val / 2)) {M : Memref sig .tc .vmem S1x512x512 .bf16} (hM : M.IsWhole)
    (x : Vec F S1x512x512 .bf16) (inb : ∀ a, (![0, 0, o] : Fin 3 → ℕ) a + S1x512x128.size a ≤ S1x512x512.size a) :
    View.readAt (Elt F) M.view (Rect.unit (s := S1x512x512) ![0, 0, o] S1x512x128.size inb).toLoadRect (hM.unread x) = pairOf h x := by
  funext j
  rw [hM.readAt_unread]
  unfold pairOf
  congr 1
  subst ho
  have h0 : (j 0).val < 1 := (j 0).isLt
  funext d
  match d with
  | ⟨0, _⟩ => exact Fin.ext (show 0 + 1 * (j 0).val = 0 by omega)
  | ⟨1, _⟩ => exact Fin.ext (show 0 + 1 * (j 1).val = (j 1).val by omega)
  | ⟨2, _⟩ => exact Fin.ext (show 128 * (h.val / 2) + 1 * (j 2).val = 128 * (h.val / 2) + (j 2).val by omega)

/-- Where element `x` of head `h`'s slab sits in a buffer with one slab per head. -/
theorem emb_slab {n : ℕ} (h : Fin 8) {o : ℕ} (ho : o = h.val)
    (inb : ∀ a, (![o, 0, 0] : Fin 3 → ℕ) a + (![1, 512, n] : Fin 3 → ℕ) a ≤ (⟨3, ![8, 512, n]⟩ : Shape).size a)
    (x : (⟨3, ![1, 512, n]⟩ : Shape).Idx) :
    (Rect.unit (s := (⟨3, ![8, 512, n]⟩ : Shape)) ![o, 0, 0] ![1, 512, n] inb).emb x = ix3 h (x 1) (x 2) := by
  subst ho
  have h0 : (x 0).val < 1 := (x 0).isLt
  funext d
  match d with
  | ⟨0, _⟩ => exact Fin.ext (show h.val + 1 * (x 0).val = h.val by omega)
  | ⟨1, _⟩ => exact Fin.ext (show 0 + 1 * (x 1).val = (x 1).val by omega)
  | ⟨2, _⟩ => exact Fin.ext (show 0 + 1 * (x 2).val = (x 2).val by omega)

theorem idx_slab {n : ℕ} (x : (⟨3, ![1, 512, n]⟩ : Shape).Idx) : ix3 (0 : Fin 1) (x 1) (x 2) = x := by
  have h0 : (x 0).val < 1 := (x 0).isLt
  funext d
  match d with
  | ⟨0, _⟩ => exact Fin.ext (show 0 = (x 0).val by omega)
  | ⟨1, _⟩ => rfl
  | ⟨2, _⟩ => rfl

/-- A head's slab loaded from a buffer held at `X`. -/
theorem load_slab {n : ℕ} {e : EltTy} (h : Fin 8) {o : ℕ} (ho : o = h.val) {M : Memref sig .tc .vmem (⟨3, ![8, 512, n]⟩ : Shape) e}
    (hM : M.IsWhole) (X : (⟨3, ![8, 512, n]⟩ : Shape).Idx → Elt F e)
    (inb : ∀ a, (![o, 0, 0] : Fin 3 → ℕ) a + (![1, 512, n] : Fin 3 → ℕ) a ≤ (⟨3, ![8, 512, n]⟩ : Shape).size a) :
    View.readAt (Elt F) M.view (Rect.unit (s := (⟨3, ![8, 512, n]⟩ : Shape)) ![o, 0, 0] ![1, 512, n] inb).toLoadRect (hM.unread X)
      = fun x => X (ix3 h (x 1) (x 2)) := by
  funext x
  rw [hM.readAt_unread]
  exact congrArg X (emb_slab h ho inb x)

/-- A load of head `h`'s slab passes over a store to another head's. -/
theorem load_miss {n : ℕ} {e : EltTy} {V : View sig .tc .vmem (⟨3, ![8, 512, n]⟩ : Shape) e} (f : V.ty.Contents (Elt F)) {o o' : ℕ}
    (hne : o ≠ o')
    (inb : ∀ a, (![o, 0, 0] : Fin 3 → ℕ) a + (![1, 512, n] : Fin 3 → ℕ) a ≤ (⟨3, ![8, 512, n]⟩ : Shape).size a)
    (inb' : ∀ a, (![o', 0, 0] : Fin 3 → ℕ) a + (![1, 512, n] : Fin 3 → ℕ) a ≤ (⟨3, ![8, 512, n]⟩ : Shape).size a)
    (w : (Rect.unit (s := (⟨3, ![8, 512, n]⟩ : Shape)) ![o', 0, 0] ![1, 512, n] inb').shape.Idx → Elt F e)
    (L : List (View.Piece (Elt F) (⟨3, ![8, 512, n]⟩ : Shape) e)) :
    V.readAt (Elt F) (Rect.unit (s := (⟨3, ![8, 512, n]⟩ : Shape)) ![o, 0, 0] ![1, 512, n] inb).toLoadRect
        (V.writes (Elt F) f (⟨Rect.unit (s := (⟨3, ![8, 512, n]⟩ : Shape)) ![o', 0, 0] ![1, 512, n] inb', w⟩ :: L))
      = V.readAt (Elt F) (Rect.unit (s := (⟨3, ![8, 512, n]⟩ : Shape)) ![o, 0, 0] ![1, 512, n] inb).toLoadRect (V.writes (Elt F) f L) := by
  funext x
  refine View.read_writes_cons_miss_of_axis V f _ L _ (0 : Fin 3) o' 1 rfl rfl rfl ?_
  have h0 : (x 0).val < 1 := (x 0).isLt
  show o + 1 * (x 0).val < o' ∨ o' + 1 ≤ o + 1 * (x 0).val
  omega

/-- A load of head `h`'s slab after a store of the whole buffer reads that store. -/
theorem load_whole {n : ℕ} {e : EltTy} {V : View sig .tc .vmem (⟨3, ![8, 512, n]⟩ : Shape) e} (f : V.ty.Contents (Elt F)) (h : Fin 8) {o : ℕ}
    (ho : o = h.val)
    (inb : ∀ a, (![o, 0, 0] : Fin 3 → ℕ) a + (![1, 512, n] : Fin 3 → ℕ) a ≤ (⟨3, ![8, 512, n]⟩ : Shape).size a)
    (inb' : ∀ a, (![0, 0, 0] : Fin 3 → ℕ) a + (![8, 512, n] : Fin 3 → ℕ) a ≤ (⟨3, ![8, 512, n]⟩ : Shape).size a)
    (w : (⟨3, ![8, 512, n]⟩ : Shape).Idx → Elt F e)
    (L : List (View.Piece (Elt F) (⟨3, ![8, 512, n]⟩ : Shape) e)) :
    V.readAt (Elt F) (Rect.unit (s := (⟨3, ![8, 512, n]⟩ : Shape)) ![o, 0, 0] ![1, 512, n] inb).toLoadRect
        (V.writes (Elt F) f (⟨Rect.unit (s := (⟨3, ![8, 512, n]⟩ : Shape)) ![0, 0, 0] ![8, 512, n] inb', w⟩ :: L))
      = fun x => w (ix3 h (x 1) (x 2)) := by
  funext x
  refine (congrArg (V.read (Elt F) _) (emb_slab h ho inb x)).trans ?_
  refine View.read_writes_cons_hit_of_coords V f (Rect.unit (s := (⟨3, ![8, 512, n]⟩ : Shape)) ![0, 0, 0] ![8, 512, n] inb') w L
    (ix3 h (x 1) (x 2)) (ix3 h (x 1) (x 2)) ?_
  intro d
  match d with
  | ⟨0, _⟩ => exact (show h.val = 0 + 1 * h.val by omega)
  | ⟨1, _⟩ => exact (show (x 1).val = 0 + 1 * (x 1).val by omega)
  | ⟨2, _⟩ => exact (show (x 2).val = 0 + 1 * (x 2).val by omega)

/-- A load of head `h`'s slab after stores that all agree with `G` and cover the buffer reads `G`. -/
theorem load_agree {n : ℕ} {e : EltTy} {V : View sig .tc .vmem (⟨3, ![8, 512, n]⟩ : Shape) e} (f : V.ty.Contents (Elt F)) (h : Fin 8) {o : ℕ}
    (ho : o = h.val)
    (inb : ∀ a, (![o, 0, 0] : Fin 3 → ℕ) a + (![1, 512, n] : Fin 3 → ℕ) a ≤ (⟨3, ![8, 512, n]⟩ : Shape).size a)
    (L : List (View.Piece (Elt F) (⟨3, ![8, 512, n]⟩ : Shape) e)) (G : (⟨3, ![8, 512, n]⟩ : Shape).Idx → Elt F e)
    (hG : V.read (Elt F) (V.writes (Elt F) f L) = G) :
    V.readAt (Elt F) (Rect.unit (s := (⟨3, ![8, 512, n]⟩ : Shape)) ![o, 0, 0] ![1, 512, n] inb).toLoadRect (V.writes (Elt F) f L)
      = fun x => G (ix3 h (x 1) (x 2)) := by
  funext x
  refine (congrFun hG _).trans ?_
  exact congrArg G (emb_slab h ho inb x)

/-! ## Stores that together make up a buffer -/

/-- After stores that, the oldest aside, agree with `G` and cover the buffer, the buffer reads `G`. -/
theorem read_newer {s : Shape} {e : EltTy} (V : View sig .tc .vmem s e) (f : V.ty.Contents (Elt F)) (G : s.Idx → Elt F e)
    (L : List (View.Piece (Elt F) s e)) (p : View.Piece (Elt F) s e)
    (hG : ∀ p ∈ L, ∀ x : p.1.shape.Idx, p.2 x = G (p.1.emb x)) (hc : ∀ y : s.Idx, ∃ p ∈ L, y ∈ p.1.set) :
    V.read (Elt F) (V.writes (Elt F) f (L ++ [p])) = G := by
  rw [View.writes_append]
  exact funext fun y => View.read_writes_apply_of_pieces V _ G L hG y (hc y)

/-! ## The visit, at the places where one head's slab is stored -/

theorem stepM_emb (i : grid0.Coords) (h : Fin 8) {o : ℕ} (ho : o = h.val)
    (inb : ∀ a, (![o, 0, 0] : Fin 3 → ℕ) a + (![1, 512, 1] : Fin 3 → ℕ) a ≤ (⟨3, ![8, 512, 1]⟩ : Shape).size a)
    (x0 x1 : Vec F S1x512x1024 .bf16) (m : Vec F S8x512x1 .f32) (x : (⟨3, ![1, 512, 1]⟩ : Shape).Idx) :
    oneM i (laneOf h x0) (laneOf h x1) (colOf h m) x
      = stepM i x0 x1 m ((Rect.unit (s := (⟨3, ![8, 512, 1]⟩ : Shape)) ![o, 0, 0] ![1, 512, 1] inb).emb x) :=
  (congrArg (oneM i (laneOf h x0) (laneOf h x1) (colOf h m)) (idx_slab x)).symm.trans
    (congrArg (stepM i x0 x1 m) (emb_slab h ho inb x)).symm

theorem stepL_emb (i : grid0.Coords) (h : Fin 8) {o : ℕ} (ho : o = h.val)
    (inb : ∀ a, (![o, 0, 0] : Fin 3 → ℕ) a + (![1, 512, 1] : Fin 3 → ℕ) a ≤ (⟨3, ![8, 512, 1]⟩ : Shape).size a)
    (x0 x1 : Vec F S1x512x1024 .bf16) (m l : Vec F S8x512x1 .f32) (x : (⟨3, ![1, 512, 1]⟩ : Shape).Idx) :
    oneL i (laneOf h x0) (laneOf h x1) (colOf h m) (colOf h l) x
      = stepL i x0 x1 m l ((Rect.unit (s := (⟨3, ![8, 512, 1]⟩ : Shape)) ![o, 0, 0] ![1, 512, 1] inb).emb x) :=
  (congrArg (oneL i (laneOf h x0) (laneOf h x1) (colOf h m) (colOf h l)) (idx_slab x)).symm.trans
    (congrArg (stepL i x0 x1 m l) (emb_slab h ho inb x)).symm

theorem stepA_emb (i : grid0.Coords) (h : Fin 8) {o : ℕ} (ho : o = h.val)
    (inb : ∀ a, (![o, 0, 0] : Fin 3 → ℕ) a + (![1, 512, 128] : Fin 3 → ℕ) a ≤ (⟨3, ![8, 512, 128]⟩ : Shape).size a)
    (x0 x1 : Vec F S1x512x1024 .bf16) (x2 : Vec F S1x512x512 .bf16) (m : Vec F S8x512x1 .f32) (a : Vec F S8x512x128 .f32)
    (x : (⟨3, ![1, 512, 128]⟩ : Shape).Idx) :
    oneA i (laneOf h x0) (laneOf h x1) (pairOf h x2) (colOf h m) (slabOf h a) x
      = stepA i x0 x1 x2 m a ((Rect.unit (s := (⟨3, ![8, 512, 128]⟩ : Shape)) ![o, 0, 0] ![1, 512, 128] inb).emb x) :=
  (congrArg (oneA i (laneOf h x0) (laneOf h x1) (pairOf h x2) (colOf h m) (slabOf h a)) (idx_slab x)).symm.trans
    (congrArg (stepA i x0 x1 x2 m a) (emb_slab h ho inb x)).symm

end Cert.KernelIdeal.Run

end
-- ==== Proof.ReadsA.lean ====
module

public import proofs.«01_k».proof.Proof.RunA
public import proofs.«01_k».proof.Proof.State
public import Idealize.ShloMosaic.Lib.VecWindow

/-! What the stores at a single key block leave in the scratch and in the result block. -/

@[expose] public section

set_option maxRecDepth 16384

noncomputable section

namespace Cert.KernelIdeal.Run

open Idealize.ShloMosaic Idealize.ShloMosaic.TcCoe Idealize.ShloMosaic.Tactic Idealize.ShloMosaic.ValueIdx
open Cert.KernelIdeal.Gen

variable {F : FTy → Type} [FloatOps F] [Named F]

variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole)
  (x0 x1 : Vec F S1x512x1024 .bf16) (x2 : Vec F S1x512x512 .bf16)

theorem loadA_M_0 :
    (arg7.view.readCov (runA.sl.HS0_1) (Rect.unit (s := S8x512x1) ![0, 0, 0] S1x512x1.size inb_S8x512x1_S1x512x1_0_0_0).toLoadRect) = colOf 0 (k0_pay1 : Vec F S8x512x1 .f32) := by
  exact load_whole (V := arg7.view) (o := 0) arg7.view.junk 0 (by decide) _ _ (k0_pay1 : Vec F S8x512x1 .f32) []

theorem loadA_M_1 :
    (arg7.view.readCov (runA.sl.HS0_2 c i arg3 harg3 arg4 harg4 arg7 x0 x1) (Rect.unit (s := S8x512x1) ![1, 0, 0] S1x512x1.size inb_S8x512x1_S1x512x1_1_0_0).toLoadRect) = colOf 1 (k0_pay1 : Vec F S8x512x1 .f32) := by
  refine (load_miss (V := arg7.view) (o := 1) (o' := 0) arg7.view.junk (by decide) _ _ _ (runA.sl.HS0_1)).trans ?_
  exact load_whole (V := arg7.view) (o := 1) arg7.view.junk 1 (by decide) _ _ (k0_pay1 : Vec F S8x512x1 .f32) []

theorem loadA_M_2 :
    (arg7.view.readCov (runA.sl.HS0_3 c i arg3 harg3 arg4 harg4 arg7 x0 x1) (Rect.unit (s := S8x512x1) ![2, 0, 0] S1x512x1.size inb_S8x512x1_S1x512x1_2_0_0).toLoadRect) = colOf 2 (k0_pay1 : Vec F S8x512x1 .f32) := by
  refine (load_miss (V := arg7.view) (o := 2) (o' := 1) arg7.view.junk (by decide) _ _ _ (runA.sl.HS0_2 c i arg3 harg3 arg4 harg4 arg7 x0 x1)).trans ?_
  refine (load_miss (V := arg7.view) (o := 2) (o' := 0) arg7.view.junk (by decide) _ _ _ (runA.sl.HS0_1)).trans ?_
  exact load_whole (V := arg7.view) (o := 2) arg7.view.junk 2 (by decide) _ _ (k0_pay1 : Vec F S8x512x1 .f32) []

theorem loadA_M_3 :
    (arg7.view.readCov (runA.sl.HS0_4 c i arg3 harg3 arg4 harg4 arg7 x0 x1) (Rect.unit (s := S8x512x1) ![3, 0, 0] S1x512x1.size inb_S8x512x1_S1x512x1_3_0_0).toLoadRect) = colOf 3 (k0_pay1 : Vec F S8x512x1 .f32) := by
  refine (load_miss (V := arg7.view) (o := 3) (o' := 2) arg7.view.junk (by decide) _ _ _ (runA.sl.HS0_3 c i arg3 harg3 arg4 harg4 arg7 x0 x1)).trans ?_
  refine (load_miss (V := arg7.view) (o := 3) (o' := 1) arg7.view.junk (by decide) _ _ _ (runA.sl.HS0_2 c i arg3 harg3 arg4 harg4 arg7 x0 x1)).trans ?_
  refine (load_miss (V := arg7.view) (o := 3) (o' := 0) arg7.view.junk (by decide) _ _ _ (runA.sl.HS0_1)).trans ?_
  exact load_whole (V := arg7.view) (o := 3) arg7.view.junk 3 (by decide) _ _ (k0_pay1 : Vec F S8x512x1 .f32) []

theorem loadA_M_4 :
    (arg7.view.readCov (runA.sl.HS0_5 c i arg3 harg3 arg4 harg4 arg7 x0 x1) (Rect.unit (s := S8x512x1) ![4, 0, 0] S1x512x1.size inb_S8x512x1_S1x512x1_4_0_0).toLoadRect) = colOf 4 (k0_pay1 : Vec F S8x512x1 .f32) := by
  refine (load_miss (V := arg7.view) (o := 4) (o' := 3) arg7.view.junk (by decide) _ _ _ (runA.sl.HS0_4 c i arg3 harg3 arg4 harg4 arg7 x0 x1)).trans ?_
  refine (load_miss (V := arg7.view) (o := 4) (o' := 2) arg7.view.junk (by decide) _ _ _ (runA.sl.HS0_3 c i arg3 harg3 arg4 harg4 arg7 x0 x1)).trans ?_
  refine (load_miss (V := arg7.view) (o := 4) (o' := 1) arg7.view.junk (by decide) _ _ _ (runA.sl.HS0_2 c i arg3 harg3 arg4 harg4 arg7 x0 x1)).trans ?_
  refine (load_miss (V := arg7.view) (o := 4) (o' := 0) arg7.view.junk (by decide) _ _ _ (runA.sl.HS0_1)).trans ?_
  exact load_whole (V := arg7.view) (o := 4) arg7.view.junk 4 (by decide) _ _ (k0_pay1 : Vec F S8x512x1 .f32) []

theorem loadA_M_5 :
    (arg7.view.readCov (runA.sl.HS0_6 c i arg3 harg3 arg4 harg4 arg7 x0 x1) (Rect.unit (s := S8x512x1) ![5, 0, 0] S1x512x1.size inb_S8x512x1_S1x512x1_5_0_0).toLoadRect) = colOf 5 (k0_pay1 : Vec F S8x512x1 .f32) := by
  refine (load_miss (V := arg7.view) (o := 5) (o' := 4) arg7.view.junk (by decide) _ _ _ (runA.sl.HS0_5 c i arg3 harg3 arg4 harg4 arg7 x0 x1)).trans ?_
  refine (load_miss (V := arg7.view) (o := 5) (o' := 3) arg7.view.junk (by decide) _ _ _ (runA.sl.HS0_4 c i arg3 harg3 arg4 harg4 arg7 x0 x1)).trans ?_
  refine (load_miss (V := arg7.view) (o := 5) (o' := 2) arg7.view.junk (by decide) _ _ _ (runA.sl.HS0_3 c i arg3 harg3 arg4 harg4 arg7 x0 x1)).trans ?_
  refine (load_miss (V := arg7.view) (o := 5) (o' := 1) arg7.view.junk (by decide) _ _ _ (runA.sl.HS0_2 c i arg3 harg3 arg4 harg4 arg7 x0 x1)).trans ?_
  refine (load_miss (V := arg7.view) (o := 5) (o' := 0) arg7.view.junk (by decide) _ _ _ (runA.sl.HS0_1)).trans ?_
  exact load_whole (V := arg7.view) (o := 5) arg7.view.junk 5 (by decide) _ _ (k0_pay1 : Vec F S8x512x1 .f32) []

theorem loadA_M_6 :
    (arg7.view.readCov (runA.sl.HS0_7 c i arg3 harg3 arg4 harg4 arg7 x0 x1) (Rect.unit (s := S8x512x1) ![6, 0, 0] S1x512x1.size inb_S8x512x1_S1x512x1_6_0_0).toLoadRect) = colOf 6 (k0_pay1 : Vec F S8x512x1 .f32) := by
  refine (load_miss (V := arg7.view) (o := 6) (o' := 5) arg7.view.junk (by decide) _ _ _ (runA.sl.HS0_6 c i arg3 harg3 arg4 harg4 arg7 x0 x1)).trans ?_
  refine (load_miss (V := arg7.view) (o := 6) (o' := 4) arg7.view.junk (by decide) _ _ _ (runA.sl.HS0_5 c i arg3 harg3 arg4 harg4 arg7 x0 x1)).trans ?_
  refine (load_miss (V := arg7.view) (o := 6) (o' := 3) arg7.view.junk (by decide) _ _ _ (runA.sl.HS0_4 c i arg3 harg3 arg4 harg4 arg7 x0 x1)).trans ?_
  refine (load_miss (V := arg7.view) (o := 6) (o' := 2) arg7.view.junk (by decide) _ _ _ (runA.sl.HS0_3 c i arg3 harg3 arg4 harg4 arg7 x0 x1)).trans ?_
  refine (load_miss (V := arg7.view) (o := 6) (o' := 1) arg7.view.junk (by decide) _ _ _ (runA.sl.HS0_2 c i arg3 harg3 arg4 harg4 arg7 x0 x1)).trans ?_
  refine (load_miss (V := arg7.view) (o := 6) (o' := 0) arg7.view.junk (by decide) _ _ _ (runA.sl.HS0_1)).trans ?_
  exact load_whole (V := arg7.view) (o := 6) arg7.view.junk 6 (by decide) _ _ (k0_pay1 : Vec F S8x512x1 .f32) []

theorem loadA_M_7 :
    (arg7.view.readCov (runA.sl.HS0_8 c i arg3 harg3 arg4 harg4 arg7 x0 x1) (Rect.unit (s := S8x512x1) ![7, 0, 0] S1x512x1.size inb_S8x512x1_S1x512x1_7_0_0).toLoadRect) = colOf 7 (k0_pay1 : Vec F S8x512x1 .f32) := by
  refine (load_miss (V := arg7.view) (o := 7) (o' := 6) arg7.view.junk (by decide) _ _ _ (runA.sl.HS0_7 c i arg3 harg3 arg4 harg4 arg7 x0 x1)).trans ?_
  refine (load_miss (V := arg7.view) (o := 7) (o' := 5) arg7.view.junk (by decide) _ _ _ (runA.sl.HS0_6 c i arg3 harg3 arg4 harg4 arg7 x0 x1)).trans ?_
  refine (load_miss (V := arg7.view) (o := 7) (o' := 4) arg7.view.junk (by decide) _ _ _ (runA.sl.HS0_5 c i arg3 harg3 arg4 harg4 arg7 x0 x1)).trans ?_
  refine (load_miss (V := arg7.view) (o := 7) (o' := 3) arg7.view.junk (by decide) _ _ _ (runA.sl.HS0_4 c i arg3 harg3 arg4 harg4 arg7 x0 x1)).trans ?_
  refine (load_miss (V := arg7.view) (o := 7) (o' := 2) arg7.view.junk (by decide) _ _ _ (runA.sl.HS0_3 c i arg3 harg3 arg4 harg4 arg7 x0 x1)).trans ?_
  refine (load_miss (V := arg7.view) (o := 7) (o' := 1) arg7.view.junk (by decide) _ _ _ (runA.sl.HS0_2 c i arg3 harg3 arg4 harg4 arg7 x0 x1)).trans ?_
  refine (load_miss (V := arg7.view) (o := 7) (o' := 0) arg7.view.junk (by decide) _ _ _ (runA.sl.HS0_1)).trans ?_
  exact load_whole (V := arg7.view) (o := 7) arg7.view.junk 7 (by decide) _ _ (k0_pay1 : Vec F S8x512x1 .f32) []

theorem loadA_L_0 :
    (arg8.view.readCov (runA.sl.HS1_1) (Rect.unit (s := S8x512x1) ![0, 0, 0] S1x512x1.size inb_S8x512x1_S1x512x1_0_0_0).toLoadRect) = colOf 0 (k0_pay2 : Vec F S8x512x1 .f32) := by
  exact load_whole (V := arg8.view) (o := 0) arg8.view.junk 0 (by decide) _ _ (k0_pay2 : Vec F S8x512x1 .f32) []

theorem loadA_L_1 :
    (arg8.view.readCov (runA.sl.HS1_2 c i arg3 harg3 arg4 harg4 arg7 arg8 x0 x1) (Rect.unit (s := S8x512x1) ![1, 0, 0] S1x512x1.size inb_S8x512x1_S1x512x1_1_0_0).toLoadRect) = colOf 1 (k0_pay2 : Vec F S8x512x1 .f32) := by
  refine (load_miss (V := arg8.view) (o := 1) (o' := 0) arg8.view.junk (by decide) _ _ _ (runA.sl.HS1_1)).trans ?_
  exact load_whole (V := arg8.view) (o := 1) arg8.view.junk 1 (by decide) _ _ (k0_pay2 : Vec F S8x512x1 .f32) []

theorem loadA_L_2 :
    (arg8.view.readCov (runA.sl.HS1_3 c i arg3 harg3 arg4 harg4 arg7 arg8 x0 x1) (Rect.unit (s := S8x512x1) ![2, 0, 0] S1x512x1.size inb_S8x512x1_S1x512x1_2_0_0).toLoadRect) = colOf 2 (k0_pay2 : Vec F S8x512x1 .f32) := by
  refine (load_miss (V := arg8.view) (o := 2) (o' := 1) arg8.view.junk (by decide) _ _ _ (runA.sl.HS1_2 c i arg3 harg3 arg4 harg4 arg7 arg8 x0 x1)).trans ?_
  refine (load_miss (V := arg8.view) (o := 2) (o' := 0) arg8.view.junk (by decide) _ _ _ (runA.sl.HS1_1)).trans ?_
  exact load_whole (V := arg8.view) (o := 2) arg8.view.junk 2 (by decide) _ _ (k0_pay2 : Vec F S8x512x1 .f32) []

theorem loadA_L_3 :
    (arg8.view.readCov (runA.sl.HS1_4 c i arg3 harg3 arg4 harg4 arg7 arg8 x0 x1) (Rect.unit (s := S8x512x1) ![3, 0, 0] S1x512x1.size inb_S8x512x1_S1x512x1_3_0_0).toLoadRect) = colOf 3 (k0_pay2 : Vec F S8x512x1 .f32) := by
  refine (load_miss (V := arg8.view) (o := 3) (o' := 2) arg8.view.junk (by decide) _ _ _ (runA.sl.HS1_3 c i arg3 harg3 arg4 harg4 arg7 arg8 x0 x1)).trans ?_
  refine (load_miss (V := arg8.view) (o := 3) (o' := 1) arg8.view.junk (by decide) _ _ _ (runA.sl.HS1_2 c i arg3 harg3 arg4 harg4 arg7 arg8 x0 x1)).trans ?_
  refine (load_miss (V := arg8.view) (o := 3) (o' := 0) arg8.view.junk (by decide) _ _ _ (runA.sl.HS1_1)).trans ?_
  exact load_whole (V := arg8.view) (o := 3) arg8.view.junk 3 (by decide) _ _ (k0_pay2 : Vec F S8x512x1 .f32) []

theorem loadA_L_4 :
    (arg8.view.readCov (runA.sl.HS1_5 c i arg3 harg3 arg4 harg4 arg7 arg8 x0 x1) (Rect.unit (s := S8x512x1) ![4, 0, 0] S1x512x1.size inb_S8x512x1_S1x512x1_4_0_0).toLoadRect) = colOf 4 (k0_pay2 : Vec F S8x512x1 .f32) := by
  refine (load_miss (V := arg8.view) (o := 4) (o' := 3) arg8.view.junk (by decide) _ _ _ (runA.sl.HS1_4 c i arg3 harg3 arg4 harg4 arg7 arg8 x0 x1)).trans ?_
  refine (load_miss (V := arg8.view) (o := 4) (o' := 2) arg8.view.junk (by decide) _ _ _ (runA.sl.HS1_3 c i arg3 harg3 arg4 harg4 arg7 arg8 x0 x1)).trans ?_
  refine (load_miss (V := arg8.view) (o := 4) (o' := 1) arg8.view.junk (by decide) _ _ _ (runA.sl.HS1_2 c i arg3 harg3 arg4 harg4 arg7 arg8 x0 x1)).trans ?_
  refine (load_miss (V := arg8.view) (o := 4) (o' := 0) arg8.view.junk (by decide) _ _ _ (runA.sl.HS1_1)).trans ?_
  exact load_whole (V := arg8.view) (o := 4) arg8.view.junk 4 (by decide) _ _ (k0_pay2 : Vec F S8x512x1 .f32) []

theorem loadA_L_5 :
    (arg8.view.readCov (runA.sl.HS1_6 c i arg3 harg3 arg4 harg4 arg7 arg8 x0 x1) (Rect.unit (s := S8x512x1) ![5, 0, 0] S1x512x1.size inb_S8x512x1_S1x512x1_5_0_0).toLoadRect) = colOf 5 (k0_pay2 : Vec F S8x512x1 .f32) := by
  refine (load_miss (V := arg8.view) (o := 5) (o' := 4) arg8.view.junk (by decide) _ _ _ (runA.sl.HS1_5 c i arg3 harg3 arg4 harg4 arg7 arg8 x0 x1)).trans ?_
  refine (load_miss (V := arg8.view) (o := 5) (o' := 3) arg8.view.junk (by decide) _ _ _ (runA.sl.HS1_4 c i arg3 harg3 arg4 harg4 arg7 arg8 x0 x1)).trans ?_
  refine (load_miss (V := arg8.view) (o := 5) (o' := 2) arg8.view.junk (by decide) _ _ _ (runA.sl.HS1_3 c i arg3 harg3 arg4 harg4 arg7 arg8 x0 x1)).trans ?_
  refine (load_miss (V := arg8.view) (o := 5) (o' := 1) arg8.view.junk (by decide) _ _ _ (runA.sl.HS1_2 c i arg3 harg3 arg4 harg4 arg7 arg8 x0 x1)).trans ?_
  refine (load_miss (V := arg8.view) (o := 5) (o' := 0) arg8.view.junk (by decide) _ _ _ (runA.sl.HS1_1)).trans ?_
  exact load_whole (V := arg8.view) (o := 5) arg8.view.junk 5 (by decide) _ _ (k0_pay2 : Vec F S8x512x1 .f32) []

theorem loadA_L_6 :
    (arg8.view.readCov (runA.sl.HS1_7 c i arg3 harg3 arg4 harg4 arg7 arg8 x0 x1) (Rect.unit (s := S8x512x1) ![6, 0, 0] S1x512x1.size inb_S8x512x1_S1x512x1_6_0_0).toLoadRect) = colOf 6 (k0_pay2 : Vec F S8x512x1 .f32) := by
  refine (load_miss (V := arg8.view) (o := 6) (o' := 5) arg8.view.junk (by decide) _ _ _ (runA.sl.HS1_6 c i arg3 harg3 arg4 harg4 arg7 arg8 x0 x1)).trans ?_
  refine (load_miss (V := arg8.view) (o := 6) (o' := 4) arg8.view.junk (by decide) _ _ _ (runA.sl.HS1_5 c i arg3 harg3 arg4 harg4 arg7 arg8 x0 x1)).trans ?_
  refine (load_miss (V := arg8.view) (o := 6) (o' := 3) arg8.view.junk (by decide) _ _ _ (runA.sl.HS1_4 c i arg3 harg3 arg4 harg4 arg7 arg8 x0 x1)).trans ?_
  refine (load_miss (V := arg8.view) (o := 6) (o' := 2) arg8.view.junk (by decide) _ _ _ (runA.sl.HS1_3 c i arg3 harg3 arg4 harg4 arg7 arg8 x0 x1)).trans ?_
  refine (load_miss (V := arg8.view) (o := 6) (o' := 1) arg8.view.junk (by decide) _ _ _ (runA.sl.HS1_2 c i arg3 harg3 arg4 harg4 arg7 arg8 x0 x1)).trans ?_
  refine (load_miss (V := arg8.view) (o := 6) (o' := 0) arg8.view.junk (by decide) _ _ _ (runA.sl.HS1_1)).trans ?_
  exact load_whole (V := arg8.view) (o := 6) arg8.view.junk 6 (by decide) _ _ (k0_pay2 : Vec F S8x512x1 .f32) []

theorem loadA_L_7 :
    (arg8.view.readCov (runA.sl.HS1_8 c i arg3 harg3 arg4 harg4 arg7 arg8 x0 x1) (Rect.unit (s := S8x512x1) ![7, 0, 0] S1x512x1.size inb_S8x512x1_S1x512x1_7_0_0).toLoadRect) = colOf 7 (k0_pay2 : Vec F S8x512x1 .f32) := by
  refine (load_miss (V := arg8.view) (o := 7) (o' := 6) arg8.view.junk (by decide) _ _ _ (runA.sl.HS1_7 c i arg3 harg3 arg4 harg4 arg7 arg8 x0 x1)).trans ?_
  refine (load_miss (V := arg8.view) (o := 7) (o' := 5) arg8.view.junk (by decide) _ _ _ (runA.sl.HS1_6 c i arg3 harg3 arg4 harg4 arg7 arg8 x0 x1)).trans ?_
  refine (load_miss (V := arg8.view) (o := 7) (o' := 4) arg8.view.junk (by decide) _ _ _ (runA.sl.HS1_5 c i arg3 harg3 arg4 harg4 arg7 arg8 x0 x1)).trans ?_
  refine (load_miss (V := arg8.view) (o := 7) (o' := 3) arg8.view.junk (by decide) _ _ _ (runA.sl.HS1_4 c i arg3 harg3 arg4 harg4 arg7 arg8 x0 x1)).trans ?_
  refine (load_miss (V := arg8.view) (o := 7) (o' := 2) arg8.view.junk (by decide) _ _ _ (runA.sl.HS1_3 c i arg3 harg3 arg4 harg4 arg7 arg8 x0 x1)).trans ?_
  refine (load_miss (V := arg8.view) (o := 7) (o' := 1) arg8.view.junk (by decide) _ _ _ (runA.sl.HS1_2 c i arg3 harg3 arg4 harg4 arg7 arg8 x0 x1)).trans ?_
  refine (load_miss (V := arg8.view) (o := 7) (o' := 0) arg8.view.junk (by decide) _ _ _ (runA.sl.HS1_1)).trans ?_
  exact load_whole (V := arg8.view) (o := 7) arg8.view.junk 7 (by decide) _ _ (k0_pay2 : Vec F S8x512x1 .f32) []

theorem loadA_A_0 :
    (arg9.view.readCov (runA.sl.HS2_1) (Rect.unit (s := S8x512x128) ![0, 0, 0] S1x512x128.size inb_S8x512x128_S1x512x128_0_0_0).toLoadRect) = slabOf 0 (k0_pay3 : Vec F S8x512x128 .f32) := by
  exact load_whole (V := arg9.view) (o := 0) arg9.view.junk 0 (by decide) _ _ (k0_pay3 : Vec F S8x512x128 .f32) []

theorem loadA_A_1 :
    (arg9.view.readCov (runA.sl.HS2_2 c i arg3 harg3 arg4 harg4 arg5 harg5 arg7 arg9 x0 x1 x2) (Rect.unit (s := S8x512x128) ![1, 0, 0] S1x512x128.size inb_S8x512x128_S1x512x128_1_0_0).toLoadRect) = slabOf 1 (k0_pay3 : Vec F S8x512x128 .f32) := by
  refine (load_miss (V := arg9.view) (o := 1) (o' := 0) arg9.view.junk (by decide) _ _ _ (runA.sl.HS2_1)).trans ?_
  exact load_whole (V := arg9.view) (o := 1) arg9.view.junk 1 (by decide) _ _ (k0_pay3 : Vec F S8x512x128 .f32) []

theorem loadA_A_2 :
    (arg9.view.readCov (runA.sl.HS2_3 c i arg3 harg3 arg4 harg4 arg5 harg5 arg7 arg9 x0 x1 x2) (Rect.unit (s := S8x512x128) ![2, 0, 0] S1x512x128.size inb_S8x512x128_S1x512x128_2_0_0).toLoadRect) = slabOf 2 (k0_pay3 : Vec F S8x512x128 .f32) := by
  refine (load_miss (V := arg9.view) (o := 2) (o' := 1) arg9.view.junk (by decide) _ _ _ (runA.sl.HS2_2 c i arg3 harg3 arg4 harg4 arg5 harg5 arg7 arg9 x0 x1 x2)).trans ?_
  refine (load_miss (V := arg9.view) (o := 2) (o' := 0) arg9.view.junk (by decide) _ _ _ (runA.sl.HS2_1)).trans ?_
  exact load_whole (V := arg9.view) (o := 2) arg9.view.junk 2 (by decide) _ _ (k0_pay3 : Vec F S8x512x128 .f32) []

theorem loadA_A_3 :
    (arg9.view.readCov (runA.sl.HS2_4 c i arg3 harg3 arg4 harg4 arg5 harg5 arg7 arg9 x0 x1 x2) (Rect.unit (s := S8x512x128) ![3, 0, 0] S1x512x128.size inb_S8x512x128_S1x512x128_3_0_0).toLoadRect) = slabOf 3 (k0_pay3 : Vec F S8x512x128 .f32) := by
  refine (load_miss (V := arg9.view) (o := 3) (o' := 2) arg9.view.junk (by decide) _ _ _ (runA.sl.HS2_3 c i arg3 harg3 arg4 harg4 arg5 harg5 arg7 arg9 x0 x1 x2)).trans ?_
  refine (load_miss (V := arg9.view) (o := 3) (o' := 1) arg9.view.junk (by decide) _ _ _ (runA.sl.HS2_2 c i arg3 harg3 arg4 harg4 arg5 harg5 arg7 arg9 x0 x1 x2)).trans ?_
  refine (load_miss (V := arg9.view) (o := 3) (o' := 0) arg9.view.junk (by decide) _ _ _ (runA.sl.HS2_1)).trans ?_
  exact load_whole (V := arg9.view) (o := 3) arg9.view.junk 3 (by decide) _ _ (k0_pay3 : Vec F S8x512x128 .f32) []

theorem loadA_A_4 :
    (arg9.view.readCov (runA.sl.HS2_5 c i arg3 harg3 arg4 harg4 arg5 harg5 arg7 arg9 x0 x1 x2) (Rect.unit (s := S8x512x128) ![4, 0, 0] S1x512x128.size inb_S8x512x128_S1x512x128_4_0_0).toLoadRect) = slabOf 4 (k0_pay3 : Vec F S8x512x128 .f32) := by
  refine (load_miss (V := arg9.view) (o := 4) (o' := 3) arg9.view.junk (by decide) _ _ _ (runA.sl.HS2_4 c i arg3 harg3 arg4 harg4 arg5 harg5 arg7 arg9 x0 x1 x2)).trans ?_
  refine (load_miss (V := arg9.view) (o := 4) (o' := 2) arg9.view.junk (by decide) _ _ _ (runA.sl.HS2_3 c i arg3 harg3 arg4 harg4 arg5 harg5 arg7 arg9 x0 x1 x2)).trans ?_
  refine (load_miss (V := arg9.view) (o := 4) (o' := 1) arg9.view.junk (by decide) _ _ _ (runA.sl.HS2_2 c i arg3 harg3 arg4 harg4 arg5 harg5 arg7 arg9 x0 x1 x2)).trans ?_
  refine (load_miss (V := arg9.view) (o := 4) (o' := 0) arg9.view.junk (by decide) _ _ _ (runA.sl.HS2_1)).trans ?_
  exact load_whole (V := arg9.view) (o := 4) arg9.view.junk 4 (by decide) _ _ (k0_pay3 : Vec F S8x512x128 .f32) []

theorem loadA_A_5 :
    (arg9.view.readCov (runA.sl.HS2_6 c i arg3 harg3 arg4 harg4 arg5 harg5 arg7 arg9 x0 x1 x2) (Rect.unit (s := S8x512x128) ![5, 0, 0] S1x512x128.size inb_S8x512x128_S1x512x128_5_0_0).toLoadRect) = slabOf 5 (k0_pay3 : Vec F S8x512x128 .f32) := by
  refine (load_miss (V := arg9.view) (o := 5) (o' := 4) arg9.view.junk (by decide) _ _ _ (runA.sl.HS2_5 c i arg3 harg3 arg4 harg4 arg5 harg5 arg7 arg9 x0 x1 x2)).trans ?_
  refine (load_miss (V := arg9.view) (o := 5) (o' := 3) arg9.view.junk (by decide) _ _ _ (runA.sl.HS2_4 c i arg3 harg3 arg4 harg4 arg5 harg5 arg7 arg9 x0 x1 x2)).trans ?_
  refine (load_miss (V := arg9.view) (o := 5) (o' := 2) arg9.view.junk (by decide) _ _ _ (runA.sl.HS2_3 c i arg3 harg3 arg4 harg4 arg5 harg5 arg7 arg9 x0 x1 x2)).trans ?_
  refine (load_miss (V := arg9.view) (o := 5) (o' := 1) arg9.view.junk (by decide) _ _ _ (runA.sl.HS2_2 c i arg3 harg3 arg4 harg4 arg5 harg5 arg7 arg9 x0 x1 x2)).trans ?_
  refine (load_miss (V := arg9.view) (o := 5) (o' := 0) arg9.view.junk (by decide) _ _ _ (runA.sl.HS2_1)).trans ?_
  exact load_whole (V := arg9.view) (o := 5) arg9.view.junk 5 (by decide) _ _ (k0_pay3 : Vec F S8x512x128 .f32) []

theorem loadA_A_6 :
    (arg9.view.readCov (runA.sl.HS2_7 c i arg3 harg3 arg4 harg4 arg5 harg5 arg7 arg9 x0 x1 x2) (Rect.unit (s := S8x512x128) ![6, 0, 0] S1x512x128.size inb_S8x512x128_S1x512x128_6_0_0).toLoadRect) = slabOf 6 (k0_pay3 : Vec F S8x512x128 .f32) := by
  refine (load_miss (V := arg9.view) (o := 6) (o' := 5) arg9.view.junk (by decide) _ _ _ (runA.sl.HS2_6 c i arg3 harg3 arg4 harg4 arg5 harg5 arg7 arg9 x0 x1 x2)).trans ?_
  refine (load_miss (V := arg9.view) (o := 6) (o' := 4) arg9.view.junk (by decide) _ _ _ (runA.sl.HS2_5 c i arg3 harg3 arg4 harg4 arg5 harg5 arg7 arg9 x0 x1 x2)).trans ?_
  refine (load_miss (V := arg9.view) (o := 6) (o' := 3) arg9.view.junk (by decide) _ _ _ (runA.sl.HS2_4 c i arg3 harg3 arg4 harg4 arg5 harg5 arg7 arg9 x0 x1 x2)).trans ?_
  refine (load_miss (V := arg9.view) (o := 6) (o' := 2) arg9.view.junk (by decide) _ _ _ (runA.sl.HS2_3 c i arg3 harg3 arg4 harg4 arg5 harg5 arg7 arg9 x0 x1 x2)).trans ?_
  refine (load_miss (V := arg9.view) (o := 6) (o' := 1) arg9.view.junk (by decide) _ _ _ (runA.sl.HS2_2 c i arg3 harg3 arg4 harg4 arg5 harg5 arg7 arg9 x0 x1 x2)).trans ?_
  refine (load_miss (V := arg9.view) (o := 6) (o' := 0) arg9.view.junk (by decide) _ _ _ (runA.sl.HS2_1)).trans ?_
  exact load_whole (V := arg9.view) (o := 6) arg9.view.junk 6 (by decide) _ _ (k0_pay3 : Vec F S8x512x128 .f32) []

theorem loadA_A_7 :
    (arg9.view.readCov (runA.sl.HS2_8 c i arg3 harg3 arg4 harg4 arg5 harg5 arg7 arg9 x0 x1 x2) (Rect.unit (s := S8x512x128) ![7, 0, 0] S1x512x128.size inb_S8x512x128_S1x512x128_7_0_0).toLoadRect) = slabOf 7 (k0_pay3 : Vec F S8x512x128 .f32) := by
  refine (load_miss (V := arg9.view) (o := 7) (o' := 6) arg9.view.junk (by decide) _ _ _ (runA.sl.HS2_7 c i arg3 harg3 arg4 harg4 arg5 harg5 arg7 arg9 x0 x1 x2)).trans ?_
  refine (load_miss (V := arg9.view) (o := 7) (o' := 5) arg9.view.junk (by decide) _ _ _ (runA.sl.HS2_6 c i arg3 harg3 arg4 harg4 arg5 harg5 arg7 arg9 x0 x1 x2)).trans ?_
  refine (load_miss (V := arg9.view) (o := 7) (o' := 4) arg9.view.junk (by decide) _ _ _ (runA.sl.HS2_5 c i arg3 harg3 arg4 harg4 arg5 harg5 arg7 arg9 x0 x1 x2)).trans ?_
  refine (load_miss (V := arg9.view) (o := 7) (o' := 3) arg9.view.junk (by decide) _ _ _ (runA.sl.HS2_4 c i arg3 harg3 arg4 harg4 arg5 harg5 arg7 arg9 x0 x1 x2)).trans ?_
  refine (load_miss (V := arg9.view) (o := 7) (o' := 2) arg9.view.junk (by decide) _ _ _ (runA.sl.HS2_3 c i arg3 harg3 arg4 harg4 arg5 harg5 arg7 arg9 x0 x1 x2)).trans ?_
  refine (load_miss (V := arg9.view) (o := 7) (o' := 1) arg9.view.junk (by decide) _ _ _ (runA.sl.HS2_2 c i arg3 harg3 arg4 harg4 arg5 harg5 arg7 arg9 x0 x1 x2)).trans ?_
  refine (load_miss (V := arg9.view) (o := 7) (o' := 0) arg9.view.junk (by decide) _ _ _ (runA.sl.HS2_1)).trans ?_
  exact load_whole (V := arg9.view) (o := 7) arg9.view.junk 7 (by decide) _ _ (k0_pay3 : Vec F S8x512x128 .f32) []

set_option maxHeartbeats 1000000 in
/-- The running maxima after the stores. -/
theorem readA_M (hc0 : firstBlock i) (hc1 : pastBlock i) (hc2 : lastBlock i) (f : arg7.view.ty.Contents (Elt F)) :
    arg7.view.read (Elt F) (arg7.view.writes (Elt F) f (runA c i arg3 harg3 arg4 harg4 arg5 harg5 arg6 harg6 arg7 harg7 arg8 harg8 arg9 harg9 hc0 hc1 hc2 x0 x1 x2).1) = stepM i x0 x1 k0_pay1 := by
  refine read_newer arg7.view f (stepM i x0 x1 k0_pay1) (runA c i arg3 harg3 arg4 harg4 arg5 harg5 arg6 harg6 arg7 harg7 arg8 harg8 arg9 harg9 hc0 hc1 hc2 x0 x1 x2).1.dropLast ((runA c i arg3 harg3 arg4 harg4 arg5 harg5 arg6 harg6 arg7 harg7 arg8 harg8 arg9 harg9 hc0 hc1 hc2 x0 x1 x2).1.getLast (List.cons_ne_nil _ _)) ?_
    (View.cover_of_tiledL (runA c i arg3 harg3 arg4 harg4 arg5 harg5 arg6 harg6 arg7 harg7 arg8 harg8 arg9 harg9 hc0 hc1 hc2 x0 x1 x2).1.dropLast S1x512x1.size (by sl_kernel_rfl))
  refine List.forall_mem_cons.mpr ⟨fun x => ?_, ?_⟩
  · refine Eq.trans ?_ (stepM_emb (o := 7) i 7 (by decide) inb_S8x512x1_S1x512x1_7_0_0 x0 x1 k0_pay1 x)
    refine congrFun (?_ : _ = oneM i (laneOf 7 x0) (laneOf 7 x1) (colOf 7 k0_pay1)) x
    refine Eq.trans (b := oneM i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (arg7.view.readCov (runA.sl.HS0_8 c i arg3 harg3 arg4 harg4 arg7 x0 x1) (Rect.unit (s := S8x512x1) ![7, 0, 0] S1x512x1.size inb_S8x512x1_S1x512x1_7_0_0).toLoadRect)) ?_ ?_
    · rfl
    · exact oneM_congr i (load_lane (o := 896) 7 (by decide) harg3 x0 _) (load_lane (o := 896) 7 (by decide) harg4 x1 _) (loadA_M_7 c i arg3 harg3 arg4 harg4 arg7 x0 x1)
  refine List.forall_mem_cons.mpr ⟨fun x => ?_, ?_⟩
  · refine Eq.trans ?_ (stepM_emb (o := 6) i 6 (by decide) inb_S8x512x1_S1x512x1_6_0_0 x0 x1 k0_pay1 x)
    refine congrFun (?_ : _ = oneM i (laneOf 6 x0) (laneOf 6 x1) (colOf 6 k0_pay1)) x
    refine Eq.trans (b := oneM i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (arg7.view.readCov (runA.sl.HS0_7 c i arg3 harg3 arg4 harg4 arg7 x0 x1) (Rect.unit (s := S8x512x1) ![6, 0, 0] S1x512x1.size inb_S8x512x1_S1x512x1_6_0_0).toLoadRect)) ?_ ?_
    · rfl
    · exact oneM_congr i (load_lane (o := 768) 6 (by decide) harg3 x0 _) (load_lane (o := 768) 6 (by decide) harg4 x1 _) (loadA_M_6 c i arg3 harg3 arg4 harg4 arg7 x0 x1)
  refine List.forall_mem_cons.mpr ⟨fun x => ?_, ?_⟩
  · refine Eq.trans ?_ (stepM_emb (o := 5) i 5 (by decide) inb_S8x512x1_S1x512x1_5_0_0 x0 x1 k0_pay1 x)
    refine congrFun (?_ : _ = oneM i (laneOf 5 x0) (laneOf 5 x1) (colOf 5 k0_pay1)) x
    refine Eq.trans (b := oneM i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (arg7.view.readCov (runA.sl.HS0_6 c i arg3 harg3 arg4 harg4 arg7 x0 x1) (Rect.unit (s := S8x512x1) ![5, 0, 0] S1x512x1.size inb_S8x512x1_S1x512x1_5_0_0).toLoadRect)) ?_ ?_
    · rfl
    · exact oneM_congr i (load_lane (o := 640) 5 (by decide) harg3 x0 _) (load_lane (o := 640) 5 (by decide) harg4 x1 _) (loadA_M_5 c i arg3 harg3 arg4 harg4 arg7 x0 x1)
  refine List.forall_mem_cons.mpr ⟨fun x => ?_, ?_⟩
  · refine Eq.trans ?_ (stepM_emb (o := 4) i 4 (by decide) inb_S8x512x1_S1x512x1_4_0_0 x0 x1 k0_pay1 x)
    refine congrFun (?_ : _ = oneM i (laneOf 4 x0) (laneOf 4 x1) (colOf 4 k0_pay1)) x
    refine Eq.trans (b := oneM i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (arg7.view.readCov (runA.sl.HS0_5 c i arg3 harg3 arg4 harg4 arg7 x0 x1) (Rect.unit (s := S8x512x1) ![4, 0, 0] S1x512x1.size inb_S8x512x1_S1x512x1_4_0_0).toLoadRect)) ?_ ?_
    · rfl
    · exact oneM_congr i (load_lane (o := 512) 4 (by decide) harg3 x0 _) (load_lane (o := 512) 4 (by decide) harg4 x1 _) (loadA_M_4 c i arg3 harg3 arg4 harg4 arg7 x0 x1)
  refine List.forall_mem_cons.mpr ⟨fun x => ?_, ?_⟩
  · refine Eq.trans ?_ (stepM_emb (o := 3) i 3 (by decide) inb_S8x512x1_S1x512x1_3_0_0 x0 x1 k0_pay1 x)
    refine congrFun (?_ : _ = oneM i (laneOf 3 x0) (laneOf 3 x1) (colOf 3 k0_pay1)) x
    refine Eq.trans (b := oneM i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (arg7.view.readCov (runA.sl.HS0_4 c i arg3 harg3 arg4 harg4 arg7 x0 x1) (Rect.unit (s := S8x512x1) ![3, 0, 0] S1x512x1.size inb_S8x512x1_S1x512x1_3_0_0).toLoadRect)) ?_ ?_
    · rfl
    · exact oneM_congr i (load_lane (o := 384) 3 (by decide) harg3 x0 _) (load_lane (o := 384) 3 (by decide) harg4 x1 _) (loadA_M_3 c i arg3 harg3 arg4 harg4 arg7 x0 x1)
  refine List.forall_mem_cons.mpr ⟨fun x => ?_, ?_⟩
  · refine Eq.trans ?_ (stepM_emb (o := 2) i 2 (by decide) inb_S8x512x1_S1x512x1_2_0_0 x0 x1 k0_pay1 x)
    refine congrFun (?_ : _ = oneM i (laneOf 2 x0) (laneOf 2 x1) (colOf 2 k0_pay1)) x
    refine Eq.trans (b := oneM i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (arg7.view.readCov (runA.sl.HS0_3 c i arg3 harg3 arg4 harg4 arg7 x0 x1) (Rect.unit (s := S8x512x1) ![2, 0, 0] S1x512x1.size inb_S8x512x1_S1x512x1_2_0_0).toLoadRect)) ?_ ?_
    · rfl
    · exact oneM_congr i (load_lane (o := 256) 2 (by decide) harg3 x0 _) (load_lane (o := 256) 2 (by decide) harg4 x1 _) (loadA_M_2 c i arg3 harg3 arg4 harg4 arg7 x0 x1)
  refine List.forall_mem_cons.mpr ⟨fun x => ?_, ?_⟩
  · refine Eq.trans ?_ (stepM_emb (o := 1) i 1 (by decide) inb_S8x512x1_S1x512x1_1_0_0 x0 x1 k0_pay1 x)
    refine congrFun (?_ : _ = oneM i (laneOf 1 x0) (laneOf 1 x1) (colOf 1 k0_pay1)) x
    refine Eq.trans (b := oneM i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (arg7.view.readCov (runA.sl.HS0_2 c i arg3 harg3 arg4 harg4 arg7 x0 x1) (Rect.unit (s := S8x512x1) ![1, 0, 0] S1x512x1.size inb_S8x512x1_S1x512x1_1_0_0).toLoadRect)) ?_ ?_
    · rfl
    · exact oneM_congr i (load_lane (o := 128) 1 (by decide) harg3 x0 _) (load_lane (o := 128) 1 (by decide) harg4 x1 _) (loadA_M_1 c i arg3 harg3 arg4 harg4 arg7 x0 x1)
  refine List.forall_mem_cons.mpr ⟨fun x => ?_, ?_⟩
  · refine Eq.trans ?_ (stepM_emb (o := 0) i 0 (by decide) inb_S8x512x1_S1x512x1_0_0_0 x0 x1 k0_pay1 x)
    refine congrFun (?_ : _ = oneM i (laneOf 0 x0) (laneOf 0 x1) (colOf 0 k0_pay1)) x
    refine Eq.trans (b := oneM i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (arg7.view.readCov (runA.sl.HS0_1) (Rect.unit (s := S8x512x1) ![0, 0, 0] S1x512x1.size inb_S8x512x1_S1x512x1_0_0_0).toLoadRect)) ?_ ?_
    · rfl
    · exact oneM_congr i (load_lane (o := 0) 0 (by decide) harg3 x0 _) (load_lane (o := 0) 0 (by decide) harg4 x1 _) (loadA_M_0 arg7)
  exact fun p hp => absurd hp List.not_mem_nil

set_option maxHeartbeats 1000000 in
/-- The running sums after the stores. -/
theorem readA_L (hc0 : firstBlock i) (hc1 : pastBlock i) (hc2 : lastBlock i) (f : arg8.view.ty.Contents (Elt F)) :
    arg8.view.read (Elt F) (arg8.view.writes (Elt F) f (runA c i arg3 harg3 arg4 harg4 arg5 harg5 arg6 harg6 arg7 harg7 arg8 harg8 arg9 harg9 hc0 hc1 hc2 x0 x1 x2).2.1) = stepL i x0 x1 k0_pay1 k0_pay2 := by
  refine read_newer arg8.view f (stepL i x0 x1 k0_pay1 k0_pay2) (runA c i arg3 harg3 arg4 harg4 arg5 harg5 arg6 harg6 arg7 harg7 arg8 harg8 arg9 harg9 hc0 hc1 hc2 x0 x1 x2).2.1.dropLast ((runA c i arg3 harg3 arg4 harg4 arg5 harg5 arg6 harg6 arg7 harg7 arg8 harg8 arg9 harg9 hc0 hc1 hc2 x0 x1 x2).2.1.getLast (List.cons_ne_nil _ _)) ?_
    (View.cover_of_tiledL (runA c i arg3 harg3 arg4 harg4 arg5 harg5 arg6 harg6 arg7 harg7 arg8 harg8 arg9 harg9 hc0 hc1 hc2 x0 x1 x2).2.1.dropLast S1x512x1.size (by sl_kernel_rfl))
  refine List.forall_mem_cons.mpr ⟨fun x => ?_, ?_⟩
  · refine Eq.trans ?_ (stepL_emb (o := 7) i 7 (by decide) inb_S8x512x1_S1x512x1_7_0_0 x0 x1 k0_pay1 k0_pay2 x)
    refine congrFun (?_ : _ = oneL i (laneOf 7 x0) (laneOf 7 x1) (colOf 7 k0_pay1) (colOf 7 k0_pay2)) x
    refine Eq.trans (b := oneL i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (arg7.view.readCov (runA.sl.HS0_8 c i arg3 harg3 arg4 harg4 arg7 x0 x1) (Rect.unit (s := S8x512x1) ![7, 0, 0] S1x512x1.size inb_S8x512x1_S1x512x1_7_0_0).toLoadRect) (arg8.view.readCov (runA.sl.HS1_8 c i arg3 harg3 arg4 harg4 arg7 arg8 x0 x1) (Rect.unit (s := S8x512x1) ![7, 0, 0] S1x512x1.size inb_S8x512x1_S1x512x1_7_0_0).toLoadRect)) ?_ ?_
    · rfl
    · exact oneL_congr i (load_lane (o := 896) 7 (by decide) harg3 x0 _) (load_lane (o := 896) 7 (by decide) harg4 x1 _) (loadA_M_7 c i arg3 harg3 arg4 harg4 arg7 x0 x1) (loadA_L_7 c i arg3 harg3 arg4 harg4 arg7 arg8 x0 x1)
  refine List.forall_mem_cons.mpr ⟨fun x => ?_, ?_⟩
  · refine Eq.trans ?_ (stepL_emb (o := 6) i 6 (by decide) inb_S8x512x1_S1x512x1_6_0_0 x0 x1 k0_pay1 k0_pay2 x)
    refine congrFun (?_ : _ = oneL i (laneOf 6 x0) (laneOf 6 x1) (colOf 6 k0_pay1) (colOf 6 k0_pay2)) x
    refine Eq.trans (b := oneL i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (arg7.view.readCov (runA.sl.HS0_7 c i arg3 harg3 arg4 harg4 arg7 x0 x1) (Rect.unit (s := S8x512x1) ![6, 0, 0] S1x512x1.size inb_S8x512x1_S1x512x1_6_0_0).toLoadRect) (arg8.view.readCov (runA.sl.HS1_7 c i arg3 harg3 arg4 harg4 arg7 arg8 x0 x1) (Rect.unit (s := S8x512x1) ![6, 0, 0] S1x512x1.size inb_S8x512x1_S1x512x1_6_0_0).toLoadRect)) ?_ ?_
    · rfl
    · exact oneL_congr i (load_lane (o := 768) 6 (by decide) harg3 x0 _) (load_lane (o := 768) 6 (by decide) harg4 x1 _) (loadA_M_6 c i arg3 harg3 arg4 harg4 arg7 x0 x1) (loadA_L_6 c i arg3 harg3 arg4 harg4 arg7 arg8 x0 x1)
  refine List.forall_mem_cons.mpr ⟨fun x => ?_, ?_⟩
  · refine Eq.trans ?_ (stepL_emb (o := 5) i 5 (by decide) inb_S8x512x1_S1x512x1_5_0_0 x0 x1 k0_pay1 k0_pay2 x)
    refine congrFun (?_ : _ = oneL i (laneOf 5 x0) (laneOf 5 x1) (colOf 5 k0_pay1) (colOf 5 k0_pay2)) x
    refine Eq.trans (b := oneL i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (arg7.view.readCov (runA.sl.HS0_6 c i arg3 harg3 arg4 harg4 arg7 x0 x1) (Rect.unit (s := S8x512x1) ![5, 0, 0] S1x512x1.size inb_S8x512x1_S1x512x1_5_0_0).toLoadRect) (arg8.view.readCov (runA.sl.HS1_6 c i arg3 harg3 arg4 harg4 arg7 arg8 x0 x1) (Rect.unit (s := S8x512x1) ![5, 0, 0] S1x512x1.size inb_S8x512x1_S1x512x1_5_0_0).toLoadRect)) ?_ ?_
    · rfl
    · exact oneL_congr i (load_lane (o := 640) 5 (by decide) harg3 x0 _) (load_lane (o := 640) 5 (by decide) harg4 x1 _) (loadA_M_5 c i arg3 harg3 arg4 harg4 arg7 x0 x1) (loadA_L_5 c i arg3 harg3 arg4 harg4 arg7 arg8 x0 x1)
  refine List.forall_mem_cons.mpr ⟨fun x => ?_, ?_⟩
  · refine Eq.trans ?_ (stepL_emb (o := 4) i 4 (by decide) inb_S8x512x1_S1x512x1_4_0_0 x0 x1 k0_pay1 k0_pay2 x)
    refine congrFun (?_ : _ = oneL i (laneOf 4 x0) (laneOf 4 x1) (colOf 4 k0_pay1) (colOf 4 k0_pay2)) x
    refine Eq.trans (b := oneL i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (arg7.view.readCov (runA.sl.HS0_5 c i arg3 harg3 arg4 harg4 arg7 x0 x1) (Rect.unit (s := S8x512x1) ![4, 0, 0] S1x512x1.size inb_S8x512x1_S1x512x1_4_0_0).toLoadRect) (arg8.view.readCov (runA.sl.HS1_5 c i arg3 harg3 arg4 harg4 arg7 arg8 x0 x1) (Rect.unit (s := S8x512x1) ![4, 0, 0] S1x512x1.size inb_S8x512x1_S1x512x1_4_0_0).toLoadRect)) ?_ ?_
    · rfl
    · exact oneL_congr i (load_lane (o := 512) 4 (by decide) harg3 x0 _) (load_lane (o := 512) 4 (by decide) harg4 x1 _) (loadA_M_4 c i arg3 harg3 arg4 harg4 arg7 x0 x1) (loadA_L_4 c i arg3 harg3 arg4 harg4 arg7 arg8 x0 x1)
  refine List.forall_mem_cons.mpr ⟨fun x => ?_, ?_⟩
  · refine Eq.trans ?_ (stepL_emb (o := 3) i 3 (by decide) inb_S8x512x1_S1x512x1_3_0_0 x0 x1 k0_pay1 k0_pay2 x)
    refine congrFun (?_ : _ = oneL i (laneOf 3 x0) (laneOf 3 x1) (colOf 3 k0_pay1) (colOf 3 k0_pay2)) x
    refine Eq.trans (b := oneL i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (arg7.view.readCov (runA.sl.HS0_4 c i arg3 harg3 arg4 harg4 arg7 x0 x1) (Rect.unit (s := S8x512x1) ![3, 0, 0] S1x512x1.size inb_S8x512x1_S1x512x1_3_0_0).toLoadRect) (arg8.view.readCov (runA.sl.HS1_4 c i arg3 harg3 arg4 harg4 arg7 arg8 x0 x1) (Rect.unit (s := S8x512x1) ![3, 0, 0] S1x512x1.size inb_S8x512x1_S1x512x1_3_0_0).toLoadRect)) ?_ ?_
    · rfl
    · exact oneL_congr i (load_lane (o := 384) 3 (by decide) harg3 x0 _) (load_lane (o := 384) 3 (by decide) harg4 x1 _) (loadA_M_3 c i arg3 harg3 arg4 harg4 arg7 x0 x1) (loadA_L_3 c i arg3 harg3 arg4 harg4 arg7 arg8 x0 x1)
  refine List.forall_mem_cons.mpr ⟨fun x => ?_, ?_⟩
  · refine Eq.trans ?_ (stepL_emb (o := 2) i 2 (by decide) inb_S8x512x1_S1x512x1_2_0_0 x0 x1 k0_pay1 k0_pay2 x)
    refine congrFun (?_ : _ = oneL i (laneOf 2 x0) (laneOf 2 x1) (colOf 2 k0_pay1) (colOf 2 k0_pay2)) x
    refine Eq.trans (b := oneL i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (arg7.view.readCov (runA.sl.HS0_3 c i arg3 harg3 arg4 harg4 arg7 x0 x1) (Rect.unit (s := S8x512x1) ![2, 0, 0] S1x512x1.size inb_S8x512x1_S1x512x1_2_0_0).toLoadRect) (arg8.view.readCov (runA.sl.HS1_3 c i arg3 harg3 arg4 harg4 arg7 arg8 x0 x1) (Rect.unit (s := S8x512x1) ![2, 0, 0] S1x512x1.size inb_S8x512x1_S1x512x1_2_0_0).toLoadRect)) ?_ ?_
    · rfl
    · exact oneL_congr i (load_lane (o := 256) 2 (by decide) harg3 x0 _) (load_lane (o := 256) 2 (by decide) harg4 x1 _) (loadA_M_2 c i arg3 harg3 arg4 harg4 arg7 x0 x1) (loadA_L_2 c i arg3 harg3 arg4 harg4 arg7 arg8 x0 x1)
  refine List.forall_mem_cons.mpr ⟨fun x => ?_, ?_⟩
  · refine Eq.trans ?_ (stepL_emb (o := 1) i 1 (by decide) inb_S8x512x1_S1x512x1_1_0_0 x0 x1 k0_pay1 k0_pay2 x)
    refine congrFun (?_ : _ = oneL i (laneOf 1 x0) (laneOf 1 x1) (colOf 1 k0_pay1) (colOf 1 k0_pay2)) x
    refine Eq.trans (b := oneL i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (arg7.view.readCov (runA.sl.HS0_2 c i arg3 harg3 arg4 harg4 arg7 x0 x1) (Rect.unit (s := S8x512x1) ![1, 0, 0] S1x512x1.size inb_S8x512x1_S1x512x1_1_0_0).toLoadRect) (arg8.view.readCov (runA.sl.HS1_2 c i arg3 harg3 arg4 harg4 arg7 arg8 x0 x1) (Rect.unit (s := S8x512x1) ![1, 0, 0] S1x512x1.size inb_S8x512x1_S1x512x1_1_0_0).toLoadRect)) ?_ ?_
    · rfl
    · exact oneL_congr i (load_lane (o := 128) 1 (by decide) harg3 x0 _) (load_lane (o := 128) 1 (by decide) harg4 x1 _) (loadA_M_1 c i arg3 harg3 arg4 harg4 arg7 x0 x1) (loadA_L_1 c i arg3 harg3 arg4 harg4 arg7 arg8 x0 x1)
  refine List.forall_mem_cons.mpr ⟨fun x => ?_, ?_⟩
  · refine Eq.trans ?_ (stepL_emb (o := 0) i 0 (by decide) inb_S8x512x1_S1x512x1_0_0_0 x0 x1 k0_pay1 k0_pay2 x)
    refine congrFun (?_ : _ = oneL i (laneOf 0 x0) (laneOf 0 x1) (colOf 0 k0_pay1) (colOf 0 k0_pay2)) x
    refine Eq.trans (b := oneL i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (arg7.view.readCov (runA.sl.HS0_1) (Rect.unit (s := S8x512x1) ![0, 0, 0] S1x512x1.size inb_S8x512x1_S1x512x1_0_0_0).toLoadRect) (arg8.view.readCov (runA.sl.HS1_1) (Rect.unit (s := S8x512x1) ![0, 0, 0] S1x512x1.size inb_S8x512x1_S1x512x1_0_0_0).toLoadRect)) ?_ ?_
    · rfl
    · exact oneL_congr i (load_lane (o := 0) 0 (by decide) harg3 x0 _) (load_lane (o := 0) 0 (by decide) harg4 x1 _) (loadA_M_0 arg7) (loadA_L_0 arg8)
  exact fun p hp => absurd hp List.not_mem_nil

set_option maxHeartbeats 1000000 in
/-- The running weighted values after the stores. -/
theorem readA_A (hc0 : firstBlock i) (hc1 : pastBlock i) (hc2 : lastBlock i) (f : arg9.view.ty.Contents (Elt F)) :
    arg9.view.read (Elt F) (arg9.view.writes (Elt F) f (runA c i arg3 harg3 arg4 harg4 arg5 harg5 arg6 harg6 arg7 harg7 arg8 harg8 arg9 harg9 hc0 hc1 hc2 x0 x1 x2).2.2.2.1) = stepA i x0 x1 x2 k0_pay1 k0_pay3 := by
  refine read_newer arg9.view f (stepA i x0 x1 x2 k0_pay1 k0_pay3) (runA c i arg3 harg3 arg4 harg4 arg5 harg5 arg6 harg6 arg7 harg7 arg8 harg8 arg9 harg9 hc0 hc1 hc2 x0 x1 x2).2.2.2.1.dropLast ((runA c i arg3 harg3 arg4 harg4 arg5 harg5 arg6 harg6 arg7 harg7 arg8 harg8 arg9 harg9 hc0 hc1 hc2 x0 x1 x2).2.2.2.1.getLast (List.cons_ne_nil _ _)) ?_
    (View.cover_of_tiledL (runA c i arg3 harg3 arg4 harg4 arg5 harg5 arg6 harg6 arg7 harg7 arg8 harg8 arg9 harg9 hc0 hc1 hc2 x0 x1 x2).2.2.2.1.dropLast S1x512x128.size (by sl_kernel_rfl))
  refine List.forall_mem_cons.mpr ⟨fun x => ?_, ?_⟩
  · refine Eq.trans ?_ (stepA_emb (o := 7) i 7 (by decide) inb_S8x512x128_S1x512x128_7_0_0 x0 x1 x2 k0_pay1 k0_pay3 x)
    refine congrFun (?_ : _ = oneA i (laneOf 7 x0) (laneOf 7 x1) (pairOf 7 x2) (colOf 7 k0_pay1) (slabOf 7 k0_pay3)) x
    refine Eq.trans (b := oneA i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg5.view (Rect.unit (s := S1x512x512) ![0, 0, 384] S1x512x128.size inb_S1x512x512_S1x512x128_0_0_384).toLoadRect (harg5.unread x2)) (arg7.view.readCov (runA.sl.HS0_8 c i arg3 harg3 arg4 harg4 arg7 x0 x1) (Rect.unit (s := S8x512x1) ![7, 0, 0] S1x512x1.size inb_S8x512x1_S1x512x1_7_0_0).toLoadRect) (arg9.view.readCov (runA.sl.HS2_8 c i arg3 harg3 arg4 harg4 arg5 harg5 arg7 arg9 x0 x1 x2) (Rect.unit (s := S8x512x128) ![7, 0, 0] S1x512x128.size inb_S8x512x128_S1x512x128_7_0_0).toLoadRect)) ?_ ?_
    · rfl
    · exact oneA_congr i (load_lane (o := 896) 7 (by decide) harg3 x0 _) (load_lane (o := 896) 7 (by decide) harg4 x1 _) (load_pair (o := 384) 7 (by decide) harg5 x2 _) (loadA_M_7 c i arg3 harg3 arg4 harg4 arg7 x0 x1) (loadA_A_7 c i arg3 harg3 arg4 harg4 arg5 harg5 arg7 arg9 x0 x1 x2)
  refine List.forall_mem_cons.mpr ⟨fun x => ?_, ?_⟩
  · refine Eq.trans ?_ (stepA_emb (o := 6) i 6 (by decide) inb_S8x512x128_S1x512x128_6_0_0 x0 x1 x2 k0_pay1 k0_pay3 x)
    refine congrFun (?_ : _ = oneA i (laneOf 6 x0) (laneOf 6 x1) (pairOf 6 x2) (colOf 6 k0_pay1) (slabOf 6 k0_pay3)) x
    refine Eq.trans (b := oneA i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg5.view (Rect.unit (s := S1x512x512) ![0, 0, 384] S1x512x128.size inb_S1x512x512_S1x512x128_0_0_384).toLoadRect (harg5.unread x2)) (arg7.view.readCov (runA.sl.HS0_7 c i arg3 harg3 arg4 harg4 arg7 x0 x1) (Rect.unit (s := S8x512x1) ![6, 0, 0] S1x512x1.size inb_S8x512x1_S1x512x1_6_0_0).toLoadRect) (arg9.view.readCov (runA.sl.HS2_7 c i arg3 harg3 arg4 harg4 arg5 harg5 arg7 arg9 x0 x1 x2) (Rect.unit (s := S8x512x128) ![6, 0, 0] S1x512x128.size inb_S8x512x128_S1x512x128_6_0_0).toLoadRect)) ?_ ?_
    · rfl
    · exact oneA_congr i (load_lane (o := 768) 6 (by decide) harg3 x0 _) (load_lane (o := 768) 6 (by decide) harg4 x1 _) (load_pair (o := 384) 6 (by decide) harg5 x2 _) (loadA_M_6 c i arg3 harg3 arg4 harg4 arg7 x0 x1) (loadA_A_6 c i arg3 harg3 arg4 harg4 arg5 harg5 arg7 arg9 x0 x1 x2)
  refine List.forall_mem_cons.mpr ⟨fun x => ?_, ?_⟩
  · refine Eq.trans ?_ (stepA_emb (o := 5) i 5 (by decide) inb_S8x512x128_S1x512x128_5_0_0 x0 x1 x2 k0_pay1 k0_pay3 x)
    refine congrFun (?_ : _ = oneA i (laneOf 5 x0) (laneOf 5 x1) (pairOf 5 x2) (colOf 5 k0_pay1) (slabOf 5 k0_pay3)) x
    refine Eq.trans (b := oneA i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg5.view (Rect.unit (s := S1x512x512) ![0, 0, 256] S1x512x128.size inb_S1x512x512_S1x512x128_0_0_256).toLoadRect (harg5.unread x2)) (arg7.view.readCov (runA.sl.HS0_6 c i arg3 harg3 arg4 harg4 arg7 x0 x1) (Rect.unit (s := S8x512x1) ![5, 0, 0] S1x512x1.size inb_S8x512x1_S1x512x1_5_0_0).toLoadRect) (arg9.view.readCov (runA.sl.HS2_6 c i arg3 harg3 arg4 harg4 arg5 harg5 arg7 arg9 x0 x1 x2) (Rect.unit (s := S8x512x128) ![5, 0, 0] S1x512x128.size inb_S8x512x128_S1x512x128_5_0_0).toLoadRect)) ?_ ?_
    · rfl
    · exact oneA_congr i (load_lane (o := 640) 5 (by decide) harg3 x0 _) (load_lane (o := 640) 5 (by decide) harg4 x1 _) (load_pair (o := 256) 5 (by decide) harg5 x2 _) (loadA_M_5 c i arg3 harg3 arg4 harg4 arg7 x0 x1) (loadA_A_5 c i arg3 harg3 arg4 harg4 arg5 harg5 arg7 arg9 x0 x1 x2)
  refine List.forall_mem_cons.mpr ⟨fun x => ?_, ?_⟩
  · refine Eq.trans ?_ (stepA_emb (o := 4) i 4 (by decide) inb_S8x512x128_S1x512x128_4_0_0 x0 x1 x2 k0_pay1 k0_pay3 x)
    refine congrFun (?_ : _ = oneA i (laneOf 4 x0) (laneOf 4 x1) (pairOf 4 x2) (colOf 4 k0_pay1) (slabOf 4 k0_pay3)) x
    refine Eq.trans (b := oneA i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg5.view (Rect.unit (s := S1x512x512) ![0, 0, 256] S1x512x128.size inb_S1x512x512_S1x512x128_0_0_256).toLoadRect (harg5.unread x2)) (arg7.view.readCov (runA.sl.HS0_5 c i arg3 harg3 arg4 harg4 arg7 x0 x1) (Rect.unit (s := S8x512x1) ![4, 0, 0] S1x512x1.size inb_S8x512x1_S1x512x1_4_0_0).toLoadRect) (arg9.view.readCov (runA.sl.HS2_5 c i arg3 harg3 arg4 harg4 arg5 harg5 arg7 arg9 x0 x1 x2) (Rect.unit (s := S8x512x128) ![4, 0, 0] S1x512x128.size inb_S8x512x128_S1x512x128_4_0_0).toLoadRect)) ?_ ?_
    · rfl
    · exact oneA_congr i (load_lane (o := 512) 4 (by decide) harg3 x0 _) (load_lane (o := 512) 4 (by decide) harg4 x1 _) (load_pair (o := 256) 4 (by decide) harg5 x2 _) (loadA_M_4 c i arg3 harg3 arg4 harg4 arg7 x0 x1) (loadA_A_4 c i arg3 harg3 arg4 harg4 arg5 harg5 arg7 arg9 x0 x1 x2)
  refine List.forall_mem_cons.mpr ⟨fun x => ?_, ?_⟩
  · refine Eq.trans ?_ (stepA_emb (o := 3) i 3 (by decide) inb_S8x512x128_S1x512x128_3_0_0 x0 x1 x2 k0_pay1 k0_pay3 x)
    refine congrFun (?_ : _ = oneA i (laneOf 3 x0) (laneOf 3 x1) (pairOf 3 x2) (colOf 3 k0_pay1) (slabOf 3 k0_pay3)) x
    refine Eq.trans (b := oneA i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg5.view (Rect.unit (s := S1x512x512) ![0, 0, 128] S1x512x128.size inb_S1x512x512_S1x512x128_0_0_128).toLoadRect (harg5.unread x2)) (arg7.view.readCov (runA.sl.HS0_4 c i arg3 harg3 arg4 harg4 arg7 x0 x1) (Rect.unit (s := S8x512x1) ![3, 0, 0] S1x512x1.size inb_S8x512x1_S1x512x1_3_0_0).toLoadRect) (arg9.view.readCov (runA.sl.HS2_4 c i arg3 harg3 arg4 harg4 arg5 harg5 arg7 arg9 x0 x1 x2) (Rect.unit (s := S8x512x128) ![3, 0, 0] S1x512x128.size inb_S8x512x128_S1x512x128_3_0_0).toLoadRect)) ?_ ?_
    · rfl
    · exact oneA_congr i (load_lane (o := 384) 3 (by decide) harg3 x0 _) (load_lane (o := 384) 3 (by decide) harg4 x1 _) (load_pair (o := 128) 3 (by decide) harg5 x2 _) (loadA_M_3 c i arg3 harg3 arg4 harg4 arg7 x0 x1) (loadA_A_3 c i arg3 harg3 arg4 harg4 arg5 harg5 arg7 arg9 x0 x1 x2)
  refine List.forall_mem_cons.mpr ⟨fun x => ?_, ?_⟩
  · refine Eq.trans ?_ (stepA_emb (o := 2) i 2 (by decide) inb_S8x512x128_S1x512x128_2_0_0 x0 x1 x2 k0_pay1 k0_pay3 x)
    refine congrFun (?_ : _ = oneA i (laneOf 2 x0) (laneOf 2 x1) (pairOf 2 x2) (colOf 2 k0_pay1) (slabOf 2 k0_pay3)) x
    refine Eq.trans (b := oneA i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg5.view (Rect.unit (s := S1x512x512) ![0, 0, 128] S1x512x128.size inb_S1x512x512_S1x512x128_0_0_128).toLoadRect (harg5.unread x2)) (arg7.view.readCov (runA.sl.HS0_3 c i arg3 harg3 arg4 harg4 arg7 x0 x1) (Rect.unit (s := S8x512x1) ![2, 0, 0] S1x512x1.size inb_S8x512x1_S1x512x1_2_0_0).toLoadRect) (arg9.view.readCov (runA.sl.HS2_3 c i arg3 harg3 arg4 harg4 arg5 harg5 arg7 arg9 x0 x1 x2) (Rect.unit (s := S8x512x128) ![2, 0, 0] S1x512x128.size inb_S8x512x128_S1x512x128_2_0_0).toLoadRect)) ?_ ?_
    · rfl
    · exact oneA_congr i (load_lane (o := 256) 2 (by decide) harg3 x0 _) (load_lane (o := 256) 2 (by decide) harg4 x1 _) (load_pair (o := 128) 2 (by decide) harg5 x2 _) (loadA_M_2 c i arg3 harg3 arg4 harg4 arg7 x0 x1) (loadA_A_2 c i arg3 harg3 arg4 harg4 arg5 harg5 arg7 arg9 x0 x1 x2)
  refine List.forall_mem_cons.mpr ⟨fun x => ?_, ?_⟩
  · refine Eq.trans ?_ (stepA_emb (o := 1) i 1 (by decide) inb_S8x512x128_S1x512x128_1_0_0 x0 x1 x2 k0_pay1 k0_pay3 x)
    refine congrFun (?_ : _ = oneA i (laneOf 1 x0) (laneOf 1 x1) (pairOf 1 x2) (colOf 1 k0_pay1) (slabOf 1 k0_pay3)) x
    refine Eq.trans (b := oneA i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg5.view (Rect.unit (s := S1x512x512) ![0, 0, 0] S1x512x128.size inb_S1x512x512_S1x512x128_0_0_0).toLoadRect (harg5.unread x2)) (arg7.view.readCov (runA.sl.HS0_2 c i arg3 harg3 arg4 harg4 arg7 x0 x1) (Rect.unit (s := S8x512x1) ![1, 0, 0] S1x512x1.size inb_S8x512x1_S1x512x1_1_0_0).toLoadRect) (arg9.view.readCov (runA.sl.HS2_2 c i arg3 harg3 arg4 harg4 arg5 harg5 arg7 arg9 x0 x1 x2) (Rect.unit (s := S8x512x128) ![1, 0, 0] S1x512x128.size inb_S8x512x128_S1x512x128_1_0_0).toLoadRect)) ?_ ?_
    · rfl
    · exact oneA_congr i (load_lane (o := 128) 1 (by decide) harg3 x0 _) (load_lane (o := 128) 1 (by decide) harg4 x1 _) (load_pair (o := 0) 1 (by decide) harg5 x2 _) (loadA_M_1 c i arg3 harg3 arg4 harg4 arg7 x0 x1) (loadA_A_1 c i arg3 harg3 arg4 harg4 arg5 harg5 arg7 arg9 x0 x1 x2)
  refine List.forall_mem_cons.mpr ⟨fun x => ?_, ?_⟩
  · refine Eq.trans ?_ (stepA_emb (o := 0) i 0 (by decide) inb_S8x512x128_S1x512x128_0_0_0 x0 x1 x2 k0_pay1 k0_pay3 x)
    refine congrFun (?_ : _ = oneA i (laneOf 0 x0) (laneOf 0 x1) (pairOf 0 x2) (colOf 0 k0_pay1) (slabOf 0 k0_pay3)) x
    refine Eq.trans (b := oneA i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg5.view (Rect.unit (s := S1x512x512) ![0, 0, 0] S1x512x128.size inb_S1x512x512_S1x512x128_0_0_0).toLoadRect (harg5.unread x2)) (arg7.view.readCov (runA.sl.HS0_1) (Rect.unit (s := S8x512x1) ![0, 0, 0] S1x512x1.size inb_S8x512x1_S1x512x1_0_0_0).toLoadRect) (arg9.view.readCov (runA.sl.HS2_1) (Rect.unit (s := S8x512x128) ![0, 0, 0] S1x512x128.size inb_S8x512x128_S1x512x128_0_0_0).toLoadRect)) ?_ ?_
    · rfl
    · exact oneA_congr i (load_lane (o := 0) 0 (by decide) harg3 x0 _) (load_lane (o := 0) 0 (by decide) harg4 x1 _) (load_pair (o := 0) 0 (by decide) harg5 x2 _) (loadA_M_0 arg7) (loadA_A_0 arg9)
  exact fun p hp => absurd hp List.not_mem_nil

set_option maxHeartbeats 1000000 in
/-- The result block after the stores. -/
theorem readA_O (hc0 : firstBlock i) (hc1 : pastBlock i) (hc2 : lastBlock i) (f : arg6.view.ty.Contents (Elt F)) :
    arg6.view.read (Elt F) (arg6.view.writes (Elt F) f (runA c i arg3 harg3 arg4 harg4 arg5 harg5 arg6 harg6 arg7 harg7 arg8 harg8 arg9 harg9 hc0 hc1 hc2 x0 x1 x2).2.2.1) = outOf (stepL i x0 x1 k0_pay1 k0_pay2) (stepA i x0 x1 x2 k0_pay1 k0_pay3) := by
  refine (View.read_writes_full arg6.view f _ _ _).trans ?_
  refine Eq.trans (b := outRaw (arg9.view.readCov ((runA c i arg3 harg3 arg4 harg4 arg5 harg5 arg6 harg6 arg7 harg7 arg8 harg8 arg9 harg9 hc0 hc1 hc2 x0 x1 x2).2.2.2.1) (Rect.unit (s := S8x512x128) ![0, 0, 0] S1x512x128.size inb_S8x512x128_S1x512x128_0_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![0, 0, 0] S1x512x1.size inb_S8x512x1_S1x512x1_0_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![1, 0, 0] S1x512x128.size inb_S8x512x128_S1x512x128_1_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![1, 0, 0] S1x512x1.size inb_S8x512x1_S1x512x1_1_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![2, 0, 0] S1x512x128.size inb_S8x512x128_S1x512x128_2_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![2, 0, 0] S1x512x1.size inb_S8x512x1_S1x512x1_2_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![3, 0, 0] S1x512x128.size inb_S8x512x128_S1x512x128_3_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![3, 0, 0] S1x512x1.size inb_S8x512x1_S1x512x1_3_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![4, 0, 0] S1x512x128.size inb_S8x512x128_S1x512x128_4_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![4, 0, 0] S1x512x1.size inb_S8x512x1_S1x512x1_4_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![5, 0, 0] S1x512x128.size inb_S8x512x128_S1x512x128_5_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![5, 0, 0] S1x512x1.size inb_S8x512x1_S1x512x1_5_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![6, 0, 0] S1x512x128.size inb_S8x512x128_S1x512x128_6_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![6, 0, 0] S1x512x1.size inb_S8x512x1_S1x512x1_6_0_0).toLoadRect) (arg9.view.readCov ((runA c i arg3 harg3 arg4 harg4 arg5 harg5 arg6 harg6 arg7 harg7 arg8 harg8 arg9 harg9 hc0 hc1 hc2 x0 x1 x2).2.2.2.1) (Rect.unit (s := S8x512x128) ![7, 0, 0] S1x512x128.size inb_S8x512x128_S1x512x128_7_0_0).toLoadRect) (arg8.view.readCov ((runA c i arg3 harg3 arg4 harg4 arg5 harg5 arg6 harg6 arg7 harg7 arg8 harg8 arg9 harg9 hc0 hc1 hc2 x0 x1 x2).2.1) (Rect.unit (s := S8x512x1) ![7, 0, 0] S1x512x1.size inb_S8x512x1_S1x512x1_7_0_0).toLoadRect)) ?_ ?_
  · rfl
  · exact outRaw_congr (load_agree (V := arg9.view) (o := 0) arg9.view.junk 0 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 0) arg8.view.junk 0 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 1) arg9.view.junk 1 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 1) arg8.view.junk 1 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 2) arg9.view.junk 2 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 2) arg8.view.junk 2 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 3) arg9.view.junk 3 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 3) arg8.view.junk 3 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 4) arg9.view.junk 4 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 4) arg8.view.junk 4 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 5) arg9.view.junk 5 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 5) arg8.view.junk 5 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 6) arg9.view.junk 6 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 6) arg8.view.junk 6 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk)) (load_agree (V := arg9.view) (o := 7) arg9.view.junk 7 (by decide) _ (runA c i arg3 harg3 arg4 harg4 arg5 harg5 arg6 harg6 arg7 harg7 arg8 harg8 arg9 harg9 hc0 hc1 hc2 x0 x1 x2).2.2.2.1 _ (readA_A c i arg3 harg3 arg4 harg4 arg5 harg5 arg6 harg6 arg7 harg7 arg8 harg8 arg9 harg9 x0 x1 x2 hc0 hc1 hc2 arg9.view.junk)) (load_agree (V := arg8.view) (o := 7) arg8.view.junk 7 (by decide) _ (runA c i arg3 harg3 arg4 harg4 arg5 harg5 arg6 harg6 arg7 harg7 arg8 harg8 arg9 harg9 hc0 hc1 hc2 x0 x1 x2).2.1 _ (readA_L c i arg3 harg3 arg4 harg4 arg5 harg5 arg6 harg6 arg7 harg7 arg8 harg8 arg9 harg9 x0 x1 x2 hc0 hc1 hc2 arg8.view.junk))

end Cert.KernelIdeal.Run

end
-- ==== Proof.RunB.lean ====
module

public import proofs.«01_k».proof.Proof.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at a key block after the query block: nothing is read or stored. The witness of this definition is what the stores of the body leave in the buffers, as lists of
    rectangles with their contents. -/
noncomputable def runB (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬firstBlock i) (hc1 : ¬pastBlock i) (hc2 : ¬lastBlock i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    Σ' (LS0 : List (View.Piece (Elt F) S8x512x1 .f32)), Σ' (LS1 : List (View.Piece (Elt F) S8x512x1 .f32)), { LS2 : List (View.Piece (Elt F) S8x512x128 .f32) //
      ∀ (d3 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc0_mla_prompt_attn i arg3 harg3 arg4 harg4 arg5 harg5 arg6 harg6 arg7 harg7 arg8 harg8 arg9 harg9) K } := by
  refine ⟨[], [], [], fun d3 E K => ?run⟩
  case run =>
    simp only [cc0_mla_prompt_attn_eq_skeleton]; unfold cc0_mla_prompt_attn_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Run

end
-- ==== Proof.RunC.lean ====
module

public import proofs.«01_k».proof.Proof.RunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at a first key block that is not the last one: start, attend. The witness of this definition is what the stores of the body leave in the buffers, as lists of
    rectangles with their contents. -/
noncomputable def runC (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : firstBlock i) (hc1 : pastBlock i) (hc2 : ¬lastBlock i)
    (x0 : Vec F S1x512x1024 .bf16) (x1 : Vec F S1x512x1024 .bf16) (x2 : Vec F S1x512x512 .bf16) :
    Σ' (LS0 : List (View.Piece (Elt F) S8x512x1 .f32)), Σ' (LS1 : List (View.Piece (Elt F) S8x512x1 .f32)), { LS2 : List (View.Piece (Elt F) S8x512x128 .f32) //
      ∀ (d3 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_prompt_attn i arg3 harg3 arg4 harg4 arg5 harg5 arg6 harg6 arg7 harg7 arg8 harg8 arg9 harg9) K } := by
  refine ⟨?_, ?_, ?_, fun d3 E K => ?run⟩
  case run =>
    simp only [cc0_mla_prompt_attn_eq_skeleton]; unfold cc0_mla_prompt_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]; · iexists _; iexact HS0
    isplitl [HS1]; · iexists _; iexact HS1
    iexists _; iexact HS2

end Cert.KernelIdeal.Run

end
-- ==== Proof.ReadsC.lean ====
module

public import proofs.«01_k».proof.Proof.RunC
public import proofs.«01_k».proof.Proof.State
public import Idealize.ShloMosaic.Lib.VecWindow

/-! What the stores at the first of several key blocks leave in the scratch: one visit from the initial state. -/

@[expose] public section

set_option maxRecDepth 16384

noncomputable section

namespace Cert.KernelIdeal.Run

open Idealize.ShloMosaic Idealize.ShloMosaic.TcCoe Idealize.ShloMosaic.Tactic Idealize.ShloMosaic.ValueIdx
open Cert.KernelIdeal.Gen

variable {F : FTy → Type} [FloatOps F] [Named F]

variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole)
  (x0 x1 : Vec F S1x512x1024 .bf16) (x2 : Vec F S1x512x512 .bf16)

theorem loadC_M_0 :
    (arg7.view.readCov (runC.sl.HS0_1) (Rect.unit (s := S8x512x1) ![0, 0, 0] S1x512x1.size inb_S8x512x1_S1x512x1_0_0_0).toLoadRect) = colOf 0 (k0_pay1 : Vec F S8x512x1 .f32) := by
  exact load_whole (V := arg7.view) (o := 0) arg7.view.junk 0 (by decide) _ _ (k0_pay1 : Vec F S8x512x1 .f32) []

theorem loadC_M_1 :
    (arg7.view.readCov (runC.sl.HS0_2 c i arg3 harg3 arg4 harg4 arg7 x0 x1) (Rect.unit (s := S8x512x1) ![1, 0, 0] S1x512x1.size inb_S8x512x1_S1x512x1_1_0_0).toLoadRect) = colOf 1 (k0_pay1 : Vec F S8x512x1 .f32) := by
  refine (load_miss (V := arg7.view) (o := 1) (o' := 0) arg7.view.junk (by decide) _ _ _ (runC.sl.HS0_1)).trans ?_
  exact load_whole (V := arg7.view) (o := 1) arg7.view.junk 1 (by decide) _ _ (k0_pay1 : Vec F S8x512x1 .f32) []

theorem loadC_M_2 :
    (arg7.view.readCov (runC.sl.HS0_3 c i arg3 harg3 arg4 harg4 arg7 x0 x1) (Rect.unit (s := S8x512x1) ![2, 0, 0] S1x512x1.size inb_S8x512x1_S1x512x1_2_0_0).toLoadRect) = colOf 2 (k0_pay1 : Vec F S8x512x1 .f32) := by
  refine (load_miss (V := arg7.view) (o := 2) (o' := 1) arg7.view.junk (by decide) _ _ _ (runC.sl.HS0_2 c i arg3 harg3 arg4 harg4 arg7 x0 x1)).trans ?_
  refine (load_miss (V := arg7.view) (o := 2) (o' := 0) arg7.view.junk (by decide) _ _ _ (runC.sl.HS0_1)).trans ?_
  exact load_whole (V := arg7.view) (o := 2) arg7.view.junk 2 (by decide) _ _ (k0_pay1 : Vec F S8x512x1 .f32) []

theorem loadC_M_3 :
    (arg7.view.readCov (runC.sl.HS0_4 c i arg3 harg3 arg4 harg4 arg7 x0 x1) (Rect.unit (s := S8x512x1) ![3, 0, 0] S1x512x1.size inb_S8x512x1_S1x512x1_3_0_0).toLoadRect) = colOf 3 (k0_pay1 : Vec F S8x512x1 .f32) := by
  refine (load_miss (V := arg7.view) (o := 3) (o' := 2) arg7.view.junk (by decide) _ _ _ (runC.sl.HS0_3 c i arg3 harg3 arg4 harg4 arg7 x0 x1)).trans ?_
  refine (load_miss (V := arg7.view) (o := 3) (o' := 1) arg7.view.junk (by decide) _ _ _ (runC.sl.HS0_2 c i arg3 harg3 arg4 harg4 arg7 x0 x1)).trans ?_
  refine (load_miss (V := arg7.view) (o := 3) (o' := 0) arg7.view.junk (by decide) _ _ _ (runC.sl.HS0_1)).trans ?_
  exact load_whole (V := arg7.view) (o := 3) arg7.view.junk 3 (by decide) _ _ (k0_pay1 : Vec F S8x512x1 .f32) []

theorem loadC_M_4 :
    (arg7.view.readCov (runC.sl.HS0_5 c i arg3 harg3 arg4 harg4 arg7 x0 x1) (Rect.unit (s := S8x512x1) ![4, 0, 0] S1x512x1.size inb_S8x512x1_S1x512x1_4_0_0).toLoadRect) = colOf 4 (k0_pay1 : Vec F S8x512x1 .f32) := by
  refine (load_miss (V := arg7.view) (o := 4) (o' := 3) arg7.view.junk (by decide) _ _ _ (runC.sl.HS0_4 c i arg3 harg3 arg4 harg4 arg7 x0 x1)).trans ?_
  refine (load_miss (V := arg7.view) (o := 4) (o' := 2) arg7.view.junk (by decide) _ _ _ (runC.sl.HS0_3 c i arg3 harg3 arg4 harg4 arg7 x0 x1)).trans ?_
  refine (load_miss (V := arg7.view) (o := 4) (o' := 1) arg7.view.junk (by decide) _ _ _ (runC.sl.HS0_2 c i arg3 harg3 arg4 harg4 arg7 x0 x1)).trans ?_
  refine (load_miss (V := arg7.view) (o := 4) (o' := 0) arg7.view.junk (by decide) _ _ _ (runC.sl.HS0_1)).trans ?_
  exact load_whole (V := arg7.view) (o := 4) arg7.view.junk 4 (by decide) _ _ (k0_pay1 : Vec F S8x512x1 .f32) []

theorem loadC_M_5 :
    (arg7.view.readCov (runC.sl.HS0_6 c i arg3 harg3 arg4 harg4 arg7 x0 x1) (Rect.unit (s := S8x512x1) ![5, 0, 0] S1x512x1.size inb_S8x512x1_S1x512x1_5_0_0).toLoadRect) = colOf 5 (k0_pay1 : Vec F S8x512x1 .f32) := by
  refine (load_miss (V := arg7.view) (o := 5) (o' := 4) arg7.view.junk (by decide) _ _ _ (runC.sl.HS0_5 c i arg3 harg3 arg4 harg4 arg7 x0 x1)).trans ?_
  refine (load_miss (V := arg7.view) (o := 5) (o' := 3) arg7.view.junk (by decide) _ _ _ (runC.sl.HS0_4 c i arg3 harg3 arg4 harg4 arg7 x0 x1)).trans ?_
  refine (load_miss (V := arg7.view) (o := 5) (o' := 2) arg7.view.junk (by decide) _ _ _ (runC.sl.HS0_3 c i arg3 harg3 arg4 harg4 arg7 x0 x1)).trans ?_
  refine (load_miss (V := arg7.view) (o := 5) (o' := 1) arg7.view.junk (by decide) _ _ _ (runC.sl.HS0_2 c i arg3 harg3 arg4 harg4 arg7 x0 x1)).trans ?_
  refine (load_miss (V := arg7.view) (o := 5) (o' := 0) arg7.view.junk (by decide) _ _ _ (runC.sl.HS0_1)).trans ?_
  exact load_whole (V := arg7.view) (o := 5) arg7.view.junk 5 (by decide) _ _ (k0_pay1 : Vec F S8x512x1 .f32) []

theorem loadC_M_6 :
    (arg7.view.readCov (runC.sl.HS0_7 c i arg3 harg3 arg4 harg4 arg7 x0 x1) (Rect.unit (s := S8x512x1) ![6, 0, 0] S1x512x1.size inb_S8x512x1_S1x512x1_6_0_0).toLoadRect) = colOf 6 (k0_pay1 : Vec F S8x512x1 .f32) := by
  refine (load_miss (V := arg7.view) (o := 6) (o' := 5) arg7.view.junk (by decide) _ _ _ (runC.sl.HS0_6 c i arg3 harg3 arg4 harg4 arg7 x0 x1)).trans ?_
  refine (load_miss (V := arg7.view) (o := 6) (o' := 4) arg7.view.junk (by decide) _ _ _ (runC.sl.HS0_5 c i arg3 harg3 arg4 harg4 arg7 x0 x1)).trans ?_
  refine (load_miss (V := arg7.view) (o := 6) (o' := 3) arg7.view.junk (by decide) _ _ _ (runC.sl.HS0_4 c i arg3 harg3 arg4 harg4 arg7 x0 x1)).trans ?_
  refine (load_miss (V := arg7.view) (o := 6) (o' := 2) arg7.view.junk (by decide) _ _ _ (runC.sl.HS0_3 c i arg3 harg3 arg4 harg4 arg7 x0 x1)).trans ?_
  refine (load_miss (V := arg7.view) (o := 6) (o' := 1) arg7.view.junk (by decide) _ _ _ (runC.sl.HS0_2 c i arg3 harg3 arg4 harg4 arg7 x0 x1)).trans ?_
  refine (load_miss (V := arg7.view) (o := 6) (o' := 0) arg7.view.junk (by decide) _ _ _ (runC.sl.HS0_1)).trans ?_
  exact load_whole (V := arg7.view) (o := 6) arg7.view.junk 6 (by decide) _ _ (k0_pay1 : Vec F S8x512x1 .f32) []

theorem loadC_M_7 :
    (arg7.view.readCov (runC.sl.HS0_8 c i arg3 harg3 arg4 harg4 arg7 x0 x1) (Rect.unit (s := S8x512x1) ![7, 0, 0] S1x512x1.size inb_S8x512x1_S1x512x1_7_0_0).toLoadRect) = colOf 7 (k0_pay1 : Vec F S8x512x1 .f32) := by
  refine (load_miss (V := arg7.view) (o := 7) (o' := 6) arg7.view.junk (by decide) _ _ _ (runC.sl.HS0_7 c i arg3 harg3 arg4 harg4 arg7 x0 x1)).trans ?_
  refine (load_miss (V := arg7.view) (o := 7) (o' := 5) arg7.view.junk (by decide) _ _ _ (runC.sl.HS0_6 c i arg3 harg3 arg4 harg4 arg7 x0 x1)).trans ?_
  refine (load_miss (V := arg7.view) (o := 7) (o' := 4) arg7.view.junk (by decide) _ _ _ (runC.sl.HS0_5 c i arg3 harg3 arg4 harg4 arg7 x0 x1)).trans ?_
  refine (load_miss (V := arg7.view) (o := 7) (o' := 3) arg7.view.junk (by decide) _ _ _ (runC.sl.HS0_4 c i arg3 harg3 arg4 harg4 arg7 x0 x1)).trans ?_
  refine (load_miss (V := arg7.view) (o := 7) (o' := 2) arg7.view.junk (by decide) _ _ _ (runC.sl.HS0_3 c i arg3 harg3 arg4 harg4 arg7 x0 x1)).trans ?_
  refine (load_miss (V := arg7.view) (o := 7) (o' := 1) arg7.view.junk (by decide) _ _ _ (runC.sl.HS0_2 c i arg3 harg3 arg4 harg4 arg7 x0 x1)).trans ?_
  refine (load_miss (V := arg7.view) (o := 7) (o' := 0) arg7.view.junk (by decide) _ _ _ (runC.sl.HS0_1)).trans ?_
  exact load_whole (V := arg7.view) (o := 7) arg7.view.junk 7 (by decide) _ _ (k0_pay1 : Vec F S8x512x1 .f32) []

theorem loadC_L_0 :
    (arg8.view.readCov (runC.sl.HS1_1) (Rect.unit (s := S8x512x1) ![0, 0, 0] S1x512x1.size inb_S8x512x1_S1x512x1_0_0_0).toLoadRect) = colOf 0 (k0_pay2 : Vec F S8x512x1 .f32) := by
  exact load_whole (V := arg8.view) (o := 0) arg8.view.junk 0 (by decide) _ _ (k0_pay2 : Vec F S8x512x1 .f32) []

theorem loadC_L_1 :
    (arg8.view.readCov (runC.sl.HS1_2 c i arg3 harg3 arg4 harg4 arg7 arg8 x0 x1) (Rect.unit (s := S8x512x1) ![1, 0, 0] S1x512x1.size inb_S8x512x1_S1x512x1_1_0_0).toLoadRect) = colOf 1 (k0_pay2 : Vec F S8x512x1 .f32) := by
  refine (load_miss (V := arg8.view) (o := 1) (o' := 0) arg8.view.junk (by decide) _ _ _ (runC.sl.HS1_1)).trans ?_
  exact load_whole (V := arg8.view) (o := 1) arg8.view.junk 1 (by decide) _ _ (k0_pay2 : Vec F S8x512x1 .f32) []

theorem loadC_L_2 :
    (arg8.view.readCov (runC.sl.HS1_3 c i arg3 harg3 arg4 harg4 arg7 arg8 x0 x1) (Rect.unit (s := S8x512x1) ![2, 0, 0] S1x512x1.size inb_S8x512x1_S1x512x1_2_0_0).toLoadRect) = colOf 2 (k0_pay2 : Vec F S8x512x1 .f32) := by
  refine (load_miss (V := arg8.view) (o := 2) (o' := 1) arg8.view.junk (by decide) _ _ _ (runC.sl.HS1_2 c i arg3 harg3 arg4 harg4 arg7 arg8 x0 x1)).trans ?_
  refine (load_miss (V := arg8.view) (o := 2) (o' := 0) arg8.view.junk (by decide) _ _ _ (runC.sl.HS1_1)).trans ?_
  exact load_whole (V := arg8.view) (o := 2) arg8.view.junk 2 (by decide) _ _ (k0_pay2 : Vec F S8x512x1 .f32) []

theorem loadC_L_3 :
    (arg8.view.readCov (runC.sl.HS1_4 c i arg3 harg3 arg4 harg4 arg7 arg8 x0 x1) (Rect.unit (s := S8x512x1) ![3, 0, 0] S1x512x1.size inb_S8x512x1_S1x512x1_3_0_0).toLoadRect) = colOf 3 (k0_pay2 : Vec F S8x512x1 .f32) := by
  refine (load_miss (V := arg8.view) (o := 3) (o' := 2) arg8.view.junk (by decide) _ _ _ (runC.sl.HS1_3 c i arg3 harg3 arg4 harg4 arg7 arg8 x0 x1)).trans ?_
  refine (load_miss (V := arg8.view) (o := 3) (o' := 1) arg8.view.junk (by decide) _ _ _ (runC.sl.HS1_2 c i arg3 harg3 arg4 harg4 arg7 arg8 x0 x1)).trans ?_
  refine (load_miss (V := arg8.view) (o := 3) (o' := 0) arg8.view.junk (by decide) _ _ _ (runC.sl.HS1_1)).trans ?_
  exact load_whole (V := arg8.view) (o := 3) arg8.view.junk 3 (by decide) _ _ (k0_pay2 : Vec F S8x512x1 .f32) []

theorem loadC_L_4 :
    (arg8.view.readCov (runC.sl.HS1_5 c i arg3 harg3 arg4 harg4 arg7 arg8 x0 x1) (Rect.unit (s := S8x512x1) ![4, 0, 0] S1x512x1.size inb_S8x512x1_S1x512x1_4_0_0).toLoadRect) = colOf 4 (k0_pay2 : Vec F S8x512x1 .f32) := by
  refine (load_miss (V := arg8.view) (o := 4) (o' := 3) arg8.view.junk (by decide) _ _ _ (runC.sl.HS1_4 c i arg3 harg3 arg4 harg4 arg7 arg8 x0 x1)).trans ?_
  refine (load_miss (V := arg8.view) (o := 4) (o' := 2) arg8.view.junk (by decide) _ _ _ (runC.sl.HS1_3 c i arg3 harg3 arg4 harg4 arg7 arg8 x0 x1)).trans ?_
  refine (load_miss (V := arg8.view) (o := 4) (o' := 1) arg8.view.junk (by decide) _ _ _ (runC.sl.HS1_2 c i arg3 harg3 arg4 harg4 arg7 arg8 x0 x1)).trans ?_
  refine (load_miss (V := arg8.view) (o := 4) (o' := 0) arg8.view.junk (by decide) _ _ _ (runC.sl.HS1_1)).trans ?_
  exact load_whole (V := arg8.view) (o := 4) arg8.view.junk 4 (by decide) _ _ (k0_pay2 : Vec F S8x512x1 .f32) []

theorem loadC_L_5 :
    (arg8.view.readCov (runC.sl.HS1_6 c i arg3 harg3 arg4 harg4 arg7 arg8 x0 x1) (Rect.unit (s := S8x512x1) ![5, 0, 0] S1x512x1.size inb_S8x512x1_S1x512x1_5_0_0).toLoadRect) = colOf 5 (k0_pay2 : Vec F S8x512x1 .f32) := by
  refine (load_miss (V := arg8.view) (o := 5) (o' := 4) arg8.view.junk (by decide) _ _ _ (runC.sl.HS1_5 c i arg3 harg3 arg4 harg4 arg7 arg8 x0 x1)).trans ?_
  refine (load_miss (V := arg8.view) (o := 5) (o' := 3) arg8.view.junk (by decide) _ _ _ (runC.sl.HS1_4 c i arg3 harg3 arg4 harg4 arg7 arg8 x0 x1)).trans ?_
  refine (load_miss (V := arg8.view) (o := 5) (o' := 2) arg8.view.junk (by decide) _ _ _ (runC.sl.HS1_3 c i arg3 harg3 arg4 harg4 arg7 arg8 x0 x1)).trans ?_
  refine (load_miss (V := arg8.view) (o := 5) (o' := 1) arg8.view.junk (by decide) _ _ _ (runC.sl.HS1_2 c i arg3 harg3 arg4 harg4 arg7 arg8 x0 x1)).trans ?_
  refine (load_miss (V := arg8.view) (o := 5) (o' := 0) arg8.view.junk (by decide) _ _ _ (runC.sl.HS1_1)).trans ?_
  exact load_whole (V := arg8.view) (o := 5) arg8.view.junk 5 (by decide) _ _ (k0_pay2 : Vec F S8x512x1 .f32) []

theorem loadC_L_6 :
    (arg8.view.readCov (runC.sl.HS1_7 c i arg3 harg3 arg4 harg4 arg7 arg8 x0 x1) (Rect.unit (s := S8x512x1) ![6, 0, 0] S1x512x1.size inb_S8x512x1_S1x512x1_6_0_0).toLoadRect) = colOf 6 (k0_pay2 : Vec F S8x512x1 .f32) := by
  refine (load_miss (V := arg8.view) (o := 6) (o' := 5) arg8.view.junk (by decide) _ _ _ (runC.sl.HS1_6 c i arg3 harg3 arg4 harg4 arg7 arg8 x0 x1)).trans ?_
  refine (load_miss (V := arg8.view) (o := 6) (o' := 4) arg8.view.junk (by decide) _ _ _ (runC.sl.HS1_5 c i arg3 harg3 arg4 harg4 arg7 arg8 x0 x1)).trans ?_
  refine (load_miss (V := arg8.view) (o := 6) (o' := 3) arg8.view.junk (by decide) _ _ _ (runC.sl.HS1_4 c i arg3 harg3 arg4 harg4 arg7 arg8 x0 x1)).trans ?_
  refine (load_miss (V := arg8.view) (o := 6) (o' := 2) arg8.view.junk (by decide) _ _ _ (runC.sl.HS1_3 c i arg3 harg3 arg4 harg4 arg7 arg8 x0 x1)).trans ?_
  refine (load_miss (V := arg8.view) (o := 6) (o' := 1) arg8.view.junk (by decide) _ _ _ (runC.sl.HS1_2 c i arg3 harg3 arg4 harg4 arg7 arg8 x0 x1)).trans ?_
  refine (load_miss (V := arg8.view) (o := 6) (o' := 0) arg8.view.junk (by decide) _ _ _ (runC.sl.HS1_1)).trans ?_
  exact load_whole (V := arg8.view) (o := 6) arg8.view.junk 6 (by decide) _ _ (k0_pay2 : Vec F S8x512x1 .f32) []

theorem loadC_L_7 :
    (arg8.view.readCov (runC.sl.HS1_8 c i arg3 harg3 arg4 harg4 arg7 arg8 x0 x1) (Rect.unit (s := S8x512x1) ![7, 0, 0] S1x512x1.size inb_S8x512x1_S1x512x1_7_0_0).toLoadRect) = colOf 7 (k0_pay2 : Vec F S8x512x1 .f32) := by
  refine (load_miss (V := arg8.view) (o := 7) (o' := 6) arg8.view.junk (by decide) _ _ _ (runC.sl.HS1_7 c i arg3 harg3 arg4 harg4 arg7 arg8 x0 x1)).trans ?_
  refine (load_miss (V := arg8.view) (o := 7) (o' := 5) arg8.view.junk (by decide) _ _ _ (runC.sl.HS1_6 c i arg3 harg3 arg4 harg4 arg7 arg8 x0 x1)).trans ?_
  refine (load_miss (V := arg8.view) (o := 7) (o' := 4) arg8.view.junk (by decide) _ _ _ (runC.sl.HS1_5 c i arg3 harg3 arg4 harg4 arg7 arg8 x0 x1)).trans ?_
  refine (load_miss (V := arg8.view) (o := 7) (o' := 3) arg8.view.junk (by decide) _ _ _ (runC.sl.HS1_4 c i arg3 harg3 arg4 harg4 arg7 arg8 x0 x1)).trans ?_
  refine (load_miss (V := arg8.view) (o := 7) (o' := 2) arg8.view.junk (by decide) _ _ _ (runC.sl.HS1_3 c i arg3 harg3 arg4 harg4 arg7 arg8 x0 x1)).trans ?_
  refine (load_miss (V := arg8.view) (o := 7) (o' := 1) arg8.view.junk (by decide) _ _ _ (runC.sl.HS1_2 c i arg3 harg3 arg4 harg4 arg7 arg8 x0 x1)).trans ?_
  refine (load_miss (V := arg8.view) (o := 7) (o' := 0) arg8.view.junk (by decide) _ _ _ (runC.sl.HS1_1)).trans ?_
  exact load_whole (V := arg8.view) (o := 7) arg8.view.junk 7 (by decide) _ _ (k0_pay2 : Vec F S8x512x1 .f32) []

theorem loadC_A_0 :
    (arg9.view.readCov (runC.sl.HS2_1) (Rect.unit (s := S8x512x128) ![0, 0, 0] S1x512x128.size inb_S8x512x128_S1x512x128_0_0_0).toLoadRect) = slabOf 0 (k0_pay3 : Vec F S8x512x128 .f32) := by
  exact load_whole (V := arg9.view) (o := 0) arg9.view.junk 0 (by decide) _ _ (k0_pay3 : Vec F S8x512x128 .f32) []

theorem loadC_A_1 :
    (arg9.view.readCov (runC.sl.HS2_2 c i arg3 harg3 arg4 harg4 arg5 harg5 arg7 arg9 x0 x1 x2) (Rect.unit (s := S8x512x128) ![1, 0, 0] S1x512x128.size inb_S8x512x128_S1x512x128_1_0_0).toLoadRect) = slabOf 1 (k0_pay3 : Vec F S8x512x128 .f32) := by
  refine (load_miss (V := arg9.view) (o := 1) (o' := 0) arg9.view.junk (by decide) _ _ _ (runC.sl.HS2_1)).trans ?_
  exact load_whole (V := arg9.view) (o := 1) arg9.view.junk 1 (by decide) _ _ (k0_pay3 : Vec F S8x512x128 .f32) []

theorem loadC_A_2 :
    (arg9.view.readCov (runC.sl.HS2_3 c i arg3 harg3 arg4 harg4 arg5 harg5 arg7 arg9 x0 x1 x2) (Rect.unit (s := S8x512x128) ![2, 0, 0] S1x512x128.size inb_S8x512x128_S1x512x128_2_0_0).toLoadRect) = slabOf 2 (k0_pay3 : Vec F S8x512x128 .f32) := by
  refine (load_miss (V := arg9.view) (o := 2) (o' := 1) arg9.view.junk (by decide) _ _ _ (runC.sl.HS2_2 c i arg3 harg3 arg4 harg4 arg5 harg5 arg7 arg9 x0 x1 x2)).trans ?_
  refine (load_miss (V := arg9.view) (o := 2) (o' := 0) arg9.view.junk (by decide) _ _ _ (runC.sl.HS2_1)).trans ?_
  exact load_whole (V := arg9.view) (o := 2) arg9.view.junk 2 (by decide) _ _ (k0_pay3 : Vec F S8x512x128 .f32) []

theorem loadC_A_3 :
    (arg9.view.readCov (runC.sl.HS2_4 c i arg3 harg3 arg4 harg4 arg5 harg5 arg7 arg9 x0 x1 x2) (Rect.unit (s := S8x512x128) ![3, 0, 0] S1x512x128.size inb_S8x512x128_S1x512x128_3_0_0).toLoadRect) = slabOf 3 (k0_pay3 : Vec F S8x512x128 .f32) := by
  refine (load_miss (V := arg9.view) (o := 3) (o' := 2) arg9.view.junk (by decide) _ _ _ (runC.sl.HS2_3 c i arg3 harg3 arg4 harg4 arg5 harg5 arg7 arg9 x0 x1 x2)).trans ?_
  refine (load_miss (V := arg9.view) (o := 3) (o' := 1) arg9.view.junk (by decide) _ _ _ (runC.sl.HS2_2 c i arg3 harg3 arg4 harg4 arg5 harg5 arg7 arg9 x0 x1 x2)).trans ?_
  refine (load_miss (V := arg9.view) (o := 3) (o' := 0) arg9.view.junk (by decide) _ _ _ (runC.sl.HS2_1)).trans ?_
  exact load_whole (V := arg9.view) (o := 3) arg9.view.junk 3 (by decide) _ _ (k0_pay3 : Vec F S8x512x128 .f32) []

theorem loadC_A_4 :
    (arg9.view.readCov (runC.sl.HS2_5 c i arg3 harg3 arg4 harg4 arg5 harg5 arg7 arg9 x0 x1 x2) (Rect.unit (s := S8x512x128) ![4, 0, 0] S1x512x128.size inb_S8x512x128_S1x512x128_4_0_0).toLoadRect) = slabOf 4 (k0_pay3 : Vec F S8x512x128 .f32) := by
  refine (load_miss (V := arg9.view) (o := 4) (o' := 3) arg9.view.junk (by decide) _ _ _ (runC.sl.HS2_4 c i arg3 harg3 arg4 harg4 arg5 harg5 arg7 arg9 x0 x1 x2)).trans ?_
  refine (load_miss (V := arg9.view) (o := 4) (o' := 2) arg9.view.junk (by decide) _ _ _ (runC.sl.HS2_3 c i arg3 harg3 arg4 harg4 arg5 harg5 arg7 arg9 x0 x1 x2)).trans ?_
  refine (load_miss (V := arg9.view) (o := 4) (o' := 1) arg9.view.junk (by decide) _ _ _ (runC.sl.HS2_2 c i arg3 harg3 arg4 harg4 arg5 harg5 arg7 arg9 x0 x1 x2)).trans ?_
  refine (load_miss (V := arg9.view) (o := 4) (o' := 0) arg9.view.junk (by decide) _ _ _ (runC.sl.HS2_1)).trans ?_
  exact load_whole (V := arg9.view) (o := 4) arg9.view.junk 4 (by decide) _ _ (k0_pay3 : Vec F S8x512x128 .f32) []

theorem loadC_A_5 :
    (arg9.view.readCov (runC.sl.HS2_6 c i arg3 harg3 arg4 harg4 arg5 harg5 arg7 arg9 x0 x1 x2) (Rect.unit (s := S8x512x128) ![5, 0, 0] S1x512x128.size inb_S8x512x128_S1x512x128_5_0_0).toLoadRect) = slabOf 5 (k0_pay3 : Vec F S8x512x128 .f32) := by
  refine (load_miss (V := arg9.view) (o := 5) (o' := 4) arg9.view.junk (by decide) _ _ _ (runC.sl.HS2_5 c i arg3 harg3 arg4 harg4 arg5 harg5 arg7 arg9 x0 x1 x2)).trans ?_
  refine (load_miss (V := arg9.view) (o := 5) (o' := 3) arg9.view.junk (by decide) _ _ _ (runC.sl.HS2_4 c i arg3 harg3 arg4 harg4 arg5 harg5 arg7 arg9 x0 x1 x2)).trans ?_
  refine (load_miss (V := arg9.view) (o := 5) (o' := 2) arg9.view.junk (by decide) _ _ _ (runC.sl.HS2_3 c i arg3 harg3 arg4 harg4 arg5 harg5 arg7 arg9 x0 x1 x2)).trans ?_
  refine (load_miss (V := arg9.view) (o := 5) (o' := 1) arg9.view.junk (by decide) _ _ _ (runC.sl.HS2_2 c i arg3 harg3 arg4 harg4 arg5 harg5 arg7 arg9 x0 x1 x2)).trans ?_
  refine (load_miss (V := arg9.view) (o := 5) (o' := 0) arg9.view.junk (by decide) _ _ _ (runC.sl.HS2_1)).trans ?_
  exact load_whole (V := arg9.view) (o := 5) arg9.view.junk 5 (by decide) _ _ (k0_pay3 : Vec F S8x512x128 .f32) []

theorem loadC_A_6 :
    (arg9.view.readCov (runC.sl.HS2_7 c i arg3 harg3 arg4 harg4 arg5 harg5 arg7 arg9 x0 x1 x2) (Rect.unit (s := S8x512x128) ![6, 0, 0] S1x512x128.size inb_S8x512x128_S1x512x128_6_0_0).toLoadRect) = slabOf 6 (k0_pay3 : Vec F S8x512x128 .f32) := by
  refine (load_miss (V := arg9.view) (o := 6) (o' := 5) arg9.view.junk (by decide) _ _ _ (runC.sl.HS2_6 c i arg3 harg3 arg4 harg4 arg5 harg5 arg7 arg9 x0 x1 x2)).trans ?_
  refine (load_miss (V := arg9.view) (o := 6) (o' := 4) arg9.view.junk (by decide) _ _ _ (runC.sl.HS2_5 c i arg3 harg3 arg4 harg4 arg5 harg5 arg7 arg9 x0 x1 x2)).trans ?_
  refine (load_miss (V := arg9.view) (o := 6) (o' := 3) arg9.view.junk (by decide) _ _ _ (runC.sl.HS2_4 c i arg3 harg3 arg4 harg4 arg5 harg5 arg7 arg9 x0 x1 x2)).trans ?_
  refine (load_miss (V := arg9.view) (o := 6) (o' := 2) arg9.view.junk (by decide) _ _ _ (runC.sl.HS2_3 c i arg3 harg3 arg4 harg4 arg5 harg5 arg7 arg9 x0 x1 x2)).trans ?_
  refine (load_miss (V := arg9.view) (o := 6) (o' := 1) arg9.view.junk (by decide) _ _ _ (runC.sl.HS2_2 c i arg3 harg3 arg4 harg4 arg5 harg5 arg7 arg9 x0 x1 x2)).trans ?_
  refine (load_miss (V := arg9.view) (o := 6) (o' := 0) arg9.view.junk (by decide) _ _ _ (runC.sl.HS2_1)).trans ?_
  exact load_whole (V := arg9.view) (o := 6) arg9.view.junk 6 (by decide) _ _ (k0_pay3 : Vec F S8x512x128 .f32) []

theorem loadC_A_7 :
    (arg9.view.readCov (runC.sl.HS2_8 c i arg3 harg3 arg4 harg4 arg5 harg5 arg7 arg9 x0 x1 x2) (Rect.unit (s := S8x512x128) ![7, 0, 0] S1x512x128.size inb_S8x512x128_S1x512x128_7_0_0).toLoadRect) = slabOf 7 (k0_pay3 : Vec F S8x512x128 .f32) := by
  refine (load_miss (V := arg9.view) (o := 7) (o' := 6) arg9.view.junk (by decide) _ _ _ (runC.sl.HS2_7 c i arg3 harg3 arg4 harg4 arg5 harg5 arg7 arg9 x0 x1 x2)).trans ?_
  refine (load_miss (V := arg9.view) (o := 7) (o' := 5) arg9.view.junk (by decide) _ _ _ (runC.sl.HS2_6 c i arg3 harg3 arg4 harg4 arg5 harg5 arg7 arg9 x0 x1 x2)).trans ?_
  refine (load_miss (V := arg9.view) (o := 7) (o' := 4) arg9.view.junk (by decide) _ _ _ (runC.sl.HS2_5 c i arg3 harg3 arg4 harg4 arg5 harg5 arg7 arg9 x0 x1 x2)).trans ?_
  refine (load_miss (V := arg9.view) (o := 7) (o' := 3) arg9.view.junk (by decide) _ _ _ (runC.sl.HS2_4 c i arg3 harg3 arg4 harg4 arg5 harg5 arg7 arg9 x0 x1 x2)).trans ?_
  refine (load_miss (V := arg9.view) (o := 7) (o' := 2) arg9.view.junk (by decide) _ _ _ (runC.sl.HS2_3 c i arg3 harg3 arg4 harg4 arg5 harg5 arg7 arg9 x0 x1 x2)).trans ?_
  refine (load_miss (V := arg9.view) (o := 7) (o' := 1) arg9.view.junk (by decide) _ _ _ (runC.sl.HS2_2 c i arg3 harg3 arg4 harg4 arg5 harg5 arg7 arg9 x0 x1 x2)).trans ?_
  refine (load_miss (V := arg9.view) (o := 7) (o' := 0) arg9.view.junk (by decide) _ _ _ (runC.sl.HS2_1)).trans ?_
  exact load_whole (V := arg9.view) (o := 7) arg9.view.junk 7 (by decide) _ _ (k0_pay3 : Vec F S8x512x128 .f32) []

set_option maxHeartbeats 1000000 in
/-- The running maxima after the stores. -/
theorem readC_M (hc0 : firstBlock i) (hc1 : pastBlock i) (hc2 : ¬lastBlock i) (f : arg7.view.ty.Contents (Elt F)) :
    arg7.view.read (Elt F) (arg7.view.writes (Elt F) f (runC c i arg3 harg3 arg4 harg4 arg5 harg5 arg6 harg6 arg7 harg7 arg8 harg8 arg9 harg9 hc0 hc1 hc2 x0 x1 x2).1) = stepM i x0 x1 k0_pay1 := by
  refine read_newer arg7.view f (stepM i x0 x1 k0_pay1) (runC c i arg3 harg3 arg4 harg4 arg5 harg5 arg6 harg6 arg7 harg7 arg8 harg8 arg9 harg9 hc0 hc1 hc2 x0 x1 x2).1.dropLast ((runC c i arg3 harg3 arg4 harg4 arg5 harg5 arg6 harg6 arg7 harg7 arg8 harg8 arg9 harg9 hc0 hc1 hc2 x0 x1 x2).1.getLast (List.cons_ne_nil _ _)) ?_
    (View.cover_of_tiledL (runC c i arg3 harg3 arg4 harg4 arg5 harg5 arg6 harg6 arg7 harg7 arg8 harg8 arg9 harg9 hc0 hc1 hc2 x0 x1 x2).1.dropLast S1x512x1.size (by sl_kernel_rfl))
  refine List.forall_mem_cons.mpr ⟨fun x => ?_, ?_⟩
  · refine Eq.trans ?_ (stepM_emb (o := 7) i 7 (by decide) inb_S8x512x1_S1x512x1_7_0_0 x0 x1 k0_pay1 x)
    refine congrFun (?_ : _ = oneM i (laneOf 7 x0) (laneOf 7 x1) (colOf 7 k0_pay1)) x
    refine Eq.trans (b := oneM i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (arg7.view.readCov (runC.sl.HS0_8 c i arg3 harg3 arg4 harg4 arg7 x0 x1) (Rect.unit (s := S8x512x1) ![7, 0, 0] S1x512x1.size inb_S8x512x1_S1x512x1_7_0_0).toLoadRect)) ?_ ?_
    · rfl
    · exact oneM_congr i (load_lane (o := 896) 7 (by decide) harg3 x0 _) (load_lane (o := 896) 7 (by decide) harg4 x1 _) (loadC_M_7 c i arg3 harg3 arg4 harg4 arg7 x0 x1)
  refine List.forall_mem_cons.mpr ⟨fun x => ?_, ?_⟩
  · refine Eq.trans ?_ (stepM_emb (o := 6) i 6 (by decide) inb_S8x512x1_S1x512x1_6_0_0 x0 x1 k0_pay1 x)
    refine congrFun (?_ : _ = oneM i (laneOf 6 x0) (laneOf 6 x1) (colOf 6 k0_pay1)) x
    refine Eq.trans (b := oneM i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (arg7.view.readCov (runC.sl.HS0_7 c i arg3 harg3 arg4 harg4 arg7 x0 x1) (Rect.unit (s := S8x512x1) ![6, 0, 0] S1x512x1.size inb_S8x512x1_S1x512x1_6_0_0).toLoadRect)) ?_ ?_
    · rfl
    · exact oneM_congr i (load_lane (o := 768) 6 (by decide) harg3 x0 _) (load_lane (o := 768) 6 (by decide) harg4 x1 _) (loadC_M_6 c i arg3 harg3 arg4 harg4 arg7 x0 x1)
  refine List.forall_mem_cons.mpr ⟨fun x => ?_, ?_⟩
  · refine Eq.trans ?_ (stepM_emb (o := 5) i 5 (by decide) inb_S8x512x1_S1x512x1_5_0_0 x0 x1 k0_pay1 x)
    refine congrFun (?_ : _ = oneM i (laneOf 5 x0) (laneOf 5 x1) (colOf 5 k0_pay1)) x
    refine Eq.trans (b := oneM i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (arg7.view.readCov (runC.sl.HS0_6 c i arg3 harg3 arg4 harg4 arg7 x0 x1) (Rect.unit (s := S8x512x1) ![5, 0, 0] S1x512x1.size inb_S8x512x1_S1x512x1_5_0_0).toLoadRect)) ?_ ?_
    · rfl
    · exact oneM_congr i (load_lane (o := 640) 5 (by decide) harg3 x0 _) (load_lane (o := 640) 5 (by decide) harg4 x1 _) (loadC_M_5 c i arg3 harg3 arg4 harg4 arg7 x0 x1)
  refine List.forall_mem_cons.mpr ⟨fun x => ?_, ?_⟩
  · refine Eq.trans ?_ (stepM_emb (o := 4) i 4 (by decide) inb_S8x512x1_S1x512x1_4_0_0 x0 x1 k0_pay1 x)
    refine congrFun (?_ : _ = oneM i (laneOf 4 x0) (laneOf 4 x1) (colOf 4 k0_pay1)) x
    refine Eq.trans (b := oneM i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (arg7.view.readCov (runC.sl.HS0_5 c i arg3 harg3 arg4 harg4 arg7 x0 x1) (Rect.unit (s := S8x512x1) ![4, 0, 0] S1x512x1.size inb_S8x512x1_S1x512x1_4_0_0).toLoadRect)) ?_ ?_
    · rfl
    · exact oneM_congr i (load_lane (o := 512) 4 (by decide) harg3 x0 _) (load_lane (o := 512) 4 (by decide) harg4 x1 _) (loadC_M_4 c i arg3 harg3 arg4 harg4 arg7 x0 x1)
  refine List.forall_mem_cons.mpr ⟨fun x => ?_, ?_⟩
  · refine Eq.trans ?_ (stepM_emb (o := 3) i 3 (by decide) inb_S8x512x1_S1x512x1_3_0_0 x0 x1 k0_pay1 x)
    refine congrFun (?_ : _ = oneM i (laneOf 3 x0) (laneOf 3 x1) (colOf 3 k0_pay1)) x
    refine Eq.trans (b := oneM i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (arg7.view.readCov (runC.sl.HS0_4 c i arg3 harg3 arg4 harg4 arg7 x0 x1) (Rect.unit (s := S8x512x1) ![3, 0, 0] S1x512x1.size inb_S8x512x1_S1x512x1_3_0_0).toLoadRect)) ?_ ?_
    · rfl
    · exact oneM_congr i (load_lane (o := 384) 3 (by decide) harg3 x0 _) (load_lane (o := 384) 3 (by decide) harg4 x1 _) (loadC_M_3 c i arg3 harg3 arg4 harg4 arg7 x0 x1)
  refine List.forall_mem_cons.mpr ⟨fun x => ?_, ?_⟩
  · refine Eq.trans ?_ (stepM_emb (o := 2) i 2 (by decide) inb_S8x512x1_S1x512x1_2_0_0 x0 x1 k0_pay1 x)
    refine congrFun (?_ : _ = oneM i (laneOf 2 x0) (laneOf 2 x1) (colOf 2 k0_pay1)) x
    refine Eq.trans (b := oneM i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (arg7.view.readCov (runC.sl.HS0_3 c i arg3 harg3 arg4 harg4 arg7 x0 x1) (Rect.unit (s := S8x512x1) ![2, 0, 0] S1x512x1.size inb_S8x512x1_S1x512x1_2_0_0).toLoadRect)) ?_ ?_
    · rfl
    · exact oneM_congr i (load_lane (o := 256) 2 (by decide) harg3 x0 _) (load_lane (o := 256) 2 (by decide) harg4 x1 _) (loadC_M_2 c i arg3 harg3 arg4 harg4 arg7 x0 x1)
  refine List.forall_mem_cons.mpr ⟨fun x => ?_, ?_⟩
  · refine Eq.trans ?_ (stepM_emb (o := 1) i 1 (by decide) inb_S8x512x1_S1x512x1_1_0_0 x0 x1 k0_pay1 x)
    refine congrFun (?_ : _ = oneM i (laneOf 1 x0) (laneOf 1 x1) (colOf 1 k0_pay1)) x
    refine Eq.trans (b := oneM i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (arg7.view.readCov (runC.sl.HS0_2 c i arg3 harg3 arg4 harg4 arg7 x0 x1) (Rect.unit (s := S8x512x1) ![1, 0, 0] S1x512x1.size inb_S8x512x1_S1x512x1_1_0_0).toLoadRect)) ?_ ?_
    · rfl
    · exact oneM_congr i (load_lane (o := 128) 1 (by decide) harg3 x0 _) (load_lane (o := 128) 1 (by decide) harg4 x1 _) (loadC_M_1 c i arg3 harg3 arg4 harg4 arg7 x0 x1)
  refine List.forall_mem_cons.mpr ⟨fun x => ?_, ?_⟩
  · refine Eq.trans ?_ (stepM_emb (o := 0) i 0 (by decide) inb_S8x512x1_S1x512x1_0_0_0 x0 x1 k0_pay1 x)
    refine congrFun (?_ : _ = oneM i (laneOf 0 x0) (laneOf 0 x1) (colOf 0 k0_pay1)) x
    refine Eq.trans (b := oneM i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (arg7.view.readCov (runC.sl.HS0_1) (Rect.unit (s := S8x512x1) ![0, 0, 0] S1x512x1.size inb_S8x512x1_S1x512x1_0_0_0).toLoadRect)) ?_ ?_
    · rfl
    · exact oneM_congr i (load_lane (o := 0) 0 (by decide) harg3 x0 _) (load_lane (o := 0) 0 (by decide) harg4 x1 _) (loadC_M_0 arg7)
  exact fun p hp => absurd hp List.not_mem_nil

set_option maxHeartbeats 1000000 in
/-- The running sums after the stores. -/
theorem readC_L (hc0 : firstBlock i) (hc1 : pastBlock i) (hc2 : ¬lastBlock i) (f : arg8.view.ty.Contents (Elt F)) :
    arg8.view.read (Elt F) (arg8.view.writes (Elt F) f (runC c i arg3 harg3 arg4 harg4 arg5 harg5 arg6 harg6 arg7 harg7 arg8 harg8 arg9 harg9 hc0 hc1 hc2 x0 x1 x2).2.1) = stepL i x0 x1 k0_pay1 k0_pay2 := by
  refine read_newer arg8.view f (stepL i x0 x1 k0_pay1 k0_pay2) (runC c i arg3 harg3 arg4 harg4 arg5 harg5 arg6 harg6 arg7 harg7 arg8 harg8 arg9 harg9 hc0 hc1 hc2 x0 x1 x2).2.1.dropLast ((runC c i arg3 harg3 arg4 harg4 arg5 harg5 arg6 harg6 arg7 harg7 arg8 harg8 arg9 harg9 hc0 hc1 hc2 x0 x1 x2).2.1.getLast (List.cons_ne_nil _ _)) ?_
    (View.cover_of_tiledL (runC c i arg3 harg3 arg4 harg4 arg5 harg5 arg6 harg6 arg7 harg7 arg8 harg8 arg9 harg9 hc0 hc1 hc2 x0 x1 x2).2.1.dropLast S1x512x1.size (by sl_kernel_rfl))
  refine List.forall_mem_cons.mpr ⟨fun x => ?_, ?_⟩
  · refine Eq.trans ?_ (stepL_emb (o := 7) i 7 (by decide) inb_S8x512x1_S1x512x1_7_0_0 x0 x1 k0_pay1 k0_pay2 x)
    refine congrFun (?_ : _ = oneL i (laneOf 7 x0) (laneOf 7 x1) (colOf 7 k0_pay1) (colOf 7 k0_pay2)) x
    refine Eq.trans (b := oneL i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (arg7.view.readCov (runC.sl.HS0_8 c i arg3 harg3 arg4 harg4 arg7 x0 x1) (Rect.unit (s := S8x512x1) ![7, 0, 0] S1x512x1.size inb_S8x512x1_S1x512x1_7_0_0).toLoadRect) (arg8.view.readCov (runC.sl.HS1_8 c i arg3 harg3 arg4 harg4 arg7 arg8 x0 x1) (Rect.unit (s := S8x512x1) ![7, 0, 0] S1x512x1.size inb_S8x512x1_S1x512x1_7_0_0).toLoadRect)) ?_ ?_
    · rfl
    · exact oneL_congr i (load_lane (o := 896) 7 (by decide) harg3 x0 _) (load_lane (o := 896) 7 (by decide) harg4 x1 _) (loadC_M_7 c i arg3 harg3 arg4 harg4 arg7 x0 x1) (loadC_L_7 c i arg3 harg3 arg4 harg4 arg7 arg8 x0 x1)
  refine List.forall_mem_cons.mpr ⟨fun x => ?_, ?_⟩
  · refine Eq.trans ?_ (stepL_emb (o := 6) i 6 (by decide) inb_S8x512x1_S1x512x1_6_0_0 x0 x1 k0_pay1 k0_pay2 x)
    refine congrFun (?_ : _ = oneL i (laneOf 6 x0) (laneOf 6 x1) (colOf 6 k0_pay1) (colOf 6 k0_pay2)) x
    refine Eq.trans (b := oneL i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (arg7.view.readCov (runC.sl.HS0_7 c i arg3 harg3 arg4 harg4 arg7 x0 x1) (Rect.unit (s := S8x512x1) ![6, 0, 0] S1x512x1.size inb_S8x512x1_S1x512x1_6_0_0).toLoadRect) (arg8.view.readCov (runC.sl.HS1_7 c i arg3 harg3 arg4 harg4 arg7 arg8 x0 x1) (Rect.unit (s := S8x512x1) ![6, 0, 0] S1x512x1.size inb_S8x512x1_S1x512x1_6_0_0).toLoadRect)) ?_ ?_
    · rfl
    · exact oneL_congr i (load_lane (o := 768) 6 (by decide) harg3 x0 _) (load_lane (o := 768) 6 (by decide) harg4 x1 _) (loadC_M_6 c i arg3 harg3 arg4 harg4 arg7 x0 x1) (loadC_L_6 c i arg3 harg3 arg4 harg4 arg7 arg8 x0 x1)
  refine List.forall_mem_cons.mpr ⟨fun x => ?_, ?_⟩
  · refine Eq.trans ?_ (stepL_emb (o := 5) i 5 (by decide) inb_S8x512x1_S1x512x1_5_0_0 x0 x1 k0_pay1 k0_pay2 x)
    refine congrFun (?_ : _ = oneL i (laneOf 5 x0) (laneOf 5 x1) (colOf 5 k0_pay1) (colOf 5 k0_pay2)) x
    refine Eq.trans (b := oneL i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (arg7.view.readCov (runC.sl.HS0_6 c i arg3 harg3 arg4 harg4 arg7 x0 x1) (Rect.unit (s := S8x512x1) ![5, 0, 0] S1x512x1.size inb_S8x512x1_S1x512x1_5_0_0).toLoadRect) (arg8.view.readCov (runC.sl.HS1_6 c i arg3 harg3 arg4 harg4 arg7 arg8 x0 x1) (Rect.unit (s := S8x512x1) ![5, 0, 0] S1x512x1.size inb_S8x512x1_S1x512x1_5_0_0).toLoadRect)) ?_ ?_
    · rfl
    · exact oneL_congr i (load_lane (o := 640) 5 (by decide) harg3 x0 _) (load_lane (o := 640) 5 (by decide) harg4 x1 _) (loadC_M_5 c i arg3 harg3 arg4 harg4 arg7 x0 x1) (loadC_L_5 c i arg3 harg3 arg4 harg4 arg7 arg8 x0 x1)
  refine List.forall_mem_cons.mpr ⟨fun x => ?_, ?_⟩
  · refine Eq.trans ?_ (stepL_emb (o := 4) i 4 (by decide) inb_S8x512x1_S1x512x1_4_0_0 x0 x1 k0_pay1 k0_pay2 x)
    refine congrFun (?_ : _ = oneL i (laneOf 4 x0) (laneOf 4 x1) (colOf 4 k0_pay1) (colOf 4 k0_pay2)) x
    refine Eq.trans (b := oneL i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (arg7.view.readCov (runC.sl.HS0_5 c i arg3 harg3 arg4 harg4 arg7 x0 x1) (Rect.unit (s := S8x512x1) ![4, 0, 0] S1x512x1.size inb_S8x512x1_S1x512x1_4_0_0).toLoadRect) (arg8.view.readCov (runC.sl.HS1_5 c i arg3 harg3 arg4 harg4 arg7 arg8 x0 x1) (Rect.unit (s := S8x512x1) ![4, 0, 0] S1x512x1.size inb_S8x512x1_S1x512x1_4_0_0).toLoadRect)) ?_ ?_
    · rfl
    · exact oneL_congr i (load_lane (o := 512) 4 (by decide) harg3 x0 _) (load_lane (o := 512) 4 (by decide) harg4 x1 _) (loadC_M_4 c i arg3 harg3 arg4 harg4 arg7 x0 x1) (loadC_L_4 c i arg3 harg3 arg4 harg4 arg7 arg8 x0 x1)
  refine List.forall_mem_cons.mpr ⟨fun x => ?_, ?_⟩
  · refine Eq.trans ?_ (stepL_emb (o := 3) i 3 (by decide) inb_S8x512x1_S1x512x1_3_0_0 x0 x1 k0_pay1 k0_pay2 x)
    refine congrFun (?_ : _ = oneL i (laneOf 3 x0) (laneOf 3 x1) (colOf 3 k0_pay1) (colOf 3 k0_pay2)) x
    refine Eq.trans (b := oneL i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (arg7.view.readCov (runC.sl.HS0_4 c i arg3 harg3 arg4 harg4 arg7 x0 x1) (Rect.unit (s := S8x512x1) ![3, 0, 0] S1x512x1.size inb_S8x512x1_S1x512x1_3_0_0).toLoadRect) (arg8.view.readCov (runC.sl.HS1_4 c i arg3 harg3 arg4 harg4 arg7 arg8 x0 x1) (Rect.unit (s := S8x512x1) ![3, 0, 0] S1x512x1.size inb_S8x512x1_S1x512x1_3_0_0).toLoadRect)) ?_ ?_
    · rfl
    · exact oneL_congr i (load_lane (o := 384) 3 (by decide) harg3 x0 _) (load_lane (o := 384) 3 (by decide) harg4 x1 _) (loadC_M_3 c i arg3 harg3 arg4 harg4 arg7 x0 x1) (loadC_L_3 c i arg3 harg3 arg4 harg4 arg7 arg8 x0 x1)
  refine List.forall_mem_cons.mpr ⟨fun x => ?_, ?_⟩
  · refine Eq.trans ?_ (stepL_emb (o := 2) i 2 (by decide) inb_S8x512x1_S1x512x1_2_0_0 x0 x1 k0_pay1 k0_pay2 x)
    refine congrFun (?_ : _ = oneL i (laneOf 2 x0) (laneOf 2 x1) (colOf 2 k0_pay1) (colOf 2 k0_pay2)) x
    refine Eq.trans (b := oneL i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (arg7.view.readCov (runC.sl.HS0_3 c i arg3 harg3 arg4 harg4 arg7 x0 x1) (Rect.unit (s := S8x512x1) ![2, 0, 0] S1x512x1.size inb_S8x512x1_S1x512x1_2_0_0).toLoadRect) (arg8.view.readCov (runC.sl.HS1_3 c i arg3 harg3 arg4 harg4 arg7 arg8 x0 x1) (Rect.unit (s := S8x512x1) ![2, 0, 0] S1x512x1.size inb_S8x512x1_S1x512x1_2_0_0).toLoadRect)) ?_ ?_
    · rfl
    · exact oneL_congr i (load_lane (o := 256) 2 (by decide) harg3 x0 _) (load_lane (o := 256) 2 (by decide) harg4 x1 _) (loadC_M_2 c i arg3 harg3 arg4 harg4 arg7 x0 x1) (loadC_L_2 c i arg3 harg3 arg4 harg4 arg7 arg8 x0 x1)
  refine List.forall_mem_cons.mpr ⟨fun x => ?_, ?_⟩
  · refine Eq.trans ?_ (stepL_emb (o := 1) i 1 (by decide) inb_S8x512x1_S1x512x1_1_0_0 x0 x1 k0_pay1 k0_pay2 x)
    refine congrFun (?_ : _ = oneL i (laneOf 1 x0) (laneOf 1 x1) (colOf 1 k0_pay1) (colOf 1 k0_pay2)) x
    refine Eq.trans (b := oneL i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (arg7.view.readCov (runC.sl.HS0_2 c i arg3 harg3 arg4 harg4 arg7 x0 x1) (Rect.unit (s := S8x512x1) ![1, 0, 0] S1x512x1.size inb_S8x512x1_S1x512x1_1_0_0).toLoadRect) (arg8.view.readCov (runC.sl.HS1_2 c i arg3 harg3 arg4 harg4 arg7 arg8 x0 x1) (Rect.unit (s := S8x512x1) ![1, 0, 0] S1x512x1.size inb_S8x512x1_S1x512x1_1_0_0).toLoadRect)) ?_ ?_
    · rfl
    · exact oneL_congr i (load_lane (o := 128) 1 (by decide) harg3 x0 _) (load_lane (o := 128) 1 (by decide) harg4 x1 _) (loadC_M_1 c i arg3 harg3 arg4 harg4 arg7 x0 x1) (loadC_L_1 c i arg3 harg3 arg4 harg4 arg7 arg8 x0 x1)
  refine List.forall_mem_cons.mpr ⟨fun x => ?_, ?_⟩
  · refine Eq.trans ?_ (stepL_emb (o := 0) i 0 (by decide) inb_S8x512x1_S1x512x1_0_0_0 x0 x1 k0_pay1 k0_pay2 x)
    refine congrFun (?_ : _ = oneL i (laneOf 0 x0) (laneOf 0 x1) (colOf 0 k0_pay1) (colOf 0 k0_pay2)) x
    refine Eq.trans (b := oneL i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (arg7.view.readCov (runC.sl.HS0_1) (Rect.unit (s := S8x512x1) ![0, 0, 0] S1x512x1.size inb_S8x512x1_S1x512x1_0_0_0).toLoadRect) (arg8.view.readCov (runC.sl.HS1_1) (Rect.unit (s := S8x512x1) ![0, 0, 0] S1x512x1.size inb_S8x512x1_S1x512x1_0_0_0).toLoadRect)) ?_ ?_
    · rfl
    · exact oneL_congr i (load_lane (o := 0) 0 (by decide) harg3 x0 _) (load_lane (o := 0) 0 (by decide) harg4 x1 _) (loadC_M_0 arg7) (loadC_L_0 arg8)
  exact fun p hp => absurd hp List.not_mem_nil

set_option maxHeartbeats 1000000 in
/-- The running weighted values after the stores. -/
theorem readC_A (hc0 : firstBlock i) (hc1 : pastBlock i) (hc2 : ¬lastBlock i) (f : arg9.view.ty.Contents (Elt F)) :
    arg9.view.read (Elt F) (arg9.view.writes (Elt F) f (runC c i arg3 harg3 arg4 harg4 arg5 harg5 arg6 harg6 arg7 harg7 arg8 harg8 arg9 harg9 hc0 hc1 hc2 x0 x1 x2).2.2.1) = stepA i x0 x1 x2 k0_pay1 k0_pay3 := by
  refine read_newer arg9.view f (stepA i x0 x1 x2 k0_pay1 k0_pay3) (runC c i arg3 harg3 arg4 harg4 arg5 harg5 arg6 harg6 arg7 harg7 arg8 harg8 arg9 harg9 hc0 hc1 hc2 x0 x1 x2).2.2.1.dropLast ((runC c i arg3 harg3 arg4 harg4 arg5 harg5 arg6 harg6 arg7 harg7 arg8 harg8 arg9 harg9 hc0 hc1 hc2 x0 x1 x2).2.2.1.getLast (List.cons_ne_nil _ _)) ?_
    (View.cover_of_tiledL (runC c i arg3 harg3 arg4 harg4 arg5 harg5 arg6 harg6 arg7 harg7 arg8 harg8 arg9 harg9 hc0 hc1 hc2 x0 x1 x2).2.2.1.dropLast S1x512x128.size (by sl_kernel_rfl))
  refine List.forall_mem_cons.mpr ⟨fun x => ?_, ?_⟩
  · refine Eq.trans ?_ (stepA_emb (o := 7) i 7 (by decide) inb_S8x512x128_S1x512x128_7_0_0 x0 x1 x2 k0_pay1 k0_pay3 x)
    refine congrFun (?_ : _ = oneA i (laneOf 7 x0) (laneOf 7 x1) (pairOf 7 x2) (colOf 7 k0_pay1) (slabOf 7 k0_pay3)) x
    refine Eq.trans (b := oneA i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg5.view (Rect.unit (s := S1x512x512) ![0, 0, 384] S1x512x128.size inb_S1x512x512_S1x512x128_0_0_384).toLoadRect (harg5.unread x2)) (arg7.view.readCov (runC.sl.HS0_8 c i arg3 harg3 arg4 harg4 arg7 x0 x1) (Rect.unit (s := S8x512x1) ![7, 0, 0] S1x512x1.size inb_S8x512x1_S1x512x1_7_0_0).toLoadRect) (arg9.view.readCov (runC.sl.HS2_8 c i arg3 harg3 arg4 harg4 arg5 harg5 arg7 arg9 x0 x1 x2) (Rect.unit (s := S8x512x128) ![7, 0, 0] S1x512x128.size inb_S8x512x128_S1x512x128_7_0_0).toLoadRect)) ?_ ?_
    · rfl
    · exact oneA_congr i (load_lane (o := 896) 7 (by decide) harg3 x0 _) (load_lane (o := 896) 7 (by decide) harg4 x1 _) (load_pair (o := 384) 7 (by decide) harg5 x2 _) (loadC_M_7 c i arg3 harg3 arg4 harg4 arg7 x0 x1) (loadC_A_7 c i arg3 harg3 arg4 harg4 arg5 harg5 arg7 arg9 x0 x1 x2)
  refine List.forall_mem_cons.mpr ⟨fun x => ?_, ?_⟩
  · refine Eq.trans ?_ (stepA_emb (o := 6) i 6 (by decide) inb_S8x512x128_S1x512x128_6_0_0 x0 x1 x2 k0_pay1 k0_pay3 x)
    refine congrFun (?_ : _ = oneA i (laneOf 6 x0) (laneOf 6 x1) (pairOf 6 x2) (colOf 6 k0_pay1) (slabOf 6 k0_pay3)) x
    refine Eq.trans (b := oneA i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg5.view (Rect.unit (s := S1x512x512) ![0, 0, 384] S1x512x128.size inb_S1x512x512_S1x512x128_0_0_384).toLoadRect (harg5.unread x2)) (arg7.view.readCov (runC.sl.HS0_7 c i arg3 harg3 arg4 harg4 arg7 x0 x1) (Rect.unit (s := S8x512x1) ![6, 0, 0] S1x512x1.size inb_S8x512x1_S1x512x1_6_0_0).toLoadRect) (arg9.view.readCov (runC.sl.HS2_7 c i arg3 harg3 arg4 harg4 arg5 harg5 arg7 arg9 x0 x1 x2) (Rect.unit (s := S8x512x128) ![6, 0, 0] S1x512x128.size inb_S8x512x128_S1x512x128_6_0_0).toLoadRect)) ?_ ?_
    · rfl
    · exact oneA_congr i (load_lane (o := 768) 6 (by decide) harg3 x0 _) (load_lane (o := 768) 6 (by decide) harg4 x1 _) (load_pair (o := 384) 6 (by decide) harg5 x2 _) (loadC_M_6 c i arg3 harg3 arg4 harg4 arg7 x0 x1) (loadC_A_6 c i arg3 harg3 arg4 harg4 arg5 harg5 arg7 arg9 x0 x1 x2)
  refine List.forall_mem_cons.mpr ⟨fun x => ?_, ?_⟩
  · refine Eq.trans ?_ (stepA_emb (o := 5) i 5 (by decide) inb_S8x512x128_S1x512x128_5_0_0 x0 x1 x2 k0_pay1 k0_pay3 x)
    refine congrFun (?_ : _ = oneA i (laneOf 5 x0) (laneOf 5 x1) (pairOf 5 x2) (colOf 5 k0_pay1) (slabOf 5 k0_pay3)) x
    refine Eq.trans (b := oneA i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg5.view (Rect.unit (s := S1x512x512) ![0, 0, 256] S1x512x128.size inb_S1x512x512_S1x512x128_0_0_256).toLoadRect (harg5.unread x2)) (arg7.view.readCov (runC.sl.HS0_6 c i arg3 harg3 arg4 harg4 arg7 x0 x1) (Rect.unit (s := S8x512x1) ![5, 0, 0] S1x512x1.size inb_S8x512x1_S1x512x1_5_0_0).toLoadRect) (arg9.view.readCov (runC.sl.HS2_6 c i arg3 harg3 arg4 harg4 arg5 harg5 arg7 arg9 x0 x1 x2) (Rect.unit (s := S8x512x128) ![5, 0, 0] S1x512x128.size inb_S8x512x128_S1x512x128_5_0_0).toLoadRect)) ?_ ?_
    · rfl
    · exact oneA_congr i (load_lane (o := 640) 5 (by decide) harg3 x0 _) (load_lane (o := 640) 5 (by decide) harg4 x1 _) (load_pair (o := 256) 5 (by decide) harg5 x2 _) (loadC_M_5 c i arg3 harg3 arg4 harg4 arg7 x0 x1) (loadC_A_5 c i arg3 harg3 arg4 harg4 arg5 harg5 arg7 arg9 x0 x1 x2)
  refine List.forall_mem_cons.mpr ⟨fun x => ?_, ?_⟩
  · refine Eq.trans ?_ (stepA_emb (o := 4) i 4 (by decide) inb_S8x512x128_S1x512x128_4_0_0 x0 x1 x2 k0_pay1 k0_pay3 x)
    refine congrFun (?_ : _ = oneA i (laneOf 4 x0) (laneOf 4 x1) (pairOf 4 x2) (colOf 4 k0_pay1) (slabOf 4 k0_pay3)) x
    refine Eq.trans (b := oneA i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg5.view (Rect.unit (s := S1x512x512) ![0, 0, 256] S1x512x128.size inb_S1x512x512_S1x512x128_0_0_256).toLoadRect (harg5.unread x2)) (arg7.view.readCov (runC.sl.HS0_5 c i arg3 harg3 arg4 harg4 arg7 x0 x1) (Rect.unit (s := S8x512x1) ![4, 0, 0] S1x512x1.size inb_S8x512x1_S1x512x1_4_0_0).toLoadRect) (arg9.view.readCov (runC.sl.HS2_5 c i arg3 harg3 arg4 harg4 arg5 harg5 arg7 arg9 x0 x1 x2) (Rect.unit (s := S8x512x128) ![4, 0, 0] S1x512x128.size inb_S8x512x128_S1x512x128_4_0_0).toLoadRect)) ?_ ?_
    · rfl
    · exact oneA_congr i (load_lane (o := 512) 4 (by decide) harg3 x0 _) (load_lane (o := 512) 4 (by decide) harg4 x1 _) (load_pair (o := 256) 4 (by decide) harg5 x2 _) (loadC_M_4 c i arg3 harg3 arg4 harg4 arg7 x0 x1) (loadC_A_4 c i arg3 harg3 arg4 harg4 arg5 harg5 arg7 arg9 x0 x1 x2)
  refine List.forall_mem_cons.mpr ⟨fun x => ?_, ?_⟩
  · refine Eq.trans ?_ (stepA_emb (o := 3) i 3 (by decide) inb_S8x512x128_S1x512x128_3_0_0 x0 x1 x2 k0_pay1 k0_pay3 x)
    refine congrFun (?_ : _ = oneA i (laneOf 3 x0) (laneOf 3 x1) (pairOf 3 x2) (colOf 3 k0_pay1) (slabOf 3 k0_pay3)) x
    refine Eq.trans (b := oneA i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg5.view (Rect.unit (s := S1x512x512) ![0, 0, 128] S1x512x128.size inb_S1x512x512_S1x512x128_0_0_128).toLoadRect (harg5.unread x2)) (arg7.view.readCov (runC.sl.HS0_4 c i arg3 harg3 arg4 harg4 arg7 x0 x1) (Rect.unit (s := S8x512x1) ![3, 0, 0] S1x512x1.size inb_S8x512x1_S1x512x1_3_0_0).toLoadRect) (arg9.view.readCov (runC.sl.HS2_4 c i arg3 harg3 arg4 harg4 arg5 harg5 arg7 arg9 x0 x1 x2) (Rect.unit (s := S8x512x128) ![3, 0, 0] S1x512x128.size inb_S8x512x128_S1x512x128_3_0_0).toLoadRect)) ?_ ?_
    · rfl
    · exact oneA_congr i (load_lane (o := 384) 3 (by decide) harg3 x0 _) (load_lane (o := 384) 3 (by decide) harg4 x1 _) (load_pair (o := 128) 3 (by decide) harg5 x2 _) (loadC_M_3 c i arg3 harg3 arg4 harg4 arg7 x0 x1) (loadC_A_3 c i arg3 harg3 arg4 harg4 arg5 harg5 arg7 arg9 x0 x1 x2)
  refine List.forall_mem_cons.mpr ⟨fun x => ?_, ?_⟩
  · refine Eq.trans ?_ (stepA_emb (o := 2) i 2 (by decide) inb_S8x512x128_S1x512x128_2_0_0 x0 x1 x2 k0_pay1 k0_pay3 x)
    refine congrFun (?_ : _ = oneA i (laneOf 2 x0) (laneOf 2 x1) (pairOf 2 x2) (colOf 2 k0_pay1) (slabOf 2 k0_pay3)) x
    refine Eq.trans (b := oneA i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg5.view (Rect.unit (s := S1x512x512) ![0, 0, 128] S1x512x128.size inb_S1x512x512_S1x512x128_0_0_128).toLoadRect (harg5.unread x2)) (arg7.view.readCov (runC.sl.HS0_3 c i arg3 harg3 arg4 harg4 arg7 x0 x1) (Rect.unit (s := S8x512x1) ![2, 0, 0] S1x512x1.size inb_S8x512x1_S1x512x1_2_0_0).toLoadRect) (arg9.view.readCov (runC.sl.HS2_3 c i arg3 harg3 arg4 harg4 arg5 harg5 arg7 arg9 x0 x1 x2) (Rect.unit (s := S8x512x128) ![2, 0, 0] S1x512x128.size inb_S8x512x128_S1x512x128_2_0_0).toLoadRect)) ?_ ?_
    · rfl
    · exact oneA_congr i (load_lane (o := 256) 2 (by decide) harg3 x0 _) (load_lane (o := 256) 2 (by decide) harg4 x1 _) (load_pair (o := 128) 2 (by decide) harg5 x2 _) (loadC_M_2 c i arg3 harg3 arg4 harg4 arg7 x0 x1) (loadC_A_2 c i arg3 harg3 arg4 harg4 arg5 harg5 arg7 arg9 x0 x1 x2)
  refine List.forall_mem_cons.mpr ⟨fun x => ?_, ?_⟩
  · refine Eq.trans ?_ (stepA_emb (o := 1) i 1 (by decide) inb_S8x512x128_S1x512x128_1_0_0 x0 x1 x2 k0_pay1 k0_pay3 x)
    refine congrFun (?_ : _ = oneA i (laneOf 1 x0) (laneOf 1 x1) (pairOf 1 x2) (colOf 1 k0_pay1) (slabOf 1 k0_pay3)) x
    refine Eq.trans (b := oneA i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg5.view (Rect.unit (s := S1x512x512) ![0, 0, 0] S1x512x128.size inb_S1x512x512_S1x512x128_0_0_0).toLoadRect (harg5.unread x2)) (arg7.view.readCov (runC.sl.HS0_2 c i arg3 harg3 arg4 harg4 arg7 x0 x1) (Rect.unit (s := S8x512x1) ![1, 0, 0] S1x512x1.size inb_S8x512x1_S1x512x1_1_0_0).toLoadRect) (arg9.view.readCov (runC.sl.HS2_2 c i arg3 harg3 arg4 harg4 arg5 harg5 arg7 arg9 x0 x1 x2) (Rect.unit (s := S8x512x128) ![1, 0, 0] S1x512x128.size inb_S8x512x128_S1x512x128_1_0_0).toLoadRect)) ?_ ?_
    · rfl
    · exact oneA_congr i (load_lane (o := 128) 1 (by decide) harg3 x0 _) (load_lane (o := 128) 1 (by decide) harg4 x1 _) (load_pair (o := 0) 1 (by decide) harg5 x2 _) (loadC_M_1 c i arg3 harg3 arg4 harg4 arg7 x0 x1) (loadC_A_1 c i arg3 harg3 arg4 harg4 arg5 harg5 arg7 arg9 x0 x1 x2)
  refine List.forall_mem_cons.mpr ⟨fun x => ?_, ?_⟩
  · refine Eq.trans ?_ (stepA_emb (o := 0) i 0 (by decide) inb_S8x512x128_S1x512x128_0_0_0 x0 x1 x2 k0_pay1 k0_pay3 x)
    refine congrFun (?_ : _ = oneA i (laneOf 0 x0) (laneOf 0 x1) (pairOf 0 x2) (colOf 0 k0_pay1) (slabOf 0 k0_pay3)) x
    refine Eq.trans (b := oneA i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg5.view (Rect.unit (s := S1x512x512) ![0, 0, 0] S1x512x128.size inb_S1x512x512_S1x512x128_0_0_0).toLoadRect (harg5.unread x2)) (arg7.view.readCov (runC.sl.HS0_1) (Rect.unit (s := S8x512x1) ![0, 0, 0] S1x512x1.size inb_S8x512x1_S1x512x1_0_0_0).toLoadRect) (arg9.view.readCov (runC.sl.HS2_1) (Rect.unit (s := S8x512x128) ![0, 0, 0] S1x512x128.size inb_S8x512x128_S1x512x128_0_0_0).toLoadRect)) ?_ ?_
    · rfl
    · exact oneA_congr i (load_lane (o := 0) 0 (by decide) harg3 x0 _) (load_lane (o := 0) 0 (by decide) harg4 x1 _) (load_pair (o := 0) 0 (by decide) harg5 x2 _) (loadC_M_0 arg7) (loadC_A_0 arg9)
  exact fun p hp => absurd hp List.not_mem_nil

end Cert.KernelIdeal.Run

end
-- ==== Proof.RunD.lean ====
module

public import proofs.«01_k».proof.Proof.RunC

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at a later key block that is the last one: attend, store. The witness of this definition is what the stores of the body leave in the buffers, as lists of
    rectangles with their contents. -/
noncomputable def runD (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬firstBlock i) (hc1 : pastBlock i) (hc2 : lastBlock i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    Σ' (LS0 : List (View.Piece (Elt F) S8x512x1 .f32)), Σ' (LS1 : List (View.Piece (Elt F) S8x512x1 .f32)), Σ' (LO : List (View.Piece (Elt F) S1x512x512 .bf16)), { LS2 : List (View.Piece (Elt F) S8x512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_prompt_attn i arg3 harg3 arg4 harg4 arg5 harg5 arg6 harg6 arg7 harg7 arg8 harg8 arg9 harg9) K } := by
  refine ⟨?_, ?_, ?_, ?_, fun E K => ?run⟩
  case run =>
    simp only [cc0_mla_prompt_attn_eq_skeleton]; unfold cc0_mla_prompt_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Run

end
-- ==== Proof.ReadsD.lean ====
module

public import proofs.«01_k».proof.Proof.RunD
public import proofs.«01_k».proof.Proof.State
public import Idealize.ShloMosaic.Lib.VecWindow

/-! What the stores at the last of several key blocks leave in the scratch and in the result block. -/

@[expose] public section

set_option maxRecDepth 16384

noncomputable section

namespace Cert.KernelIdeal.Run

open Idealize.ShloMosaic Idealize.ShloMosaic.TcCoe Idealize.ShloMosaic.Tactic Idealize.ShloMosaic.ValueIdx
open Cert.KernelIdeal.Gen

variable {F : FTy → Type} [FloatOps F] [Named F]

variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole)
  (x0 x1 : Vec F S1x512x1024 .bf16) (x2 : Vec F S1x512x512 .bf16) (xs0 xs1 : Vec F S8x512x1 .f32) (xs2 : Vec F S8x512x128 .f32)

set_option maxHeartbeats 1000000 in
/-- The running maxima after the stores. -/
theorem readD_M (hc0 : ¬firstBlock i) (hc1 : pastBlock i) (hc2 : lastBlock i) (f : arg7.view.ty.Contents (Elt F)) :
    arg7.view.read (Elt F) (arg7.view.writes (Elt F) f (runD c i arg3 harg3 arg4 harg4 arg5 harg5 arg6 harg6 arg7 harg7 arg8 harg8 arg9 harg9 hc0 hc1 hc2 x0 x1 x2 xs0 xs1 xs2).1) = stepM i x0 x1 xs0 := by
  funext y
  refine View.read_writes_apply_of_pieces arg7.view f (stepM i x0 x1 xs0) _ ?_ y
    (View.cover_of_tiledL (runD c i arg3 harg3 arg4 harg4 arg5 harg5 arg6 harg6 arg7 harg7 arg8 harg8 arg9 harg9 hc0 hc1 hc2 x0 x1 x2 xs0 xs1 xs2).1 S1x512x1.size (by sl_kernel_rfl) y)
  refine List.forall_mem_cons.mpr ⟨fun x => ?_, ?_⟩
  · refine Eq.trans ?_ (stepM_emb (o := 7) i 7 (by decide) inb_S8x512x1_S1x512x1_7_0_0 x0 x1 xs0 x)
    refine congrFun (?_ : _ = oneM i (laneOf 7 x0) (laneOf 7 x1) (colOf 7 xs0)) x
    refine Eq.trans (b := oneM i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg7.view (Rect.unit (s := S8x512x1) ![7, 0, 0] S1x512x1.size inb_S8x512x1_S1x512x1_7_0_0).toLoadRect (harg7.unread xs0))) ?_ ?_
    · rfl
    · exact oneM_congr i (load_lane (o := 896) 7 (by decide) harg3 x0 _) (load_lane (o := 896) 7 (by decide) harg4 x1 _) (load_slab (o := 7) 7 (by decide) harg7 xs0 _)
  refine List.forall_mem_cons.mpr ⟨fun x => ?_, ?_⟩
  · refine Eq.trans ?_ (stepM_emb (o := 6) i 6 (by decide) inb_S8x512x1_S1x512x1_6_0_0 x0 x1 xs0 x)
    refine congrFun (?_ : _ = oneM i (laneOf 6 x0) (laneOf 6 x1) (colOf 6 xs0)) x
    refine Eq.trans (b := oneM i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg7.view (Rect.unit (s := S8x512x1) ![6, 0, 0] S1x512x1.size inb_S8x512x1_S1x512x1_6_0_0).toLoadRect (harg7.unread xs0))) ?_ ?_
    · rfl
    · exact oneM_congr i (load_lane (o := 768) 6 (by decide) harg3 x0 _) (load_lane (o := 768) 6 (by decide) harg4 x1 _) (load_slab (o := 6) 6 (by decide) harg7 xs0 _)
  refine List.forall_mem_cons.mpr ⟨fun x => ?_, ?_⟩
  · refine Eq.trans ?_ (stepM_emb (o := 5) i 5 (by decide) inb_S8x512x1_S1x512x1_5_0_0 x0 x1 xs0 x)
    refine congrFun (?_ : _ = oneM i (laneOf 5 x0) (laneOf 5 x1) (colOf 5 xs0)) x
    refine Eq.trans (b := oneM i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg7.view (Rect.unit (s := S8x512x1) ![5, 0, 0] S1x512x1.size inb_S8x512x1_S1x512x1_5_0_0).toLoadRect (harg7.unread xs0))) ?_ ?_
    · rfl
    · exact oneM_congr i (load_lane (o := 640) 5 (by decide) harg3 x0 _) (load_lane (o := 640) 5 (by decide) harg4 x1 _) (load_slab (o := 5) 5 (by decide) harg7 xs0 _)
  refine List.forall_mem_cons.mpr ⟨fun x => ?_, ?_⟩
  · refine Eq.trans ?_ (stepM_emb (o := 4) i 4 (by decide) inb_S8x512x1_S1x512x1_4_0_0 x0 x1 xs0 x)
    refine congrFun (?_ : _ = oneM i (laneOf 4 x0) (laneOf 4 x1) (colOf 4 xs0)) x
    refine Eq.trans (b := oneM i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg7.view (Rect.unit (s := S8x512x1) ![4, 0, 0] S1x512x1.size inb_S8x512x1_S1x512x1_4_0_0).toLoadRect (harg7.unread xs0))) ?_ ?_
    · rfl
    · exact oneM_congr i (load_lane (o := 512) 4 (by decide) harg3 x0 _) (load_lane (o := 512) 4 (by decide) harg4 x1 _) (load_slab (o := 4) 4 (by decide) harg7 xs0 _)
  refine List.forall_mem_cons.mpr ⟨fun x => ?_, ?_⟩
  · refine Eq.trans ?_ (stepM_emb (o := 3) i 3 (by decide) inb_S8x512x1_S1x512x1_3_0_0 x0 x1 xs0 x)
    refine congrFun (?_ : _ = oneM i (laneOf 3 x0) (laneOf 3 x1) (colOf 3 xs0)) x
    refine Eq.trans (b := oneM i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg7.view (Rect.unit (s := S8x512x1) ![3, 0, 0] S1x512x1.size inb_S8x512x1_S1x512x1_3_0_0).toLoadRect (harg7.unread xs0))) ?_ ?_
    · rfl
    · exact oneM_congr i (load_lane (o := 384) 3 (by decide) harg3 x0 _) (load_lane (o := 384) 3 (by decide) harg4 x1 _) (load_slab (o := 3) 3 (by decide) harg7 xs0 _)
  refine List.forall_mem_cons.mpr ⟨fun x => ?_, ?_⟩
  · refine Eq.trans ?_ (stepM_emb (o := 2) i 2 (by decide) inb_S8x512x1_S1x512x1_2_0_0 x0 x1 xs0 x)
    refine congrFun (?_ : _ = oneM i (laneOf 2 x0) (laneOf 2 x1) (colOf 2 xs0)) x
    refine Eq.trans (b := oneM i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg7.view (Rect.unit (s := S8x512x1) ![2, 0, 0] S1x512x1.size inb_S8x512x1_S1x512x1_2_0_0).toLoadRect (harg7.unread xs0))) ?_ ?_
    · rfl
    · exact oneM_congr i (load_lane (o := 256) 2 (by decide) harg3 x0 _) (load_lane (o := 256) 2 (by decide) harg4 x1 _) (load_slab (o := 2) 2 (by decide) harg7 xs0 _)
  refine List.forall_mem_cons.mpr ⟨fun x => ?_, ?_⟩
  · refine Eq.trans ?_ (stepM_emb (o := 1) i 1 (by decide) inb_S8x512x1_S1x512x1_1_0_0 x0 x1 xs0 x)
    refine congrFun (?_ : _ = oneM i (laneOf 1 x0) (laneOf 1 x1) (colOf 1 xs0)) x
    refine Eq.trans (b := oneM i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg7.view (Rect.unit (s := S8x512x1) ![1, 0, 0] S1x512x1.size inb_S8x512x1_S1x512x1_1_0_0).toLoadRect (harg7.unread xs0))) ?_ ?_
    · rfl
    · exact oneM_congr i (load_lane (o := 128) 1 (by decide) harg3 x0 _) (load_lane (o := 128) 1 (by decide) harg4 x1 _) (load_slab (o := 1) 1 (by decide) harg7 xs0 _)
  refine List.forall_mem_cons.mpr ⟨fun x => ?_, ?_⟩
  · refine Eq.trans ?_ (stepM_emb (o := 0) i 0 (by decide) inb_S8x512x1_S1x512x1_0_0_0 x0 x1 xs0 x)
    refine congrFun (?_ : _ = oneM i (laneOf 0 x0) (laneOf 0 x1) (colOf 0 xs0)) x
    refine Eq.trans (b := oneM i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg7.view (Rect.unit (s := S8x512x1) ![0, 0, 0] S1x512x1.size inb_S8x512x1_S1x512x1_0_0_0).toLoadRect (harg7.unread xs0))) ?_ ?_
    · rfl
    · exact oneM_congr i (load_lane (o := 0) 0 (by decide) harg3 x0 _) (load_lane (o := 0) 0 (by decide) harg4 x1 _) (load_slab (o := 0) 0 (by decide) harg7 xs0 _)
  exact fun p hp => absurd hp List.not_mem_nil

set_option maxHeartbeats 1000000 in
/-- The running sums after the stores. -/
theorem readD_L (hc0 : ¬firstBlock i) (hc1 : pastBlock i) (hc2 : lastBlock i) (f : arg8.view.ty.Contents (Elt F)) :
    arg8.view.read (Elt F) (arg8.view.writes (Elt F) f (runD c i arg3 harg3 arg4 harg4 arg5 harg5 arg6 harg6 arg7 harg7 arg8 harg8 arg9 harg9 hc0 hc1 hc2 x0 x1 x2 xs0 xs1 xs2).2.1) = stepL i x0 x1 xs0 xs1 := by
  funext y
  refine View.read_writes_apply_of_pieces arg8.view f (stepL i x0 x1 xs0 xs1) _ ?_ y
    (View.cover_of_tiledL (runD c i arg3 harg3 arg4 harg4 arg5 harg5 arg6 harg6 arg7 harg7 arg8 harg8 arg9 harg9 hc0 hc1 hc2 x0 x1 x2 xs0 xs1 xs2).2.1 S1x512x1.size (by sl_kernel_rfl) y)
  refine List.forall_mem_cons.mpr ⟨fun x => ?_, ?_⟩
  · refine Eq.trans ?_ (stepL_emb (o := 7) i 7 (by decide) inb_S8x512x1_S1x512x1_7_0_0 x0 x1 xs0 xs1 x)
    refine congrFun (?_ : _ = oneL i (laneOf 7 x0) (laneOf 7 x1) (colOf 7 xs0) (colOf 7 xs1)) x
    refine Eq.trans (b := oneL i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg7.view (Rect.unit (s := S8x512x1) ![7, 0, 0] S1x512x1.size inb_S8x512x1_S1x512x1_7_0_0).toLoadRect (harg7.unread xs0)) (View.readAt (Elt F) arg8.view (Rect.unit (s := S8x512x1) ![7, 0, 0] S1x512x1.size inb_S8x512x1_S1x512x1_7_0_0).toLoadRect (harg8.unread xs1))) ?_ ?_
    · rfl
    · exact oneL_congr i (load_lane (o := 896) 7 (by decide) harg3 x0 _) (load_lane (o := 896) 7 (by decide) harg4 x1 _) (load_slab (o := 7) 7 (by decide) harg7 xs0 _) (load_slab (o := 7) 7 (by decide) harg8 xs1 _)
  refine List.forall_mem_cons.mpr ⟨fun x => ?_, ?_⟩
  · refine Eq.trans ?_ (stepL_emb (o := 6) i 6 (by decide) inb_S8x512x1_S1x512x1_6_0_0 x0 x1 xs0 xs1 x)
    refine congrFun (?_ : _ = oneL i (laneOf 6 x0) (laneOf 6 x1) (colOf 6 xs0) (colOf 6 xs1)) x
    refine Eq.trans (b := oneL i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg7.view (Rect.unit (s := S8x512x1) ![6, 0, 0] S1x512x1.size inb_S8x512x1_S1x512x1_6_0_0).toLoadRect (harg7.unread xs0)) (View.readAt (Elt F) arg8.view (Rect.unit (s := S8x512x1) ![6, 0, 0] S1x512x1.size inb_S8x512x1_S1x512x1_6_0_0).toLoadRect (harg8.unread xs1))) ?_ ?_
    · rfl
    · exact oneL_congr i (load_lane (o := 768) 6 (by decide) harg3 x0 _) (load_lane (o := 768) 6 (by decide) harg4 x1 _) (load_slab (o := 6) 6 (by decide) harg7 xs0 _) (load_slab (o := 6) 6 (by decide) harg8 xs1 _)
  refine List.forall_mem_cons.mpr ⟨fun x => ?_, ?_⟩
  · refine Eq.trans ?_ (stepL_emb (o := 5) i 5 (by decide) inb_S8x512x1_S1x512x1_5_0_0 x0 x1 xs0 xs1 x)
    refine congrFun (?_ : _ = oneL i (laneOf 5 x0) (laneOf 5 x1) (colOf 5 xs0) (colOf 5 xs1)) x
    refine Eq.trans (b := oneL i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg7.view (Rect.unit (s := S8x512x1) ![5, 0, 0] S1x512x1.size inb_S8x512x1_S1x512x1_5_0_0).toLoadRect (harg7.unread xs0)) (View.readAt (Elt F) arg8.view (Rect.unit (s := S8x512x1) ![5, 0, 0] S1x512x1.size inb_S8x512x1_S1x512x1_5_0_0).toLoadRect (harg8.unread xs1))) ?_ ?_
    · rfl
    · exact oneL_congr i (load_lane (o := 640) 5 (by decide) harg3 x0 _) (load_lane (o := 640) 5 (by decide) harg4 x1 _) (load_slab (o := 5) 5 (by decide) harg7 xs0 _) (load_slab (o := 5) 5 (by decide) harg8 xs1 _)
  refine List.forall_mem_cons.mpr ⟨fun x => ?_, ?_⟩
  · refine Eq.trans ?_ (stepL_emb (o := 4) i 4 (by decide) inb_S8x512x1_S1x512x1_4_0_0 x0 x1 xs0 xs1 x)
    refine congrFun (?_ : _ = oneL i (laneOf 4 x0) (laneOf 4 x1) (colOf 4 xs0) (colOf 4 xs1)) x
    refine Eq.trans (b := oneL i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg7.view (Rect.unit (s := S8x512x1) ![4, 0, 0] S1x512x1.size inb_S8x512x1_S1x512x1_4_0_0).toLoadRect (harg7.unread xs0)) (View.readAt (Elt F) arg8.view (Rect.unit (s := S8x512x1) ![4, 0, 0] S1x512x1.size inb_S8x512x1_S1x512x1_4_0_0).toLoadRect (harg8.unread xs1))) ?_ ?_
    · rfl
    · exact oneL_congr i (load_lane (o := 512) 4 (by decide) harg3 x0 _) (load_lane (o := 512) 4 (by decide) harg4 x1 _) (load_slab (o := 4) 4 (by decide) harg7 xs0 _) (load_slab (o := 4) 4 (by decide) harg8 xs1 _)
  refine List.forall_mem_cons.mpr ⟨fun x => ?_, ?_⟩
  · refine Eq.trans ?_ (stepL_emb (o := 3) i 3 (by decide) inb_S8x512x1_S1x512x1_3_0_0 x0 x1 xs0 xs1 x)
    refine congrFun (?_ : _ = oneL i (laneOf 3 x0) (laneOf 3 x1) (colOf 3 xs0) (colOf 3 xs1)) x
    refine Eq.trans (b := oneL i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg7.view (Rect.unit (s := S8x512x1) ![3, 0, 0] S1x512x1.size inb_S8x512x1_S1x512x1_3_0_0).toLoadRect (harg7.unread xs0)) (View.readAt (Elt F) arg8.view (Rect.unit (s := S8x512x1) ![3, 0, 0] S1x512x1.size inb_S8x512x1_S1x512x1_3_0_0).toLoadRect (harg8.unread xs1))) ?_ ?_
    · rfl
    · exact oneL_congr i (load_lane (o := 384) 3 (by decide) harg3 x0 _) (load_lane (o := 384) 3 (by decide) harg4 x1 _) (load_slab (o := 3) 3 (by decide) harg7 xs0 _) (load_slab (o := 3) 3 (by decide) harg8 xs1 _)
  refine List.forall_mem_cons.mpr ⟨fun x => ?_, ?_⟩
  · refine Eq.trans ?_ (stepL_emb (o := 2) i 2 (by decide) inb_S8x512x1_S1x512x1_2_0_0 x0 x1 xs0 xs1 x)
    refine congrFun (?_ : _ = oneL i (laneOf 2 x0) (laneOf 2 x1) (colOf 2 xs0) (colOf 2 xs1)) x
    refine Eq.trans (b := oneL i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg7.view (Rect.unit (s := S8x512x1) ![2, 0, 0] S1x512x1.size inb_S8x512x1_S1x512x1_2_0_0).toLoadRect (harg7.unread xs0)) (View.readAt (Elt F) arg8.view (Rect.unit (s := S8x512x1) ![2, 0, 0] S1x512x1.size inb_S8x512x1_S1x512x1_2_0_0).toLoadRect (harg8.unread xs1))) ?_ ?_
    · rfl
    · exact oneL_congr i (load_lane (o := 256) 2 (by decide) harg3 x0 _) (load_lane (o := 256) 2 (by decide) harg4 x1 _) (load_slab (o := 2) 2 (by decide) harg7 xs0 _) (load_slab (o := 2) 2 (by decide) harg8 xs1 _)
  refine List.forall_mem_cons.mpr ⟨fun x => ?_, ?_⟩
  · refine Eq.trans ?_ (stepL_emb (o := 1) i 1 (by decide) inb_S8x512x1_S1x512x1_1_0_0 x0 x1 xs0 xs1 x)
    refine congrFun (?_ : _ = oneL i (laneOf 1 x0) (laneOf 1 x1) (colOf 1 xs0) (colOf 1 xs1)) x
    refine Eq.trans (b := oneL i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg7.view (Rect.unit (s := S8x512x1) ![1, 0, 0] S1x512x1.size inb_S8x512x1_S1x512x1_1_0_0).toLoadRect (harg7.unread xs0)) (View.readAt (Elt F) arg8.view (Rect.unit (s := S8x512x1) ![1, 0, 0] S1x512x1.size inb_S8x512x1_S1x512x1_1_0_0).toLoadRect (harg8.unread xs1))) ?_ ?_
    · rfl
    · exact oneL_congr i (load_lane (o := 128) 1 (by decide) harg3 x0 _) (load_lane (o := 128) 1 (by decide) harg4 x1 _) (load_slab (o := 1) 1 (by decide) harg7 xs0 _) (load_slab (o := 1) 1 (by decide) harg8 xs1 _)
  refine List.forall_mem_cons.mpr ⟨fun x => ?_, ?_⟩
  · refine Eq.trans ?_ (stepL_emb (o := 0) i 0 (by decide) inb_S8x512x1_S1x512x1_0_0_0 x0 x1 xs0 xs1 x)
    refine congrFun (?_ : _ = oneL i (laneOf 0 x0) (laneOf 0 x1) (colOf 0 xs0) (colOf 0 xs1)) x
    refine Eq.trans (b := oneL i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg7.view (Rect.unit (s := S8x512x1) ![0, 0, 0] S1x512x1.size inb_S8x512x1_S1x512x1_0_0_0).toLoadRect (harg7.unread xs0)) (View.readAt (Elt F) arg8.view (Rect.unit (s := S8x512x1) ![0, 0, 0] S1x512x1.size inb_S8x512x1_S1x512x1_0_0_0).toLoadRect (harg8.unread xs1))) ?_ ?_
    · rfl
    · exact oneL_congr i (load_lane (o := 0) 0 (by decide) harg3 x0 _) (load_lane (o := 0) 0 (by decide) harg4 x1 _) (load_slab (o := 0) 0 (by decide) harg7 xs0 _) (load_slab (o := 0) 0 (by decide) harg8 xs1 _)
  exact fun p hp => absurd hp List.not_mem_nil

set_option maxHeartbeats 1000000 in
/-- The running weighted values after the stores. -/
theorem readD_A (hc0 : ¬firstBlock i) (hc1 : pastBlock i) (hc2 : lastBlock i) (f : arg9.view.ty.Contents (Elt F)) :
    arg9.view.read (Elt F) (arg9.view.writes (Elt F) f (runD c i arg3 harg3 arg4 harg4 arg5 harg5 arg6 harg6 arg7 harg7 arg8 harg8 arg9 harg9 hc0 hc1 hc2 x0 x1 x2 xs0 xs1 xs2).2.2.2.1) = stepA i x0 x1 x2 xs0 xs2 := by
  funext y
  refine View.read_writes_apply_of_pieces arg9.view f (stepA i x0 x1 x2 xs0 xs2) _ ?_ y
    (View.cover_of_tiledL (runD c i arg3 harg3 arg4 harg4 arg5 harg5 arg6 harg6 arg7 harg7 arg8 harg8 arg9 harg9 hc0 hc1 hc2 x0 x1 x2 xs0 xs1 xs2).2.2.2.1 S1x512x128.size (by sl_kernel_rfl) y)
  refine List.forall_mem_cons.mpr ⟨fun x => ?_, ?_⟩
  · refine Eq.trans ?_ (stepA_emb (o := 7) i 7 (by decide) inb_S8x512x128_S1x512x128_7_0_0 x0 x1 x2 xs0 xs2 x)
    refine congrFun (?_ : _ = oneA i (laneOf 7 x0) (laneOf 7 x1) (pairOf 7 x2) (colOf 7 xs0) (slabOf 7 xs2)) x
    refine Eq.trans (b := oneA i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg5.view (Rect.unit (s := S1x512x512) ![0, 0, 384] S1x512x128.size inb_S1x512x512_S1x512x128_0_0_384).toLoadRect (harg5.unread x2)) (View.readAt (Elt F) arg7.view (Rect.unit (s := S8x512x1) ![7, 0, 0] S1x512x1.size inb_S8x512x1_S1x512x1_7_0_0).toLoadRect (harg7.unread xs0)) (View.readAt (Elt F) arg9.view (Rect.unit (s := S8x512x128) ![7, 0, 0] S1x512x128.size inb_S8x512x128_S1x512x128_7_0_0).toLoadRect (harg9.unread xs2))) ?_ ?_
    · rfl
    · exact oneA_congr i (load_lane (o := 896) 7 (by decide) harg3 x0 _) (load_lane (o := 896) 7 (by decide) harg4 x1 _) (load_pair (o := 384) 7 (by decide) harg5 x2 _) (load_slab (o := 7) 7 (by decide) harg7 xs0 _) (load_slab (o := 7) 7 (by decide) harg9 xs2 _)
  refine List.forall_mem_cons.mpr ⟨fun x => ?_, ?_⟩
  · refine Eq.trans ?_ (stepA_emb (o := 6) i 6 (by decide) inb_S8x512x128_S1x512x128_6_0_0 x0 x1 x2 xs0 xs2 x)
    refine congrFun (?_ : _ = oneA i (laneOf 6 x0) (laneOf 6 x1) (pairOf 6 x2) (colOf 6 xs0) (slabOf 6 xs2)) x
    refine Eq.trans (b := oneA i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg5.view (Rect.unit (s := S1x512x512) ![0, 0, 384] S1x512x128.size inb_S1x512x512_S1x512x128_0_0_384).toLoadRect (harg5.unread x2)) (View.readAt (Elt F) arg7.view (Rect.unit (s := S8x512x1) ![6, 0, 0] S1x512x1.size inb_S8x512x1_S1x512x1_6_0_0).toLoadRect (harg7.unread xs0)) (View.readAt (Elt F) arg9.view (Rect.unit (s := S8x512x128) ![6, 0, 0] S1x512x128.size inb_S8x512x128_S1x512x128_6_0_0).toLoadRect (harg9.unread xs2))) ?_ ?_
    · rfl
    · exact oneA_congr i (load_lane (o := 768) 6 (by decide) harg3 x0 _) (load_lane (o := 768) 6 (by decide) harg4 x1 _) (load_pair (o := 384) 6 (by decide) harg5 x2 _) (load_slab (o := 6) 6 (by decide) harg7 xs0 _) (load_slab (o := 6) 6 (by decide) harg9 xs2 _)
  refine List.forall_mem_cons.mpr ⟨fun x => ?_, ?_⟩
  · refine Eq.trans ?_ (stepA_emb (o := 5) i 5 (by decide) inb_S8x512x128_S1x512x128_5_0_0 x0 x1 x2 xs0 xs2 x)
    refine congrFun (?_ : _ = oneA i (laneOf 5 x0) (laneOf 5 x1) (pairOf 5 x2) (colOf 5 xs0) (slabOf 5 xs2)) x
    refine Eq.trans (b := oneA i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg5.view (Rect.unit (s := S1x512x512) ![0, 0, 256] S1x512x128.size inb_S1x512x512_S1x512x128_0_0_256).toLoadRect (harg5.unread x2)) (View.readAt (Elt F) arg7.view (Rect.unit (s := S8x512x1) ![5, 0, 0] S1x512x1.size inb_S8x512x1_S1x512x1_5_0_0).toLoadRect (harg7.unread xs0)) (View.readAt (Elt F) arg9.view (Rect.unit (s := S8x512x128) ![5, 0, 0] S1x512x128.size inb_S8x512x128_S1x512x128_5_0_0).toLoadRect (harg9.unread xs2))) ?_ ?_
    · rfl
    · exact oneA_congr i (load_lane (o := 640) 5 (by decide) harg3 x0 _) (load_lane (o := 640) 5 (by decide) harg4 x1 _) (load_pair (o := 256) 5 (by decide) harg5 x2 _) (load_slab (o := 5) 5 (by decide) harg7 xs0 _) (load_slab (o := 5) 5 (by decide) harg9 xs2 _)
  refine List.forall_mem_cons.mpr ⟨fun x => ?_, ?_⟩
  · refine Eq.trans ?_ (stepA_emb (o := 4) i 4 (by decide) inb_S8x512x128_S1x512x128_4_0_0 x0 x1 x2 xs0 xs2 x)
    refine congrFun (?_ : _ = oneA i (laneOf 4 x0) (laneOf 4 x1) (pairOf 4 x2) (colOf 4 xs0) (slabOf 4 xs2)) x
    refine Eq.trans (b := oneA i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg5.view (Rect.unit (s := S1x512x512) ![0, 0, 256] S1x512x128.size inb_S1x512x512_S1x512x128_0_0_256).toLoadRect (harg5.unread x2)) (View.readAt (Elt F) arg7.view (Rect.unit (s := S8x512x1) ![4, 0, 0] S1x512x1.size inb_S8x512x1_S1x512x1_4_0_0).toLoadRect (harg7.unread xs0)) (View.readAt (Elt F) arg9.view (Rect.unit (s := S8x512x128) ![4, 0, 0] S1x512x128.size inb_S8x512x128_S1x512x128_4_0_0).toLoadRect (harg9.unread xs2))) ?_ ?_
    · rfl
    · exact oneA_congr i (load_lane (o := 512) 4 (by decide) harg3 x0 _) (load_lane (o := 512) 4 (by decide) harg4 x1 _) (load_pair (o := 256) 4 (by decide) harg5 x2 _) (load_slab (o := 4) 4 (by decide) harg7 xs0 _) (load_slab (o := 4) 4 (by decide) harg9 xs2 _)
  refine List.forall_mem_cons.mpr ⟨fun x => ?_, ?_⟩
  · refine Eq.trans ?_ (stepA_emb (o := 3) i 3 (by decide) inb_S8x512x128_S1x512x128_3_0_0 x0 x1 x2 xs0 xs2 x)
    refine congrFun (?_ : _ = oneA i (laneOf 3 x0) (laneOf 3 x1) (pairOf 3 x2) (colOf 3 xs0) (slabOf 3 xs2)) x
    refine Eq.trans (b := oneA i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg5.view (Rect.unit (s := S1x512x512) ![0, 0, 128] S1x512x128.size inb_S1x512x512_S1x512x128_0_0_128).toLoadRect (harg5.unread x2)) (View.readAt (Elt F) arg7.view (Rect.unit (s := S8x512x1) ![3, 0, 0] S1x512x1.size inb_S8x512x1_S1x512x1_3_0_0).toLoadRect (harg7.unread xs0)) (View.readAt (Elt F) arg9.view (Rect.unit (s := S8x512x128) ![3, 0, 0] S1x512x128.size inb_S8x512x128_S1x512x128_3_0_0).toLoadRect (harg9.unread xs2))) ?_ ?_
    · rfl
    · exact oneA_congr i (load_lane (o := 384) 3 (by decide) harg3 x0 _) (load_lane (o := 384) 3 (by decide) harg4 x1 _) (load_pair (o := 128) 3 (by decide) harg5 x2 _) (load_slab (o := 3) 3 (by decide) harg7 xs0 _) (load_slab (o := 3) 3 (by decide) harg9 xs2 _)
  refine List.forall_mem_cons.mpr ⟨fun x => ?_, ?_⟩
  · refine Eq.trans ?_ (stepA_emb (o := 2) i 2 (by decide) inb_S8x512x128_S1x512x128_2_0_0 x0 x1 x2 xs0 xs2 x)
    refine congrFun (?_ : _ = oneA i (laneOf 2 x0) (laneOf 2 x1) (pairOf 2 x2) (colOf 2 xs0) (slabOf 2 xs2)) x
    refine Eq.trans (b := oneA i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg5.view (Rect.unit (s := S1x512x512) ![0, 0, 128] S1x512x128.size inb_S1x512x512_S1x512x128_0_0_128).toLoadRect (harg5.unread x2)) (View.readAt (Elt F) arg7.view (Rect.unit (s := S8x512x1) ![2, 0, 0] S1x512x1.size inb_S8x512x1_S1x512x1_2_0_0).toLoadRect (harg7.unread xs0)) (View.readAt (Elt F) arg9.view (Rect.unit (s := S8x512x128) ![2, 0, 0] S1x512x128.size inb_S8x512x128_S1x512x128_2_0_0).toLoadRect (harg9.unread xs2))) ?_ ?_
    · rfl
    · exact oneA_congr i (load_lane (o := 256) 2 (by decide) harg3 x0 _) (load_lane (o := 256) 2 (by decide) harg4 x1 _) (load_pair (o := 128) 2 (by decide) harg5 x2 _) (load_slab (o := 2) 2 (by decide) harg7 xs0 _) (load_slab (o := 2) 2 (by decide) harg9 xs2 _)
  refine List.forall_mem_cons.mpr ⟨fun x => ?_, ?_⟩
  · refine Eq.trans ?_ (stepA_emb (o := 1) i 1 (by decide) inb_S8x512x128_S1x512x128_1_0_0 x0 x1 x2 xs0 xs2 x)
    refine congrFun (?_ : _ = oneA i (laneOf 1 x0) (laneOf 1 x1) (pairOf 1 x2) (colOf 1 xs0) (slabOf 1 xs2)) x
    refine Eq.trans (b := oneA i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg5.view (Rect.unit (s := S1x512x512) ![0, 0, 0] S1x512x128.size inb_S1x512x512_S1x512x128_0_0_0).toLoadRect (harg5.unread x2)) (View.readAt (Elt F) arg7.view (Rect.unit (s := S8x512x1) ![1, 0, 0] S1x512x1.size inb_S8x512x1_S1x512x1_1_0_0).toLoadRect (harg7.unread xs0)) (View.readAt (Elt F) arg9.view (Rect.unit (s := S8x512x128) ![1, 0, 0] S1x512x128.size inb_S8x512x128_S1x512x128_1_0_0).toLoadRect (harg9.unread xs2))) ?_ ?_
    · rfl
    · exact oneA_congr i (load_lane (o := 128) 1 (by decide) harg3 x0 _) (load_lane (o := 128) 1 (by decide) harg4 x1 _) (load_pair (o := 0) 1 (by decide) harg5 x2 _) (load_slab (o := 1) 1 (by decide) harg7 xs0 _) (load_slab (o := 1) 1 (by decide) harg9 xs2 _)
  refine List.forall_mem_cons.mpr ⟨fun x => ?_, ?_⟩
  · refine Eq.trans ?_ (stepA_emb (o := 0) i 0 (by decide) inb_S8x512x128_S1x512x128_0_0_0 x0 x1 x2 xs0 xs2 x)
    refine congrFun (?_ : _ = oneA i (laneOf 0 x0) (laneOf 0 x1) (pairOf 0 x2) (colOf 0 xs0) (slabOf 0 xs2)) x
    refine Eq.trans (b := oneA i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg5.view (Rect.unit (s := S1x512x512) ![0, 0, 0] S1x512x128.size inb_S1x512x512_S1x512x128_0_0_0).toLoadRect (harg5.unread x2)) (View.readAt (Elt F) arg7.view (Rect.unit (s := S8x512x1) ![0, 0, 0] S1x512x1.size inb_S8x512x1_S1x512x1_0_0_0).toLoadRect (harg7.unread xs0)) (View.readAt (Elt F) arg9.view (Rect.unit (s := S8x512x128) ![0, 0, 0] S1x512x128.size inb_S8x512x128_S1x512x128_0_0_0).toLoadRect (harg9.unread xs2))) ?_ ?_
    · rfl
    · exact oneA_congr i (load_lane (o := 0) 0 (by decide) harg3 x0 _) (load_lane (o := 0) 0 (by decide) harg4 x1 _) (load_pair (o := 0) 0 (by decide) harg5 x2 _) (load_slab (o := 0) 0 (by decide) harg7 xs0 _) (load_slab (o := 0) 0 (by decide) harg9 xs2 _)
  exact fun p hp => absurd hp List.not_mem_nil

set_option maxHeartbeats 1000000 in
/-- The result block after the stores. -/
theorem readD_O (hc0 : ¬firstBlock i) (hc1 : pastBlock i) (hc2 : lastBlock i) (f : arg6.view.ty.Contents (Elt F)) :
    arg6.view.read (Elt F) (arg6.view.writes (Elt F) f (runD c i arg3 harg3 arg4 harg4 arg5 harg5 arg6 harg6 arg7 harg7 arg8 harg8 arg9 harg9 hc0 hc1 hc2 x0 x1 x2 xs0 xs1 xs2).2.2.1) = outOf (stepL i x0 x1 xs0 xs1) (stepA i x0 x1 x2 xs0 xs2) := by
  refine (View.read_writes_full arg6.view f _ _ _).trans ?_
  refine Eq.trans (b := outRaw (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![0, 0, 0] S1x512x128.size inb_S8x512x128_S1x512x128_0_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![0, 0, 0] S1x512x1.size inb_S8x512x1_S1x512x1_0_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![1, 0, 0] S1x512x128.size inb_S8x512x128_S1x512x128_1_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![1, 0, 0] S1x512x1.size inb_S8x512x1_S1x512x1_1_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![2, 0, 0] S1x512x128.size inb_S8x512x128_S1x512x128_2_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![2, 0, 0] S1x512x1.size inb_S8x512x1_S1x512x1_2_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![3, 0, 0] S1x512x128.size inb_S8x512x128_S1x512x128_3_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![3, 0, 0] S1x512x1.size inb_S8x512x1_S1x512x1_3_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![4, 0, 0] S1x512x128.size inb_S8x512x128_S1x512x128_4_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![4, 0, 0] S1x512x1.size inb_S8x512x1_S1x512x1_4_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![5, 0, 0] S1x512x128.size inb_S8x512x128_S1x512x128_5_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![5, 0, 0] S1x512x1.size inb_S8x512x1_S1x512x1_5_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![6, 0, 0] S1x512x128.size inb_S8x512x128_S1x512x128_6_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![6, 0, 0] S1x512x1.size inb_S8x512x1_S1x512x1_6_0_0).toLoadRect) (arg9.view.readCov ((runD c i arg3 harg3 arg4 harg4 arg5 harg5 arg6 harg6 arg7 harg7 arg8 harg8 arg9 harg9 hc0 hc1 hc2 x0 x1 x2 xs0 xs1 xs2).2.2.2.1) (Rect.unit (s := S8x512x128) ![7, 0, 0] S1x512x128.size inb_S8x512x128_S1x512x128_7_0_0).toLoadRect) (arg8.view.readCov ((runD c i arg3 harg3 arg4 harg4 arg5 harg5 arg6 harg6 arg7 harg7 arg8 harg8 arg9 harg9 hc0 hc1 hc2 x0 x1 x2 xs0 xs1 xs2).2.1) (Rect.unit (s := S8x512x1) ![7, 0, 0] S1x512x1.size inb_S8x512x1_S1x512x1_7_0_0).toLoadRect)) ?_ ?_
  · rfl
  · exact outRaw_congr (load_agree (V := arg9.view) (o := 0) arg9.view.junk 0 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 0) arg8.view.junk 0 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 1) arg9.view.junk 1 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 1) arg8.view.junk 1 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 2) arg9.view.junk 2 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 2) arg8.view.junk 2 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 3) arg9.view.junk 3 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 3) arg8.view.junk 3 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 4) arg9.view.junk 4 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 4) arg8.view.junk 4 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 5) arg9.view.junk 5 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 5) arg8.view.junk 5 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 6) arg9.view.junk 6 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 6) arg8.view.junk 6 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk)) (load_agree (V := arg9.view) (o := 7) arg9.view.junk 7 (by decide) _ (runD c i arg3 harg3 arg4 harg4 arg5 harg5 arg6 harg6 arg7 harg7 arg8 harg8 arg9 harg9 hc0 hc1 hc2 x0 x1 x2 xs0 xs1 xs2).2.2.2.1 _ (readD_A c i arg3 harg3 arg4 harg4 arg5 harg5 arg6 harg6 arg7 harg7 arg8 harg8 arg9 harg9 x0 x1 x2 xs0 xs1 xs2 hc0 hc1 hc2 arg9.view.junk)) (load_agree (V := arg8.view) (o := 7) arg8.view.junk 7 (by decide) _ (runD c i arg3 harg3 arg4 harg4 arg5 harg5 arg6 harg6 arg7 harg7 arg8 harg8 arg9 harg9 hc0 hc1 hc2 x0 x1 x2 xs0 xs1 xs2).2.1 _ (readD_L c i arg3 harg3 arg4 harg4 arg5 harg5 arg6 harg6 arg7 harg7 arg8 harg8 arg9 harg9 x0 x1 x2 xs0 xs1 xs2 hc0 hc1 hc2 arg8.view.junk))

end Cert.KernelIdeal.Run

end
-- ==== Proof.RunE.lean ====
module

public import proofs.«01_k».proof.Proof.RunD

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body at a later key block that is not the last one: attend. The witness of this definition is what the stores of the body leave in the buffers, as lists of
    rectangles with their contents. -/
noncomputable def runE (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole) (hc0 : ¬firstBlock i) (hc1 : pastBlock i) (hc2 : ¬lastBlock i)
    (x0 : Vec F S1x512x1024 .bf16) (x1 : Vec F S1x512x1024 .bf16) (x2 : Vec F S1x512x512 .bf16) (xs0 : Vec F S8x512x1 .f32) (xs1 : Vec F S8x512x1 .f32) (xs2 : Vec F S8x512x128 .f32) :
    Σ' (LS0 : List (View.Piece (Elt F) S8x512x1 .f32)), Σ' (LS1 : List (View.Piece (Elt F) S8x512x1 .f32)), { LS2 : List (View.Piece (Elt F) S8x512x128 .f32) //
      ∀ (d3 : Vec F S1x512x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare d3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare d3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0_mla_prompt_attn i arg3 harg3 arg4 harg4 arg5 harg5 arg6 harg6 arg7 harg7 arg8 harg8 arg9 harg9) K } := by
  refine ⟨?_, ?_, ?_, fun d3 E K => ?run⟩
  case run =>
    simp only [cc0_mla_prompt_attn_eq_skeleton]; unfold cc0_mla_prompt_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    isplitl [HS0]; · iexists _; iexact HS0
    isplitl [HS1]; · iexists _; iexact HS1
    iexists _; iexact HS2

end Cert.KernelIdeal.Run

end
-- ==== Proof.ReadsE.lean ====
module

public import proofs.«01_k».proof.Proof.RunE
public import proofs.«01_k».proof.Proof.State
public import Idealize.ShloMosaic.Lib.VecWindow

/-! What the stores at a middle key block leave in the scratch: one visit from what it held. -/

@[expose] public section

set_option maxRecDepth 16384

noncomputable section

namespace Cert.KernelIdeal.Run

open Idealize.ShloMosaic Idealize.ShloMosaic.TcCoe Idealize.ShloMosaic.Tactic Idealize.ShloMosaic.ValueIdx
open Cert.KernelIdeal.Gen

variable {F : FTy → Type} [FloatOps F] [Named F]

variable (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S8x512x1 .f32) (harg7 : arg7.IsWhole) (arg8 : Memref sig .tc .vmem S8x512x1 .f32) (harg8 : arg8.IsWhole) (arg9 : Memref sig .tc .vmem S8x512x128 .f32) (harg9 : arg9.IsWhole)
  (x0 x1 : Vec F S1x512x1024 .bf16) (x2 : Vec F S1x512x512 .bf16) (xs0 xs1 : Vec F S8x512x1 .f32) (xs2 : Vec F S8x512x128 .f32)

set_option maxHeartbeats 1000000 in
/-- The running maxima after the stores. -/
theorem readE_M (hc0 : ¬firstBlock i) (hc1 : pastBlock i) (hc2 : ¬lastBlock i) (f : arg7.view.ty.Contents (Elt F)) :
    arg7.view.read (Elt F) (arg7.view.writes (Elt F) f (runE c i arg3 harg3 arg4 harg4 arg5 harg5 arg6 harg6 arg7 harg7 arg8 harg8 arg9 harg9 hc0 hc1 hc2 x0 x1 x2 xs0 xs1 xs2).1) = stepM i x0 x1 xs0 := by
  funext y
  refine View.read_writes_apply_of_pieces arg7.view f (stepM i x0 x1 xs0) _ ?_ y
    (View.cover_of_tiledL (runE c i arg3 harg3 arg4 harg4 arg5 harg5 arg6 harg6 arg7 harg7 arg8 harg8 arg9 harg9 hc0 hc1 hc2 x0 x1 x2 xs0 xs1 xs2).1 S1x512x1.size (by sl_kernel_rfl) y)
  refine List.forall_mem_cons.mpr ⟨fun x => ?_, ?_⟩
  · refine Eq.trans ?_ (stepM_emb (o := 7) i 7 (by decide) inb_S8x512x1_S1x512x1_7_0_0 x0 x1 xs0 x)
    refine congrFun (?_ : _ = oneM i (laneOf 7 x0) (laneOf 7 x1) (colOf 7 xs0)) x
    refine Eq.trans (b := oneM i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg7.view (Rect.unit (s := S8x512x1) ![7, 0, 0] S1x512x1.size inb_S8x512x1_S1x512x1_7_0_0).toLoadRect (harg7.unread xs0))) ?_ ?_
    · rfl
    · exact oneM_congr i (load_lane (o := 896) 7 (by decide) harg3 x0 _) (load_lane (o := 896) 7 (by decide) harg4 x1 _) (load_slab (o := 7) 7 (by decide) harg7 xs0 _)
  refine List.forall_mem_cons.mpr ⟨fun x => ?_, ?_⟩
  · refine Eq.trans ?_ (stepM_emb (o := 6) i 6 (by decide) inb_S8x512x1_S1x512x1_6_0_0 x0 x1 xs0 x)
    refine congrFun (?_ : _ = oneM i (laneOf 6 x0) (laneOf 6 x1) (colOf 6 xs0)) x
    refine Eq.trans (b := oneM i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg7.view (Rect.unit (s := S8x512x1) ![6, 0, 0] S1x512x1.size inb_S8x512x1_S1x512x1_6_0_0).toLoadRect (harg7.unread xs0))) ?_ ?_
    · rfl
    · exact oneM_congr i (load_lane (o := 768) 6 (by decide) harg3 x0 _) (load_lane (o := 768) 6 (by decide) harg4 x1 _) (load_slab (o := 6) 6 (by decide) harg7 xs0 _)
  refine List.forall_mem_cons.mpr ⟨fun x => ?_, ?_⟩
  · refine Eq.trans ?_ (stepM_emb (o := 5) i 5 (by decide) inb_S8x512x1_S1x512x1_5_0_0 x0 x1 xs0 x)
    refine congrFun (?_ : _ = oneM i (laneOf 5 x0) (laneOf 5 x1) (colOf 5 xs0)) x
    refine Eq.trans (b := oneM i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg7.view (Rect.unit (s := S8x512x1) ![5, 0, 0] S1x512x1.size inb_S8x512x1_S1x512x1_5_0_0).toLoadRect (harg7.unread xs0))) ?_ ?_
    · rfl
    · exact oneM_congr i (load_lane (o := 640) 5 (by decide) harg3 x0 _) (load_lane (o := 640) 5 (by decide) harg4 x1 _) (load_slab (o := 5) 5 (by decide) harg7 xs0 _)
  refine List.forall_mem_cons.mpr ⟨fun x => ?_, ?_⟩
  · refine Eq.trans ?_ (stepM_emb (o := 4) i 4 (by decide) inb_S8x512x1_S1x512x1_4_0_0 x0 x1 xs0 x)
    refine congrFun (?_ : _ = oneM i (laneOf 4 x0) (laneOf 4 x1) (colOf 4 xs0)) x
    refine Eq.trans (b := oneM i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg7.view (Rect.unit (s := S8x512x1) ![4, 0, 0] S1x512x1.size inb_S8x512x1_S1x512x1_4_0_0).toLoadRect (harg7.unread xs0))) ?_ ?_
    · rfl
    · exact oneM_congr i (load_lane (o := 512) 4 (by decide) harg3 x0 _) (load_lane (o := 512) 4 (by decide) harg4 x1 _) (load_slab (o := 4) 4 (by decide) harg7 xs0 _)
  refine List.forall_mem_cons.mpr ⟨fun x => ?_, ?_⟩
  · refine Eq.trans ?_ (stepM_emb (o := 3) i 3 (by decide) inb_S8x512x1_S1x512x1_3_0_0 x0 x1 xs0 x)
    refine congrFun (?_ : _ = oneM i (laneOf 3 x0) (laneOf 3 x1) (colOf 3 xs0)) x
    refine Eq.trans (b := oneM i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg7.view (Rect.unit (s := S8x512x1) ![3, 0, 0] S1x512x1.size inb_S8x512x1_S1x512x1_3_0_0).toLoadRect (harg7.unread xs0))) ?_ ?_
    · rfl
    · exact oneM_congr i (load_lane (o := 384) 3 (by decide) harg3 x0 _) (load_lane (o := 384) 3 (by decide) harg4 x1 _) (load_slab (o := 3) 3 (by decide) harg7 xs0 _)
  refine List.forall_mem_cons.mpr ⟨fun x => ?_, ?_⟩
  · refine Eq.trans ?_ (stepM_emb (o := 2) i 2 (by decide) inb_S8x512x1_S1x512x1_2_0_0 x0 x1 xs0 x)
    refine congrFun (?_ : _ = oneM i (laneOf 2 x0) (laneOf 2 x1) (colOf 2 xs0)) x
    refine Eq.trans (b := oneM i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg7.view (Rect.unit (s := S8x512x1) ![2, 0, 0] S1x512x1.size inb_S8x512x1_S1x512x1_2_0_0).toLoadRect (harg7.unread xs0))) ?_ ?_
    · rfl
    · exact oneM_congr i (load_lane (o := 256) 2 (by decide) harg3 x0 _) (load_lane (o := 256) 2 (by decide) harg4 x1 _) (load_slab (o := 2) 2 (by decide) harg7 xs0 _)
  refine List.forall_mem_cons.mpr ⟨fun x => ?_, ?_⟩
  · refine Eq.trans ?_ (stepM_emb (o := 1) i 1 (by decide) inb_S8x512x1_S1x512x1_1_0_0 x0 x1 xs0 x)
    refine congrFun (?_ : _ = oneM i (laneOf 1 x0) (laneOf 1 x1) (colOf 1 xs0)) x
    refine Eq.trans (b := oneM i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg7.view (Rect.unit (s := S8x512x1) ![1, 0, 0] S1x512x1.size inb_S8x512x1_S1x512x1_1_0_0).toLoadRect (harg7.unread xs0))) ?_ ?_
    · rfl
    · exact oneM_congr i (load_lane (o := 128) 1 (by decide) harg3 x0 _) (load_lane (o := 128) 1 (by decide) harg4 x1 _) (load_slab (o := 1) 1 (by decide) harg7 xs0 _)
  refine List.forall_mem_cons.mpr ⟨fun x => ?_, ?_⟩
  · refine Eq.trans ?_ (stepM_emb (o := 0) i 0 (by decide) inb_S8x512x1_S1x512x1_0_0_0 x0 x1 xs0 x)
    refine congrFun (?_ : _ = oneM i (laneOf 0 x0) (laneOf 0 x1) (colOf 0 xs0)) x
    refine Eq.trans (b := oneM i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg7.view (Rect.unit (s := S8x512x1) ![0, 0, 0] S1x512x1.size inb_S8x512x1_S1x512x1_0_0_0).toLoadRect (harg7.unread xs0))) ?_ ?_
    · rfl
    · exact oneM_congr i (load_lane (o := 0) 0 (by decide) harg3 x0 _) (load_lane (o := 0) 0 (by decide) harg4 x1 _) (load_slab (o := 0) 0 (by decide) harg7 xs0 _)
  exact fun p hp => absurd hp List.not_mem_nil

set_option maxHeartbeats 1000000 in
/-- The running sums after the stores. -/
theorem readE_L (hc0 : ¬firstBlock i) (hc1 : pastBlock i) (hc2 : ¬lastBlock i) (f : arg8.view.ty.Contents (Elt F)) :
    arg8.view.read (Elt F) (arg8.view.writes (Elt F) f (runE c i arg3 harg3 arg4 harg4 arg5 harg5 arg6 harg6 arg7 harg7 arg8 harg8 arg9 harg9 hc0 hc1 hc2 x0 x1 x2 xs0 xs1 xs2).2.1) = stepL i x0 x1 xs0 xs1 := by
  funext y
  refine View.read_writes_apply_of_pieces arg8.view f (stepL i x0 x1 xs0 xs1) _ ?_ y
    (View.cover_of_tiledL (runE c i arg3 harg3 arg4 harg4 arg5 harg5 arg6 harg6 arg7 harg7 arg8 harg8 arg9 harg9 hc0 hc1 hc2 x0 x1 x2 xs0 xs1 xs2).2.1 S1x512x1.size (by sl_kernel_rfl) y)
  refine List.forall_mem_cons.mpr ⟨fun x => ?_, ?_⟩
  · refine Eq.trans ?_ (stepL_emb (o := 7) i 7 (by decide) inb_S8x512x1_S1x512x1_7_0_0 x0 x1 xs0 xs1 x)
    refine congrFun (?_ : _ = oneL i (laneOf 7 x0) (laneOf 7 x1) (colOf 7 xs0) (colOf 7 xs1)) x
    refine Eq.trans (b := oneL i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg7.view (Rect.unit (s := S8x512x1) ![7, 0, 0] S1x512x1.size inb_S8x512x1_S1x512x1_7_0_0).toLoadRect (harg7.unread xs0)) (View.readAt (Elt F) arg8.view (Rect.unit (s := S8x512x1) ![7, 0, 0] S1x512x1.size inb_S8x512x1_S1x512x1_7_0_0).toLoadRect (harg8.unread xs1))) ?_ ?_
    · rfl
    · exact oneL_congr i (load_lane (o := 896) 7 (by decide) harg3 x0 _) (load_lane (o := 896) 7 (by decide) harg4 x1 _) (load_slab (o := 7) 7 (by decide) harg7 xs0 _) (load_slab (o := 7) 7 (by decide) harg8 xs1 _)
  refine List.forall_mem_cons.mpr ⟨fun x => ?_, ?_⟩
  · refine Eq.trans ?_ (stepL_emb (o := 6) i 6 (by decide) inb_S8x512x1_S1x512x1_6_0_0 x0 x1 xs0 xs1 x)
    refine congrFun (?_ : _ = oneL i (laneOf 6 x0) (laneOf 6 x1) (colOf 6 xs0) (colOf 6 xs1)) x
    refine Eq.trans (b := oneL i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg7.view (Rect.unit (s := S8x512x1) ![6, 0, 0] S1x512x1.size inb_S8x512x1_S1x512x1_6_0_0).toLoadRect (harg7.unread xs0)) (View.readAt (Elt F) arg8.view (Rect.unit (s := S8x512x1) ![6, 0, 0] S1x512x1.size inb_S8x512x1_S1x512x1_6_0_0).toLoadRect (harg8.unread xs1))) ?_ ?_
    · rfl
    · exact oneL_congr i (load_lane (o := 768) 6 (by decide) harg3 x0 _) (load_lane (o := 768) 6 (by decide) harg4 x1 _) (load_slab (o := 6) 6 (by decide) harg7 xs0 _) (load_slab (o := 6) 6 (by decide) harg8 xs1 _)
  refine List.forall_mem_cons.mpr ⟨fun x => ?_, ?_⟩
  · refine Eq.trans ?_ (stepL_emb (o := 5) i 5 (by decide) inb_S8x512x1_S1x512x1_5_0_0 x0 x1 xs0 xs1 x)
    refine congrFun (?_ : _ = oneL i (laneOf 5 x0) (laneOf 5 x1) (colOf 5 xs0) (colOf 5 xs1)) x
    refine Eq.trans (b := oneL i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg7.view (Rect.unit (s := S8x512x1) ![5, 0, 0] S1x512x1.size inb_S8x512x1_S1x512x1_5_0_0).toLoadRect (harg7.unread xs0)) (View.readAt (Elt F) arg8.view (Rect.unit (s := S8x512x1) ![5, 0, 0] S1x512x1.size inb_S8x512x1_S1x512x1_5_0_0).toLoadRect (harg8.unread xs1))) ?_ ?_
    · rfl
    · exact oneL_congr i (load_lane (o := 640) 5 (by decide) harg3 x0 _) (load_lane (o := 640) 5 (by decide) harg4 x1 _) (load_slab (o := 5) 5 (by decide) harg7 xs0 _) (load_slab (o := 5) 5 (by decide) harg8 xs1 _)
  refine List.forall_mem_cons.mpr ⟨fun x => ?_, ?_⟩
  · refine Eq.trans ?_ (stepL_emb (o := 4) i 4 (by decide) inb_S8x512x1_S1x512x1_4_0_0 x0 x1 xs0 xs1 x)
    refine congrFun (?_ : _ = oneL i (laneOf 4 x0) (laneOf 4 x1) (colOf 4 xs0) (colOf 4 xs1)) x
    refine Eq.trans (b := oneL i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg7.view (Rect.unit (s := S8x512x1) ![4, 0, 0] S1x512x1.size inb_S8x512x1_S1x512x1_4_0_0).toLoadRect (harg7.unread xs0)) (View.readAt (Elt F) arg8.view (Rect.unit (s := S8x512x1) ![4, 0, 0] S1x512x1.size inb_S8x512x1_S1x512x1_4_0_0).toLoadRect (harg8.unread xs1))) ?_ ?_
    · rfl
    · exact oneL_congr i (load_lane (o := 512) 4 (by decide) harg3 x0 _) (load_lane (o := 512) 4 (by decide) harg4 x1 _) (load_slab (o := 4) 4 (by decide) harg7 xs0 _) (load_slab (o := 4) 4 (by decide) harg8 xs1 _)
  refine List.forall_mem_cons.mpr ⟨fun x => ?_, ?_⟩
  · refine Eq.trans ?_ (stepL_emb (o := 3) i 3 (by decide) inb_S8x512x1_S1x512x1_3_0_0 x0 x1 xs0 xs1 x)
    refine congrFun (?_ : _ = oneL i (laneOf 3 x0) (laneOf 3 x1) (colOf 3 xs0) (colOf 3 xs1)) x
    refine Eq.trans (b := oneL i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg7.view (Rect.unit (s := S8x512x1) ![3, 0, 0] S1x512x1.size inb_S8x512x1_S1x512x1_3_0_0).toLoadRect (harg7.unread xs0)) (View.readAt (Elt F) arg8.view (Rect.unit (s := S8x512x1) ![3, 0, 0] S1x512x1.size inb_S8x512x1_S1x512x1_3_0_0).toLoadRect (harg8.unread xs1))) ?_ ?_
    · rfl
    · exact oneL_congr i (load_lane (o := 384) 3 (by decide) harg3 x0 _) (load_lane (o := 384) 3 (by decide) harg4 x1 _) (load_slab (o := 3) 3 (by decide) harg7 xs0 _) (load_slab (o := 3) 3 (by decide) harg8 xs1 _)
  refine List.forall_mem_cons.mpr ⟨fun x => ?_, ?_⟩
  · refine Eq.trans ?_ (stepL_emb (o := 2) i 2 (by decide) inb_S8x512x1_S1x512x1_2_0_0 x0 x1 xs0 xs1 x)
    refine congrFun (?_ : _ = oneL i (laneOf 2 x0) (laneOf 2 x1) (colOf 2 xs0) (colOf 2 xs1)) x
    refine Eq.trans (b := oneL i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg7.view (Rect.unit (s := S8x512x1) ![2, 0, 0] S1x512x1.size inb_S8x512x1_S1x512x1_2_0_0).toLoadRect (harg7.unread xs0)) (View.readAt (Elt F) arg8.view (Rect.unit (s := S8x512x1) ![2, 0, 0] S1x512x1.size inb_S8x512x1_S1x512x1_2_0_0).toLoadRect (harg8.unread xs1))) ?_ ?_
    · rfl
    · exact oneL_congr i (load_lane (o := 256) 2 (by decide) harg3 x0 _) (load_lane (o := 256) 2 (by decide) harg4 x1 _) (load_slab (o := 2) 2 (by decide) harg7 xs0 _) (load_slab (o := 2) 2 (by decide) harg8 xs1 _)
  refine List.forall_mem_cons.mpr ⟨fun x => ?_, ?_⟩
  · refine Eq.trans ?_ (stepL_emb (o := 1) i 1 (by decide) inb_S8x512x1_S1x512x1_1_0_0 x0 x1 xs0 xs1 x)
    refine congrFun (?_ : _ = oneL i (laneOf 1 x0) (laneOf 1 x1) (colOf 1 xs0) (colOf 1 xs1)) x
    refine Eq.trans (b := oneL i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg7.view (Rect.unit (s := S8x512x1) ![1, 0, 0] S1x512x1.size inb_S8x512x1_S1x512x1_1_0_0).toLoadRect (harg7.unread xs0)) (View.readAt (Elt F) arg8.view (Rect.unit (s := S8x512x1) ![1, 0, 0] S1x512x1.size inb_S8x512x1_S1x512x1_1_0_0).toLoadRect (harg8.unread xs1))) ?_ ?_
    · rfl
    · exact oneL_congr i (load_lane (o := 128) 1 (by decide) harg3 x0 _) (load_lane (o := 128) 1 (by decide) harg4 x1 _) (load_slab (o := 1) 1 (by decide) harg7 xs0 _) (load_slab (o := 1) 1 (by decide) harg8 xs1 _)
  refine List.forall_mem_cons.mpr ⟨fun x => ?_, ?_⟩
  · refine Eq.trans ?_ (stepL_emb (o := 0) i 0 (by decide) inb_S8x512x1_S1x512x1_0_0_0 x0 x1 xs0 xs1 x)
    refine congrFun (?_ : _ = oneL i (laneOf 0 x0) (laneOf 0 x1) (colOf 0 xs0) (colOf 0 xs1)) x
    refine Eq.trans (b := oneL i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg7.view (Rect.unit (s := S8x512x1) ![0, 0, 0] S1x512x1.size inb_S8x512x1_S1x512x1_0_0_0).toLoadRect (harg7.unread xs0)) (View.readAt (Elt F) arg8.view (Rect.unit (s := S8x512x1) ![0, 0, 0] S1x512x1.size inb_S8x512x1_S1x512x1_0_0_0).toLoadRect (harg8.unread xs1))) ?_ ?_
    · rfl
    · exact oneL_congr i (load_lane (o := 0) 0 (by decide) harg3 x0 _) (load_lane (o := 0) 0 (by decide) harg4 x1 _) (load_slab (o := 0) 0 (by decide) harg7 xs0 _) (load_slab (o := 0) 0 (by decide) harg8 xs1 _)
  exact fun p hp => absurd hp List.not_mem_nil

set_option maxHeartbeats 1000000 in
/-- The running weighted values after the stores. -/
theorem readE_A (hc0 : ¬firstBlock i) (hc1 : pastBlock i) (hc2 : ¬lastBlock i) (f : arg9.view.ty.Contents (Elt F)) :
    arg9.view.read (Elt F) (arg9.view.writes (Elt F) f (runE c i arg3 harg3 arg4 harg4 arg5 harg5 arg6 harg6 arg7 harg7 arg8 harg8 arg9 harg9 hc0 hc1 hc2 x0 x1 x2 xs0 xs1 xs2).2.2.1) = stepA i x0 x1 x2 xs0 xs2 := by
  funext y
  refine View.read_writes_apply_of_pieces arg9.view f (stepA i x0 x1 x2 xs0 xs2) _ ?_ y
    (View.cover_of_tiledL (runE c i arg3 harg3 arg4 harg4 arg5 harg5 arg6 harg6 arg7 harg7 arg8 harg8 arg9 harg9 hc0 hc1 hc2 x0 x1 x2 xs0 xs1 xs2).2.2.1 S1x512x128.size (by sl_kernel_rfl) y)
  refine List.forall_mem_cons.mpr ⟨fun x => ?_, ?_⟩
  · refine Eq.trans ?_ (stepA_emb (o := 7) i 7 (by decide) inb_S8x512x128_S1x512x128_7_0_0 x0 x1 x2 xs0 xs2 x)
    refine congrFun (?_ : _ = oneA i (laneOf 7 x0) (laneOf 7 x1) (pairOf 7 x2) (colOf 7 xs0) (slabOf 7 xs2)) x
    refine Eq.trans (b := oneA i (View.readAt (Elt F) arg3.view (Rect.unit (s := S1x512x1024) ![0, 0, 896] S1x512x128.size inb_S1x512x1024_S1x512x128_0_0_896).toLoadRect (harg3.unread x0)) (View.readAt (Elt F) arg4.view (Rect.unit (s := S1x512x1024) ![0, 0, 896] S1x512x128.size inb_S1x512x1024_S1x512x128_0_0_896).toLoadRect (harg4.unread x1)) (View.readAt (Elt F) arg5.view (Rect.unit (s := S1x512x512) ![0, 0, 384] S1x512x128.size inb_S1x512x512_S1x512x128_0_0_384).toLoadRect (harg5.unread x2)) (View.readAt (Elt F) arg7.view (Rect.unit (s := S8x512x1) ![7, 0, 0] S1x512x1.size inb_S8x512x1_S1x512x1_7_0_0).toLoadRect (harg7.unread xs0)) (View.readAt (Elt F) arg9.view (Rect.unit (s := S8x512x128) ![7, 0, 0] S1x512x128.size inb_S8x512x128_S1x512x128_7_0_0).toLoadRect (harg9.unread xs2))) ?_ ?_
    · rfl
    · exact oneA_congr i (load_lane (o := 896) 7 (by decide) harg3 x0 _) (load_lane (o := 896) 7 (by decide) harg4 x1 _) (load_pair (o := 384) 7 (by decide) harg5 x2 _) (load_slab (o := 7) 7 (by decide) harg7 xs0 _) (load_slab (o := 7) 7 (by decide) harg9 xs2 _)
  refine List.forall_mem_cons.mpr ⟨fun x => ?_, ?_⟩
  · refine Eq.trans ?_ (stepA_emb (o := 6) i 6 (by decide) inb_S8x512x128_S1x512x128_6_0_0 x0 x1 x2 xs0 xs2 x)
    refine congrFun (?_ : _ = oneA i (laneOf 6 x0) (laneOf 6 x1) (pairOf 6 x2) (colOf 6 xs0) (slabOf 6 xs2)) x
    refine Eq.trans (b := oneA i (View.readAt (Elt F) arg3.view (Rect.unit (s := S1x512x1024) ![0, 0, 768] S1x512x128.size inb_S1x512x1024_S1x512x128_0_0_768).toLoadRect (harg3.unread x0)) (View.readAt (Elt F) arg4.view (Rect.unit (s := S1x512x1024) ![0, 0, 768] S1x512x128.size inb_S1x512x1024_S1x512x128_0_0_768).toLoadRect (harg4.unread x1)) (View.readAt (Elt F) arg5.view (Rect.unit (s := S1x512x512) ![0, 0, 384] S1x512x128.size inb_S1x512x512_S1x512x128_0_0_384).toLoadRect (harg5.unread x2)) (View.readAt (Elt F) arg7.view (Rect.unit (s := S8x512x1) ![6, 0, 0] S1x512x1.size inb_S8x512x1_S1x512x1_6_0_0).toLoadRect (harg7.unread xs0)) (View.readAt (Elt F) arg9.view (Rect.unit (s := S8x512x128) ![6, 0, 0] S1x512x128.size inb_S8x512x128_S1x512x128_6_0_0).toLoadRect (harg9.unread xs2))) ?_ ?_
    · rfl
    · exact oneA_congr i (load_lane (o := 768) 6 (by decide) harg3 x0 _) (load_lane (o := 768) 6 (by decide) harg4 x1 _) (load_pair (o := 384) 6 (by decide) harg5 x2 _) (load_slab (o := 6) 6 (by decide) harg7 xs0 _) (load_slab (o := 6) 6 (by decide) harg9 xs2 _)
  refine List.forall_mem_cons.mpr ⟨fun x => ?_, ?_⟩
  · refine Eq.trans ?_ (stepA_emb (o := 5) i 5 (by decide) inb_S8x512x128_S1x512x128_5_0_0 x0 x1 x2 xs0 xs2 x)
    refine congrFun (?_ : _ = oneA i (laneOf 5 x0) (laneOf 5 x1) (pairOf 5 x2) (colOf 5 xs0) (slabOf 5 xs2)) x
    refine Eq.trans (b := oneA i (View.readAt (Elt F) arg3.view (Rect.unit (s := S1x512x1024) ![0, 0, 640] S1x512x128.size inb_S1x512x1024_S1x512x128_0_0_640).toLoadRect (harg3.unread x0)) (View.readAt (Elt F) arg4.view (Rect.unit (s := S1x512x1024) ![0, 0, 640] S1x512x128.size inb_S1x512x1024_S1x512x128_0_0_640).toLoadRect (harg4.unread x1)) (View.readAt (Elt F) arg5.view (Rect.unit (s := S1x512x512) ![0, 0, 256] S1x512x128.size inb_S1x512x512_S1x512x128_0_0_256).toLoadRect (harg5.unread x2)) (View.readAt (Elt F) arg7.view (Rect.unit (s := S8x512x1) ![5, 0, 0] S1x512x1.size inb_S8x512x1_S1x512x1_5_0_0).toLoadRect (harg7.unread xs0)) (View.readAt (Elt F) arg9.view (Rect.unit (s := S8x512x128) ![5, 0, 0] S1x512x128.size inb_S8x512x128_S1x512x128_5_0_0).toLoadRect (harg9.unread xs2))) ?_ ?_
    · rfl
    · exact oneA_congr i (load_lane (o := 640) 5 (by decide) harg3 x0 _) (load_lane (o := 640) 5 (by decide) harg4 x1 _) (load_pair (o := 256) 5 (by decide) harg5 x2 _) (load_slab (o := 5) 5 (by decide) harg7 xs0 _) (load_slab (o := 5) 5 (by decide) harg9 xs2 _)
  refine List.forall_mem_cons.mpr ⟨fun x => ?_, ?_⟩
  · refine Eq.trans ?_ (stepA_emb (o := 4) i 4 (by decide) inb_S8x512x128_S1x512x128_4_0_0 x0 x1 x2 xs0 xs2 x)
    refine congrFun (?_ : _ = oneA i (laneOf 4 x0) (laneOf 4 x1) (pairOf 4 x2) (colOf 4 xs0) (slabOf 4 xs2)) x
    refine Eq.trans (b := oneA i (View.readAt (Elt F) arg3.view (Rect.unit (s := S1x512x1024) ![0, 0, 512] S1x512x128.size inb_S1x512x1024_S1x512x128_0_0_512).toLoadRect (harg3.unread x0)) (View.readAt (Elt F) arg4.view (Rect.unit (s := S1x512x1024) ![0, 0, 512] S1x512x128.size inb_S1x512x1024_S1x512x128_0_0_512).toLoadRect (harg4.unread x1)) (View.readAt (Elt F) arg5.view (Rect.unit (s := S1x512x512) ![0, 0, 256] S1x512x128.size inb_S1x512x512_S1x512x128_0_0_256).toLoadRect (harg5.unread x2)) (View.readAt (Elt F) arg7.view (Rect.unit (s := S8x512x1) ![4, 0, 0] S1x512x1.size inb_S8x512x1_S1x512x1_4_0_0).toLoadRect (harg7.unread xs0)) (View.readAt (Elt F) arg9.view (Rect.unit (s := S8x512x128) ![4, 0, 0] S1x512x128.size inb_S8x512x128_S1x512x128_4_0_0).toLoadRect (harg9.unread xs2))) ?_ ?_
    · rfl
    · exact oneA_congr i (load_lane (o := 512) 4 (by decide) harg3 x0 _) (load_lane (o := 512) 4 (by decide) harg4 x1 _) (load_pair (o := 256) 4 (by decide) harg5 x2 _) (load_slab (o := 4) 4 (by decide) harg7 xs0 _) (load_slab (o := 4) 4 (by decide) harg9 xs2 _)
  refine List.forall_mem_cons.mpr ⟨fun x => ?_, ?_⟩
  · refine Eq.trans ?_ (stepA_emb (o := 3) i 3 (by decide) inb_S8x512x128_S1x512x128_3_0_0 x0 x1 x2 xs0 xs2 x)
    refine congrFun (?_ : _ = oneA i (laneOf 3 x0) (laneOf 3 x1) (pairOf 3 x2) (colOf 3 xs0) (slabOf 3 xs2)) x
    refine Eq.trans (b := oneA i (View.readAt (Elt F) arg3.view (Rect.unit (s := S1x512x1024) ![0, 0, 384] S1x512x128.size inb_S1x512x1024_S1x512x128_0_0_384).toLoadRect (harg3.unread x0)) (View.readAt (Elt F) arg4.view (Rect.unit (s := S1x512x1024) ![0, 0, 384] S1x512x128.size inb_S1x512x1024_S1x512x128_0_0_384).toLoadRect (harg4.unread x1)) (View.readAt (Elt F) arg5.view (Rect.unit (s := S1x512x512) ![0, 0, 128] S1x512x128.size inb_S1x512x512_S1x512x128_0_0_128).toLoadRect (harg5.unread x2)) (View.readAt (Elt F) arg7.view (Rect.unit (s := S8x512x1) ![3, 0, 0] S1x512x1.size inb_S8x512x1_S1x512x1_3_0_0).toLoadRect (harg7.unread xs0)) (View.readAt (Elt F) arg9.view (Rect.unit (s := S8x512x128) ![3, 0, 0] S1x512x128.size inb_S8x512x128_S1x512x128_3_0_0).toLoadRect (harg9.unread xs2))) ?_ ?_
    · rfl
    · exact oneA_congr i (load_lane (o := 384) 3 (by decide) harg3 x0 _) (load_lane (o := 384) 3 (by decide) harg4 x1 _) (load_pair (o := 128) 3 (by decide) harg5 x2 _) (load_slab (o := 3) 3 (by decide) harg7 xs0 _) (load_slab (o := 3) 3 (by decide) harg9 xs2 _)
  refine List.forall_mem_cons.mpr ⟨fun x => ?_, ?_⟩
  · refine Eq.trans ?_ (stepA_emb (o := 2) i 2 (by decide) inb_S8x512x128_S1x512x128_2_0_0 x0 x1 x2 xs0 xs2 x)
    refine congrFun (?_ : _ = oneA i (laneOf 2 x0) (laneOf 2 x1) (pairOf 2 x2) (colOf 2 xs0) (slabOf 2 xs2)) x
    refine Eq.trans (b := oneA i (View.readAt (Elt F) arg3.view (Rect.unit (s := S1x512x1024) ![0, 0, 256] S1x512x128.size inb_S1x512x1024_S1x512x128_0_0_256).toLoadRect (harg3.unread x0)) (View.readAt (Elt F) arg4.view (Rect.unit (s := S1x512x1024) ![0, 0, 256] S1x512x128.size inb_S1x512x1024_S1x512x128_0_0_256).toLoadRect (harg4.unread x1)) (View.readAt (Elt F) arg5.view (Rect.unit (s := S1x512x512) ![0, 0, 128] S1x512x128.size inb_S1x512x512_S1x512x128_0_0_128).toLoadRect (harg5.unread x2)) (View.readAt (Elt F) arg7.view (Rect.unit (s := S8x512x1) ![2, 0, 0] S1x512x1.size inb_S8x512x1_S1x512x1_2_0_0).toLoadRect (harg7.unread xs0)) (View.readAt (Elt F) arg9.view (Rect.unit (s := S8x512x128) ![2, 0, 0] S1x512x128.size inb_S8x512x128_S1x512x128_2_0_0).toLoadRect (harg9.unread xs2))) ?_ ?_
    · rfl
    · exact oneA_congr i (load_lane (o := 256) 2 (by decide) harg3 x0 _) (load_lane (o := 256) 2 (by decide) harg4 x1 _) (load_pair (o := 128) 2 (by decide) harg5 x2 _) (load_slab (o := 2) 2 (by decide) harg7 xs0 _) (load_slab (o := 2) 2 (by decide) harg9 xs2 _)
  refine List.forall_mem_cons.mpr ⟨fun x => ?_, ?_⟩
  · refine Eq.trans ?_ (stepA_emb (o := 1) i 1 (by decide) inb_S8x512x128_S1x512x128_1_0_0 x0 x1 x2 xs0 xs2 x)
    refine congrFun (?_ : _ = oneA i (laneOf 1 x0) (laneOf 1 x1) (pairOf 1 x2) (colOf 1 xs0) (slabOf 1 xs2)) x
    refine Eq.trans (b := oneA i (View.readAt (Elt F) arg3.view (Rect.unit (s := S1x512x1024) ![0, 0, 128] S1x512x128.size inb_S1x512x1024_S1x512x128_0_0_128).toLoadRect (harg3.unread x0)) (View.readAt (Elt F) arg4.view (Rect.unit (s := S1x512x1024) ![0, 0, 128] S1x512x128.size inb_S1x512x1024_S1x512x128_0_0_128).toLoadRect (harg4.unread x1)) (View.readAt (Elt F) arg5.view (Rect.unit (s := S1x512x512) ![0, 0, 0] S1x512x128.size inb_S1x512x512_S1x512x128_0_0_0).toLoadRect (harg5.unread x2)) (View.readAt (Elt F) arg7.view (Rect.unit (s := S8x512x1) ![1, 0, 0] S1x512x1.size inb_S8x512x1_S1x512x1_1_0_0).toLoadRect (harg7.unread xs0)) (View.readAt (Elt F) arg9.view (Rect.unit (s := S8x512x128) ![1, 0, 0] S1x512x128.size inb_S8x512x128_S1x512x128_1_0_0).toLoadRect (harg9.unread xs2))) ?_ ?_
    · rfl
    · exact oneA_congr i (load_lane (o := 128) 1 (by decide) harg3 x0 _) (load_lane (o := 128) 1 (by decide) harg4 x1 _) (load_pair (o := 0) 1 (by decide) harg5 x2 _) (load_slab (o := 1) 1 (by decide) harg7 xs0 _) (load_slab (o := 1) 1 (by decide) harg9 xs2 _)
  refine List.forall_mem_cons.mpr ⟨fun x => ?_, ?_⟩
  · refine Eq.trans ?_ (stepA_emb (o := 0) i 0 (by decide) inb_S8x512x128_S1x512x128_0_0_0 x0 x1 x2 xs0 xs2 x)
    refine congrFun (?_ : _ = oneA i (laneOf 0 x0) (laneOf 0 x1) (pairOf 0 x2) (colOf 0 xs0) (slabOf 0 xs2)) x
    refine Eq.trans (b := oneA i (View.readAt (Elt F) arg3.view (Rect.unit (s := S1x512x1024) ![0, 0, 0] S1x512x128.size inb_S1x512x1024_S1x512x128_0_0_0).toLoadRect (harg3.unread x0)) (View.readAt (Elt F) arg4.view (Rect.unit (s := S1x512x1024) ![0, 0, 0] S1x512x128.size inb_S1x512x1024_S1x512x128_0_0_0).toLoadRect (harg4.unread x1)) (View.readAt (Elt F) arg5.view (Rect.unit (s := S1x512x512) ![0, 0, 0] S1x512x128.size inb_S1x512x512_S1x512x128_0_0_0).toLoadRect (harg5.unread x2)) (View.readAt (Elt F) arg7.view (Rect.unit (s := S8x512x1) ![0, 0, 0] S1x512x1.size inb_S8x512x1_S1x512x1_0_0_0).toLoadRect (harg7.unread xs0)) (View.readAt (Elt F) arg9.view (Rect.unit (s := S8x512x128) ![0, 0, 0] S1x512x128.size inb_S8x512x128_S1x512x128_0_0_0).toLoadRect (harg9.unread xs2))) ?_ ?_
    · rfl
    · exact oneA_congr i (load_lane (o := 0) 0 (by decide) harg3 x0 _) (load_lane (o := 0) 0 (by decide) harg4 x1 _) (load_pair (o := 0) 0 (by decide) harg5 x2 _) (load_slab (o := 0) 0 (by decide) harg7 xs0 _) (load_slab (o := 0) 0 (by decide) harg9 xs2 _)
  exact fun p hp => absurd hp List.not_mem_nil

end Cert.KernelIdeal.Run

end
-- ==== Proof.Body.lean ====
module

public import proofs.«01_k».proof.Proof.ReadsA
public import proofs.«01_k».proof.Proof.ReadsC
public import proofs.«01_k».proof.Proof.ReadsD
public import proofs.«01_k».proof.Proof.ReadsE
public import proofs.«01_k».proof.Proof.RunB
public import Idealize.ShloMosaic.Lib.Pipeline.TableIdle
public import Idealize.ShloMosaic.Lib.Claim

/-! The launch: what the scratch and the result block hold after each grid point, the body at every point, and the run of
the whole program to arrays whose contents are named. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## What the scratch holds after each point -/

/-- The scratch: running maxima, running sums, running weighted values. -/
abbrev St (F : FTy → Type) := Vec F S8x512x1 .f32 × Vec F S8x512x1 .f32 × Vec F S8x512x128 .f32

/-- The scratch as the first key block finds it. -/
def st0 : St F := (k0_pay1, k0_pay2, k0_pay3)

/-- One visit of the blocks `x0`, `x1`, `x2` at grid coordinates `i`. -/
def step (i : grid0.Coords) (x0 x1 : Vec F S1x512x1024 .bf16) (x2 : Vec F S1x512x512 .bf16) (s : St F) : St F :=
  (stepM i x0 x1 s.1, stepL i x0 x1 s.1 s.2.1, stepA i x0 x1 x2 s.1 s.2.2)

variable (m : (ℓ : Loc nD τ sig) → Buf (Elt F) ℓ) (ρ : Dev nD → PrngReg)

/-- The point `t` on the scratch `s` as the point finds it: a key block past the queries is skipped. -/
def visit (c : Dev nD) (t : Fin cfg0.N) (s : St F) : St F :=
  if t.val % 4 ≤ t.val / 4 % 4 then step (grid0.coords t) (iblk m c 0 t) (iblk m c 1 t) (iblk m c 2 t) s else s

theorem visit_pos (c : Dev nD) (t : Fin cfg0.N) (s : St F) (h : t.val % 4 ≤ t.val / 4 % 4) :
    visit m c t s = step (grid0.coords t) (iblk m c 0 t) (iblk m c 1 t) (iblk m c 2 t) s := if_pos h

/-- The scratch after the point at position `n`. -/
def stAt (c : Dev nD) : (n : ℕ) → n < cfg0.N → St F
  | 0, hn => visit m c ⟨0, hn⟩ st0
  | n + 1, hn => visit m c ⟨n + 1, hn⟩ (if (n + 1) % 4 = 0 then st0 else stAt c n (Nat.lt_of_succ_lt hn))

/-- The scratch after the point before `t`. -/
abbrev stBefore (c : Dev nD) (t : Fin cfg0.N) : St F := stAt m c (t.val - 1) (Nat.lt_of_le_of_lt (Nat.sub_le _ _) t.isLt)

theorem stAt_first (c : Dev nD) (t : Fin cfg0.N) (h0 : t.val % 4 = 0) :
    stAt m c t.val t.isLt = step (grid0.coords t) (iblk m c 0 t) (iblk m c 1 t) (iblk m c 2 t) st0 := by
  obtain ⟨n, hn⟩ := t
  cases n with
  | zero => exact visit_pos m c ⟨0, hn⟩ st0 (Nat.zero_le _)
  | succ n =>
    refine (if_pos (by simp only at h0 ⊢; omega)).trans ?_
    rw [if_pos h0]

theorem stAt_later (c : Dev nD) (t : Fin cfg0.N) (h0 : ¬t.val % 4 = 0) (h1 : t.val % 4 ≤ t.val / 4 % 4) :
    stAt m c t.val t.isLt = step (grid0.coords t) (iblk m c 0 t) (iblk m c 1 t) (iblk m c 2 t) (stBefore m c t) := by
  obtain ⟨n, hn⟩ := t
  cases n with
  | zero => exact absurd (Nat.zero_mod _) h0
  | succ n =>
    refine (if_pos h1).trans ?_
    rw [if_neg h0]
    rfl

theorem stAt_skip (c : Dev nD) (t : Fin cfg0.N) (h0 : ¬t.val % 4 = 0) (h1 : ¬t.val % 4 ≤ t.val / 4 % 4) :
    stAt m c t.val t.isLt = stBefore m c t := by
  obtain ⟨n, hn⟩ := t
  cases n with
  | zero => exact absurd (Nat.zero_mod _) h0
  | succ n => exact (if_neg h1).trans (if_neg h0)

/-- The result block a point stands for: what the scratch after it finishes to. -/
def resAt (c : Dev nD) (t : Fin cfg0.N) : Vec F S1x512x512 .bf16 :=
  outOf (stAt m c t.val t.isLt).2.1 (stAt m c t.val t.isLt).2.2

/-- Before position `n`: nothing known at the start, then the scratch as the point before left it. -/
def PhiS (c : Dev nD) : (n : ℕ) → n ≤ cfg0.N → sProp 𝕄
  | 0, _ => Pipeline.ΦA spec0 c
  | n + 1, hn => iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((stAt m c n hn).1) ∗ owns (c : Thread nD τ) scM0_1 fullShare ((stAt m c n hn).2.1) ∗ owns (c : Thread nD τ) scM0_2 fullShare ((stAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((stAt m c (n - 1) (by omega)).1) ∗ owns (c : Thread nD τ) scM0_1 fullShare ((stAt m c (n - 1) (by omega)).2.1) ∗ owns (c : Thread nD τ) scM0_2 fullShare ((stAt m c (n - 1) (by omega)).2.2)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = resAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The result window between its stores -/

/-- The result block is stored at the last key block only. -/
theorem idle3_of (t : Fin cfg0.N) (h : ¬t.val / 4 % 4 = t.val % 4) : cfg0.idle 3 (grid0.coords t) = true := by
  have h' : ¬k0_cond3 (grid0.coords t) = 1#1 := fun e => h ((hlastBlock t).mp e)
  show (!(k0_cond3 (grid0.coords t) == 1#1)) = true
  rw [Bool.not_eq_true', beq_eq_false_iff_ne]
  exact h'

theorem live3_of (t : Fin cfg0.N) (h : t.val / 4 % 4 = t.val % 4) : cfg0.idle 3 (grid0.coords t) = false := by
  have h' : k0_cond3 (grid0.coords t) = 1#1 := (hlastBlock t).mpr h
  show (!(k0_cond3 (grid0.coords t) == 1#1)) = false
  rw [h']
  rfl

theorem flush3_of (t : Fin cfg0.N) (h : ¬t.val % 4 = 3) : (cfg0.win 3).flush t = false :=
  Bool.eq_false_iff.mpr fun e => h ((flush0_3 t).mp e)

/-- Up to the last key block nothing of this round is in the result block yet. -/
theorem fresh3 : ∀ n, n ≤ cfg0.N → cfg0.fresh 3 n = decide (n % 4 ≤ n / 4 % 4)
  | 0, _ => rfl
  | n + 1, h => by
    have hN : cfg0.N = 512 := N_0
    rw [Pipeline.Cfg.fresh_succ cfg0 3 n h, fresh3 n (Nat.le_of_lt h)]
    by_cases h3 : n % 4 = 3
    · rw [(flush0_3 ⟨n, h⟩).mpr h3, Bool.true_or]
      exact (decide_eq_true (by omega)).symm
    · have e4 : (n + 1) / 4 = n / 4 := by omega
      have e5 : (n + 1) % 4 = n % 4 + 1 := by omega
      rw [flush3_of ⟨n, h⟩ h3, Bool.false_or, e4, e5]
      by_cases h2 : n / 4 % 4 = n % 4
      · rw [live3_of ⟨n, h⟩ h2, Bool.false_and]
        exact (decide_eq_false (by omega)).symm
      · rw [idle3_of ⟨n, h⟩ h2, Bool.true_and]
        exact decide_eq_decide.mpr (by omega)

theorem carry3 (c : Dev nD) (t : Fin cfg0.N) (_hz : t.val ≠ 0) (hi : cfg0.idle 3 (grid0.coords t) = true)
    (hf : cfg0.fresh 3 t.val = false) :
    (dats m 0 c).after 3 t = (dats m 0 c).after 3 ⟨t.val - 1, Nat.lt_of_le_of_lt (Nat.sub_le _ _) t.isLt⟩ := by
  rw [fresh3 t.val (Nat.le_of_lt t.isLt)] at hf
  have h1 : ¬t.val % 4 ≤ t.val / 4 % 4 := of_decide_eq_false hf
  rw [after0_3, after0_3]
  unfold resAt
  rw [stAt_skip m c t (by omega) h1]

theorem before3_kept (c : Dev nD) (t : Fin cfg0.N) (h1 : ¬t.val % 4 ≤ t.val / 4 % 4) (d) :
    (dats m 0 c).before 3 t d = resAt m c t := by
  have hf : cfg0.fresh 3 t.val = false := by
    rw [fresh3 t.val (Nat.le_of_lt t.isLt)]; exact decide_eq_false h1
  refine ((dats m 0 c).before_out_traj 3 rfl (fun _ _ => rfl) (carry3 m c) t.val t rfl d).trans ?_
  rw [hf]
  refine (if_neg Bool.false_ne_true).trans ?_
  exact ((carry3 m c t (by rintro e; rw [e] at h1; exact h1 (Nat.zero_le _)) (idle3_of t (by omega)) hf).symm).trans (after0_3 m c t)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves_3_stored (c : Dev nD) (t : Fin cfg0.N) (h : t.val / 4 % 4 = t.val % 4) :
    (dats m 0 c).leavesExact 3 t = owns (c : Thread nD τ) (ms0_3 t) fullShare (resAt m c t) := by
  rw [show (dats m 0 c).leavesExact 3 t = owns (c : Thread nD τ) (ms0_3 t) fullShare ((dats m 0 c).after 3 t) from by
    unfold Dat.leavesExact; rw [live3_of t h], after0_3]
theorem leaves_3_idle (c : Dev nD) (t : Fin cfg0.N) (h : ¬t.val / 4 % 4 = t.val % 4) (h3 : ¬t.val % 4 = 3) :
    (dats m 0 c).leavesExact 3 t = iprop(∃ d, owns (c : Thread nD τ) (ms0_3 t) fullShare ((dats m 0 c).before 3 t d)) := by
  unfold Dat.leavesExact; rw [idle3_of t h, flush3_of t h3]
theorem leaves_3_flush (c : Dev nD) (t : Fin cfg0.N) (h : ¬t.val / 4 % 4 = t.val % 4) (h3 : t.val % 4 = 3) :
    (dats m 0 c).leavesExact 3 t = owns (c : Thread nD τ) (ms0_3 t) fullShare (resAt m c t) := by
  rw [show (dats m 0 c).leavesExact 3 t = owns (c : Thread nD τ) (ms0_3 t) fullShare ((dats m 0 c).after 3 t) from by
    unfold Dat.leavesExact; rw [idle3_of t h, (flush0_3 t).mpr h3], after0_3]

set_option maxHeartbeats 2000000 in
/-- The body at a point of case A. -/
theorem body_A (c : Dev nD) (t : Fin cfg0.N) (h0 : t.val % 4 = 0) (h1 : t.val % 4 ≤ t.val / 4 % 4) (h2 : t.val / 4 % 4 = t.val % 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, leaves_0, leaves_1, leaves_2]
  by_cases hz : t.val = 0
  · rw [PhiS_castSucc m c t, PhiS_zero m c _ _ hz, PhiA0_eq]
    rw [leaves_3_stored m c t h2]
    unfold resAt
    rw [stAt_first m c t h0]
    iintro ⟨⟨⟨HS0, HS1, HS2⟩, Hg⟩, Ho, ⟨%d0, H0⟩, ⟨%d1, H1⟩, ⟨%d2, H2⟩, ⟨%d3, H3⟩⟩
    iapply ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hfirstBlock t).mpr h0) ((hpastBlock t).mpr h1) ((hlastBlock t).mpr h2) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%eo, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact readA_M c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
        isplitl [HS1]
        · unfold owns; iexists _; isplitr
          swap; · iexact HS1
          ipureintro; exact readA_L c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
        unfold owns; iexists _; isplitr
        swap; · iexact HS2
        ipureintro; exact readA_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
      iexact Hg
    isplitl [Ho]; · iexact Ho
    isplitl [H0]; · iexact H0
    isplitl [H1]; · iexact H1
    isplitl [H2]; · iexact H2
    unfold owns; iexists _; isplitr
    swap; · iexact H3
    ipureintro; exact readA_O c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
  · rw [PhiS_castSucc m c t, PhiS_pos m c _ _ hz]
    rw [leaves_3_stored m c t h2]
    unfold resAt
    rw [stAt_first m c t h0]
    iintro ⟨⟨⟨HS0, HS1, HS2⟩, Hg⟩, Ho, ⟨%d0, H0⟩, ⟨%d1, H1⟩, ⟨%d2, H2⟩, ⟨%d3, H3⟩⟩
    iapply ((runA c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hfirstBlock t).mpr h0) ((hpastBlock t).mpr h1) ((hlastBlock t).mpr h2) (iblk m c 0 t) (iblk m c 1 t) (iblk m c 2 t)).2.2.2.2 Set.univ _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    iintro ⟨H0, H1, H2, ⟨%eo, H3⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact readA_M c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
        isplitl [HS1]
        · unfold owns; iexists _; isplitr
          swap; · iexact HS1
          ipureintro; exact readA_L c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
        unfold owns; iexists _; isplitr
        swap; · iexact HS2
        ipureintro; exact readA_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _
      iexact Hg
    isplitl [Ho]; · iexact Ho
    isplitl [H0]; · iexact H0
    isplitl [H1]; · iexact H1
    isplitl [H2]; · iexact H2
    unfold owns; iexists _; isplitr
    swap; · iexact H3
    ipureintro; exact readA_O c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) ((hlastBlock t).mpr h2) _

set_option maxHeartbeats 2000000 in
/-- The body at a point of case B. -/
theorem body_B (c : Dev nD) (t : Fin cfg0.N) (h0 : ¬t.val % 4 = 0) (h1 : ¬t.val % 4 ≤ t.val / 4 % 4) (h2 : ¬t.val / 4 % 4 = t.val % 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, leaves_0, leaves_1, leaves_2]
  have hz : t.val ≠ 0 := by omega
  rw [PhiS_castSucc m c t, PhiS_pos m c _ _ hz]
  rw [stAt_skip m c t h0 h1]
  iintro ⟨⟨⟨HS0, HS1, HS2⟩, Hg⟩, Ho, ⟨%d0, H0⟩, ⟨%d1, H1⟩, ⟨%d2, H2⟩, ⟨%d3, H3⟩⟩
  iapply ((runB c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hfirstBlock t).mp h)) (fun h => h1 ((hpastBlock t).mp h)) (fun h => h2 ((hlastBlock t).mp h)) (iblk m c 0 t) (iblk m c 1 t) (iblk m c 2 t) (stBefore m c t).1 (stBefore m c t).2.1 (stBefore m c t).2.2).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  by_cases h3 : t.val % 4 = 3
  · rw [leaves_3_flush m c t h2 h3, before3_kept m c t h1]
    iexact H3
  rw [leaves_3_idle m c t h2 h3]
  iexists _; iexact H3

set_option maxHeartbeats 2000000 in
/-- The body at a point of case C. -/
theorem body_C (c : Dev nD) (t : Fin cfg0.N) (h0 : t.val % 4 = 0) (h1 : t.val % 4 ≤ t.val / 4 % 4) (h2 : ¬t.val / 4 % 4 = t.val % 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, leaves_0, leaves_1, leaves_2]
  have hz : t.val ≠ 0 := by omega
  rw [PhiS_castSucc m c t, PhiS_pos m c _ _ hz]
  rw [leaves_3_idle m c t h2 (by omega)]
  rw [stAt_first m c t h0]
  iintro ⟨⟨⟨HS0, HS1, HS2⟩, Hg⟩, Ho, ⟨%d0, H0⟩, ⟨%d1, H1⟩, ⟨%d2, H2⟩, ⟨%d3, H3⟩⟩
  iapply ((runC c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hfirstBlock t).mpr h0) ((hpastBlock t).mpr h1) (fun h => h2 ((hlastBlock t).mp h)) (iblk m c 0 t) (iblk m c 1 t) (iblk m c 2 t)).2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact readC_M c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) (fun h => h2 ((hlastBlock t).mp h)) _
      isplitl [HS1]
      · unfold owns; iexists _; isplitr
        swap; · iexact HS1
        ipureintro; exact readC_L c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) (fun h => h2 ((hlastBlock t).mp h)) _
      unfold owns; iexists _; isplitr
      swap; · iexact HS2
      ipureintro; exact readC_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) ((hfirstBlock t).mpr h0) ((hpastBlock t).mpr h1) (fun h => h2 ((hlastBlock t).mp h)) _
    iexact Hg
  isplitl [Ho]; · iexact Ho
  isplitl [H0]; · iexact H0
  isplitl [H1]; · iexact H1
  isplitl [H2]; · iexact H2
  iexists _; iexact H3

set_option maxHeartbeats 2000000 in
/-- The body at a point of case D. -/
theorem body_D (c : Dev nD) (t : Fin cfg0.N) (h0 : ¬t.val % 4 = 0) (h1 : t.val % 4 ≤ t.val / 4 % 4) (h2 : t.val / 4 % 4 = t.val % 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, leaves_0, leaves_1, leaves_2]
  have hz : t.val ≠ 0 := by omega
  rw [PhiS_castSucc m c t, PhiS_pos m c _ _ hz]
  rw [leaves_3_stored m c t h2]
  unfold resAt
  rw [stAt_later m c t h0 h1]
  iintro ⟨⟨⟨HS0, HS1, HS2⟩, Hg⟩, Ho, ⟨%d0, H0⟩, ⟨%d1, H1⟩, ⟨%d2, H2⟩, ⟨%d3, H3⟩⟩
  iapply ((runD c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hfirstBlock t).mp h)) ((hpastBlock t).mpr h1) ((hlastBlock t).mpr h2) (iblk m c 0 t) (iblk m c 1 t) (iblk m c 2 t) (stBefore m c t).1 (stBefore m c t).2.1 (stBefore m c t).2.2).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%eo, H3⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact readD_M c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) ((hlastBlock t).mpr h2) _
      isplitl [HS1]
      · unfold owns; iexists _; isplitr
        swap; · iexact HS1
        ipureintro; exact readD_L c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) ((hlastBlock t).mpr h2) _
      unfold owns; iexists _; isplitr
      swap; · iexact HS2
      ipureintro; exact readD_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) ((hlastBlock t).mpr h2) _
    iexact Hg
  isplitl [Ho]; · iexact Ho
  isplitl [H0]; · iexact H0
  isplitl [H1]; · iexact H1
  isplitl [H2]; · iexact H2
  unfold owns; iexists _; isplitr
  swap; · iexact H3
  ipureintro; exact readD_O c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) ((hlastBlock t).mpr h2) _

set_option maxHeartbeats 2000000 in
/-- The body at a point of case E. -/
theorem body_E (c : Dev nD) (t : Fin cfg0.N) (h0 : ¬t.val % 4 = 0) (h1 : t.val % 4 ≤ t.val / 4 % 4) (h2 : ¬t.val / 4 % 4 = t.val % 4) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, leaves_0, leaves_1, leaves_2]
  have hz : t.val ≠ 0 := by omega
  rw [PhiS_castSucc m c t, PhiS_pos m c _ _ hz]
  rw [leaves_3_idle m c t h2 (by omega)]
  rw [stAt_later m c t h0 h1]
  iintro ⟨⟨⟨HS0, HS1, HS2⟩, Hg⟩, Ho, ⟨%d0, H0⟩, ⟨%d1, H1⟩, ⟨%d2, H2⟩, ⟨%d3, H3⟩⟩
  iapply ((runE c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hfirstBlock t).mp h)) ((hpastBlock t).mpr h1) (fun h => h2 ((hlastBlock t).mp h)) (iblk m c 0 t) (iblk m c 1 t) (iblk m c 2 t) (stBefore m c t).1 (stBefore m c t).2.1 (stBefore m c t).2.2).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact readE_M c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) (fun h => h2 ((hlastBlock t).mp h)) _
      isplitl [HS1]
      · unfold owns; iexists _; isplitr
        swap; · iexact HS1
        ipureintro; exact readE_L c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) (fun h => h2 ((hlastBlock t).mp h)) _
      unfold owns; iexists _; isplitr
      swap; · iexact HS2
      ipureintro; exact readE_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (stBefore m c t).1 (stBefore m c t).2.1 (stBefore m c t).2.2 (fun h => h0 ((hfirstBlock t).mp h)) ((hpastBlock t).mpr h1) (fun h => h2 ((hlastBlock t).mp h)) _
    iexact Hg
  isplitl [Ho]; · iexact Ho
  isplitl [H0]; · iexact H0
  isplitl [H1]; · iexact H1
  isplitl [H2]; · iexact H2
  iexists _; iexact H3

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · have h1 : t.val % 4 ≤ t.val / 4 % 4 := by omega
    by_cases h2 : t.val / 4 % 4 = t.val % 4
    · exact body_A m c t h0 h1 h2
    · exact body_C m c t h0 h1 h2
  · by_cases h1 : t.val % 4 ≤ t.val / 4 % 4
    · by_cases h2 : t.val / 4 % 4 = t.val % 4
      · exact body_D m c t h0 h1 h2
      · exact body_E m c t h0 h1 h2
    · exact body_B m c t h0 h1 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 512 := N_0; omega)

/-! ## The run -/

set_option backward.isDefEq.respectTransparency.types false in
/-- The program runs to arrays that hold what the proof data says, with every semaphore at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Value.lean ====
module

public import proofs.«01_k».proof.Proof.Body
public import Idealize.ShloMosaic.Lib.Pointwise.Index

/-! The arrays: what the four windows' blocks are of their arrays, and the result array after the run. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point of prompt `b`, query block `qi`, key block `ki`. -/
def pt (b : Fin 32) (qi ki : ℕ) (hq : qi < 4) (hk : ki < 4) : Fin cfg0.N :=
  ⟨16 * b.val + 4 * qi + ki, by have hN : cfg0.N = 512 := N_0; omega⟩

theorem pt_coords (b : Fin 32) (qi ki : ℕ) (hq : qi < 4) (hk : ki < 4) :
    (grid0.coords (pt b qi ki hq hk) 0).val = b.val ∧ (grid0.coords (pt b qi ki hq hk) 1).val = qi
      ∧ (grid0.coords (pt b qi ki hq hk) 2).val = ki := by
  have e0 : (grid0.coords (pt b qi ki hq hk) 0).val = (pt b qi ki hq hk).val / 16 % 32 := Pipeline.Grid.coords_val _ 0 (by decide) rfl
  have e1 : (grid0.coords (pt b qi ki hq hk) 1).val = (pt b qi ki hq hk).val / 4 % 4 := Pipeline.Grid.coords_val _ 1 (by decide) rfl
  have e2 : (grid0.coords (pt b qi ki hq hk) 2).val = (pt b qi ki hq hk).val / 1 % 4 := Pipeline.Grid.coords_val _ 2 (by decide) rfl
  have hv : (pt b qi ki hq hk).val = 16 * b.val + 4 * qi + ki := rfl
  rw [hv] at e0 e1 e2
  have := b.isLt
  refine ⟨by omega, by omega, by omega⟩

/-- The word of a small number. -/
theorem word_small (n : ℕ) (h : n < 4096) : (BitVec.ofNat 32 n).toNat = n := by
  rw [BitVec.toNat_ofNat, Nat.mod_eq_of_lt (by omega)]

/-- The smaller of two key-block numbers, as the index map computes it. -/
theorem min_word : ∀ a b : Fin 4, a.val ≤ b.val → (Scalar.minsi (BitVec.ofNat 32 a.val) (BitVec.ofNat 32 b.val)).toNat = a.val := by
  decide

theorem index0 (b : Fin 32) (qi ki : ℕ) (hq : qi < 4) (hk : ki < 4) :
    win0_0.index (pt b qi ki hq hk) 0 = b.val ∧ win0_0.index (pt b qi ki hq hk) 1 = qi ∧ win0_0.index (pt b qi ki hq hk) 2 = 0 := by
  obtain ⟨h0, h1, h2⟩ := pt_coords b qi ki hq hk
  have := b.isLt
  refine ⟨?_, ?_, rfl⟩
  · show (BitVec.ofNat 32 (grid0.coords (pt b qi ki hq hk) 0).val).toNat = _
    rw [h0, word_small _ (by omega)]
  · show (BitVec.ofNat 32 (grid0.coords (pt b qi ki hq hk) 1).val).toNat = _
    rw [h1, word_small _ (by omega)]

theorem index1 (b : Fin 32) (qi ki : ℕ) (hq : qi < 4) (hk : ki < 4) (hle : ki ≤ qi) :
    win0_1.index (pt b qi ki hq hk) 0 = b.val ∧ win0_1.index (pt b qi ki hq hk) 1 = ki ∧ win0_1.index (pt b qi ki hq hk) 2 = 0 := by
  obtain ⟨h0, h1, h2⟩ := pt_coords b qi ki hq hk
  have := b.isLt
  refine ⟨?_, ?_, rfl⟩
  · show (BitVec.ofNat 32 (grid0.coords (pt b qi ki hq hk) 0).val).toNat = _
    rw [h0, word_small _ (by omega)]
  · show (Scalar.minsi (BitVec.ofNat 32 (grid0.coords (pt b qi ki hq hk) 2).val) (BitVec.ofNat 32 (grid0.coords (pt b qi ki hq hk) 1).val)).toNat = _
    rw [h1, h2]
    exact min_word ⟨ki, hk⟩ ⟨qi, hq⟩ hle

theorem index2 (b : Fin 32) (qi ki : ℕ) (hq : qi < 4) (hk : ki < 4) (hle : ki ≤ qi) :
    win0_2.index (pt b qi ki hq hk) 0 = b.val ∧ win0_2.index (pt b qi ki hq hk) 1 = ki ∧ win0_2.index (pt b qi ki hq hk) 2 = 0 := by
  obtain ⟨h0, h1, h2⟩ := pt_coords b qi ki hq hk
  have := b.isLt
  refine ⟨?_, ?_, rfl⟩
  · show (BitVec.ofNat 32 (grid0.coords (pt b qi ki hq hk) 0).val).toNat = _
    rw [h0, word_small _ (by omega)]
  · show (Scalar.minsi (BitVec.ofNat 32 (grid0.coords (pt b qi ki hq hk) 2).val) (BitVec.ofNat 32 (grid0.coords (pt b qi ki hq hk) 1).val)).toNat = _
    rw [h1, h2]
    exact min_word ⟨ki, hk⟩ ⟨qi, hq⟩ hle

theorem index3 (b : Fin 32) (qi ki : ℕ) (hq : qi < 4) (hk : ki < 4) :
    win0_3.index (pt b qi ki hq hk) 0 = b.val ∧ win0_3.index (pt b qi ki hq hk) 1 = qi ∧ win0_3.index (pt b qi ki hq hk) 2 = 0 := by
  obtain ⟨h0, h1, h2⟩ := pt_coords b qi ki hq hk
  have := b.isLt
  refine ⟨?_, ?_, rfl⟩
  · show (BitVec.ofNat 32 (grid0.coords (pt b qi ki hq hk) 0).val).toNat = _
    rw [h0, word_small _ (by omega)]
  · show (BitVec.ofNat 32 (grid0.coords (pt b qi ki hq hk) 1).val).toNat = _
    rw [h1, word_small _ (by omega)]

/-- The query block. -/
theorem read_q (c : Dev nD) (b : Fin 32) (qi ki : ℕ) (hq : qi < 4) (hk : ki < 4) (r : Fin 512) (l : Fin 1024) :
    (iblk m c 0 (pt b qi ki hq hk) : Vec F S1x512x1024 .bf16) (ix3 0 r l)
      = (m ((c : Thread nD τ).loc main_arg0) : Vec F S32x2048x1024 .bf16) (ix3 b ⟨512 * qi + r.val, by omega⟩ l) := by
  obtain ⟨h0, h1, h2⟩ := index0 b qi ki hq hk
  unfold iblk
  rw [View.read_apply]
  show V m c main_arg0 _ = m (c.tc.loc main_arg0) _
  unfold V
  congr 1
  funext a
  apply Fin.ext
  match a with
  | ⟨0, _⟩ => show win0_0.index (pt b qi ki hq hk) 0 * 1 + 1 * 0 = b.val; rw [h0]; omega
  | ⟨1, _⟩ => show win0_0.index (pt b qi ki hq hk) 1 * 512 + 1 * r.val = 512 * qi + r.val; rw [h1]; omega
  | ⟨2, _⟩ => show win0_0.index (pt b qi ki hq hk) 2 * 1024 + 1 * l.val = l.val; rw [h2]; omega

/-- The key block. -/
theorem read_k (c : Dev nD) (b : Fin 32) (qi ki : ℕ) (hq : qi < 4) (hk : ki < 4) (hle : ki ≤ qi) (r : Fin 512) (l : Fin 1024) :
    (iblk m c 1 (pt b qi ki hq hk) : Vec F S1x512x1024 .bf16) (ix3 0 r l)
      = (m ((c : Thread nD τ).loc main_arg1) : Vec F S32x2048x1024 .bf16) (ix3 b ⟨512 * ki + r.val, by omega⟩ l) := by
  obtain ⟨h0, h1, h2⟩ := index1 b qi ki hq hk hle
  unfold iblk
  rw [View.read_apply]
  show V m c main_arg1 _ = m (c.tc.loc main_arg1) _
  unfold V
  congr 1
  funext a
  apply Fin.ext
  match a with
  | ⟨0, _⟩ => show win0_1.index (pt b qi ki hq hk) 0 * 1 + 1 * 0 = b.val; rw [h0]; omega
  | ⟨1, _⟩ => show win0_1.index (pt b qi ki hq hk) 1 * 512 + 1 * r.val = 512 * ki + r.val; rw [h1]; omega
  | ⟨2, _⟩ => show win0_1.index (pt b qi ki hq hk) 2 * 1024 + 1 * l.val = l.val; rw [h2]; omega

/-- The value block. -/
theorem read_v (c : Dev nD) (b : Fin 32) (qi ki : ℕ) (hq : qi < 4) (hk : ki < 4) (hle : ki ≤ qi) (r : Fin 512) (l : Fin 512) :
    (iblk m c 2 (pt b qi ki hq hk) : Vec F S1x512x512 .bf16) (ix3 0 r l)
      = (m ((c : Thread nD τ).loc main_arg2) : Vec F S32x2048x512 .bf16) (ix3 b ⟨512 * ki + r.val, by omega⟩ l) := by
  obtain ⟨h0, h1, h2⟩ := index2 b qi ki hq hk hle
  unfold iblk
  rw [View.read_apply]
  show V m c main_arg2 _ = m (c.tc.loc main_arg2) _
  unfold V
  congr 1
  funext a
  apply Fin.ext
  match a with
  | ⟨0, _⟩ => show win0_2.index (pt b qi ki hq hk) 0 * 1 + 1 * 0 = b.val; rw [h0]; omega
  | ⟨1, _⟩ => show win0_2.index (pt b qi ki hq hk) 1 * 512 + 1 * r.val = 512 * ki + r.val; rw [h1]; omega
  | ⟨2, _⟩ => show win0_2.index (pt b qi ki hq hk) 2 * 512 + 1 * l.val = l.val; rw [h2]; omega

/-- The result array: row `r` of prompt `b` from the block finished at the last key block of the row's query block. -/
def result (c : Dev nD) : Vec F S32x2048x512 .bf16 := fun j =>
  resAt m c (pt (j 0) ((j 1).val / 512) 3 (by have h : (j 1).val < 2048 := (j 1).isLt; omega) (by omega))
    (ix3 0 ⟨(j 1).val % 512, Nat.mod_lt _ (by omega)⟩ (j 2))

/-- The result array at a row of a query block. -/
theorem result_block (c : Dev nD) (b : Fin 32) (qi : ℕ) (hq : qi < 4) (r e : Fin 512) :
    result m c (ix3 b ⟨512 * qi + r.val, by omega⟩ e) = resAt m c (pt b qi 3 hq (by omega)) (ix3 0 r e) := by
  have hp : ∀ (q' : ℕ) (hq' : q' < 4) (r' : Fin 512), q' = qi → r' = r →
      resAt m c (pt b q' 3 hq' (by omega)) (ix3 0 r' e) = resAt m c (pt b qi 3 hq (by omega)) (ix3 0 r e) := by
    intro q' hq' r' e1 e2
    subst e1 e2
    rfl
  exact hp ((512 * qi + r.val) / 512) (by omega) ⟨(512 * qi + r.val) % 512, by omega⟩ (by omega) (Fin.ext (by simp only; omega))

/-- An array that agrees with a block's contents at the block's rows reads as them there. -/
theorem cut_eq_read (b : Fin 32) (qi : ℕ) (hq : qi < 4) (X : Vec F S1x512x512 .bf16) (Y : Vec F S32x2048x512 .bf16)
    (h : ∀ r e : Fin 512, Y (ix3 b ⟨512 * qi + r.val, by omega⟩ e) = X (ix3 0 r e)) :
    win0_3.cut (grid0.coords (pt b qi 3 hq (by omega))) X = (win0_3.blk (pt b qi 3 hq (by omega))).view.read (Elt F) Y := by
  obtain ⟨h0, h1, h2⟩ := index3 b qi 3 hq (by omega)
  funext j
  rw [View.read_apply]
  have j0 : (j 0).val < 1 := (j 0).isLt
  have j1 : (j 1).val < 512 := (j 1).isLt
  have j2 : (j 2).val < 512 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [← h]
    show Y _ = Y _
    congr 1
    funext a
    apply Fin.ext
    match a with
    | ⟨0, _⟩ => show b.val = win0_3.index (pt b qi 3 hq _) 0 * 1 + 1 * (j 0).val; rw [h0]; omega
    | ⟨1, _⟩ => show 512 * qi + (j 1).val = win0_3.index (pt b qi 3 hq _) 1 * 512 + 1 * (j 1).val; rw [h1]; omega
    | ⟨2, _⟩ => show (j 2).val = win0_3.index (pt b qi 3 hq _) 2 * 512 + 1 * (j 2).val; rw [h2]; omega

/-- Every write-back is the block of that array. -/
theorem flushed_eq (c : Dev nD) (t : Fin cfg0.N) (hf : (cfg0.win 3).flush t = true) :
    (dats m 0 c).flushed 3 t = ((cfg0.win 3).blk t).view.read (Elt F) (result m c) := by
  have hN : cfg0.N = 512 := N_0
  have h3 : t.val % 4 = 3 := (flush0_3 t).mp hf
  have hlt := t.isLt
  have ht : t = pt ⟨t.val / 16, by omega⟩ (t.val / 4 % 4) 3 (by omega) (by omega) :=
    Fin.ext (by show t.val = 16 * (t.val / 16) + 4 * (t.val / 4 % 4) + 3; omega)
  show (cfg0.win 3).cut (grid0.coords t) ((dats m 0 c).after 3 t) = _
  rw [after0_3, ht]
  exact cut_eq_read _ _ _ (resAt m c _) (result m c) (result_block m c _ _ _)

/-- Every element of the result array lies in some written block. -/
theorem covered (i : S32x2048x512.Idx) : ∃ t : Fin cfg0.N, t.val % 4 = 3 ∧ i ∈ ((View.whole main_v0).slice (win0_3.rect t)).set := by
  have i0 : (i 0).val < 32 := (i 0).isLt
  have i1 : (i 1).val < 2048 := (i 1).isLt
  have i2 : (i 2).val < 512 := (i 2).isLt
  have hq : (i 1).val / 512 < 4 := by omega
  obtain ⟨g0, g1, g2⟩ := index3 ⟨(i 0).val, i0⟩ ((i 1).val / 512) 3 hq (by omega)
  refine ⟨pt ⟨(i 0).val, i0⟩ ((i 1).val / 512) 3 hq (by omega), ?_, ?_⟩
  · show (16 * (i 0).val + 4 * ((i 1).val / 512) + 3) % 4 = 3
    omega
  · rw [View.set_slice_whole, Rect.mem_set_unit]
    intro a
    match a with
    | ⟨0, _⟩ => show win0_3.index (pt ⟨(i 0).val, i0⟩ ((i 1).val / 512) 3 hq _) 0 * 1 ≤ (i 0).val ∧ (i 0).val < win0_3.index (pt ⟨(i 0).val, i0⟩ ((i 1).val / 512) 3 hq _) 0 * 1 + 1
                rw [g0]; simp only; omega
    | ⟨1, _⟩ => show win0_3.index (pt ⟨(i 0).val, i0⟩ ((i 1).val / 512) 3 hq _) 1 * 512 ≤ (i 1).val ∧ (i 1).val < win0_3.index (pt ⟨(i 0).val, i0⟩ ((i 1).val / 512) 3 hq _) 1 * 512 + 512
                rw [g1]; omega
    | ⟨2, _⟩ => show win0_3.index (pt ⟨(i 0).val, i0⟩ ((i 1).val / 512) 3 hq _) 2 * 512 ≤ (i 2).val ∧ (i 2).val < win0_3.index (pt ⟨(i 0).val, i0⟩ ((i 1).val / 512) 3 hq _) 2 * 512 + 512
                rw [g2]; omega

/-- The result array after the run. -/
theorem final (c : Dev nD) : (dats m 0 c).arrAt 3 cfg0.N = result m c :=
  (dats m 0 c).arrAt_eq_of_cover 3 (result m c) (flushed_eq m c) fun i =>
    (covered i).elim fun t h => ⟨t, (flush0_3 t).mpr h.1, h.2⟩

/-- The run, read: the result array, the arguments unchanged, the semaphores at zero. -/
theorem run_result : θ_run defs (onTc (τ := τ) (main (F := F))) ⟨m, fun _ => 0, ρ⟩ (fun r => (∀ c : Dev nD,
      r.2.mem ((c.tc : Thread nD τ).loc main_v0) = result m c)) :=
  (θ_run defs _ _).mono (fun _ h c => ((h c).1 3).trans (final m c)) (run_main m ρ)

end Cert.KernelIdeal.Run
-- ==== Proof.Softmax.lean ====
module

public import Idealize.ShloMosaic.PureOps.Ideal

/-!
The online softmax on the extended reals: visiting the keys block by block with a running maximum, a running
total of the weights and a running weighted sum gives the softmax average over all keys.
-/

@[expose] public section

noncomputable section

namespace Cert.KernelIdeal.Run

open Idealize.ShloMosaic

/-- A number which is not `⊤` and not `⊥` below some real is a real. -/
theorem real_of_ne {x : EReal} (h1 : x ≠ ⊥) (h2 : x ≠ ⊤) : ∃ r : ℝ, x = (r : EReal) :=
  ⟨x.toReal, (EReal.coe_toReal h2 h1).symm⟩

/-- `exp` is never negative. -/
theorem exp_nonneg (x : EReal) : 0 ≤ Ideal.exp x := by
  induction x with
  | bot => exact le_refl _
  | top => exact le_top
  | coe r => exact EReal.coe_nonneg.2 (Real.exp_pos r).le

/-- `exp` of a masked or real score, shifted by a real, is a real. -/
theorem exp_shift_real {s : EReal} (hs : s ≠ ⊤) (M : ℝ) :
    ∃ r : ℝ, 0 ≤ r ∧ Ideal.exp (s - (M : EReal)) = (r : EReal) := by
  induction s with
  | bot => exact ⟨0, le_refl _, by rw [EReal.bot_sub]; rfl⟩
  | top => exact absurd rfl hs
  | coe r => exact ⟨Real.exp (r - M), (Real.exp_pos _).le, rfl⟩

/-- A masked score has weight zero. -/
theorem exp_masked (M : EReal) : Ideal.exp (⊥ - M) = 0 := by
  rw [EReal.bot_sub]; rfl

/-- Changing the shift: `exp (m − m') · exp (s − m) = exp (s − m')` for real `m`, `m'`. -/
theorem exp_rescale {s : EReal} (hs : s ≠ ⊤) (M M' : ℝ) :
    Ideal.exp ((M : EReal) - (M' : EReal)) * Ideal.exp (s - (M : EReal)) = Ideal.exp (s - (M' : EReal)) := by
  induction s with
  | bot => rw [EReal.bot_sub, EReal.bot_sub]; exact mul_zero _
  | top => exact absurd rfl hs
  | coe r =>
    show ((Real.exp (M - M') : ℝ) : EReal) * ((Real.exp (r - M) : ℝ) : EReal) = ((Real.exp (r - M') : ℝ) : EReal)
    rw [← EReal.coe_mul, ← Real.exp_add]
    congr 2; ring

/-- A nonnegative real factor goes inside a sum. -/
theorem real_mul_sum {ι : Type*} (c : ℝ) (hc : 0 ≤ c) (S : Finset ι) (f : ι → EReal) :
    (c : EReal) * ∑ j ∈ S, f j = ∑ j ∈ S, (c : EReal) * f j := by
  classical
  induction S using Finset.induction_on with
  | empty => simp
  | insert a S ha ih =>
    rw [Finset.sum_insert ha, Finset.sum_insert ha,
      EReal.left_distrib_of_nonneg_of_ne_top (EReal.coe_nonneg.2 hc) (EReal.coe_ne_top c), ih]

/-- The state of the online softmax after the first `n` keys: `m` is the largest score, `l` the total weight and
    `a` the weighted sum of the values. -/
structure Seen (s v : ℕ → EReal) (n : ℕ) (m l a : EReal) : Prop where
  hm : m = (Finset.range n).sup s
  hl : l = ∑ j ∈ Finset.range n, Ideal.exp (s j - m)
  ha : a = ∑ j ∈ Finset.range n, Ideal.exp (s j - m) * v j

/-- Before any key the maximum is `⊥` and both sums are zero. -/
theorem Seen.start (s v : ℕ → EReal) : Seen s v 0 ⊥ 0 0 :=
  ⟨by simp, by simp, by simp⟩

/-- The largest score among keys that are each masked or real, one of them real, is real. -/
theorem sup_real {s : ℕ → EReal} (hs : ∀ j, s j ≠ ⊤) {n k : ℕ} (hk : k < n) (hr : s k ≠ ⊥) :
    ∃ M : ℝ, (Finset.range n).sup s = (M : EReal) := by
  apply real_of_ne
  · intro h
    have := Finset.le_sup (f := s) (Finset.mem_range.2 hk)
    rw [h] at this
    exact hr (le_bot_iff.1 this)
  · exact (Finset.sup_lt_iff (by exact bot_lt_top)).2 (fun j _ => lt_top_iff_ne_top.2 (hs j)) |>.ne

/-- The rescaled weights of the keys seen so far: with the new maximum real, the old sums times
    `exp (m − m')` are the sums at the new maximum. -/
theorem rescale_sum {s : ℕ → EReal} (hs : ∀ j, s j ≠ ⊤) (n : ℕ) (m : EReal) (hm : m = (Finset.range n).sup s)
    (M' : ℝ) (w : ℕ → EReal) :
    Ideal.exp (m - (M' : EReal)) * ∑ j ∈ Finset.range n, Ideal.exp (s j - m) * w j
      = ∑ j ∈ Finset.range n, Ideal.exp (s j - (M' : EReal)) * w j := by
  by_cases hb : m = ⊥
  · rw [hb, exp_masked, zero_mul]
    symm
    apply Finset.sum_eq_zero
    intro j hj
    have : s j ≤ m := hm ▸ Finset.le_sup (f := s) hj
    rw [hb, le_bot_iff] at this
    rw [this, exp_masked, zero_mul]
  · have ht : m ≠ ⊤ := by
      rw [hm]
      exact (Finset.sup_lt_iff (by exact bot_lt_top)).2 (fun j _ => lt_top_iff_ne_top.2 (hs j)) |>.ne
    obtain ⟨M, rfl⟩ := real_of_ne hb ht
    obtain ⟨c, hc, hce⟩ := exp_shift_real (EReal.coe_ne_top M) M'
    rw [hce, real_mul_sum c hc]
    apply Finset.sum_congr rfl
    intro j _
    rw [← mul_assoc, ← hce, exp_rescale (hs j)]

/-- One visit to a block of `b` keys. -/
theorem Seen.next {s v : ℕ → EReal} (hs : ∀ j, s j ≠ ⊤) {n : ℕ} {m l a : EReal} (h : Seen s v n m l a) (b : ℕ)
    {m' : EReal} (hm' : m' = max m ((Finset.range b).sup fun x => s (n + x))) {k : ℕ} (hk : k < n + b)
    (hr : s k ≠ ⊥) :
    Seen s v (n + b) m'
      (Ideal.exp (m - m') * l + ∑ x ∈ Finset.range b, Ideal.exp (s (n + x) - m'))
      (Ideal.exp (m - m') * a + ∑ x ∈ Finset.range b, Ideal.exp (s (n + x) - m') * v (n + x)) := by
  have hm2 : m' = (Finset.range (n + b)).sup s := by
    rw [hm', h.hm]
    apply le_antisymm
    · apply max_le
      · exact Finset.sup_mono (Finset.range_mono (Nat.le_add_right n b))
      · apply Finset.sup_le
        intro x hx
        exact Finset.le_sup (f := s) (Finset.mem_range.2 (by have := Finset.mem_range.1 hx; omega))
    · apply Finset.sup_le
      intro j hj
      by_cases hjn : j < n
      · exact le_max_of_le_left (Finset.le_sup (f := s) (Finset.mem_range.2 hjn))
      · have hj' := Finset.mem_range.1 hj
        apply le_max_of_le_right
        have h2 := Finset.le_sup (f := fun x => s (n + x)) (s := Finset.range b) (b := j - n)
          (Finset.mem_range.2 (by omega))
        have h3 : n + (j - n) = j := by omega
        simpa [h3] using h2
  obtain ⟨M', hM'⟩ := sup_real hs hk hr
  rw [← hm2] at hM'
  refine ⟨hm2, ?_, ?_⟩
  · have h1 := rescale_sum hs n m h.hm M' (fun _ => 1)
    simp only [mul_one] at h1
    rw [Finset.sum_range_add, h.hl, hM', h1]
  · have h1 := rescale_sum hs n m h.hm M' v
    rw [Finset.sum_range_add, h.ha, hM', h1]

/-- The end of the online softmax over `n` of `N` keys, the rest masked: the quotient is the softmax average
    over all `N` keys. -/
theorem Seen.average {s v : ℕ → EReal} (hs : ∀ j, s j ≠ ⊤) {n N : ℕ} (hnN : n ≤ N) {m l a : EReal}
    (h : Seen s v n m l a) {k : ℕ} (hk : k < n) (hr : s k ≠ ⊥) (hrest : ∀ j, n ≤ j → s j = ⊥) :
    Ideal.div a l = ∑ j ∈ Finset.range N,
      v j * Ideal.div (Ideal.exp (s j - (Finset.range N).sup s))
        (∑ i ∈ Finset.range N, Ideal.exp (s i - (Finset.range N).sup s)) := by
  have hsup : (Finset.range N).sup s = m := by
    rw [h.hm]
    apply le_antisymm
    · apply Finset.sup_le
      intro j hj
      by_cases hjn : j < n
      · exact Finset.le_sup (f := s) (Finset.mem_range.2 hjn)
      · rw [hrest j (by omega)]; exact bot_le
    · exact Finset.sup_mono (Finset.range_mono hnN)
  obtain ⟨d, rfl⟩ : ∃ d, N = n + d := ⟨N - n, by omega⟩
  have htot : ∑ i ∈ Finset.range (n + d), Ideal.exp (s i - m) = l := by
    rw [Finset.sum_range_add, h.hl]
    rw [Finset.sum_eq_zero (s := Finset.range d), add_zero]
    intro x _
    rw [hrest _ (Nat.le_add_right n x), exp_masked]
  obtain ⟨M, hM⟩ := sup_real hs hk hr
  rw [← h.hm] at hM
  -- the total weight is a positive real
  have hlreal : ∃ L : ℝ, 0 < L ∧ l = (L : EReal) := by
    have hch : ∀ j, ∃ r : ℝ, 0 ≤ r ∧ Ideal.exp (s j - (M : EReal)) = (r : EReal) := fun j => exp_shift_real (hs j) M
    choose r hr0 hre using hch
    refine ⟨∑ j ∈ Finset.range n, r j, ?_, ?_⟩
    · apply Finset.sum_pos' (fun j _ => hr0 j)
      refine ⟨k, Finset.mem_range.2 hk, ?_⟩
      obtain ⟨x, hx⟩ := real_of_ne hr (hs k)
      have := hre k
      rw [hx] at this
      have h2 : ((Real.exp (x - M) : ℝ) : EReal) = (r k : EReal) := this
      rw [← EReal.coe_injective h2]
      exact Real.exp_pos _
    · rw [h.hl, hM]
      rw [Finset.sum_congr rfl (fun j _ => hre j)]
      induction Finset.range n using Finset.induction_on with
      | empty => simp
      | insert a S ha ih => rw [Finset.sum_insert ha, Finset.sum_insert ha, EReal.coe_add, ih]
  obtain ⟨L, hL, hlL⟩ := hlreal
  rw [hsup, htot, hlL]
  have hdiv : ∀ x : EReal, Ideal.div x (L : EReal) = ((L⁻¹ : ℝ) : EReal) * x := by
    intro x
    unfold Ideal.div
    rw [if_neg (by exact_mod_cast hL.ne'), mul_comm, EReal.coe_inv]
  rw [hdiv, h.ha, real_mul_sum _ (inv_nonneg.2 hL.le), Finset.sum_range_add]
  rw [Finset.sum_eq_zero (s := Finset.range d), add_zero]
  · apply Finset.sum_congr rfl
    intro j _
    rw [hdiv, ← mul_assoc, mul_comm]
  · intro x _
    rw [hrest _ (Nat.le_add_right n x), exp_masked, hdiv, mul_zero, mul_zero]

end Cert.KernelIdeal.Run
-- ==== Proof.Spec.lean ====
module

public import proofs.«01_k».proof.Proof.Softmax
public import Idealize.ShloMosaic.Lib.Pointwise

/-! The causal attention both programs compute, on the extended reals: scores, softmax average, and small facts about
the words in which the masks are written. -/

@[expose] public section

set_option maxRecDepth 16384

noncomputable section

namespace Cert.KernelIdeal.Run

open Idealize.ShloMosaic

/-- The score's factor. -/
def scaleC : EReal := Ideal.ofBits .f32 0x3DD105EC#32

/-- The factor is a real number. -/
theorem scaleC_real : ∃ r : ℝ, scaleC = (r : EReal) := by
  unfold scaleC Ideal.ofBits
  simp only [Ideal.ieee]
  refine ⟨(13698540 : ℝ) * ((2 ^ 27 : ℝ))⁻¹, ?_⟩
  simp

/-- A small number's word read signed. -/
theorem toInt_small (n : ℕ) (h : n < 4096) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

/-- A fold of `max` from the word of −∞ is the supremum. -/
theorem fold_max_sup {n : ℕ} (f : Fin n → EReal) :
    Finset.fold max (Ideal.ofBits FTy.f32 0xFF800000#32) f Finset.univ = Finset.univ.sup f := by
  have h : Ideal.ofBits FTy.f32 0xFF800000#32 = ⊥ := by
    unfold Ideal.ofBits
    simp [Ideal.ieee]
  rw [h]; rfl

/-- The supremum over a range is the one over its indices. -/
theorem sup_range (n : ℕ) (s : ℕ → EReal) : (Finset.range n).sup s = Finset.univ.sup fun x : Fin n => s x.val := by
  apply le_antisymm
  · apply Finset.sup_le
    intro j hj
    exact Finset.le_sup (f := fun x : Fin n => s x.val) (Finset.mem_univ ⟨j, Finset.mem_range.1 hj⟩)
  · apply Finset.sup_le
    intro x _
    exact Finset.le_sup (f := s) (Finset.mem_range.2 x.isLt)

/-- Head `h`'s score of row `r` of prompt `b` and key `j`, `⊥` where `j` is after `r`. -/
def scoreS (q k : (⟨3, ![32, 2048, 1024]⟩ : Shape).Idx → EReal) (b : Fin 32) (h : Fin 8) (r : Fin 2048) : ℕ → EReal :=
  fun j => if hj : j < 2048 then
    if j ≤ r.val then
      (∑ d : Fin 128, q (ix3 b r ⟨h.val * 128 + d.val, by omega⟩) * k (ix3 b ⟨j, hj⟩ ⟨h.val * 128 + d.val, by omega⟩)) * scaleC
    else ⊥
  else ⊥

/-- Lane `e` of key `j`'s value. -/
def valS (v : (⟨3, ![32, 2048, 512]⟩ : Shape).Idx → EReal) (b : Fin 32) (e : Fin 512) : ℕ → EReal :=
  fun j => if hj : j < 2048 then v (ix3 b ⟨j, hj⟩ e) else 0

/-- The softmax average of the values over the first `N` keys. -/
def averageS (N : ℕ) (s v : ℕ → EReal) : EReal :=
  ∑ j ∈ Finset.range N, v j * Ideal.div (Ideal.exp (s j - (Finset.range N).sup s))
    (∑ i ∈ Finset.range N, Ideal.exp (s i - (Finset.range N).sup s))

/-- A masked score of finite queries and keys is never `⊤`; the row's own key has a real score. -/
theorem scoreS_ne_top (q k : (⟨3, ![32, 2048, 1024]⟩ : Shape).Idx → EReal) (b : Fin 32) (h : Fin 8) (r : Fin 2048)
    (hq : ∀ i, ∃ x : ℝ, q i = (x : EReal)) (hk : ∀ i, ∃ x : ℝ, k i = (x : EReal)) :
    (∀ j, scoreS q k b h r j ≠ ⊤) ∧ (∀ j, j ≤ r.val → scoreS q k b h r j ≠ ⊥) := by
  have hsum : ∀ j : Fin 2048, ∃ x : ℝ, (∑ d : Fin 128, q (ix3 b r ⟨h.val * 128 + d.val, by omega⟩)
      * k (ix3 b j ⟨h.val * 128 + d.val, by omega⟩)) * scaleC = (x : EReal) := by
    intro j
    choose fq hfq using hq
    choose fk hfk using hk
    obtain ⟨c, hc⟩ := scaleC_real
    refine ⟨(∑ d : Fin 128, fq (ix3 b r ⟨h.val * 128 + d.val, by omega⟩)
      * fk (ix3 b j ⟨h.val * 128 + d.val, by omega⟩)) * c, ?_⟩
    have hin : ∀ (S : Finset (Fin 128)), (∑ d ∈ S, q (ix3 b r ⟨h.val * 128 + d.val, by omega⟩)
      * k (ix3 b j ⟨h.val * 128 + d.val, by omega⟩)) = ((∑ d ∈ S, fq (ix3 b r ⟨h.val * 128 + d.val, by omega⟩)
      * fk (ix3 b j ⟨h.val * 128 + d.val, by omega⟩) : ℝ) : EReal) := by
      intro S
      induction S using Finset.induction_on with
      | empty => simp
      | insert a S ha ih => rw [Finset.sum_insert ha, Finset.sum_insert ha, EReal.coe_add, ih, hfq, hfk, EReal.coe_mul]
    rw [hin, hc, EReal.coe_mul]
  constructor
  · intro j
    unfold scoreS
    split
    · split
      · rename_i hj _
        obtain ⟨x, hx⟩ := hsum ⟨j, hj⟩
        rw [hx]; exact EReal.coe_ne_top x
      · exact bot_ne_top
    · exact bot_ne_top
  · intro j hj
    unfold scoreS
    have := r.isLt
    rw [dif_pos (by omega), if_pos hj]
    obtain ⟨x, hx⟩ := hsum ⟨j, by omega⟩
    rw [hx]; exact EReal.coe_ne_bot x

/-- A key after the row is masked. -/
theorem scoreS_after (q k : (⟨3, ![32, 2048, 1024]⟩ : Shape).Idx → EReal) (b : Fin 32) (h : Fin 8) (r : Fin 2048)
    (j : ℕ) (hj : r.val < j) : scoreS q k b h r j = ⊥ := by
  unfold scoreS
  split
  · rw [if_neg (by omega)]
  · rfl

end Cert.KernelIdeal.Run
-- ==== Proof.Payload.lean ====
module

public import proofs.«01_k».proof.Proof.State
public import proofs.«01_k».proof.Proof.Spec
public import Idealize.ShloMosaic.Lib.Pointwise

/-! One head's visit of a key block and the closing quotient, read at one element on the extended reals. -/

@[expose] public section

set_option maxRecDepth 16384

noncomputable section

namespace Cert.KernelIdeal.Run

open Idealize.ShloMosaic Idealize.ShloMosaic.TcCoe
open Cert.KernelIdeal Cert.KernelIdeal.Gen

/-- The mask constant is `⊥`. -/
theorem mask_bot : (Named.named (F := Ideal) κ "mask" 0xF149F2CA#32 : Ideal .f32) = ⊥ := by
  rfl

/-- The masked score of row `r` and key `x` of a block: a key is kept when it is not after the row, or when the
    whole block lies before the rows. -/
def blkS (i : grid0.Coords) (q k : Vec Ideal S1x512x128 .bf16) (r x : Fin 512) : EReal :=
  if x.val ≤ r.val ∨ (i 2).val < (i 1).val then
    (∑ d : Fin 128, q (ix3 0 r d) * k (ix3 0 x d)) * scaleC
  else ⊥

/-- The kernel's mask bit is the order of the positions. -/
theorem keep_bit (i : grid0.Coords) (r x : Fin 512) (a b : EReal) :
    Scalar.select (IntOp.ori (IntOp.cmpi CmpIPredicate.sle (BitVec.ofNat 32 x.val) (BitVec.ofNat 32 r.val))
        (Scalar.cmpi CmpIPredicate.slt (wk i) (wq i))) a b
      = if x.val ≤ r.val ∨ (i 2).val < (i 1).val then a else b := by
  have hi1 : (i 1).val < 4 := (i 1).isLt
  have hi2 : (i 2).val < 4 := (i 2).isLt
  have e1 : IntOp.cmpi CmpIPredicate.sle (BitVec.ofNat 32 x.val) (BitVec.ofNat 32 r.val)
      = BitVec.ofBool (decide (x.val ≤ r.val)) := by
    unfold IntOp.cmpi
    congr 1
    rw [Bool.eq_iff_iff]
    rw [BitVec.sle_iff_toInt_le, decide_eq_true_iff, toInt_small _ (by omega), toInt_small _ (by omega)]
    omega
  have e2 : Scalar.cmpi CmpIPredicate.slt (wk i) (wq i) = BitVec.ofBool (decide ((i 2).val < (i 1).val)) := by
    unfold Scalar.cmpi IntOp.cmpi
    congr 1
    rw [Bool.eq_iff_iff]
    rw [BitVec.slt_iff_toInt_lt, decide_eq_true_iff, toInt_small _ (by omega), toInt_small _ (by omega)]
    omega
  rw [e1, e2]
  by_cases h1 : x.val ≤ r.val <;> by_cases h2 : (i 2).val < (i 1).val <;>
    simp [h1, h2, Scalar.select, IntOp.ori]

theorem pay12_apply (i : grid0.Coords) (q k : Vec Ideal S1x512x128 .bf16) (r x : Fin 512) :
    k0_pay12 (wq i) (wk i) q k (ix2 r x) = blkS i q k r x := by
  pointwise [k0_pay12, k0_pay11]
  rw [keep_bit]
  unfold blkS scaleC
  simp only [mask_bot]

theorem oneM_apply (i : grid0.Coords) (q k : Vec Ideal S1x512x128 .bf16) (m : Vec Ideal S1x512x1 .f32) (r : Fin 512) :
    oneM i q k m (ix3 0 r 0) = max (m (ix3 0 r 0)) (Finset.univ.sup fun x => blkS i q k r x) := by
  unfold oneM
  pointwise [k0_pay20, k0_pay15, k0_pay14]
  simp only [pay12_apply, fold_max_sup]

theorem pay15_apply (i : grid0.Coords) (q k : Vec Ideal S1x512x128 .bf16) (m : Vec Ideal S1x512x1 .f32) (r : Fin 512) :
    k0_pay15 (wq i) (wk i) q k m (ix2 r 0) = oneM i q k m (ix3 0 r 0) := by
  unfold oneM
  pointwise [k0_pay20]

theorem oneL_apply (i : grid0.Coords) (q k : Vec Ideal S1x512x128 .bf16) (m l : Vec Ideal S1x512x1 .f32) (r : Fin 512) :
    oneL i q k m l (ix3 0 r 0) = Ideal.exp (m (ix3 0 r 0) - oneM i q k m (ix3 0 r 0)) * l (ix3 0 r 0)
      + ∑ x : Fin 512, Ideal.exp (blkS i q k r x - oneM i q k m (ix3 0 r 0)) := by
  unfold oneL
  pointwise [k0_pay21, k0_pay18, k0_pay17, k0_pay16, k0_pay14]
  simp only [pay12_apply, pay15_apply]

theorem oneA_apply (i : grid0.Coords) (q k v : Vec Ideal S1x512x128 .bf16) (m : Vec Ideal S1x512x1 .f32)
    (a : Vec Ideal S1x512x128 .f32) (r : Fin 512) (d : Fin 128) :
    oneA i q k v m a (ix3 0 r d) = Ideal.exp (m (ix3 0 r 0) - oneM i q k m (ix3 0 r 0)) * a (ix3 0 r d)
      + ∑ x : Fin 512, Ideal.exp (blkS i q k r x - oneM i q k m (ix3 0 r 0)) * v (ix3 0 x d) := by
  unfold oneA
  pointwise [k0_pay13, k0_pay19, k0_pay22, k0_pay17, k0_pay16, k0_pay14]
  simp only [pay12_apply, pay15_apply]

theorem start_apply (h : Fin 8) (r : Fin 512) (d : Fin 128) :
    (k0_pay1 (F := Ideal)) (ix3 h r 0) = ⊥ ∧ (k0_pay2 (F := Ideal)) (ix3 h r 0) = 0
      ∧ (k0_pay3 (F := Ideal)) (ix3 h r d) = 0 := by
  refine ⟨?_, ?_, ?_⟩
  · pointwise [k0_pay1]
    exact mask_bot
  · pointwise [k0_pay2]
  · pointwise [k0_pay3]

/-- The result block at head `h`, value lane `e`: the quotient of the weighted values by the total weight. -/
theorem out_apply (l : Vec Ideal S8x512x1 .f32) (a : Vec Ideal S8x512x128 .f32) (r : Fin 512) (d : Fin 512) :
    outOf l a (ix3 0 r d)
      = Ideal.div (a (ix3 ⟨d.val / 64, by omega⟩ r ⟨d.val % 128, by omega⟩)) (l (ix3 ⟨d.val / 64, by omega⟩ r 0)) := by
  unfold outOf outRaw
  pointwise [k0_pay10, k0_pay89, k0_pay90, k0_pay91, k0_pay92, k0_pay93, slabOf, colOf]
  have key : ∀ (h : Fin 8) (y : ℕ) (hy : y < 128), h.val = d.val / 64 → y = d.val % 128 →
      Ideal.div (a (ValueIdx.ix3 h r ⟨y, hy⟩)) (l (ValueIdx.ix3 h r 0))
        = Ideal.div (a (ix3 ⟨d.val / 64, by omega⟩ r ⟨d.val % 128, by omega⟩)) (l (ix3 ⟨d.val / 64, by omega⟩ r 0)) := by
    intro h y hy h1 h2
    have e1 : h = ⟨d.val / 64, by omega⟩ := Fin.ext h1
    have e2 : (⟨y, hy⟩ : Fin 128) = ⟨d.val % 128, by omega⟩ := Fin.ext h2
    rw [e1, e2]; rfl
  have hd := d.isLt
  repeat' split
  all_goals exact key _ _ _ (by show _ = _; first | omega | (simp; omega)) (by omega)

end Cert.KernelIdeal.Run
-- ==== Proof.Online.lean ====
module

public import proofs.«01_k».proof.Proof.Value
public import proofs.«01_k».proof.Proof.Payload

/-! The scratch after each visited key block is the online softmax of the keys seen so far, and the result array is the
softmax average. -/

@[expose] public section

set_option maxRecDepth 16384

noncomputable section

namespace Cert.KernelIdeal.Run

open Idealize.ShloMosaic Idealize.ShloMosaic.TcCoe
open Cert.KernelIdeal Cert.KernelIdeal.Gen

/-- Lane `d` of head `h`'s slab is value lane `128 * (h / 2) + d`. -/
abbrev laneV (h : Fin 8) (d : Fin 128) : Fin 512 := ⟨128 * (h.val / 2) + d.val, by have := h.isLt; have := d.isLt; omega⟩

/-- A block's scores are the prompt's scores at the block's keys. -/
theorem blkS_eq (q k : FVec Ideal S32x2048x1024 .bf16) (b : Fin 32) (qi ki : ℕ) (hq : qi < 4) (hk : ki < 4) (hle : ki ≤ qi)
    (i : grid0.Coords) (hi1 : (i 1).val = qi) (hi2 : (i 2).val = ki) (x0 x1 : Vec Ideal S1x512x1024 .bf16)
    (h0 : ∀ (r : Fin 512) (l : Fin 1024), x0 (ix3 0 r l) = q (ix3 b ⟨512 * qi + r.val, by omega⟩ l))
    (h1 : ∀ (r : Fin 512) (l : Fin 1024), x1 (ix3 0 r l) = k (ix3 b ⟨512 * ki + r.val, by omega⟩ l))
    (h : Fin 8) (r x : Fin 512) :
    blkS i (laneOf h x0) (laneOf h x1) r x = scoreS q k b h ⟨512 * qi + r.val, by omega⟩ (512 * ki + x.val) := by
  unfold blkS scoreS
  rw [dif_pos (by omega), hi1, hi2]
  have hc : (x.val ≤ r.val ∨ ki < qi) ↔ 512 * ki + x.val ≤ 512 * qi + r.val := by
    have := x.isLt; have := r.isLt; omega
  by_cases hx : 512 * ki + x.val ≤ 512 * qi + r.val
  · rw [if_pos (hc.2 hx), if_pos hx]
    refine congrArg (· * scaleC) (Finset.sum_congr rfl fun d _ => ?_)
    have hl : (⟨128 * h.val + d.val, by omega⟩ : Fin 1024) = ⟨h.val * 128 + d.val, by omega⟩ := Fin.ext (by simp only; omega)
    have e0 : laneOf h x0 (ix3 0 r d) = q (ix3 b ⟨512 * qi + r.val, by omega⟩ ⟨h.val * 128 + d.val, by omega⟩) := by
      rw [← hl]; exact h0 r ⟨128 * h.val + d.val, by omega⟩
    have e1 : laneOf h x1 (ix3 0 x d) = k (ix3 b ⟨512 * ki + x.val, by omega⟩ ⟨h.val * 128 + d.val, by omega⟩) := by
      rw [← hl]; exact h1 x ⟨128 * h.val + d.val, by omega⟩
    rw [e0, e1]
  · rw [if_neg (fun h => hx (hc.1 h)), if_neg hx]

/-- One visit of a key block. -/
theorem step_seen (q k : FVec Ideal S32x2048x1024 .bf16) (v : FVec Ideal S32x2048x512 .bf16)
    (fq : ∀ i, ∃ x : ℝ, q i = (x : EReal)) (fk : ∀ i, ∃ x : ℝ, k i = (x : EReal))
    (b : Fin 32) (qi ki : ℕ) (hq : qi < 4) (hk : ki < 4) (hle : ki ≤ qi)
    (i : grid0.Coords) (hi1 : (i 1).val = qi) (hi2 : (i 2).val = ki) (x0 x1 : Vec Ideal S1x512x1024 .bf16) (x2 : Vec Ideal S1x512x512 .bf16)
    (h0 : ∀ (r : Fin 512) (l : Fin 1024), x0 (ix3 0 r l) = q (ix3 b ⟨512 * qi + r.val, by omega⟩ l))
    (h1 : ∀ (r : Fin 512) (l : Fin 1024), x1 (ix3 0 r l) = k (ix3 b ⟨512 * ki + r.val, by omega⟩ l))
    (h2 : ∀ (r : Fin 512) (l : Fin 512), x2 (ix3 0 r l) = v (ix3 b ⟨512 * ki + r.val, by omega⟩ l))
    (s : St Ideal) (h : Fin 8) (r : Fin 512) (d : Fin 128)
    (hs : Seen (scoreS q k b h ⟨512 * qi + r.val, by omega⟩) (valS v b (laneV h d)) (512 * ki)
      (s.1 (ix3 h r 0)) (s.2.1 (ix3 h r 0)) (s.2.2 (ix3 h r d))) :
    Seen (scoreS q k b h ⟨512 * qi + r.val, by omega⟩) (valS v b (laneV h d)) (512 * (ki + 1))
      ((step i x0 x1 x2 s).1 (ix3 h r 0)) ((step i x0 x1 x2 s).2.1 (ix3 h r 0)) ((step i x0 x1 x2 s).2.2 (ix3 h r d)) := by
  obtain ⟨ht, hb⟩ := scoreS_ne_top q k b h ⟨512 * qi + r.val, by omega⟩ fq fk
  have hB : ∀ x : Fin 512, blkS i (laneOf h x0) (laneOf h x1) r x
      = scoreS q k b h ⟨512 * qi + r.val, by omega⟩ (512 * ki + x.val) :=
    blkS_eq q k b qi ki hq hk hle i hi1 hi2 x0 x1 h0 h1 h r
  have hV : ∀ x : Fin 512, pairOf h x2 (ix3 0 x d) = valS v b (laneV h d) (512 * ki + x.val) := by
    intro x
    unfold valS
    rw [dif_pos (by omega)]
    exact h2 x (laneV h d)
  have eM : (step i x0 x1 x2 s).1 (ix3 h r 0) = oneM i (laneOf h x0) (laneOf h x1) (colOf h s.1) (ix3 0 r 0) := rfl
  have eL : (step i x0 x1 x2 s).2.1 (ix3 h r 0)
      = oneL i (laneOf h x0) (laneOf h x1) (colOf h s.1) (colOf h s.2.1) (ix3 0 r 0) := rfl
  have eA : (step i x0 x1 x2 s).2.2 (ix3 h r d)
      = oneA i (laneOf h x0) (laneOf h x1) (pairOf h x2) (colOf h s.1) (slabOf h s.2.2) (ix3 0 r d) := rfl
  have cM : colOf h s.1 (ix3 0 r 0) = s.1 (ix3 h r 0) := rfl
  have cL : colOf h s.2.1 (ix3 0 r 0) = s.2.1 (ix3 h r 0) := rfl
  have cA : slabOf h s.2.2 (ix3 0 r d) = s.2.2 (ix3 h r d) := rfl
  have hm' : (step i x0 x1 x2 s).1 (ix3 h r 0) = max (s.1 (ix3 h r 0)) ((Finset.range 512).sup fun x =>
      scoreS q k b h ⟨512 * qi + r.val, by omega⟩ (512 * ki + x)) := by
    rw [eM, oneM_apply, cM, sup_range]
    simp only [hB]
  have key := hs.next ht 512 hm' (k := 0) (by omega) (hb 0 (Nat.zero_le _))
  rw [eL, oneL_apply, eA, oneA_apply, ← eM, cM, cL, cA]
  simp only [hB, hV]
  rw [show 512 * (ki + 1) = 512 * ki + 512 from by omega]
  rw [Finset.sum_range, Finset.sum_range] at key
  exact key

variable (m : (ℓ : Loc nD τ sig) → Buf (Elt Ideal) ℓ)

/-- The scratch after each visited key block. -/
theorem scratch_seen (c : Dev nD) (q k : FVec Ideal S32x2048x1024 .bf16) (v : FVec Ideal S32x2048x512 .bf16)
    (eq : m ((c : Thread nD τ).loc main_arg0) = q) (ek : m ((c : Thread nD τ).loc main_arg1) = k) (ev : m ((c : Thread nD τ).loc main_arg2) = v)
    (fq : ∀ i, ∃ x : ℝ, q i = (x : EReal)) (fk : ∀ i, ∃ x : ℝ, k i = (x : EReal))
    (b : Fin 32) (qi : ℕ) (hq : qi < 4) (h : Fin 8) (r : Fin 512) (d : Fin 128) :
    ∀ (ki : ℕ) (hk : ki < 4), ki ≤ qi →
    Seen (scoreS q k b h ⟨512 * qi + r.val, by omega⟩) (valS v b (laneV h d)) (512 * (ki + 1))
      ((stAt m c (pt b qi ki hq hk).val (pt b qi ki hq hk).isLt).1 (ix3 h r 0))
      ((stAt m c (pt b qi ki hq hk).val (pt b qi ki hq hk).isLt).2.1 (ix3 h r 0))
      ((stAt m c (pt b qi ki hq hk).val (pt b qi ki hq hk).isLt).2.2 (ix3 h r d))
  | 0, hk, hle => by
    subst eq ek ev
    rw [stAt_first m c (pt b qi 0 hq hk) (by show (16 * b.val + 4 * qi + 0) % 4 = 0; omega)]
    obtain ⟨c0, c1, c2⟩ := pt_coords b qi 0 hq hk
    obtain ⟨s1, s2, s3⟩ := start_apply h r d
    refine step_seen _ _ _ fq fk b qi 0 hq hk hle _ c1 c2 _ _ _ (read_q m c b qi 0 hq hk) (read_k m c b qi 0 hq hk hle)
      (read_v m c b qi 0 hq hk hle) st0 h r d ?_
    show Seen _ _ (512 * 0) (k0_pay1 (F := Ideal) (ix3 h r 0)) (k0_pay2 (F := Ideal) (ix3 h r 0)) (k0_pay3 (F := Ideal) (ix3 h r d))
    rw [s1, s2, s3]
    exact Seen.start _ _
  | ki + 1, hk, hle => by
    have ih := scratch_seen c q k v eq ek ev fq fk b qi hq h r d ki (by omega) (by omega)
    subst eq ek ev
    rw [stAt_later m c (pt b qi (ki + 1) hq hk) (by show ¬(16 * b.val + 4 * qi + (ki + 1)) % 4 = 0; omega)
      (by show (16 * b.val + 4 * qi + (ki + 1)) % 4 ≤ (16 * b.val + 4 * qi + (ki + 1)) / 4 % 4; omega)]
    obtain ⟨c0, c1, c2⟩ := pt_coords b qi (ki + 1) hq hk
    exact step_seen _ _ _ fq fk b qi (ki + 1) hq hk hle _ c1 c2 _ _ _ (read_q m c b qi (ki + 1) hq hk) (read_k m c b qi (ki + 1) hq hk hle)
      (read_v m c b qi (ki + 1) hq hk hle) _ h r d ih

/-- Past the row's own block the scratch stays. -/
theorem scratch_kept (c : Dev nD) (b : Fin 32) (qi : ℕ) (hq : qi < 4) :
    ∀ (ki : ℕ) (hk : ki < 4), qi ≤ ki →
    stAt m c (pt b qi ki hq hk).val (pt b qi ki hq hk).isLt = stAt m c (pt b qi qi hq hq).val (pt b qi qi hq hq).isLt
  | 0, hk, hle => by
    obtain rfl : qi = 0 := by omega
    rfl
  | ki + 1, hk, hle => by
    by_cases he : qi = ki + 1
    · subst he; rfl
    · rw [stAt_skip m c (pt b qi (ki + 1) hq hk) (by show ¬(16 * b.val + 4 * qi + (ki + 1)) % 4 = 0; omega)
        (by show ¬(16 * b.val + 4 * qi + (ki + 1)) % 4 ≤ (16 * b.val + 4 * qi + (ki + 1)) / 4 % 4; omega)]
      exact scratch_kept c b qi hq ki (by omega) (by omega)

/-- The result array at prompt `b`, row `R`, lane `e`. -/
theorem result_apply (c : Dev nD) (q k : FVec Ideal S32x2048x1024 .bf16) (v : FVec Ideal S32x2048x512 .bf16)
    (eq : m ((c : Thread nD τ).loc main_arg0) = q) (ek : m ((c : Thread nD τ).loc main_arg1) = k) (ev : m ((c : Thread nD τ).loc main_arg2) = v)
    (fq : ∀ i, ∃ x : ℝ, q i = (x : EReal)) (fk : ∀ i, ∃ x : ℝ, k i = (x : EReal))
    (b : Fin 32) (R : Fin 2048) (e : Fin 512) :
    result m c (ix3 b R e) = averageS 2048 (scoreS q k b ⟨e.val / 64, by omega⟩ R) (valS v b e) := by
  have hq : R.val / 512 < 4 := by omega
  have key := scratch_seen m c q k v eq ek ev fq fk b (R.val / 512) hq ⟨e.val / 64, by omega⟩ ⟨R.val % 512, by omega⟩
    ⟨e.val % 128, by omega⟩ (R.val / 512) hq (le_refl _)
  have hR : (⟨512 * (R.val / 512) + R.val % 512, by omega⟩ : Fin 2048) = R := Fin.ext (by simp only; omega)
  have he : laneV ⟨e.val / 64, by omega⟩ ⟨e.val % 128, by omega⟩ = e := Fin.ext (by simp only; omega)
  simp only at key
  rw [hR, he] at key
  show resAt m c (pt b (R.val / 512) 3 hq (by omega)) (ix3 0 ⟨R.val % 512, by omega⟩ e) = _
  unfold resAt
  rw [out_apply, scratch_kept m c b (R.val / 512) hq 3 (by omega) (by omega)]
  obtain ⟨ht, hb⟩ := scoreS_ne_top q k b ⟨e.val / 64, by omega⟩ R fq fk
  exact key.average ht (by omega) (k := 0) (by omega) (hb 0 (Nat.zero_le _))
    (fun j hj => scoreS_after q k b _ R j (by omega))

end Cert.KernelIdeal.Run
-- ==== Proof.RefValue.lean ====
module

public import proofs.«01_k».proof.Proof.Gen.ReferenceIdeal.Run
public import proofs.«01_k».proof.Proof.Spec
public import Idealize.ShloMosaic.Lib.Tactic.CleanTypes

/-! The reference's result read at one element on the extended reals. -/

@[expose] public section

set_option maxRecDepth 16384

noncomputable section

namespace Cert.ReferenceIdeal.Run

open Idealize.ShloMosaic Idealize.ShloMosaic.TcCoe
open Cert.ReferenceIdeal Cert.ReferenceIdeal.Gen Cert.ReferenceIdeal.Value
open Cert.KernelIdeal.Run (scoreS valS averageS scaleC toInt_small fold_max_sup sup_range)

/-- The reference's mask bit is the order of the positions. -/
theorem causal_bit (x r : Fin 2048) (a b : EReal) :
    Scalar.select (IntOp.cmpi CmpIPredicate.sle (BitVec.ofNat 32 x.val) (BitVec.ofNat 32 r.val)) a b
      = if x.val ≤ r.val then a else b := by
  have e1 : IntOp.cmpi CmpIPredicate.sle (BitVec.ofNat 32 x.val) (BitVec.ofNat 32 r.val)
      = BitVec.ofBool (decide (x.val ≤ r.val)) := by
    unfold IntOp.cmpi
    congr 1
    rw [Bool.eq_iff_iff]
    rw [BitVec.sle_iff_toInt_le, decide_eq_true_iff, toInt_small _ (by omega), toInt_small _ (by omega)]
    omega
  rw [e1]
  by_cases h1 : x.val ≤ r.val <;> simp [h1, Scalar.select]

theorem inf_bot : Ideal.ofBits FTy.f32 0xFF800000#32 = ⊥ := by
  unfold Ideal.ofBits
  simp [Ideal.ieee]

/-- The reference's masked scores. -/
def refS (q k : FVec Ideal S32x2048x1024 .bf16) : FVec Ideal S32x8x2048x2048 .f32 :=
  select (broadcastInDim S32x8x2048x2048 ![2, 3] bcast_S2048x2048_S32x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (mulf (Host.dotGeneral dot_S32x2048x8x128_S32x2048x8x128_S32x8x2048x2048_3_3_1_1_02_02 none (shapeCast _ (extf .f32 q bitsLt_bf16_f32) shapeCasts_S32x2048x1024_S32x2048x8x128) (shapeCast _ (extf .f32 k bitsLt_bf16_f32) shapeCasts_S32x2048x1024_S32x2048x8x128)) (broadcastInDim S32x8x2048x2048 ![] bcast_S_S32x8x2048x2048 (constant S_ .f32 0x3DD105EC#32)))
    (broadcastInDim S32x8x2048x2048 ![] bcast_S_S32x8x2048x2048 (id (constant S_ .f32 0xFF800000#32)))

/-- The reference's row maxima. -/
def refM (s : FVec Ideal S32x8x2048x2048 .f32) : FVec Ideal S32x8x2048 .f32 :=
  Host.reduce FloatOps.maximumf s (constant S_ .f32 0xFF800000#32) reducesTo_S32x8x2048x2048_S32x8x2048_d3 h_S_

/-- The reference's row maxima, compared with −∞ once more. -/
def refX (x : FVec Ideal S32x8x2048 .f32) : FVec Ideal S32x8x2048 .f32 :=
  maximumf (broadcastInDim S32x8x2048 ![] bcast_S_S32x8x2048 (constant S_ .f32 0xFF800000#32)) x

/-- The reference's weights before they are normalised. -/
def refE (s : FVec Ideal S32x8x2048x2048 .f32) (x : FVec Ideal S32x8x2048 .f32) : FVec Ideal S32x8x2048x2048 .f32 :=
  Host.exp (subf s (broadcastInDim S32x8x2048x2048 ![0, 1, 2, 3] bcast_S32x8x2048x1_S32x8x2048x2048_0_1_2_3 (broadcastInDim S32x8x2048x1 ![0, 1, 2] bcast_S32x8x2048_S32x8x2048x1_0_1_2 x)))

/-- The reference's weights. -/
def refP (e : FVec Ideal S32x8x2048x2048 .f32) : FVec Ideal S32x8x2048x2048 .f32 :=
  Host.divf e (broadcastInDim S32x8x2048x2048 ![0, 1, 2, 3] bcast_S32x8x2048x1_S32x8x2048x2048_0_1_2_3 (broadcastInDim S32x8x2048x1 ![0, 1, 2] bcast_S32x8x2048_S32x8x2048x1_0_1_2 (Host.reduceAdd e (constant S_ .f32 0x00000000#32) reducesTo_S32x8x2048x2048_S32x8x2048_d3 h_S_)))

/-- The reference's weights, from its masked scores. -/
def refW (s : FVec Ideal S32x8x2048x2048 .f32) : FVec Ideal S32x8x2048x2048 .f32 := refP (refE s (refX (refM s)))

/-- The reference's weighted values. -/
def refO (v : FVec Ideal S32x2048x512 .bf16) (p : FVec Ideal S32x8x2048x2048 .f32) : FVec Ideal S32x2048x512 .bf16 :=
  truncf .bf16 (shapeCast _ (transpose S32x2048x8x64 [0, 3, 1, 2] (Host.dotGeneral dot_S32x2048x8x64_S32x8x2048x2048_S32x8x64x2048_1_3_3_2_02_01 none (shapeCast _ (extf .f32 v bitsLt_bf16_f32) shapeCasts_S32x2048x512_S32x2048x8x64) p) transposes_S32x8x64x2048_S32x2048x8x64_0_3_1_2) shapeCasts_S32x2048x8x64_S32x2048x512) bitsLt_bf16_f32

theorem res_eq (m : (ℓ : Loc nD τ sig) → Buf (Elt Ideal) ℓ) (c : Dev nD) :
    res_main_v30 m c = refO (m ((c.tc : Thread nD τ).loc main_arg2))
      (refW (refS (m ((c.tc : Thread nD τ).loc main_arg0)) (m ((c.tc : Thread nD τ).loc main_arg1)))) := rfl

theorem refS_apply (q k : FVec Ideal S32x2048x1024 .bf16) (b : Fin 32) (h : Fin 8) (r x : Fin 2048) :
    refS q k (ix4 b h r x) = scoreS q k b h r x.val := by
  unfold scoreS
  rw [dif_pos x.isLt]
  pointwise [refS]
  rw [causal_bit]
  rfl

theorem red3 : S32x8x2048x2048.Reduces [3] S32x8x2048 := by decide

theorem refM_apply (s : FVec Ideal S32x8x2048x2048 .f32) (b : Fin 32) (h : Fin 8) (r : Fin 2048) :
    refM s (ix3 b h r) = Finset.univ.sup fun y : Fin 2048 => s (ix4 b h r y) := by
  unfold refM
  rw [Host.reduce_eq_fold_single _ _ _ _ red3]
  refine Eq.trans ?_ (fold_max_sup fun y : Fin 2048 => s (ix4 b h r y))
  have hl : ∀ y : Fin 2048, red3.lift (ix3 b h r) y = ix4 b h r y := by
    intro y
    funext a
    match a with
    | ⟨0, _⟩ => rfl
    | ⟨1, _⟩ => rfl
    | ⟨2, _⟩ => rfl
    | ⟨3, _⟩ => rfl
  refine congrArg (fun f : Fin 2048 → EReal => Finset.fold max (Ideal.ofBits FTy.f32 0xFF800000#32) f Finset.univ) ?_
  funext y
  exact congrArg s (hl y)

theorem bot_max (x : EReal) : max (Ideal.ofBits FTy.f32 0xFF800000#32) x = x := by
  rw [inf_bot]
  exact max_eq_right bot_le

theorem refX_apply (x : FVec Ideal S32x8x2048 .f32) (i : S32x8x2048.Idx) : refX x i = x i := by
  unfold refX
  exact bot_max (x i)

theorem refE_apply (s : FVec Ideal S32x8x2048x2048 .f32) (z : FVec Ideal S32x8x2048 .f32) (b : Fin 32) (h : Fin 8) (r x : Fin 2048) :
    refE s z (ix4 b h r x) = Ideal.exp (s (ix4 b h r x) - z (ix3 b h r)) := by
  pointwise [refE]

theorem refP_apply (e : FVec Ideal S32x8x2048x2048 .f32) (b : Fin 32) (h : Fin 8) (r x : Fin 2048) :
    refP e (ix4 b h r x) = Ideal.div (e (ix4 b h r x)) (∑ y : Fin 2048, e (ix4 b h r y)) := by
  pointwise [refP]

theorem refO_apply (v : FVec Ideal S32x2048x512 .bf16) (p : FVec Ideal S32x8x2048x2048 .f32) (b : Fin 32) (r : Fin 2048) (d : Fin 512) :
    refO v p (ix3 b r d) = ∑ x : Fin 2048, v (ix3 b x d) * p (ix4 b ⟨d.val / 64, by omega⟩ r x) := by
  pointwise [refO]

/-- The reference's result at prompt `b`, row `r`, lane `d` is the softmax average of head `d / 64`. -/
theorem ref_apply (q k : FVec Ideal S32x2048x1024 .bf16) (v : FVec Ideal S32x2048x512 .bf16) (b : Fin 32) (r : Fin 2048) (d : Fin 512) :
    refO v (refW (refS q k)) (ix3 b r d) = averageS 2048 (scoreS q k b ⟨d.val / 64, by omega⟩ r) (valS v b d) := by
  rw [refO_apply]
  simp only [refW, refP_apply, refE_apply, refX_apply, refM_apply, refS_apply]
  unfold averageS
  rw [sup_range]
  simp only [Finset.sum_range (n := 2048)]
  apply Finset.sum_congr rfl
  intro x _
  unfold valS
  rw [dif_pos x.isLt]

end Cert.ReferenceIdeal.Run
-- ==== Proof.Finite.lean ====
module

public import proofs.«01_k».proof.Pre_finite_scores
public import Idealize.ShloMosaic.Lib.ReduceAll
public import Idealize.ShloMosaic.Lib.Pointwise

/-! The precondition, read: every query and every key is a real number. -/

@[expose] public section

set_option maxRecDepth 16384

noncomputable section

namespace Cert.Pre_finite_scores.Run

open Idealize.ShloMosaic Cert.Pre_finite_scores

instance facts : Cert.Pre_finite_scores.Facts where
  bitsLt_bf16_f32 := by decide
  bcast_S_S32x2048x1024 := by decide
  reducesTo_S32x2048x1024_S_d0_1_2 := by decide
  h_S_ := by decide

/-- The word of positive infinity. -/
theorem top_word : Ideal.ofBits FTy.f32 0x7F800000#32 = ⊤ := by
  unfold Ideal.ofBits
  simp [Ideal.ieee]

/-- A number whose absolute value is under infinity is real. -/
theorem real_of_abs (x : EReal) (h : Ideal.cmp .olt (max x (-x)) ⊤ = 1#1) : ∃ y : ℝ, x = (y : EReal) := by
  have h' : max x (-x) < ⊤ := by
    by_contra hn
    simp [Ideal.cmp, hn] at h
  have h1 : x ≠ ⊤ := fun e => by rw [e] at h'; simp at h'
  have h2 : x ≠ ⊥ := fun e => by rw [e] at h'; simp at h'
  exact ⟨x.toReal, (EReal.coe_toReal h1 h2).symm⟩

/-- Both bits of a conjunction that is one. -/
theorem both_one : ∀ a b : BitVec 1, IntOp.andi a b = 1#1 → a = 1#1 ∧ b = 1#1 := by decide

/-- The test of one array, as the predicate spells it. -/
def test (x : FVec Ideal S32x2048x1024 .bf16) : IVec S_ 1 :=
  Host.reduce IntOp.andi (cmpf .olt (Host.absf (extf .f32 x Facts.bitsLt_bf16_f32))
    (broadcastInDim S32x2048x1024 ![] Facts.bcast_S_S32x2048x1024 (constant S_ .f32 0x7F800000#32)))
    (constantI S_ 1 1#1) Facts.reducesTo_S32x2048x1024_S_d0_1_2 Facts.h_S_

theorem real_of_test (x : FVec Ideal S32x2048x1024 .bf16) (j : S_.Idx) (h : test x j = 1#1) (i : S32x2048x1024.Idx) :
    ∃ y : ℝ, x i = (y : EReal) := by
  have hs : Subsingleton S_.Idx := ⟨fun a b => funext fun e => e.elim0⟩
  have e := Host.reduce_andi_all _ _ _ _ j h i
  refine real_of_abs (x i) ?_
  rw [← top_word]
  exact e

theorem real_of_pre (q k : FVec Ideal S32x2048x1024 .bf16) (v : FVec Ideal S32x2048x512 .bf16)
    (h : fn (F := Ideal) q k v = fun _ => 1#1) :
    (∀ i, ∃ x : ℝ, q i = (x : EReal)) ∧ (∀ i, ∃ x : ℝ, k i = (x : EReal)) := by
  have e : IntOp.andi (test q finZeroElim) (test k finZeroElim) = 1#1 := congrFun h finZeroElim
  obtain ⟨a, b⟩ := both_one _ _ e
  exact ⟨real_of_test q _ a, real_of_test k _ b⟩

end Cert.Pre_finite_scores.Run
-- ==== Proof.Bits.lean ====
module

public import proofs.«01_k».proof.Proof.Gen.Kernel.Frame
public import proofs.«01_k».proof.Proof.Body
public import proofs.«01_k».proof.Defs

/-! The kernel at the bits: read with the mask constant at its literal, the idealised program is the kernel itself, so that
its frame is the kernel's. -/

@[expose] public section

set_option maxRecDepth 16384

noncomputable section

namespace Cert.Kernel.Run

open Idealize.ShloMosaic Idealize.SL.Sem

/-- At the bits, a named constant is its literal. -/
instance bitsNamed : Named Bits where
  named _ _ {_} bits := FloatOps.ofBits _ bits

set_option maxRecDepth 20000
set_option maxHeartbeats 1000000
set_option backward.isDefEq.respectTransparency.types false

/-- The two programs' body tables are one at the bits. -/
theorem defs0_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig)) (funext fun l => funext fun a => ?_)
  match l, a with
  | 0, (_, _) => rfl
  | ⟨n + 1, h⟩, _ => exact absurd h (Nat.not_lt.2 (Nat.le_add_left _ _))

theorem defs_eq : Cert.Kernel.defs (F := Bits) = Cert.KernelIdeal.defs (F := Bits) :=
  congrArg (Pipeline.defs Cert.Kernel.pcfgs) defs0_eq

/-- The frame of the kernel as it runs. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq]
  exact Cert.KernelIdeal.Run.frame (F := Bits) m g

end Cert.Kernel.Run
-- ==== Proof.Post.lean ====
module

public import proofs.«01_k».proof.Proof.Gen.Post
public import proofs.«01_k».proof.Proof.Gen.Post.Frame
public import proofs.«01_k».proof.Proof.Gen.PostIdeal
public import proofs.«01_k».proof.Proof.Gen.PostIdeal.Value
public import Idealize.ShloMosaic.Lib.Pointwise

/-! The call after the two attentions: what one token's row of each of its three results is, and that the body's values are those rows. -/

@[expose] public section

set_option maxRecDepth 16384

noncomputable section

namespace Cert.PostIdeal.Run

open Idealize.ShloMosaic Idealize.ShloMosaic.TcCoe
open Cert.PostIdeal Cert.PostIdeal.Gen

/-- The gated sum of the two attentions' projections, one token's row. -/
def mixRow (om ob : Fin 512 → EReal) (sg : Fin 2048 → EReal) (wom wob : Fin 512 → Fin 1024 → EReal) (j : Fin 1024) : EReal :=
  sg ⟨j.val, by omega⟩ * (∑ i : Fin 512, om i * wom i j) + sg ⟨1024 + j.val, by omega⟩ * (∑ i : Fin 512, ob i * wob i j)

/-- The first residual, one token's row. -/
def resRow (mix x gt : Fin 1024 → EReal) (wout : Fin 1024 → Fin 1024 → EReal) (e : Fin 1024) : EReal :=
  x e + gt e * ∑ j : Fin 1024, mix j * wout j e

/-- The mean of squares that the normalisation divides by, with the small constant added. -/
def meanRow (x : Fin 1024 → EReal) : EReal :=
  Ideal.div (∑ k : Fin 1024, x k * x k) (Ideal.ofBits .f32 0x44800000#32) + Ideal.ofBits .f32 0x358637BD#32

/-- The normalised, scaled and shifted row. -/
def normRow (x g sc sh : Fin 1024 → EReal) (e : Fin 1024) : EReal :=
  x e * Ideal.rsqrt (meanRow x) * g e * (Ideal.ofBits .f32 0x3F800000#32 + sc e) + sh e

/-- The expert queries, one token's row. -/
def askRow (h : Fin 1024 → EReal) (wpq : Fin 1024 → Fin 2048 → EReal) (n : Fin 2048) : EReal :=
  ∑ j : Fin 1024, h j * wpq j n

theorem pay4_apply (om ob : Vec Ideal S1x256x512 .bf16) (sg : Vec Ideal S1x256x2048 .bf16) (wom wob : Vec Ideal S512x1024 .bf16)
    (wout : Vec Ideal S1024x1024 .bf16) (x : Vec Ideal S1x256x1024 .f32) (gt : Vec Ideal S1x1x1024 .f32) (r : Fin 256) (e : Fin 1024) :
    k0_pay4 om wom ob wob sg wout x gt (ix2 r e)
      = resRow (mixRow (fun i => om (ix3 0 r i)) (fun i => ob (ix3 0 r i)) (fun j => sg (ix3 0 r j)) (fun i j => wom (ix2 i j)) (fun i j => wob (ix2 i j)))
          (fun j => x (ix3 0 r j)) (fun j => gt (ix3 0 0 j)) (fun i j => wout (ix2 i j)) e := by
  unfold resRow mixRow
  pointwise [k0_pay4]

theorem pay1_apply (v : FVec Ideal S256x1024 .f32) (g : Vec Ideal S1x1024 .f32) (sc sh : Vec Ideal S1x1x1024 .f32) (r : Fin 256) (e : Fin 1024) :
    k0_pay1 v g sc sh (ix2 r e)
      = normRow (fun j => v (ix2 r j)) (fun j => g (ix2 0 j)) (fun j => sc (ix3 0 0 j)) (fun j => sh (ix3 0 0 j)) e := by
  unfold normRow meanRow
  pointwise [k0_pay1]

theorem pay2_apply (v : FVec Ideal S256x1024 .f32) (g : Vec Ideal S1x1024 .f32) (sc sh : Vec Ideal S1x1x1024 .f32) (r : Fin 256) (e : Fin 1024) :
    k0_pay2 v g sc sh (ix3 0 r e) = k0_pay1 v g sc sh (ix2 r e) := by
  pointwise [k0_pay2]

theorem pay3_apply (v : FVec Ideal S256x1024 .f32) (g : Vec Ideal S1x1024 .f32) (sc sh : Vec Ideal S1x1x1024 .f32)
    (wpq : Vec Ideal S1024x2048 .bf16) (r : Fin 256) (n : Fin 2048) :
    k0_pay3 v g sc sh wpq (ix3 0 r n) = askRow (fun j => k0_pay1 v g sc sh (ix2 r j)) (fun i j => wpq (ix2 i j)) n := by
  unfold askRow
  pointwise [k0_pay3]

theorem pay5_apply (om ob : Vec Ideal S1x256x512 .bf16) (sg : Vec Ideal S1x256x2048 .bf16) (wom wob : Vec Ideal S512x1024 .bf16)
    (wout : Vec Ideal S1024x1024 .bf16) (x : Vec Ideal S1x256x1024 .f32) (gt : Vec Ideal S1x1x1024 .f32) (r : Fin 256) (e : Fin 1024) :
    k0_pay5 om wom ob wob sg wout x gt (ix3 0 r e) = k0_pay4 om wom ob wob sg wout x gt (ix2 r e) := by
  pointwise [k0_pay5]

end Cert.PostIdeal.Run

end
-- ==== Proof.PostValue.lean ====
module

public import proofs.«01_k».proof.Proof.Post
public import Idealize.ShloMosaic.Lib.Pointwise.Index

/-! The arrays of the call after the two attentions: what the windows' blocks are of their arrays, and the three result arrays after the run. -/

@[expose] public section

set_option maxRecDepth 16384

noncomputable section

namespace Cert.PostIdeal.Run

open Idealize.ShloMosaic Idealize.ShloMosaic.TcCoe Idealize.SL.Sem
open Cert.PostIdeal Cert.PostIdeal.Gen

variable (m : (ℓ : Loc nD τ sig) → Buf (Elt Ideal) ℓ) (ρ : Dev nD → PrngReg)

/-- The grid point of prompt `b`, token block `q`. -/
def pt (b : Fin 32) (q : Fin 8) : Fin cfg0.N :=
  ⟨8 * b.val + q.val, by have hN : cfg0.N = 256 := N_0; omega⟩

theorem pt_coords (b : Fin 32) (q : Fin 8) :
    (grid0.coords (pt b q) 0).val = b.val ∧ (grid0.coords (pt b q) 1).val = q.val := by
  have e0 : (grid0.coords (pt b q) 0).val = (pt b q).val / 8 % 32 := Pipeline.Grid.coords_val _ 0 (by decide) rfl
  have e1 : (grid0.coords (pt b q) 1).val = (pt b q).val / 1 % 8 := Pipeline.Grid.coords_val _ 1 (by decide) rfl
  have hv : (pt b q).val = 8 * b.val + q.val := rfl
  rw [hv] at e0 e1
  have := b.isLt
  have := q.isLt
  exact ⟨by omega, by omega⟩

/-- The word of a small number. -/
theorem word_small (n : ℕ) (h : n < 4096) : (BitVec.ofNat 32 n).toNat = n := by
  rw [BitVec.toNat_ofNat, Nat.mod_eq_of_lt (by omega)]

/-- A token's place in its prompt, from its block and its place there. -/
abbrev at_ (q : Fin 8) (r : Fin 256) : Fin 2048 := ⟨256 * q.val + r.val, by omega⟩

theorem zero3 : (![0, 0, 0] : Fin 3 → Nat) = fun _ => 0 := by decide
theorem zero2 : (![0, 0] : Fin 2 → Nat) = fun _ => 0 := by decide

theorem index0 (b : Fin 32) (q : Fin 8) :
    win0_0.index (pt b q) 0 = b.val ∧ win0_0.index (pt b q) 1 = q.val ∧ win0_0.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- The block of the latent attention's output. -/
theorem read0 (c : Dev nD) (b : Fin 32) (q : Fin 8) (r : Fin 256) (l : Fin 512) :
    (iblk m c 0 (pt b q) : Vec Ideal S1x256x512 .bf16) (ix3 0 r l) = (V m c main_arg0 : Vec Ideal S32x2048x512 .bf16) (ix3 b (at_ q r) l) := by
  obtain ⟨h0, h1, h2⟩ := index0 b q
  unfold iblk
  rw [View.read_apply]
  show V m c main_arg0 _ = V m c main_arg0 _
  congr 1
  funext a
  apply Fin.ext
  match a with
  | ⟨0, _⟩ => show win0_0.index (pt b q) 0 * 1 + 1 * 0 = b.val; rw [h0]; omega
  | ⟨1, _⟩ => show win0_0.index (pt b q) 1 * 256 + 1 * r.val = 256 * q.val + r.val; rw [h1]; omega
  | ⟨2, _⟩ => show win0_0.index (pt b q) 2 * 512 + 1 * l.val = l.val; rw [h2]; omega

theorem index1 (b : Fin 32) (q : Fin 8) :
    win0_1.index (pt b q) 0 = b.val ∧ win0_1.index (pt b q) 1 = q.val ∧ win0_1.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- The block of the block attention's output. -/
theorem read1 (c : Dev nD) (b : Fin 32) (q : Fin 8) (r : Fin 256) (l : Fin 512) :
    (iblk m c 1 (pt b q) : Vec Ideal S1x256x512 .bf16) (ix3 0 r l) = (V m c main_arg1 : Vec Ideal S32x2048x512 .bf16) (ix3 b (at_ q r) l) := by
  obtain ⟨h0, h1, h2⟩ := index1 b q
  unfold iblk
  rw [View.read_apply]
  show V m c main_arg1 _ = V m c main_arg1 _
  congr 1
  funext a
  apply Fin.ext
  match a with
  | ⟨0, _⟩ => show win0_1.index (pt b q) 0 * 1 + 1 * 0 = b.val; rw [h0]; omega
  | ⟨1, _⟩ => show win0_1.index (pt b q) 1 * 256 + 1 * r.val = 256 * q.val + r.val; rw [h1]; omega
  | ⟨2, _⟩ => show win0_1.index (pt b q) 2 * 512 + 1 * l.val = l.val; rw [h2]; omega

theorem index2 (b : Fin 32) (q : Fin 8) :
    win0_2.index (pt b q) 0 = b.val ∧ win0_2.index (pt b q) 1 = q.val ∧ win0_2.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- The block of the gates. -/
theorem read2 (c : Dev nD) (b : Fin 32) (q : Fin 8) (r : Fin 256) (l : Fin 2048) :
    (iblk m c 2 (pt b q) : Vec Ideal S1x256x2048 .bf16) (ix3 0 r l) = (V m c main_arg2 : Vec Ideal S32x2048x2048 .bf16) (ix3 b (at_ q r) l) := by
  obtain ⟨h0, h1, h2⟩ := index2 b q
  unfold iblk
  rw [View.read_apply]
  show V m c main_arg2 _ = V m c main_arg2 _
  congr 1
  funext a
  apply Fin.ext
  match a with
  | ⟨0, _⟩ => show win0_2.index (pt b q) 0 * 1 + 1 * 0 = b.val; rw [h0]; omega
  | ⟨1, _⟩ => show win0_2.index (pt b q) 1 * 256 + 1 * r.val = 256 * q.val + r.val; rw [h1]; omega
  | ⟨2, _⟩ => show win0_2.index (pt b q) 2 * 2048 + 1 * l.val = l.val; rw [h2]; omega

theorem index3 (b : Fin 32) (q : Fin 8) :
    win0_3.index (pt b q) 0 = b.val ∧ win0_3.index (pt b q) 1 = q.val ∧ win0_3.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- The block of the layer's input. -/
theorem read3 (c : Dev nD) (b : Fin 32) (q : Fin 8) (r : Fin 256) (l : Fin 1024) :
    (iblk m c 3 (pt b q) : Vec Ideal S1x256x1024 .f32) (ix3 0 r l) = (V m c main_arg3 : Vec Ideal S32x2048x1024 .f32) (ix3 b (at_ q r) l) := by
  obtain ⟨h0, h1, h2⟩ := index3 b q
  unfold iblk
  rw [View.read_apply]
  show V m c main_arg3 _ = V m c main_arg3 _
  congr 1
  funext a
  apply Fin.ext
  match a with
  | ⟨0, _⟩ => show win0_3.index (pt b q) 0 * 1 + 1 * 0 = b.val; rw [h0]; omega
  | ⟨1, _⟩ => show win0_3.index (pt b q) 1 * 256 + 1 * r.val = 256 * q.val + r.val; rw [h1]; omega
  | ⟨2, _⟩ => show win0_3.index (pt b q) 2 * 1024 + 1 * l.val = l.val; rw [h2]; omega

theorem index4 (b : Fin 32) (q : Fin 8) :
    win0_4.index (pt b q) 0 = b.val ∧ win0_4.index (pt b q) 1 = 0 ∧ win0_4.index (pt b q) 2 = 0 := by
  obtain ⟨h0, h1⟩ := pt_coords b q
  have := b.isLt
  refine ⟨?_, rfl, rfl⟩
  show (BitVec.ofNat 32 (grid0.coords (pt b q) 0).val).toNat = _
  rw [h0, word_small _ (by omega)]

/-- The block of the residual gate. -/
theorem read4 (c : Dev nD) (b : Fin 32) (q : Fin 8) (l : Fin 1024) :
    (iblk m c 4 (pt b q) : Vec Ideal S1x1x1024 .f32) (ix3 0 0 l) = (V m c main_arg4 : Vec Ideal S32x1x1024 .f32) (ix3 b 0 l) := by
  obtain ⟨h0, h1, h2⟩ := index4 b q
  unfold iblk
  rw [View.read_apply]
  show V m c main_arg4 _ = V m c main_arg4 _
  congr 1
  funext a
  apply Fin.ext
  match a with
  | ⟨0, _⟩ => show win0_4.index (pt b q) 0 * 1 + 1 * 0 = b.val; rw [h0]; omega
  | ⟨1, _⟩ => show win0_4.index (pt b q) 1 * 1 + 1 * 0 = 0; rw [h1]
  | ⟨2, _⟩ => show win0_4.index (pt b q) 2 * 1024 + 1 * l.val = l.val; rw [h2]; omega

theorem index5 (b : Fin 32) (q : Fin 8) :
    win0_5.index (pt b q) 0 = b.val ∧ win0_5.index (pt b q) 1 = 0 ∧ win0_5.index (pt b q) 2 = 0 := by
  obtain ⟨h0, h1⟩ := pt_coords b q
  have := b.isLt
  refine ⟨?_, rfl, rfl⟩
  show (BitVec.ofNat 32 (grid0.coords (pt b q) 0).val).toNat = _
  rw [h0, word_small _ (by omega)]

/-- The block of the scale. -/
theorem read5 (c : Dev nD) (b : Fin 32) (q : Fin 8) (l : Fin 1024) :
    (iblk m c 5 (pt b q) : Vec Ideal S1x1x1024 .f32) (ix3 0 0 l) = (V m c main_arg5 : Vec Ideal S32x1x1024 .f32) (ix3 b 0 l) := by
  obtain ⟨h0, h1, h2⟩ := index5 b q
  unfold iblk
  rw [View.read_apply]
  show V m c main_arg5 _ = V m c main_arg5 _
  congr 1
  funext a
  apply Fin.ext
  match a with
  | ⟨0, _⟩ => show win0_5.index (pt b q) 0 * 1 + 1 * 0 = b.val; rw [h0]; omega
  | ⟨1, _⟩ => show win0_5.index (pt b q) 1 * 1 + 1 * 0 = 0; rw [h1]
  | ⟨2, _⟩ => show win0_5.index (pt b q) 2 * 1024 + 1 * l.val = l.val; rw [h2]; omega

theorem index6 (b : Fin 32) (q : Fin 8) :
    win0_6.index (pt b q) 0 = b.val ∧ win0_6.index (pt b q) 1 = 0 ∧ win0_6.index (pt b q) 2 = 0 := by
  obtain ⟨h0, h1⟩ := pt_coords b q
  have := b.isLt
  refine ⟨?_, rfl, rfl⟩
  show (BitVec.ofNat 32 (grid0.coords (pt b q) 0).val).toNat = _
  rw [h0, word_small _ (by omega)]

/-- The block of the shift. -/
theorem read6 (c : Dev nD) (b : Fin 32) (q : Fin 8) (l : Fin 1024) :
    (iblk m c 6 (pt b q) : Vec Ideal S1x1x1024 .f32) (ix3 0 0 l) = (V m c main_arg6 : Vec Ideal S32x1x1024 .f32) (ix3 b 0 l) := by
  obtain ⟨h0, h1, h2⟩ := index6 b q
  unfold iblk
  rw [View.read_apply]
  show V m c main_arg6 _ = V m c main_arg6 _
  congr 1
  funext a
  apply Fin.ext
  match a with
  | ⟨0, _⟩ => show win0_6.index (pt b q) 0 * 1 + 1 * 0 = b.val; rw [h0]; omega
  | ⟨1, _⟩ => show win0_6.index (pt b q) 1 * 1 + 1 * 0 = 0; rw [h1]
  | ⟨2, _⟩ => show win0_6.index (pt b q) 2 * 1024 + 1 * l.val = l.val; rw [h2]; omega

/-- The whole of the latent attention's output weights, at every grid point. -/
theorem read7 (c : Dev nD) (b : Fin 32) (q : Fin 8) (i : Fin 512) (j : Fin 1024) :
    (iblk m c 7 (pt b q) : Vec Ideal S512x1024 .bf16) (ix2 i j) = (V m c main_arg7 : Vec Ideal S512x1024 .bf16) (ix2 i j) := by
  unfold iblk
  rw [View.read_apply]
  show V m c main_arg7 _ = V m c main_arg7 _
  congr 1
  funext a
  apply Fin.ext
  match a with
  | ⟨0, _⟩ => show 0 * 512 + 1 * i.val = i.val; omega
  | ⟨1, _⟩ => show 0 * 1024 + 1 * j.val = j.val; omega

/-- The whole of the block attention's output weights, at every grid point. -/
theorem read8 (c : Dev nD) (b : Fin 32) (q : Fin 8) (i : Fin 512) (j : Fin 1024) :
    (iblk m c 8 (pt b q) : Vec Ideal S512x1024 .bf16) (ix2 i j) = (V m c main_arg8 : Vec Ideal S512x1024 .bf16) (ix2 i j) := by
  unfold iblk
  rw [View.read_apply]
  show V m c main_arg8 _ = V m c main_arg8 _
  congr 1
  funext a
  apply Fin.ext
  match a with
  | ⟨0, _⟩ => show 0 * 512 + 1 * i.val = i.val; omega
  | ⟨1, _⟩ => show 0 * 1024 + 1 * j.val = j.val; omega

/-- The whole of the mixing weights, at every grid point. -/
theorem read9 (c : Dev nD) (b : Fin 32) (q : Fin 8) (i : Fin 1024) (j : Fin 1024) :
    (iblk m c 9 (pt b q) : Vec Ideal S1024x1024 .bf16) (ix2 i j) = (V m c main_arg9 : Vec Ideal S1024x1024 .bf16) (ix2 i j) := by
  unfold iblk
  rw [View.read_apply]
  show V m c main_arg9 _ = V m c main_arg9 _
  congr 1
  funext a
  apply Fin.ext
  match a with
  | ⟨0, _⟩ => show 0 * 1024 + 1 * i.val = i.val; omega
  | ⟨1, _⟩ => show 0 * 1024 + 1 * j.val = j.val; omega

/-- The whole of the normalisation's gain, at every grid point. -/
theorem read10 (c : Dev nD) (b : Fin 32) (q : Fin 8) (i : Fin 1) (j : Fin 1024) :
    (iblk m c 10 (pt b q) : Vec Ideal S1x1024 .f32) (ix2 i j) = (V m c main_arg10 : Vec Ideal S1x1024 .f32) (ix2 i j) := by
  unfold iblk
  rw [View.read_apply]
  show V m c main_arg10 _ = V m c main_arg10 _
  congr 1
  funext a
  apply Fin.ext
  match a with
  | ⟨0, _⟩ => show 0 * 1 + 1 * i.val = i.val; omega
  | ⟨1, _⟩ => show 0 * 1024 + 1 * j.val = j.val; omega

/-- The whole of the expert query weights, at every grid point. -/
theorem read11 (c : Dev nD) (b : Fin 32) (q : Fin 8) (i : Fin 1024) (j : Fin 2048) :
    (iblk m c 11 (pt b q) : Vec Ideal S1024x2048 .bf16) (ix2 i j) = (V m c main_arg11 : Vec Ideal S1024x2048 .bf16) (ix2 i j) := by
  unfold iblk
  rw [View.read_apply]
  show V m c main_arg11 _ = V m c main_arg11 _
  congr 1
  funext a
  apply Fin.ext
  match a with
  | ⟨0, _⟩ => show 0 * 1024 + 1 * i.val = i.val; omega
  | ⟨1, _⟩ => show 0 * 2048 + 1 * j.val = j.val; omega

theorem index12 (b : Fin 32) (q : Fin 8) :
    win0_12.index (pt b q) 0 = b.val ∧ win0_12.index (pt b q) 1 = q.val ∧ win0_12.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- An array that agrees with a block's contents at the block's rows reads as them there. -/
theorem cut_eq_read12 (b : Fin 32) (q : Fin 8) (X : Vec Ideal S1x256x1024 .f32) (Y : Vec Ideal S32x2048x1024 .f32)
    (h : ∀ (r : Fin 256) (e : Fin 1024), X (ix3 0 r e) = Y (ix3 b (at_ q r) e)) :
    win0_12.cut (grid0.coords (pt b q)) X = (win0_12.blk (pt b q)).view.read (Elt Ideal) Y := by
  obtain ⟨h0, h1, h2⟩ := index12 b q
  funext j
  rw [View.read_apply]
  have j0 : (j 0).val < 1 := (j 0).isLt
  have j1 : (j 1).val < 256 := (j 1).isLt
  have j2 : (j 2).val < 1024 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win0_12.index (pt b q) 0 * 1 + 1 * (j 0).val; rw [h0]; omega
    | ⟨1, _⟩ => show 256 * q.val + (j 1).val = win0_12.index (pt b q) 1 * 256 + 1 * (j 1).val; rw [h1]; omega
    | ⟨2, _⟩ => show (j 2).val = win0_12.index (pt b q) 2 * 1024 + 1 * (j 2).val; rw [h2]; omega

/-- Every element of the array lies in some block. -/
theorem covered12 (i : S32x2048x1024.Idx) : ∃ t : Fin cfg0.N, i ∈ ((View.whole main_v0_0).slice (win0_12.rect t)).set := by
  have i0 : (i 0).val < 32 := (i 0).isLt
  have i1 : (i 1).val < 2048 := (i 1).isLt
  have i2 : (i 2).val < 1024 := (i 2).isLt
  have hq : (i 1).val / 256 < 8 := by omega
  obtain ⟨g0, g1, g2⟩ := index12 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win0_12.index (pt ⟨(i 0).val, i0⟩ ⟨(i 1).val / 256, hq⟩) 0 * 1 ≤ (i 0).val ∧ (i 0).val < win0_12.index (pt ⟨(i 0).val, i0⟩ ⟨(i 1).val / 256, hq⟩) 0 * 1 + 1
              rw [g0]; simp only; omega
  | ⟨1, _⟩ => show win0_12.index (pt ⟨(i 0).val, i0⟩ ⟨(i 1).val / 256, hq⟩) 1 * 256 ≤ (i 1).val ∧ (i 1).val < win0_12.index (pt ⟨(i 0).val, i0⟩ ⟨(i 1).val / 256, hq⟩) 1 * 256 + 256
              rw [g1]; simp only; omega
  | ⟨2, _⟩ => show win0_12.index (pt ⟨(i 0).val, i0⟩ ⟨(i 1).val / 256, hq⟩) 2 * 1024 ≤ (i 2).val ∧ (i 2).val < win0_12.index (pt ⟨(i 0).val, i0⟩ ⟨(i 1).val / 256, hq⟩) 2 * 1024 + 1024
              rw [g2]; omega

/-- The array after the run, from what each grid point's block is. -/
theorem final12 (c : Dev nD) (G : Vec Ideal S32x2048x1024 .f32)
    (h : ∀ (b : Fin 32) (q : Fin 8) (r : Fin 256) (e : Fin 1024),
      out0_12 (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) (iblk m c 9 (pt b q)) (iblk m c 10 (pt b q)) (iblk m c 11 (pt b q)) (ix3 0 r e) = G (ix3 b (at_ q r) e)) :
    (dats m 0 c).arrAt 12 cfg0.N = G := by
  refine (dats m 0 c).arrAt_eq_of_cover 12 G (fun t hf => ?_) fun i => (covered12 i).elim fun t h => ⟨t, flush0_12 t, h⟩
  have hlt : t.val < 256 := lt_of_lt_of_eq t.isLt N_0
  have ht : t = pt ⟨t.val / 8, by omega⟩ ⟨t.val % 8, by omega⟩ :=
    Fin.ext (by show t.val = 8 * (t.val / 8) + t.val % 8; omega)
  rw [Value.flushed12, ht]
  exact cut_eq_read12 _ _ _ G (h _ _)

theorem index13 (b : Fin 32) (q : Fin 8) :
    win0_13.index (pt b q) 0 = b.val ∧ win0_13.index (pt b q) 1 = q.val ∧ win0_13.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- An array that agrees with a block's contents at the block's rows reads as them there. -/
theorem cut_eq_read13 (b : Fin 32) (q : Fin 8) (X : Vec Ideal S1x256x1024 .f32) (Y : Vec Ideal S32x2048x1024 .f32)
    (h : ∀ (r : Fin 256) (e : Fin 1024), X (ix3 0 r e) = Y (ix3 b (at_ q r) e)) :
    win0_13.cut (grid0.coords (pt b q)) X = (win0_13.blk (pt b q)).view.read (Elt Ideal) Y := by
  obtain ⟨h0, h1, h2⟩ := index13 b q
  funext j
  rw [View.read_apply]
  have j0 : (j 0).val < 1 := (j 0).isLt
  have j1 : (j 1).val < 256 := (j 1).isLt
  have j2 : (j 2).val < 1024 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win0_13.index (pt b q) 0 * 1 + 1 * (j 0).val; rw [h0]; omega
    | ⟨1, _⟩ => show 256 * q.val + (j 1).val = win0_13.index (pt b q) 1 * 256 + 1 * (j 1).val; rw [h1]; omega
    | ⟨2, _⟩ => show (j 2).val = win0_13.index (pt b q) 2 * 1024 + 1 * (j 2).val; rw [h2]; omega

/-- Every element of the array lies in some block. -/
theorem covered13 (i : S32x2048x1024.Idx) : ∃ t : Fin cfg0.N, i ∈ ((View.whole main_v0_1).slice (win0_13.rect t)).set := by
  have i0 : (i 0).val < 32 := (i 0).isLt
  have i1 : (i 1).val < 2048 := (i 1).isLt
  have i2 : (i 2).val < 1024 := (i 2).isLt
  have hq : (i 1).val / 256 < 8 := by omega
  obtain ⟨g0, g1, g2⟩ := index13 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win0_13.index (pt ⟨(i 0).val, i0⟩ ⟨(i 1).val / 256, hq⟩) 0 * 1 ≤ (i 0).val ∧ (i 0).val < win0_13.index (pt ⟨(i 0).val, i0⟩ ⟨(i 1).val / 256, hq⟩) 0 * 1 + 1
              rw [g0]; simp only; omega
  | ⟨1, _⟩ => show win0_13.index (pt ⟨(i 0).val, i0⟩ ⟨(i 1).val / 256, hq⟩) 1 * 256 ≤ (i 1).val ∧ (i 1).val < win0_13.index (pt ⟨(i 0).val, i0⟩ ⟨(i 1).val / 256, hq⟩) 1 * 256 + 256
              rw [g1]; simp only; omega
  | ⟨2, _⟩ => show win0_13.index (pt ⟨(i 0).val, i0⟩ ⟨(i 1).val / 256, hq⟩) 2 * 1024 ≤ (i 2).val ∧ (i 2).val < win0_13.index (pt ⟨(i 0).val, i0⟩ ⟨(i 1).val / 256, hq⟩) 2 * 1024 + 1024
              rw [g2]; omega

/-- The array after the run, from what each grid point's block is. -/
theorem final13 (c : Dev nD) (G : Vec Ideal S32x2048x1024 .f32)
    (h : ∀ (b : Fin 32) (q : Fin 8) (r : Fin 256) (e : Fin 1024),
      out0_13 (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) (iblk m c 9 (pt b q)) (iblk m c 10 (pt b q)) (iblk m c 11 (pt b q)) (ix3 0 r e) = G (ix3 b (at_ q r) e)) :
    (dats m 0 c).arrAt 13 cfg0.N = G := by
  refine (dats m 0 c).arrAt_eq_of_cover 13 G (fun t hf => ?_) fun i => (covered13 i).elim fun t h => ⟨t, flush0_13 t, h⟩
  have hlt : t.val < 256 := lt_of_lt_of_eq t.isLt N_0
  have ht : t = pt ⟨t.val / 8, by omega⟩ ⟨t.val % 8, by omega⟩ :=
    Fin.ext (by show t.val = 8 * (t.val / 8) + t.val % 8; omega)
  rw [Value.flushed13, ht]
  exact cut_eq_read13 _ _ _ G (h _ _)

theorem index14 (b : Fin 32) (q : Fin 8) :
    win0_14.index (pt b q) 0 = b.val ∧ win0_14.index (pt b q) 1 = q.val ∧ win0_14.index (pt b q) 2 = 0 := by
  obtain ⟨h0, h1⟩ := pt_coords b q
  have := b.isLt
  have := q.isLt
  refine ⟨?_, ?_, rfl⟩
  · show (BitVec.ofNat 32 (grid0.coords (pt b q) 0).val).toNat = _
    rw [h0, word_small _ (by omega)]
  · show (BitVec.ofNat 32 (grid0.coords (pt b q) 1).val).toNat = _
    rw [h1, word_small _ (by omega)]

/-- An array that agrees with a block's contents at the block's rows reads as them there. -/
theorem cut_eq_read14 (b : Fin 32) (q : Fin 8) (X : Vec Ideal S1x256x2048 .bf16) (Y : Vec Ideal S32x2048x2048 .bf16)
    (h : ∀ (r : Fin 256) (e : Fin 2048), X (ix3 0 r e) = Y (ix3 b (at_ q r) e)) :
    win0_14.cut (grid0.coords (pt b q)) X = (win0_14.blk (pt b q)).view.read (Elt Ideal) Y := by
  obtain ⟨h0, h1, h2⟩ := index14 b q
  funext j
  rw [View.read_apply]
  have j0 : (j 0).val < 1 := (j 0).isLt
  have j1 : (j 1).val < 256 := (j 1).isLt
  have j2 : (j 2).val < 2048 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win0_14.index (pt b q) 0 * 1 + 1 * (j 0).val; rw [h0]; omega
    | ⟨1, _⟩ => show 256 * q.val + (j 1).val = win0_14.index (pt b q) 1 * 256 + 1 * (j 1).val; rw [h1]; omega
    | ⟨2, _⟩ => show (j 2).val = win0_14.index (pt b q) 2 * 2048 + 1 * (j 2).val; rw [h2]; omega

/-- Every element of the array lies in some block. -/
theorem covered14 (i : S32x2048x2048.Idx) : ∃ t : Fin cfg0.N, i ∈ ((View.whole main_v0_2).slice (win0_14.rect t)).set := by
  have i0 : (i 0).val < 32 := (i 0).isLt
  have i1 : (i 1).val < 2048 := (i 1).isLt
  have i2 : (i 2).val < 2048 := (i 2).isLt
  have hq : (i 1).val / 256 < 8 := by omega
  obtain ⟨g0, g1, g2⟩ := index14 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win0_14.index (pt ⟨(i 0).val, i0⟩ ⟨(i 1).val / 256, hq⟩) 0 * 1 ≤ (i 0).val ∧ (i 0).val < win0_14.index (pt ⟨(i 0).val, i0⟩ ⟨(i 1).val / 256, hq⟩) 0 * 1 + 1
              rw [g0]; simp only; omega
  | ⟨1, _⟩ => show win0_14.index (pt ⟨(i 0).val, i0⟩ ⟨(i 1).val / 256, hq⟩) 1 * 256 ≤ (i 1).val ∧ (i 1).val < win0_14.index (pt ⟨(i 0).val, i0⟩ ⟨(i 1).val / 256, hq⟩) 1 * 256 + 256
              rw [g1]; simp only; omega
  | ⟨2, _⟩ => show win0_14.index (pt ⟨(i 0).val, i0⟩ ⟨(i 1).val / 256, hq⟩) 2 * 2048 ≤ (i 2).val ∧ (i 2).val < win0_14.index (pt ⟨(i 0).val, i0⟩ ⟨(i 1).val / 256, hq⟩) 2 * 2048 + 2048
              rw [g2]; omega

/-- The array after the run, from what each grid point's block is. -/
theorem final14 (c : Dev nD) (G : Vec Ideal S32x2048x2048 .bf16)
    (h : ∀ (b : Fin 32) (q : Fin 8) (r : Fin 256) (e : Fin 2048),
      out0_14 (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) (iblk m c 9 (pt b q)) (iblk m c 10 (pt b q)) (iblk m c 11 (pt b q)) (ix3 0 r e) = G (ix3 b (at_ q r) e)) :
    (dats m 0 c).arrAt 14 cfg0.N = G := by
  refine (dats m 0 c).arrAt_eq_of_cover 14 G (fun t hf => ?_) fun i => (covered14 i).elim fun t h => ⟨t, flush0_14 t, h⟩
  have hlt : t.val < 256 := lt_of_lt_of_eq t.isLt N_0
  have ht : t = pt ⟨t.val / 8, by omega⟩ ⟨t.val % 8, by omega⟩ :=
    Fin.ext (by show t.val = 8 * (t.val / 8) + t.val % 8; omega)
  rw [Value.flushed14, ht]
  exact cut_eq_read14 _ _ _ G (h _ _)

/-- The first residual as a function of the ten arrays it depends on. -/
def res1 (om ob : Vec Ideal S32x2048x512 .bf16) (sg : Vec Ideal S32x2048x2048 .bf16) (x : Vec Ideal S32x2048x1024 .f32) (gt : Vec Ideal S32x1x1024 .f32)
    (wom wob : Vec Ideal S512x1024 .bf16) (wout : Vec Ideal S1024x1024 .bf16) (b : Fin 32) (t : Fin 2048) : Fin 1024 → EReal :=
  resRow (mixRow (fun i => om (ix3 b t i)) (fun i => ob (ix3 b t i)) (fun j => sg (ix3 b t j)) (fun i j => wom (ix2 i j)) (fun i j => wob (ix2 i j)))
    (fun j => x (ix3 b t j)) (fun j => gt (ix3 b 0 j)) (fun i j => wout (ix2 i j))

/-- The normalised rows as a function of the first residual and the arrays of the normalisation. -/
def res2 (x1 : Fin 32 → Fin 2048 → Fin 1024 → EReal) (gf : Vec Ideal S1x1024 .f32) (sc sh : Vec Ideal S32x1x1024 .f32) (b : Fin 32) (t : Fin 2048) : Fin 1024 → EReal :=
  normRow (x1 b t) (fun j => gf (ix2 0 j)) (fun j => sc (ix3 b 0 j)) (fun j => sh (ix3 b 0 j))

/-- The expert queries as a function of the normalised rows and the weights. -/
def res3 (hf : Fin 32 → Fin 2048 → Fin 1024 → EReal) (wpq : Vec Ideal S1024x2048 .bf16) (b : Fin 32) (t : Fin 2048) : Fin 2048 → EReal :=
  askRow (hf b t) (fun i j => wpq (ix2 i j))

/-- The three results of the call, row by row. -/
def rows1 (c : Dev nD) : Fin 32 → Fin 2048 → Fin 1024 → EReal :=
  res1 (V m c main_arg0) (V m c main_arg1) (V m c main_arg2) (V m c main_arg3) (V m c main_arg4) (V m c main_arg7) (V m c main_arg8) (V m c main_arg9)

def rows2 (c : Dev nD) : Fin 32 → Fin 2048 → Fin 1024 → EReal :=
  res2 (rows1 m c) (V m c main_arg10) (V m c main_arg5) (V m c main_arg6)

def rows3 (c : Dev nD) : Fin 32 → Fin 2048 → Fin 2048 → EReal := res3 (rows2 m c) (V m c main_arg11)

/-! Each load reads its whole block. -/

theorem ld0 {e : EltTy} (X : S1x256x512.Idx → Elt Ideal e) : View.ld X r0_0 = X := View.ld_unit_zero zero3 _ X
theorem ld1 {e : EltTy} (X : S512x1024.Idx → Elt Ideal e) : View.ld X r0_1 = X := View.ld_unit_zero zero2 _ X
theorem ld2 {e : EltTy} (X : S1x256x2048.Idx → Elt Ideal e) : View.ld X r0_2 = X := View.ld_unit_zero zero3 _ X
theorem ld3 {e : EltTy} (X : S1024x1024.Idx → Elt Ideal e) : View.ld X r0_3 = X := View.ld_unit_zero zero2 _ X
theorem ld4 {e : EltTy} (X : S1x256x1024.Idx → Elt Ideal e) : View.ld X r0_4 = X := View.ld_unit_zero zero3 _ X
theorem ld5 {e : EltTy} (X : S1x1x1024.Idx → Elt Ideal e) : View.ld X r0_5 = X := View.ld_unit_zero zero3 _ X
theorem ld6 {e : EltTy} (X : S1x1024.Idx → Elt Ideal e) : View.ld X r0_6 = X := View.ld_unit_zero zero2 _ X
theorem ld7 {e : EltTy} (X : S1024x2048.Idx → Elt Ideal e) : View.ld X r0_7 = X := View.ld_unit_zero zero2 _ X

/-- The first residual of a grid point's block. -/
theorem block1 (c : Dev nD) (b : Fin 32) (q : Fin 8) (r : Fin 256) (e : Fin 1024) :
    k0_pay6 (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) (iblk m c 9 (pt b q)) (iblk m c 10 (pt b q)) (iblk m c 11 (pt b q)) (ix2 r e) = rows1 m c b (at_ q r) e := by
  unfold k0_pay6
  rw [ld0, ld0, ld1, ld1, ld2, ld3, ld4, ld5]
  rw [pay4_apply]
  unfold rows1 res1
  simp only [read0, read1, read2, read3, read4, read7, read8, read9]

/-- The normalised rows of a grid point's block. -/
theorem block2 (c : Dev nD) (b : Fin 32) (q : Fin 8) (r : Fin 256) (e : Fin 1024) :
    k0_pay1 (k0_pay6 (iblk m c 0 (pt b q)) (iblk m c 1 (pt b q)) (iblk m c 2 (pt b q)) (iblk m c 3 (pt b q)) (iblk m c 4 (pt b q)) (iblk m c 5 (pt b q)) (iblk m c 6 (pt b q)) (iblk m c 7 (pt b q)) (iblk m c 8 (pt b q)) (iblk m c 9 (pt b q)) (iblk m c 10 (pt b q)) (iblk m c 11 (pt b q))) (iblk m c 10 (pt b q)) (iblk m c 5 (pt b q)) (iblk m c 6 (pt b q)) (ix2 r e) = rows2 m c b (at_ q r) e := by
  rw [pay1_apply]
  unfold rows2 res2
  simp only [block1, read10, read5, read6]

theorem done1 (c : Dev nD) : (dats m 0 c).arrAt 12 cfg0.N = fun j => rows1 m c (j 0) (j 1) (j 2) := by
  refine final12 m c (fun j => rows1 m c (j 0) (j 1) (j 2)) fun b q r e => ?_
  unfold out0_12
  show _ = rows1 m c b (at_ q r) e
  refine (congrFun (View.canon_unit_zero zero3 _ _) (ix3 0 r e)).trans ?_
  rw [pay5_apply]
  exact block1 m c b q r e

theorem done2 (c : Dev nD) : (dats m 0 c).arrAt 13 cfg0.N = fun j => rows2 m c (j 0) (j 1) (j 2) := by
  refine final13 m c (fun j => rows2 m c (j 0) (j 1) (j 2)) fun b q r e => ?_
  unfold out0_13
  show _ = rows2 m c b (at_ q r) e
  refine (congrFun (View.canon_unit_zero zero3 _ _) (ix3 0 r e)).trans ?_
  rw [pay2_apply]
  rw [ld5, ld5, ld6]
  exact block2 m c b q r e

theorem done3 (c : Dev nD) : (dats m 0 c).arrAt 14 cfg0.N = fun j => rows3 m c (j 0) (j 1) (j 2) := by
  refine final14 m c (fun j => rows3 m c (j 0) (j 1) (j 2)) fun b q r e => ?_
  unfold out0_14
  show _ = rows3 m c b (at_ q r) e
  refine (congrFun (View.canon_unit_zero zero3 _ _) (ix3 0 r e)).trans ?_
  rw [pay3_apply]
  rw [ld5, ld5, ld6, ld7]
  unfold rows3 res3
  simp only [block2, read11]

end Cert.PostIdeal.Run

end
-- ==== Proof.PostRef.lean ====
module

public import proofs.«01_k».proof.Proof.Gen.PostReferenceIdeal.Run
public import proofs.«01_k».proof.Proof.PostValue
public import Idealize.ShloMosaic.Lib.Pointwise
public import Idealize.ShloMosaic.Lib.Tactic.CleanTypes

/-! The reference of the call after the two attentions: its three results, read one token's row at a time. -/

@[expose] public section

set_option maxRecDepth 16384

noncomputable section

namespace Cert.PostReferenceIdeal.Run

open Idealize.ShloMosaic Idealize.ShloMosaic.TcCoe Idealize.SL.Sem
open Cert.PostReferenceIdeal Cert.PostReferenceIdeal.Gen Cert.PostReferenceIdeal.Value
open Cert.PostIdeal.Run (mixRow resRow meanRow normRow askRow res1 res2 res3)

/-- The gated sum of the two projections. -/
def refMix (om ob : FVec Ideal S32x2048x512 .bf16) (sg : FVec Ideal S32x2048x2048 .bf16) (wom wob : FVec Ideal S512x1024 .bf16) : FVec Ideal S32x2048x1024 .f32 :=
  addf (mulf (extractStridedSlice S32x2048x1024 ![0, 0, 0] (extf .f32 sg bitsLt_bf16_f32) slices_S32x2048x2048_S32x2048x1024_0_0_0) (Host.dotGeneral dot_S32x2048x512_S512x1024_S32x2048x1024_2_0_01_1_n_n none (extf .f32 om bitsLt_bf16_f32) (extf .f32 wom bitsLt_bf16_f32)))
    (mulf (extractStridedSlice S32x2048x1024 ![0, 0, 1024] (extf .f32 sg bitsLt_bf16_f32) slices_S32x2048x2048_S32x2048x1024_0_0_1024) (Host.dotGeneral dot_S32x2048x512_S512x1024_S32x2048x1024_2_0_01_1_n_n none (extf .f32 ob bitsLt_bf16_f32) (extf .f32 wob bitsLt_bf16_f32)))

/-- The first residual. -/
def refRes (mix : FVec Ideal S32x2048x1024 .f32) (x : FVec Ideal S32x2048x1024 .f32) (gt : FVec Ideal S32x1x1024 .f32) (wout : FVec Ideal S1024x1024 .bf16) : FVec Ideal S32x2048x1024 .f32 :=
  addf x (mulf (broadcastInDim S32x2048x1024 ![0, 1, 2] bcast_S32x1x1024_S32x2048x1024_0_1_2 gt) (Host.dotGeneral dot_S32x2048x1024_S1024x1024_S32x2048x1024_2_0_01_1_n_n none mix (extf .f32 wout bitsLt_bf16_f32)))

/-- The normalised, scaled and shifted rows. -/
def refNorm (x : FVec Ideal S32x2048x1024 .f32) (gf : FVec Ideal S1x1024 .f32) (sc sh : FVec Ideal S32x1x1024 .f32) : FVec Ideal S32x2048x1024 .f32 :=
  addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32))))))
    (broadcastInDim S32x2048x1024 ![0, 1, 2] bcast_S1x1x1024_S32x2048x1024_0_1_2 (broadcastInDim S1x1x1024 ![2] bcast_S1024_S1x1x1024_2 (shapeCast _ gf shapeCasts_S1x1024_S1024))))
    (broadcastInDim S32x2048x1024 ![0, 1, 2] bcast_S32x1x1024_S32x2048x1024_0_1_2 (addf (broadcastInDim S32x1x1024 ![] bcast_S_S32x1x1024 (constant S_ .f32 0x3F800000#32)) sc)))
    (broadcastInDim S32x2048x1024 ![0, 1, 2] bcast_S32x1x1024_S32x2048x1024_0_1_2 sh)

/-- The expert queries. -/
def refAsk (h : FVec Ideal S32x2048x1024 .f32) (wpq : FVec Ideal S1024x2048 .bf16) : FVec Ideal S32x2048x2048 .bf16 :=
  truncf .bf16 (Host.dotGeneral dot_S32x2048x1024_S1024x2048_S32x2048x2048_2_0_01_1_n_n none h (extf .f32 wpq bitsLt_bf16_f32)) bitsLt_bf16_f32

theorem refMix_apply (om ob : FVec Ideal S32x2048x512 .bf16) (sg : FVec Ideal S32x2048x2048 .bf16) (wom wob : FVec Ideal S512x1024 .bf16)
    (b : Fin 32) (t : Fin 2048) (j : Fin 1024) :
    refMix om ob sg wom wob (ix3 b t j)
      = mixRow (fun i => om (ix3 b t i)) (fun i => ob (ix3 b t i)) (fun j => sg (ix3 b t j)) (fun i j => wom (ix2 i j)) (fun i j => wob (ix2 i j)) j := by
  unfold mixRow
  pointwise [refMix]

theorem refRes_apply (mix x : FVec Ideal S32x2048x1024 .f32) (gt : FVec Ideal S32x1x1024 .f32) (wout : FVec Ideal S1024x1024 .bf16)
    (b : Fin 32) (t : Fin 2048) (e : Fin 1024) :
    refRes mix x gt wout (ix3 b t e)
      = resRow (fun j => mix (ix3 b t j)) (fun j => x (ix3 b t j)) (fun j => gt (ix3 b 0 j)) (fun i j => wout (ix2 i j)) e := by
  unfold resRow
  pointwise [refRes]

theorem refNorm_apply (x : FVec Ideal S32x2048x1024 .f32) (gf : FVec Ideal S1x1024 .f32) (sc sh : FVec Ideal S32x1x1024 .f32)
    (b : Fin 32) (t : Fin 2048) (e : Fin 1024) :
    refNorm x gf sc sh (ix3 b t e)
      = normRow (fun j => x (ix3 b t j)) (fun j => gf (ix2 0 j)) (fun j => sc (ix3 b 0 j)) (fun j => sh (ix3 b 0 j)) e := by
  unfold normRow meanRow
  pointwise [refNorm]

theorem refAsk_apply (h : FVec Ideal S32x2048x1024 .f32) (wpq : FVec Ideal S1024x2048 .bf16) (b : Fin 32) (t n : Fin 2048) :
    refAsk h wpq (ix3 b t n) = askRow (fun j => h (ix3 b t j)) (fun i j => wpq (ix2 i j)) n := by
  unfold askRow
  pointwise [refAsk]

variable (m : (ℓ : Loc nD τ sig) → Buf (Elt Ideal) ℓ) (c : Dev nD)

/-- The reference's first result. -/
def ref1 : FVec Ideal S32x2048x1024 .f32 :=
  refRes (refMix (m ((c.tc : Thread nD τ).loc main_arg0)) (m ((c.tc : Thread nD τ).loc main_arg1)) (m ((c.tc : Thread nD τ).loc main_arg2))
      (m ((c.tc : Thread nD τ).loc main_arg7)) (m ((c.tc : Thread nD τ).loc main_arg8)))
    (m ((c.tc : Thread nD τ).loc main_arg3)) (m ((c.tc : Thread nD τ).loc main_arg4)) (m ((c.tc : Thread nD τ).loc main_arg9))

/-- The reference's second result. -/
def ref2 : FVec Ideal S32x2048x1024 .f32 :=
  refNorm (ref1 m c) (m ((c.tc : Thread nD τ).loc main_arg10)) (m ((c.tc : Thread nD τ).loc main_arg5)) (m ((c.tc : Thread nD τ).loc main_arg6))

theorem res2_eq : res_main_v36 m c = ref2 m c := rfl
theorem res3_eq : res_main_v39 m c = refAsk (ref2 m c) (m ((c.tc : Thread nD τ).loc main_arg11)) := rfl

/-- The first result's rows, from the arguments. -/
def want1 : Fin 32 → Fin 2048 → Fin 1024 → EReal :=
  res1 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg7))
    (m ((c.tc : Thread nD τ).loc main_arg8)) (m ((c.tc : Thread nD τ).loc main_arg9))

/-- The second result's rows, from the arguments. -/
def want2 : Fin 32 → Fin 2048 → Fin 1024 → EReal :=
  res2 (want1 m c) (m ((c.tc : Thread nD τ).loc main_arg10)) (m ((c.tc : Thread nD τ).loc main_arg5)) (m ((c.tc : Thread nD τ).loc main_arg6))

/-- The third result's rows, from the arguments. -/
def want3 : Fin 32 → Fin 2048 → Fin 2048 → EReal := res3 (want2 m c) (m ((c.tc : Thread nD τ).loc main_arg11))

theorem ref1_apply (b : Fin 32) (t : Fin 2048) (e : Fin 1024) : ref1 m c (ix3 b t e) = want1 m c b t e := by
  unfold ref1 want1 res1
  rw [refRes_apply]
  simp only [refMix_apply]

theorem ref2_apply (b : Fin 32) (t : Fin 2048) (e : Fin 1024) : ref2 m c (ix3 b t e) = want2 m c b t e := by
  unfold ref2 want2 res2
  rw [refNorm_apply]
  simp only [ref1_apply]

theorem ref3_apply (b : Fin 32) (t n : Fin 2048) :
    refAsk (ref2 m c) (m ((c.tc : Thread nD τ).loc main_arg11)) (ix3 b t n) = want3 m c b t n := by
  unfold want3 res3
  rw [refAsk_apply]
  simp only [ref2_apply]

end Cert.PostReferenceIdeal.Run

end
-- ==== Proof.PostClaim.lean ====
module

public import proofs.«01_k».proof.Defs
public import proofs.«01_k».proof.Proof.Gen.PostReferenceIdeal
public import proofs.«01_k».proof.Proof.PostRef
public import Idealize.ShloMosaic.Lib.Claim
public import Idealize.ShloMosaic.Adequacy
public import Idealize.ShloMosaic.Init

/-! The claims of the call after the two attentions. -/

@[expose] public section

set_option maxRecDepth 16384

noncomputable section

namespace Cert.PostIdeal.Run

open Idealize.ShloMosaic Idealize.ShloMosaic.TcCoe Idealize.SL.Sem

/-- An index of rank three is its three coordinates. -/
theorem idx3 {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl

/-- The reference's run keeps its arguments and leaves every semaphore at zero. -/
theorem frame_reference : Cert.quiescent_PostReferenceIdeal := fun m g _ =>
  (θ_run _ _ _).mono (fun r h => ⟨fun c => (h c).2.2.2, sem_eq_zero_of_no_sems (by decide) r.2⟩)
    (Cert.PostReferenceIdeal.Value.run m g)

/-- The two programs' three results are equal. -/
theorem equal_results : Cert.algebraic_PostIdeal_PostReferenceIdeal := by
  intro m g m' g' _ hag
  refine ⟨fun c => (fun j => rows1 m c (j 0) (j 1) (j 2)), fun c => (fun j => rows2 m c (j 0) (j 1) (j 2)), fun c => (fun j => rows3 m c (j 0) (j 1) (j 2)),
    (θ_run _ _ _).mono (fun _ h c => ⟨(h c).1.trans (done1 m c), (h c).2.1.trans (done2 m c), (h c).2.2.1.trans (done3 m c), (h c).2.2.2⟩) (Cert.PostIdeal.Value.run_blocks m g),
    (θ_run _ _ _).mono (fun _ h c => ⟨((h c).1).trans ?_, ((h c).2.1).trans ?_, ((h c).2.2.1).trans ?_, (h c).2.2.2⟩) (Cert.PostReferenceIdeal.Value.run m' g')⟩
  all_goals obtain ⟨e0, e1, e2, e3, e4, e5, e6, e7, e8, e9, e10, e11⟩ := hag c
  · refine Eq.trans (b := Cert.PostReferenceIdeal.Run.ref1 m' c) rfl ?_
    funext i
    rw [idx3 i]
    refine (Cert.PostReferenceIdeal.Run.ref1_apply m' c _ _ _).trans ?_
    unfold Cert.PostReferenceIdeal.Run.want1
    rw [e0, e1, e2, e3, e4, e7, e8, e9]
    rfl
  · rw [Cert.PostReferenceIdeal.Run.res2_eq]
    funext i
    rw [idx3 i]
    refine (Cert.PostReferenceIdeal.Run.ref2_apply m' c _ _ _).trans ?_
    unfold Cert.PostReferenceIdeal.Run.want2 Cert.PostReferenceIdeal.Run.want1
    rw [e0, e1, e2, e3, e4, e5, e6, e7, e8, e9, e10]
    rfl
  · rw [Cert.PostReferenceIdeal.Run.res3_eq]
    funext i
    rw [idx3 i]
    refine (Cert.PostReferenceIdeal.Run.ref3_apply m' c _ _ _).trans ?_
    unfold Cert.PostReferenceIdeal.Run.want3 Cert.PostReferenceIdeal.Run.want2 Cert.PostReferenceIdeal.Run.want1
    rw [e0, e1, e2, e3, e4, e5, e6, e7, e8, e9, e10, e11]
    rfl

end Cert.PostIdeal.Run

end
-- ==== Proof.States.lean ====
module

public import proofs.«01_k».proof.Proof.Gen.States
public import proofs.«01_k».proof.Proof.Gen.States.Frame
public import proofs.«01_k».proof.Proof.Gen.StatesIdeal
public import proofs.«01_k».proof.Proof.Gen.StatesIdeal.Frame
public import proofs.«01_k».proof.Proof.Post
public import Idealize.ShloMosaic.Lib.Pointwise

/-! The state projection: what one token's row of each of its eight results is, and that the body's values are those rows. -/

@[expose] public section

set_option maxRecDepth 16384

noncomputable section

namespace Cert.StatesIdeal.Run

open Idealize.ShloMosaic Idealize.ShloMosaic.TcCoe
open Cert.StatesIdeal Cert.StatesIdeal.Gen
open Cert.PostIdeal.Run (meanRow normRow)

/-- A row times a matrix, at one column. -/
def projRow {n : Nat} (h : Fin 1024 → EReal) (w : Fin 1024 → Fin n → EReal) (e : Fin n) : EReal :=
  ∑ j : Fin 1024, h j * w j e

/-- A row divided by the root of the mean of its squares, with a gain; `k` is the row's length. -/
def gainRow {n : Nat} (k : EReal) (z g : Fin n → EReal) (e : Fin n) : EReal :=
  z e * Ideal.rsqrt (Ideal.div (∑ i : Fin n, z i * z i) k + Ideal.ofBits .f32 0x358637BD#32) * g e

/-- The turn of a row of 128 lanes by three tables: the lane itself, and the lanes that rotations by `u` and `d` bring to its place. -/
def laneRow (u d : Nat) (z c a b : Fin 128 → EReal) (l : Fin 128) : EReal :=
  z l * c l + z ⟨(l.val + 128 - u) % 128, Nat.mod_lt _ (by decide)⟩ * a l + z ⟨(l.val + 128 - d) % 128, Nat.mod_lt _ (by decide)⟩ * b l

/-- The modulation: the conditioning row through its unit, times the weights, plus the bias. -/
def modRow {n : Nat} (cd : Fin 1024 → EReal) (w : Fin 1024 → Fin n → EReal) (bi : Fin n → EReal) (e : Fin n) : EReal :=
  (∑ j : Fin 1024, cd j * Ideal.logistic (cd j) * w j e) + bi e

/-- The angle of place `t` at frequency `j`, of `k` frequencies. -/
def angle (k : EReal) (t j : Nat) : EReal :=
  FloatOps.sitofp (F := Ideal) .f32 (BitVec.ofNat 32 t) * Ideal.exp (Ideal.div (Ideal.ofBits .f32 0xC151F533#32 * FloatOps.sitofp (F := Ideal) .f32 (BitVec.ofNat 32 j)) k)

/-- The turn of a row's first `2 * h` entries by the angles' cosines and sines, the rest as they are. -/
def turn (h : Nat) {n : Nat} (z : Fin n → EReal) (hn : 2 * h ≤ n) (co si : Fin h → EReal) (j : Fin n) : EReal :=
  if h1 : j.val < h then z j * co ⟨j.val, h1⟩ - z ⟨h + j.val, by omega⟩ * si ⟨j.val, h1⟩
  else if h2 : j.val - h < h then z j * co ⟨j.val - h, h2⟩ + z ⟨j.val - h, by omega⟩ * si ⟨j.val - h, h2⟩
  else z j

/-- A token's projected row, from the arguments: its own row, the gain, the conditioning row, the modulation's weights and bias, the input weights. -/
def zRow (x g cd : Fin 1024 → EReal) (wa : Fin 1024 → Fin 6144 → EReal) (bi : Fin 6144 → EReal) (w : Fin 1024 → Fin 4256 → EReal) : Fin 4256 → EReal :=
  projRow (normRow x g (fun j => modRow cd wa bi ⟨1024 + j.val, by omega⟩) (fun j => modRow cd wa bi ⟨j.val, by omega⟩)) w

/-- Lane `j` of the `p`-th group of 128 lanes. -/
abbrev lane (p : Fin 4) (j : Fin 128) : Fin 512 := ⟨128 * p.val + j.val, by omega⟩

theorem pay3_apply (x : Vec Ideal S1x256x1024 .f32) (g : Vec Ideal S1x1024 .f32) (sc sh : Vec Ideal S1x1x1024 .f32) (r : Fin 256) (e : Fin 1024) :
    k1_pay3 x g sc sh (ix2 r e)
      = normRow (fun j => x (ix3 0 r j)) (fun j => g (ix2 0 j)) (fun j => sc (ix3 0 0 j)) (fun j => sh (ix3 0 0 j)) e := by
  unfold normRow meanRow
  pointwise [k1_pay3]

theorem pay1_apply (h : FVec Ideal S256x1024 .bf16) (w : Vec Ideal S1024x512 .bf16) (r : Fin 256) (e : Fin 512) :
    k1_pay1 h w (ix3 0 r e) = projRow (fun j => h (ix2 r j)) (fun i j => w (ix2 i j)) e := by
  unfold projRow
  pointwise [k1_pay1]

theorem pay2_apply (h : FVec Ideal S256x1024 .bf16) (w : Vec Ideal S1024x2048 .bf16) (r : Fin 256) (e : Fin 2048) :
    k1_pay2 h w (ix3 0 r e) = Ideal.logistic (projRow (fun j => h (ix2 r j)) (fun i j => w (ix2 i j)) e) := by
  unfold projRow
  pointwise [k1_pay2]

theorem pay8_apply (x : Vec Ideal S1x256x1024 .f32) (gm : Vec Ideal S1x1024 .f32) (sc sh : Vec Ideal S1x1x1024 .f32) (w : Vec Ideal S1024x384 .bf16)
    (g : Vec Ideal S1x384 .f32) (r : Fin 256) (e : Fin 384) :
    k1_pay8 (k1_pay4 x gm sc sh w) (k1_pay5 g) (k1_pay6 x gm sc sh w) (k1_pay7 (F := Ideal)) (ix3 0 r e)
      = gainRow (Ideal.ofBits .f32 0x43C00000#32) (projRow (fun j => k1_pay3 x gm sc sh (ix2 r j)) (fun i j => w (ix2 i j))) (fun j => g (ix2 0 j)) e := by
  unfold gainRow projRow
  pointwise [k1_pay8, k1_pay4, k1_pay5, k1_pay6, k1_pay7]

theorem pay9_apply (h : FVec Ideal S256x1024 .bf16) (w : Vec Ideal S1024x256 .bf16) (g : Vec Ideal S1x256 .f32) (r : Fin 256) (e : Fin 256) :
    k1_pay9 h w g (ix3 0 r e)
      = gainRow (Ideal.ofBits .f32 0x43800000#32) (projRow (fun j => h (ix2 r j)) (fun i j => w (ix2 i j))) (fun j => g (ix2 0 j)) e := by
  unfold gainRow projRow
  pointwise [k1_pay9]

theorem pay12_apply (h : FVec Ideal S256x1024 .bf16) (w : Vec Ideal S1024x128 .bf16) (c a b : Vec Ideal S1x256x128 .f32) (r : Fin 256) (l : Fin 128) :
    k1_pay12 (k1_pay10 h w) (k1_pay11 c) a b (ix3 0 r l)
      = laneRow 112 16 (projRow (fun j => h (ix2 r j)) (fun i j => w (ix2 i j))) (fun j => c (ix3 0 r j)) (fun j => a (ix3 0 r j)) (fun j => b (ix3 0 r j)) l := by
  unfold laneRow projRow
  pointwise [k1_pay12, k1_pay10, k1_pay11]

theorem pay20_apply (h : FVec Ideal S256x1024 .bf16) (w : Vec Ideal S1024x512 .bf16) (c a b : Vec Ideal S1x256x128 .f32) (r : Fin 256) (p : Fin 4) (l : Fin 128) :
    k1_pay20 (k1_pay13 h w) (k1_pay14 c) (k1_pay15 a) (k1_pay16 b) (k1_pay17 h w c a b) (k1_pay18 h w) (k1_pay19 h w c) 120#32 (ix3 0 r (lane p l))
      = laneRow 120 8 (fun j => projRow (fun i => h (ix2 r i)) (fun i j => w (ix2 i j)) (lane p j)) (fun j => c (ix3 0 r j)) (fun j => a (ix3 0 r j)) (fun j => b (ix3 0 r j)) l := by
  unfold laneRow projRow
  match p with
  | 0 => pointwise [k1_pay20, k1_pay13, k1_pay14, k1_pay15, k1_pay16, k1_pay17, k1_pay18, k1_pay19]
         simp [lane]
  | 1 => pointwise [k1_pay20, k1_pay13, k1_pay14, k1_pay15, k1_pay16, k1_pay17, k1_pay18, k1_pay19]
         rfl
  | 2 => pointwise [k1_pay20, k1_pay13, k1_pay14, k1_pay15, k1_pay16, k1_pay17, k1_pay18, k1_pay19]
         rw [dif_neg (by omega), dif_neg (by omega), dif_pos (by omega)]
         simp only [show 256 + l.val - 128 - 128 = l.val by omega]
         rfl
  | 3 => pointwise [k1_pay20, k1_pay13, k1_pay14, k1_pay15, k1_pay16, k1_pay17, k1_pay18, k1_pay19]
         rw [dif_neg (by omega), dif_neg (by omega), dif_neg (by omega)]
         simp only [show 384 + l.val - 128 - 128 - 128 = l.val by omega]
         rfl

theorem pay27_apply (h : FVec Ideal S256x1024 .bf16) (w : Vec Ideal S1024x512 .bf16) (c a b : Vec Ideal S1x256x128 .f32) (r : Fin 256) (p : Fin 4) (l : Fin 128) :
    k1_pay27 (k1_pay21 h w) (k1_pay22 c) (k1_pay23 a) (k1_pay24 b) (k1_pay25 h w) (k1_pay26 h w c) 120#32 (ix2 r (lane p l))
      = laneRow 120 8 (fun j => projRow (fun i => h (ix2 r i)) (fun i j => w (ix2 i j)) (lane p j)) (fun j => c (ix3 0 r j)) (fun j => a (ix3 0 r j)) (fun j => b (ix3 0 r j)) l := by
  unfold laneRow projRow
  match p with
  | 0 => pointwise [k1_pay27, k1_pay21, k1_pay22, k1_pay23, k1_pay24, k1_pay25, k1_pay26]
         simp [lane]
  | 1 => pointwise [k1_pay27, k1_pay21, k1_pay22, k1_pay23, k1_pay24, k1_pay25, k1_pay26]
         rfl
  | 2 => pointwise [k1_pay27, k1_pay21, k1_pay22, k1_pay23, k1_pay24, k1_pay25, k1_pay26]
         rw [dif_neg (by omega), dif_neg (by omega), dif_pos (by omega)]
         simp only [show 256 + l.val - 128 - 128 = l.val by omega]
         rfl
  | 3 => pointwise [k1_pay27, k1_pay21, k1_pay22, k1_pay23, k1_pay24, k1_pay25, k1_pay26]
         rw [dif_neg (by omega), dif_neg (by omega), dif_neg (by omega)]
         simp only [show 384 + l.val - 128 - 128 - 128 = l.val by omega]
         rfl

theorem pay28_apply (z : FVec Ideal S256x512 .f32) (c a b y v : FVec Ideal S256x128 .f32) (k : BitVec 32) (r : Fin 256) (l : Fin 512) :
    k1_pay28 z c a b y v k (ix3 0 r l) = k1_pay27 z c a b y v k (ix2 r l) := by
  pointwise [k1_pay28]

theorem pay29_apply (z : FVec Ideal S256x512 .f32) (c a b y v : FVec Ideal S256x128 .f32) (k : BitVec 32) (l : Fin 512) :
    k1_pay29 z c a b y v k (ix4 0 0 0 l) = Ideal.div (∑ r : Fin 256, k1_pay27 z c a b y v k (ix2 r l)) (Ideal.ofBits .f32 0x43800000#32) := by
  pointwise [k1_pay29]

theorem ada_apply (x : Vec Ideal S160x1024 .f32) (w : Vec Ideal S1024x1536 .bf16) (b : Vec Ideal S1x1536 .f32) (r : Fin 160) (n : Fin 1536) :
    k0_pay1 x w b (ix2 r n) = (∑ j : Fin 1024, x (ix2 r j) * Ideal.logistic (x (ix2 r j)) * w (ix2 j n)) + b (ix2 0 n) := by
  pointwise [k0_pay1]

end Cert.StatesIdeal.Run

end
-- ==== Proof.StatesRef.lean ====
module

public import proofs.«01_k».proof.Proof.Gen.StatesReferenceIdeal.Run
public import proofs.«01_k».proof.Proof.States
public import Idealize.ShloMosaic.Lib.Pointwise
public import Idealize.ShloMosaic.Lib.Tactic.CleanTypes

/-! The reference of the state projection: its eight results, read one token's row at a time. -/

@[expose] public section

set_option maxRecDepth 16384

noncomputable section

namespace Cert.StatesReferenceIdeal.Run

open Idealize.ShloMosaic Idealize.ShloMosaic.TcCoe Idealize.SL.Sem
open Cert.StatesReferenceIdeal Cert.StatesReferenceIdeal.Gen Cert.StatesReferenceIdeal.Value
open Cert.PostIdeal.Run (meanRow normRow)
open Cert.StatesIdeal.Run (projRow gainRow modRow angle turn zRow)

/-- The modulation. -/
def refMod (cd : FVec Ideal S32x1024 .f32) (w : FVec Ideal S1x1024x6144 .f32) (bi : FVec Ideal S1x6144 .f32) : FVec Ideal S32x6144 .f32 :=
  addf (Host.dotGeneral dot_S32x1024_S1024x6144_S32x6144_1_0_0_1_n_n none (mulf cd (Host.divf (broadcastInDim S32x1024 ![] bcast_S_S32x1024 (constant S_ .f32 0x3F800000#32)) (addf (broadcastInDim S32x1024 ![] bcast_S_S32x1024 (constant S_ .f32 0x3F800000#32)) (Host.exp (Host.negf cd))))) (shapeCast _ w shapeCasts_S1x1024x6144_S1024x6144)) (broadcastInDim S32x6144 ![0, 1] bcast_S1x6144_S32x6144_0_1 (broadcastInDim S1x6144 ![1] bcast_S6144_S1x6144_1 (shapeCast _ bi shapeCasts_S1x6144_S6144)))

/-- The projected rows. -/
def refZ (x : FVec Ideal S32x2048x1024 .f32) (g : FVec Ideal S1x1024 .f32) (md : FVec Ideal S32x6144 .f32) (w : FVec Ideal S1x1024x4256 .f32) : FVec Ideal S32x2048x4256 .f32 :=
  Host.dotGeneral dot_S32x2048x1024_S1024x4256_S32x2048x4256_2_0_01_1_n_n none (addf (mulf (mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))) (broadcastInDim S32x2048x1024 ![0, 1, 2] bcast_S32x1x1024_S32x2048x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![0, 1024] md slices_S32x6144_S32x1024_0_1024))))) (broadcastInDim S32x2048x1024 ![0, 1, 2] bcast_S32x1x1024_S32x2048x1024_0_1_2 (broadcastInDim S32x1x1024 ![0, 2] bcast_S32x1024_S32x1x1024_0_2 (extractStridedSlice S32x1024 ![0, 0] md slices_S32x6144_S32x1024_0_0)))) (shapeCast _ w shapeCasts_S1x1024x4256_S1024x4256)

/-- The latent rows. -/
def refLat (z : FVec Ideal S32x2048x256 .f32) (g : FVec Ideal S1x256 .f32) : FVec Ideal S1x32x2048x256 .f32 :=
  broadcastInDim S1x32x2048x256 ![1, 2, 3] bcast_S32x2048x256_S1x32x2048x256_1_2_3 (mulf (mulf z (broadcastInDim S32x2048x256 ![0, 1, 2] bcast_S32x2048x1_S32x2048x256_0_1_2 (Host.rsqrt (addf (Host.divf (broadcastInDim S32x2048x1 ![0, 1] bcast_S32x2048_S32x2048x1_0_1 (Host.reduceAdd (mulf z z) (constant S_ .f32 0x00000000#32) reducesTo_S32x2048x256_S32x2048_d2 h_S_)) (broadcastInDim S32x2048x1 ![] bcast_S_S32x2048x1 (constant S_ .f32 0x43800000#32))) (broadcastInDim S32x2048x1 ![] bcast_S_S32x2048x1 (constant S_ .f32 0x358637BD#32)))))) (broadcastInDim S32x2048x256 ![0, 1, 2] bcast_S1x1x256_S32x2048x256_0_1_2 (broadcastInDim S1x1x256 ![2] bcast_S256_S1x1x256_2 (shapeCast _ g shapeCasts_S1x256_S256))))

/-- The normalised query rows. -/
def refQn (z : FVec Ideal S32x2048x384 .f32) (g : FVec Ideal S1x384 .f32) : FVec Ideal S32x2048x384 .bf16 :=
  truncf .bf16 (mulf (mulf z (broadcastInDim S32x2048x384 ![0, 1, 2] bcast_S32x2048x1_S32x2048x384_0_1_2 (Host.rsqrt (addf (Host.divf (broadcastInDim S32x2048x1 ![0, 1] bcast_S32x2048_S32x2048x1_0_1 (Host.reduceAdd (mulf z z) (constant S_ .f32 0x00000000#32) reducesTo_S32x2048x384_S32x2048_d2 h_S_)) (broadcastInDim S32x2048x1 ![] bcast_S_S32x2048x1 (constant S_ .f32 0x43C00000#32))) (broadcastInDim S32x2048x1 ![] bcast_S_S32x2048x1 (constant S_ .f32 0x358637BD#32)))))) (broadcastInDim S32x2048x384 ![0, 1, 2] bcast_S1x1x384_S32x2048x384_0_1_2 (broadcastInDim S1x1x384 ![2] bcast_S384_S1x1x384_2 (shapeCast _ g shapeCasts_S1x384_S384)))) bitsLt_bf16_f32

/-- The gates. -/
def refGate (z : FVec Ideal S32x2048x4256 .f32) : FVec Ideal S32x2048x2048 .bf16 :=
  truncf .bf16 (Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (extractStridedSlice S32x2048x2048 ![0, 0, 2208] z slices_S32x2048x4256_S32x2048x2048_0_0_2208))))) bitsLt_bf16_f32

/-- The values. -/
def refV (z : FVec Ideal S32x2048x4256 .f32) : FVec Ideal S1x32x2048x8x64 .f32 :=
  broadcastInDim S1x32x2048x8x64 ![1, 2, 3, 4] bcast_S32x2048x8x64_S1x32x2048x8x64_1_2_3_4 (shapeCast _ (extractStridedSlice S32x2048x512 ![0, 0, 1696] z slices_S32x2048x4256_S32x2048x512_0_0_1696) shapeCasts_S32x2048x512_S32x2048x8x64)

/-- The angles of the shared key's turn. -/
def refAng16  : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.exp (Host.divf (mulf (broadcastInDim S16 ![] bcast_S_S16 (constant S_ .f32 0xC151F533#32)) (sitofp .f32 (iotaInDim S16 32 0))) (broadcastInDim S16 ![] bcast_S_S16 (constant S_ .f32 0x41800000#32))))))

/-- The angles of the heads' turn. -/
def refAng8  : FVec Ideal S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.exp (Host.divf (mulf (broadcastInDim S8 ![] bcast_S_S8 (constant S_ .f32 0xC151F533#32)) (sitofp .f32 (iotaInDim S8 32 0))) (broadcastInDim S8 ![] bcast_S_S8 (constant S_ .f32 0x41000000#32))))))

/-- The shared key's turned rows. -/
def refKpe (y : FVec Ideal S32x2048x1x32 .f32) (u v : FVec Ideal S32x2048x1x16 .f32) (co si : FVec Ideal S2048x1x16 .f32) : FVec Ideal S1x32x2048x32 .f32 :=
  broadcastInDim S1x32x2048x32 ![1, 2, 3] bcast_S32x2048x32_S1x32x2048x32_1_2_3 (shapeCast _ ((concatenate S32x2048x1x32 3 [⟨S32x2048x1x16, ((subf (mulf u (broadcastInDim S32x2048x1x16 ![0, 1, 2, 3] bcast_S1x2048x1x16_S32x2048x1x16_0_1_2_3 (broadcastInDim S1x2048x1x16 ![1, 2, 3] bcast_S2048x1x16_S1x2048x1x16_1_2_3 co))) (mulf v (broadcastInDim S32x2048x1x16 ![0, 1, 2, 3] bcast_S1x2048x1x16_S32x2048x1x16_0_1_2_3 (broadcastInDim S1x2048x1x16 ![1, 2, 3] bcast_S2048x1x16_S1x2048x1x16_1_2_3 si)))) : (⟨S32x2048x1x16, .f32⟩ : BufTy).Contents (Elt Ideal))⟩, ⟨S32x2048x1x16, ((addf (mulf v (broadcastInDim S32x2048x1x16 ![0, 1, 2, 3] bcast_S1x2048x1x16_S32x2048x1x16_0_1_2_3 (broadcastInDim S1x2048x1x16 ![1, 2, 3] bcast_S2048x1x16_S1x2048x1x16_1_2_3 co))) (mulf u (broadcastInDim S32x2048x1x16 ![0, 1, 2, 3] bcast_S1x2048x1x16_S32x2048x1x16_0_1_2_3 (broadcastInDim S1x2048x1x16 ![1, 2, 3] bcast_S2048x1x16_S1x2048x1x16_1_2_3 si)))) : (⟨S32x2048x1x16, .f32⟩ : BufTy).Contents (Elt Ideal))⟩, ⟨S32x2048x1x0, ((extractStridedSlice S32x2048x1x0 ![0, 0, 0, 32] y slices_S32x2048x1x32_S32x2048x1x0_0_0_0_32) : (⟨S32x2048x1x0, .f32⟩ : BufTy).Contents (Elt Ideal))⟩] concatenates_S32x2048x1x16_S32x2048x1x16_S32x2048x1x0_S32x2048x1x32_d3 : (⟨S32x2048x1x32, .f32⟩ : BufTy).Contents (Elt Ideal))) shapeCasts_S32x2048x1x32_S32x2048x32)

/-- The heads' turned rows. -/
def refRot (y : FVec Ideal S32x2048x8x64 .f32) (u v : FVec Ideal S32x2048x8x8 .f32) (co si : FVec Ideal S2048x1x8 .f32) : FVec Ideal S32x2048x8x64 .f32 :=
  (concatenate S32x2048x8x64 3 [⟨S32x2048x8x8, ((subf (mulf u (broadcastInDim S32x2048x8x8 ![0, 1, 2, 3] bcast_S1x2048x1x8_S32x2048x8x8_0_1_2_3 (broadcastInDim S1x2048x1x8 ![1, 2, 3] bcast_S2048x1x8_S1x2048x1x8_1_2_3 co))) (mulf v (broadcastInDim S32x2048x8x8 ![0, 1, 2, 3] bcast_S1x2048x1x8_S32x2048x8x8_0_1_2_3 (broadcastInDim S1x2048x1x8 ![1, 2, 3] bcast_S2048x1x8_S1x2048x1x8_1_2_3 si)))) : (⟨S32x2048x8x8, .f32⟩ : BufTy).Contents (Elt Ideal))⟩, ⟨S32x2048x8x8, ((addf (mulf v (broadcastInDim S32x2048x8x8 ![0, 1, 2, 3] bcast_S1x2048x1x8_S32x2048x8x8_0_1_2_3 (broadcastInDim S1x2048x1x8 ![1, 2, 3] bcast_S2048x1x8_S1x2048x1x8_1_2_3 co))) (mulf u (broadcastInDim S32x2048x8x8 ![0, 1, 2, 3] bcast_S1x2048x1x8_S32x2048x8x8_0_1_2_3 (broadcastInDim S1x2048x1x8 ![1, 2, 3] bcast_S2048x1x8_S1x2048x1x8_1_2_3 si)))) : (⟨S32x2048x8x8, .f32⟩ : BufTy).Contents (Elt Ideal))⟩, ⟨S32x2048x8x48, ((extractStridedSlice S32x2048x8x48 ![0, 0, 0, 16] y slices_S32x2048x8x64_S32x2048x8x48_0_0_0_16) : (⟨S32x2048x8x48, .f32⟩ : BufTy).Contents (Elt Ideal))⟩] concatenates_S32x2048x8x8_S32x2048x8x8_S32x2048x8x48_S32x2048x8x64_d3 : (⟨S32x2048x8x64, .f32⟩ : BufTy).Contents (Elt Ideal))

/-- The means of the keys of each block. -/
def refMean (k : FVec Ideal S32x2048x8x64 .f32) : FVec Ideal S32x8x1x512 .f32 :=
  Host.divf (broadcastInDim S32x8x1x512 ![0, 1, 3] bcast_S32x8x512_S32x8x1x512_0_1_3 (Host.reduceAdd (shapeCast _ k shapeCasts_S32x2048x8x64_S32x8x256x512) (constant S_ .f32 0x00000000#32) reducesTo_S32x8x256x512_S32x8x512_d2 h_S_)) (broadcastInDim S32x8x1x512 ![] bcast_S_S32x8x1x512 (constant S_ .f32 0x43800000#32))

theorem refMod_apply (cd : FVec Ideal S32x1024 .f32) (w : FVec Ideal S1x1024x6144 .f32) (bi : FVec Ideal S1x6144 .f32) (b : Fin 32) (n : Fin 6144) :
    refMod cd w bi (ix2 b n) = modRow (fun j => cd (ix2 b j)) (fun i j => w (ix3 0 i j)) (fun j => bi (ix2 0 j)) n := by
  unfold modRow Ideal.logistic
  rw [← Ideal.ofBits_one_f32]
  pointwise [refMod]

theorem refZ_apply (x : FVec Ideal S32x2048x1024 .f32) (g : FVec Ideal S1x1024 .f32) (md : FVec Ideal S32x6144 .f32) (w : FVec Ideal S1x1024x4256 .f32)
    (b : Fin 32) (t : Fin 2048) (n : Fin 4256) :
    refZ x g md w (ix3 b t n)
      = projRow (normRow (fun j => x (ix3 b t j)) (fun j => g (ix2 0 j)) (fun j => md (ix2 b ⟨1024 + j.val, by omega⟩)) (fun j => md (ix2 b ⟨j.val, by omega⟩)))
          (fun i j => w (ix3 0 i j)) n := by
  unfold projRow normRow meanRow
  pointwise [refZ]

theorem refLat_apply (z : FVec Ideal S32x2048x256 .f32) (g : FVec Ideal S1x256 .f32) (b : Fin 32) (t : Fin 2048) (e : Fin 256) :
    refLat z g (ix4 0 b t e) = gainRow (Ideal.ofBits .f32 0x43800000#32) (fun j => z (ix3 b t j)) (fun j => g (ix2 0 j)) e := by
  unfold gainRow
  pointwise [refLat]

theorem refQn_apply (z : FVec Ideal S32x2048x384 .f32) (g : FVec Ideal S1x384 .f32) (b : Fin 32) (t : Fin 2048) (e : Fin 384) :
    refQn z g (ix3 b t e) = gainRow (Ideal.ofBits .f32 0x43C00000#32) (fun j => z (ix3 b t j)) (fun j => g (ix2 0 j)) e := by
  unfold gainRow
  pointwise [refQn]

theorem refGate_apply (z : FVec Ideal S32x2048x4256 .f32) (b : Fin 32) (t : Fin 2048) (e : Fin 2048) :
    refGate z (ix3 b t e) = Ideal.logistic (z (ix3 b t ⟨2208 + e.val, by omega⟩)) := by
  unfold Ideal.logistic
  rw [← Ideal.ofBits_one_f32]
  pointwise [refGate]

theorem refV_apply (z : FVec Ideal S32x2048x4256 .f32) (b : Fin 32) (t : Fin 2048) (u : Fin 8) (d : Fin 64) :
    refV z (ix5 0 b t u d) = z (ix3 b t ⟨1696 + (u.val * 64 + d.val), by omega⟩) := by
  pointwise [refV]

theorem refAng16_apply (t : Fin 2048) (j : Fin 16) : refAng16 (ix2 t j) = angle (Ideal.ofBits .f32 0x41800000#32) t.val j.val := by
  unfold angle
  pointwise [refAng16]

theorem refAng8_apply (t : Fin 2048) (j : Fin 8) : refAng8 (ix2 t j) = angle (Ideal.ofBits .f32 0x41000000#32) t.val j.val := by
  unfold angle
  pointwise [refAng8]

theorem refMean_apply (k : FVec Ideal S32x2048x8x64 .f32) (b : Fin 32) (q : Fin 8) (l : Fin 512) :
    refMean k (ix4 b q 0 l) = Ideal.div (∑ r : Fin 256, k (ix4 b ⟨q.val * 256 + r.val, by omega⟩ ⟨l.val / 64, by omega⟩ ⟨l.val % 64, Nat.mod_lt _ (by decide)⟩)) (Ideal.ofBits .f32 0x43800000#32) := by
  pointwise [refMean]

/-- The shared key's turned rows, from the untouched ones. -/
def refKpeY (y : FVec Ideal S32x2048x1x32 .f32) : FVec Ideal S1x32x2048x32 .f32 :=
  refKpe y (extractStridedSlice S32x2048x1x16 ![0, 0, 0, 0] y slices_S32x2048x1x32_S32x2048x1x16_0_0_0_0) (extractStridedSlice S32x2048x1x16 ![0, 0, 0, 16] y slices_S32x2048x1x32_S32x2048x1x16_0_0_0_16)
    (broadcastInDim S2048x1x16 ![0, 2] bcast_S2048x16_S2048x1x16_0_2 (Host.cos refAng16)) (broadcastInDim S2048x1x16 ![0, 2] bcast_S2048x16_S2048x1x16_0_2 (Host.sin refAng16))

/-- The heads' turned rows, from the untouched ones. -/
def refRotY (y : FVec Ideal S32x2048x8x64 .f32) : FVec Ideal S32x2048x8x64 .f32 :=
  refRot y (extractStridedSlice S32x2048x8x8 ![0, 0, 0, 0] y slices_S32x2048x8x64_S32x2048x8x8_0_0_0_0) (extractStridedSlice S32x2048x8x8 ![0, 0, 0, 8] y slices_S32x2048x8x64_S32x2048x8x8_0_0_0_8)
    (broadcastInDim S2048x1x8 ![0, 2] bcast_S2048x8_S2048x1x8_0_2 (Host.cos refAng8)) (broadcastInDim S2048x1x8 ![0, 2] bcast_S2048x8_S2048x1x8_0_2 (Host.sin refAng8))

theorem refKpe_apply (y : FVec Ideal S32x2048x1x32 .f32) (b : Fin 32) (t : Fin 2048) (j : Fin 32) :
    refKpeY y (ix4 0 b t j) = turn 16 (fun j => y (ix4 b t 0 j)) (by decide) (fun j => Ideal.cos (angle (Ideal.ofBits .f32 0x41800000#32) t.val j.val)) (fun j => Ideal.sin (angle (Ideal.ofBits .f32 0x41800000#32) t.val j.val)) j := by
  unfold turn
  pointwise [refKpeY, refKpe, refAng16_apply]
  by_cases h1 : j.val < 16
  · rw [dif_pos h1, dif_pos h1]
  · rw [dif_neg h1, dif_neg h1]
    by_cases h2 : j.val - 16 < 16
    · rw [dif_pos h2, dif_pos h2]
      have e : (⟨16 + (j.val - 16), by omega⟩ : Fin 32) = j := Fin.ext (by show 16 + (j.val - 16) = j.val; omega)
      simp only [e]
    · rw [dif_neg h2, dif_neg h2]
      have e : (⟨32 + (j.val - 16 - 16), by omega⟩ : Fin 32) = j := Fin.ext (by show 32 + (j.val - 16 - 16) = j.val; omega)
      simp only [e]

theorem refRot_apply (y : FVec Ideal S32x2048x8x64 .f32) (b : Fin 32) (t : Fin 2048) (w : Fin 8) (j : Fin 64) :
    refRotY y (ix4 b t w j) = turn 8 (fun j => y (ix4 b t w j)) (by decide) (fun j => Ideal.cos (angle (Ideal.ofBits .f32 0x41000000#32) t.val j.val)) (fun j => Ideal.sin (angle (Ideal.ofBits .f32 0x41000000#32) t.val j.val)) j := by
  unfold turn
  pointwise [refRotY, refRot, refAng8_apply]
  by_cases h1 : j.val < 8
  · rw [dif_pos h1, dif_pos h1]
  · rw [dif_neg h1, dif_neg h1]
    by_cases h2 : j.val - 8 < 8
    · rw [dif_pos h2, dif_pos h2]
      have e : (⟨8 + (j.val - 8), by omega⟩ : Fin 64) = j := Fin.ext (by show 8 + (j.val - 8) = j.val; omega)
      simp only [e]
    · rw [dif_neg h2, dif_neg h2]
      have e : (⟨16 + (j.val - 8 - 8), by omega⟩ : Fin 64) = j := Fin.ext (by show 16 + (j.val - 8 - 8) = j.val; omega)
      simp only [e]

/-- A valuation's projected row of a token. -/
def zA (V0 : Valuation τ sig (Elt Ideal)) (b : Fin 32) (t : Fin 2048) : Fin 4256 → EReal :=
  zRow (fun j => (V0 (Proc.devRef .tc main_arg0) : FVec Ideal S32x2048x1024 .f32) (ix3 b t j)) (fun j => (V0 (Proc.devRef .tc main_arg5) : FVec Ideal S1x1024 .f32) (ix2 0 j))
    (fun j => (V0 (Proc.devRef .tc main_arg1) : FVec Ideal S32x1024 .f32) (ix2 b j)) (fun i j => (V0 (Proc.devRef .tc main_arg3) : FVec Ideal S1x1024x6144 .f32) (ix3 0 i j))
    (fun j => (V0 (Proc.devRef .tc main_arg4) : FVec Ideal S1x6144 .f32) (ix2 0 j)) (fun i j => (V0 (Proc.devRef .tc main_arg6) : FVec Ideal S1x1024x4256 .f32) (ix3 0 i j))

variable (V0 : Valuation τ sig (Elt Ideal))

theorem z_read (b : Fin 32) (t : Fin 2048) (n : Fin 4256) : (res_main_v32 V0 : FVec Ideal S32x2048x4256 .f32) (ix3 b t n) = zA V0 b t n := by
  refine (refZ_apply (V0 (Proc.devRef .tc main_arg0)) (V0 (Proc.devRef .tc main_arg5)) (refMod (V0 (Proc.devRef .tc main_arg1)) (V0 (Proc.devRef .tc main_arg3)) (V0 (Proc.devRef .tc main_arg4)))
    (V0 (Proc.devRef .tc main_arg6)) b t n).trans ?_
  unfold zA zRow
  simp only [refMod_apply]

theorem q_cols (z : FVec Ideal S32x2048x4256 .f32) (b : Fin 32) (t : Fin 2048) (j : Fin 384) :
    extractStridedSlice S32x2048x384 ![0, 0, 0] z slices_S32x2048x4256_S32x2048x384_0_0_0 (ix3 b t j) = z (ix3 b t ⟨j.val, by omega⟩) := by pointwise

theorem kv_cols (z : FVec Ideal S32x2048x4256 .f32) (b : Fin 32) (t : Fin 2048) (j : Fin 256) :
    extractStridedSlice S32x2048x256 ![0, 0, 384] z slices_S32x2048x4256_S32x2048x256_0_0_384 (ix3 b t j) = z (ix3 b t ⟨384 + j.val, by omega⟩) := by pointwise

theorem pe_cols (z : FVec Ideal S32x2048x4256 .f32) (b : Fin 32) (t : Fin 2048) (j : Fin 32) :
    broadcastInDim S32x2048x1x32 ![0, 1, 3] bcast_S32x2048x32_S32x2048x1x32_0_1_3 (extractStridedSlice S32x2048x32 ![0, 0, 640] z slices_S32x2048x4256_S32x2048x32_0_0_640) (ix4 b t 0 j)
      = z (ix3 b t ⟨640 + j.val, by omega⟩) := by pointwise

theorem mq_cols (z : FVec Ideal S32x2048x4256 .f32) (b : Fin 32) (t : Fin 2048) (u : Fin 8) (j : Fin 64) :
    shapeCast S32x2048x8x64 (extractStridedSlice S32x2048x512 ![0, 0, 672] z slices_S32x2048x4256_S32x2048x512_0_0_672) shapeCasts_S32x2048x512_S32x2048x8x64 (ix4 b t u j)
      = z (ix3 b t ⟨672 + (u.val * 64 + j.val), by omega⟩) := by pointwise

theorem mk_cols (z : FVec Ideal S32x2048x4256 .f32) (b : Fin 32) (t : Fin 2048) (u : Fin 8) (j : Fin 64) :
    shapeCast S32x2048x8x64 (extractStridedSlice S32x2048x512 ![0, 0, 1184] z slices_S32x2048x4256_S32x2048x512_0_0_1184) shapeCasts_S32x2048x512_S32x2048x8x64 (ix4 b t u j)
      = z (ix3 b t ⟨1184 + (u.val * 64 + j.val), by omega⟩) := by pointwise

/-! The eight results, read. -/

theorem r_lat (b : Fin 32) (t : Fin 2048) (e : Fin 256) :
    refLat (res_main_v34 V0) (V0 (Proc.devRef .tc main_arg8)) (ix4 0 b t e)
      = gainRow (Ideal.ofBits .f32 0x43800000#32) (fun j => zA V0 b t ⟨384 + j.val, by omega⟩) (fun j => (V0 (Proc.devRef .tc main_arg8) : FVec Ideal S1x256 .f32) (ix2 0 j)) e := by
  rw [refLat_apply]
  have h : ∀ j : Fin 256, (res_main_v34 V0 : FVec Ideal S32x2048x256 .f32) (ix3 b t j) = zA V0 b t ⟨384 + j.val, by omega⟩ := fun j => (kv_cols _ b t j).trans (z_read V0 b t _)
  simp only [h]

theorem r_qn (b : Fin 32) (t : Fin 2048) (e : Fin 384) :
    refQn (res_main_v33 V0) (V0 (Proc.devRef .tc main_arg7)) (ix3 b t e)
      = gainRow (Ideal.ofBits .f32 0x43C00000#32) (fun j => zA V0 b t ⟨j.val, by omega⟩) (fun j => (V0 (Proc.devRef .tc main_arg7) : FVec Ideal S1x384 .f32) (ix2 0 j)) e := by
  rw [refQn_apply]
  have h : ∀ j : Fin 384, (res_main_v33 V0 : FVec Ideal S32x2048x384 .f32) (ix3 b t j) = zA V0 b t ⟨j.val, by omega⟩ := fun j => (q_cols _ b t j).trans (z_read V0 b t _)
  simp only [h]

theorem r_gate (b : Fin 32) (t : Fin 2048) (e : Fin 2048) :
    refGate (res_main_v32 V0) (ix3 b t e) = Ideal.logistic (zA V0 b t ⟨2208 + e.val, by omega⟩) :=
  (refGate_apply _ b t e).trans (congrArg Ideal.logistic (z_read V0 b t _))

theorem r_v (b : Fin 32) (t : Fin 2048) (u : Fin 8) (j : Fin 64) :
    refV (res_main_v32 V0) (ix5 0 b t u j) = zA V0 b t ⟨1696 + (u.val * 64 + j.val), by omega⟩ :=
  (refV_apply _ b t u j).trans (z_read V0 b t _)

/-- The cosines and sines of a place's turn. -/
def co (h : Nat) (k : EReal) (t : Nat) (j : Fin h) : EReal := Ideal.cos (angle k t j.val)
def si (h : Nat) (k : EReal) (t : Nat) (j : Fin h) : EReal := Ideal.sin (angle k t j.val)

theorem r_pe (b : Fin 32) (t : Fin 2048) (j : Fin 32) :
    refKpeY (res_main_v55 V0) (ix4 0 b t j)
      = turn 16 (fun j => zA V0 b t ⟨640 + j.val, by omega⟩) (by decide) (co 16 (Ideal.ofBits .f32 0x41800000#32) t.val) (si 16 (Ideal.ofBits .f32 0x41800000#32) t.val) j := by
  rw [refKpe_apply]
  have h : ∀ j : Fin 32, (res_main_v55 V0 : FVec Ideal S32x2048x1x32 .f32) (ix4 b t 0 j) = zA V0 b t ⟨640 + j.val, by omega⟩ := fun j => (pe_cols _ b t j).trans (z_read V0 b t _)
  simp only [h]
  rfl

theorem r_mq (b : Fin 32) (t : Fin 2048) (u : Fin 8) (j : Fin 64) :
    refRotY (res_main_v91 V0) (ix4 b t u j)
      = turn 8 (fun j : Fin 64 => zA V0 b t ⟨672 + (u.val * 64 + j.val), by omega⟩) (by decide) (co 8 (Ideal.ofBits .f32 0x41000000#32) t.val) (si 8 (Ideal.ofBits .f32 0x41000000#32) t.val) j := by
  rw [refRot_apply]
  have h : ∀ j : Fin 64, (res_main_v91 V0 : FVec Ideal S32x2048x8x64 .f32) (ix4 b t u j) = zA V0 b t ⟨672 + (u.val * 64 + j.val), by omega⟩ := fun j => (mq_cols _ b t u j).trans (z_read V0 b t _)
  simp only [h]
  rfl

theorem r_mk (b : Fin 32) (t : Fin 2048) (u : Fin 8) (j : Fin 64) :
    refRotY (res_main_v126 V0) (ix4 b t u j)
      = turn 8 (fun j : Fin 64 => zA V0 b t ⟨1184 + (u.val * 64 + j.val), by omega⟩) (by decide) (co 8 (Ideal.ofBits .f32 0x41000000#32) t.val) (si 8 (Ideal.ofBits .f32 0x41000000#32) t.val) j := by
  rw [refRot_apply]
  have h : ∀ j : Fin 64, (res_main_v126 V0 : FVec Ideal S32x2048x8x64 .f32) (ix4 b t u j) = zA V0 b t ⟨1184 + (u.val * 64 + j.val), by omega⟩ := fun j => (mk_cols _ b t u j).trans (z_read V0 b t _)
  simp only [h]
  rfl

/-- The turned heads laid side by side, in the narrow format. -/
def refFlat (k : FVec Ideal S32x2048x8x64 .f32) : FVec Ideal S32x2048x512 .bf16 := truncf .bf16 (shapeCast S32x2048x512 k shapeCasts_S32x2048x8x64_S32x2048x512) bitsLt_bf16_f32

theorem refFlat_apply (k : FVec Ideal S32x2048x8x64 .f32) (b : Fin 32) (t : Fin 2048) (l : Fin 512) :
    refFlat k (ix3 b t l) = k (ix4 b t ⟨l.val / 64, by omega⟩ ⟨l.val % 64, Nat.mod_lt _ (by decide)⟩) := by pointwise [refFlat]

/-- The turned heads with the leading axis of one. -/
def refLead (k : FVec Ideal S32x2048x8x64 .f32) : FVec Ideal S1x32x2048x8x64 .f32 := broadcastInDim S1x32x2048x8x64 ![1, 2, 3, 4] bcast_S32x2048x8x64_S1x32x2048x8x64_1_2_3_4 k

theorem refLead_apply (k : FVec Ideal S32x2048x8x64 .f32) (b : Fin 32) (t : Fin 2048) (u : Fin 8) (j : Fin 64) :
    refLead k (ix5 0 b t u j) = k (ix4 b t u j) := by pointwise [refLead]

theorem v160_eq : (res_main_v160 V0 : FVec Ideal S32x2048x8x64 .f32) = refRotY (res_main_v126 V0) := rfl

end Cert.StatesReferenceIdeal.Run

end
-- ==== Proof.StatesArr.lean ====
module

public import proofs.«01_k».proof.Proof.States
public import Idealize.ShloMosaic.Lib.Pointwise.Index

/-! The arrays of the state projection: what the windows' blocks are of their arrays, and the result arrays after the run. -/

@[expose] public section

set_option maxRecDepth 16384

noncomputable section

namespace Cert.StatesIdeal.Run

open Idealize.ShloMosaic Idealize.ShloMosaic.TcCoe Idealize.SL.Sem
open Cert.StatesIdeal Cert.StatesIdeal.Gen
open Cert.PostIdeal.Run (normRow meanRow)

variable (V : (c : Dev nD) → (b : Ref sig .tc) → Buf (Elt Ideal) ((c : Thread nD τ).loc b))

/-- The grid point of prompt `b`, token block `q`. -/
def pt (b : Fin 32) (q : Fin 8) : Fin cfg1.N :=
  ⟨8 * b.val + q.val, by have hN : cfg1.N = 256 := N_1; omega⟩

theorem pt_coords (b : Fin 32) (q : Fin 8) :
    (grid1.coords (pt b q) 0).val = b.val ∧ (grid1.coords (pt b q) 1).val = q.val := by
  have e0 : (grid1.coords (pt b q) 0).val = (pt b q).val / 8 % 32 := Pipeline.Grid.coords_val _ 0 (by decide) rfl
  have e1 : (grid1.coords (pt b q) 1).val = (pt b q).val / 1 % 8 := Pipeline.Grid.coords_val _ 1 (by decide) rfl
  have hv : (pt b q).val = 8 * b.val + q.val := rfl
  rw [hv] at e0 e1
  have := b.isLt
  have := q.isLt
  exact ⟨by omega, by omega⟩

/-- The word of a small number. -/
theorem word_small (n : ℕ) (h : n < 4096) : (BitVec.ofNat 32 n).toNat = n := by
  rw [BitVec.toNat_ofNat, Nat.mod_eq_of_lt (by omega)]

/-- A token's place in its prompt, from its block and its place there. -/
abbrev at_ (q : Fin 8) (r : Fin 256) : Fin 2048 := ⟨256 * q.val + r.val, by omega⟩

theorem zero3 : (![0, 0, 0] : Fin 3 → Nat) = fun _ => 0 := by decide
theorem zero2 : (![0, 0] : Fin 2 → Nat) = fun _ => 0 := by decide

theorem index0 (b : Fin 32) (q : Fin 8) :
    win1_0.index (pt b q) 0 = b.val ∧ win1_0.index (pt b q) 1 = q.val ∧ win1_0.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- The block of the input. -/
theorem read0 (c : Dev nD) (b : Fin 32) (q : Fin 8) (r : Fin 256) (l : Fin 1024) :
    (iblk1 V c 0 (pt b q) : Vec Ideal S1x256x1024 .f32) (ix3 0 r l) = (V c main_arg0 : Vec Ideal S32x2048x1024 .f32) (ix3 b (at_ q r) l) := by
  obtain ⟨h0, h1, h2⟩ := index0 b q
  unfold iblk1
  rw [View.read_apply]
  show V c main_arg0 _ = V c main_arg0 _
  congr 1
  funext a
  apply Fin.ext
  match a with
  | ⟨0, _⟩ => show win1_0.index (pt b q) 0 * 1 + 1 * 0 = b.val; rw [h0]; omega
  | ⟨1, _⟩ => show win1_0.index (pt b q) 1 * 256 + 1 * r.val = 256 * q.val + r.val; rw [h1]; omega
  | ⟨2, _⟩ => show win1_0.index (pt b q) 2 * 1024 + 1 * l.val = l.val; rw [h2]; omega

theorem index1 (b : Fin 32) (q : Fin 8) :
    win1_1.index (pt b q) 0 = b.val ∧ win1_1.index (pt b q) 1 = 0 ∧ win1_1.index (pt b q) 2 = 0 := by
  obtain ⟨h0, h1⟩ := pt_coords b q
  have := b.isLt
  refine ⟨?_, rfl, rfl⟩
  show (BitVec.ofNat 32 (grid1.coords (pt b q) 0).val).toNat = _
  rw [h0, word_small _ (by omega)]

/-- The block of the shift. -/
theorem read1 (c : Dev nD) (b : Fin 32) (q : Fin 8) (l : Fin 1024) :
    (iblk1 V c 1 (pt b q) : Vec Ideal S1x1x1024 .f32) (ix3 0 0 l) = (V c main_v33 : Vec Ideal S32x1x1024 .f32) (ix3 b 0 l) := by
  obtain ⟨h0, h1, h2⟩ := index1 b q
  unfold iblk1
  rw [View.read_apply]
  show V c main_v33 _ = V c main_v33 _
  congr 1
  funext a
  apply Fin.ext
  match a with
  | ⟨0, _⟩ => show win1_1.index (pt b q) 0 * 1 + 1 * 0 = b.val; rw [h0]; omega
  | ⟨1, _⟩ => show win1_1.index (pt b q) 1 * 1 + 1 * 0 = 0; rw [h1]
  | ⟨2, _⟩ => show win1_1.index (pt b q) 2 * 1024 + 1 * l.val = l.val; rw [h2]; omega

theorem index2 (b : Fin 32) (q : Fin 8) :
    win1_2.index (pt b q) 0 = b.val ∧ win1_2.index (pt b q) 1 = 0 ∧ win1_2.index (pt b q) 2 = 0 := by
  obtain ⟨h0, h1⟩ := pt_coords b q
  have := b.isLt
  refine ⟨?_, rfl, rfl⟩
  show (BitVec.ofNat 32 (grid1.coords (pt b q) 0).val).toNat = _
  rw [h0, word_small _ (by omega)]

/-- The block of the scale. -/
theorem read2 (c : Dev nD) (b : Fin 32) (q : Fin 8) (l : Fin 1024) :
    (iblk1 V c 2 (pt b q) : Vec Ideal S1x1x1024 .f32) (ix3 0 0 l) = (V c main_v34 : Vec Ideal S32x1x1024 .f32) (ix3 b 0 l) := by
  obtain ⟨h0, h1, h2⟩ := index2 b q
  unfold iblk1
  rw [View.read_apply]
  show V c main_v34 _ = V c main_v34 _
  congr 1
  funext a
  apply Fin.ext
  match a with
  | ⟨0, _⟩ => show win1_2.index (pt b q) 0 * 1 + 1 * 0 = b.val; rw [h0]; omega
  | ⟨1, _⟩ => show win1_2.index (pt b q) 1 * 1 + 1 * 0 = 0; rw [h1]
  | ⟨2, _⟩ => show win1_2.index (pt b q) 2 * 1024 + 1 * l.val = l.val; rw [h2]; omega

/-- The whole of the gain, at every grid point. -/
theorem read3 (c : Dev nD) (b : Fin 32) (q : Fin 8) (i : Fin 1) (j : Fin 1024) :
    (iblk1 V c 3 (pt b q) : Vec Ideal S1x1024 .f32) (ix2 i j) = (V c main_v17 : Vec Ideal S1x1024 .f32) (ix2 i j) := by
  unfold iblk1
  rw [View.read_apply]
  show V c main_v17 _ = V c main_v17 _
  congr 1
  funext a
  apply Fin.ext
  match a with
  | ⟨0, _⟩ => show 0 * 1 + 1 * i.val = i.val; omega
  | ⟨1, _⟩ => show 0 * 1024 + 1 * j.val = j.val; omega

/-- The whole of the input weights, at every grid point. -/
theorem read4 (c : Dev nD) (b : Fin 32) (q : Fin 8) (i : Fin 1024) (j : Fin 4352) :
    (iblk1 V c 4 (pt b q) : Vec Ideal S1024x4352 .bf16) (ix2 i j) = (V c main_v13 : Vec Ideal S1024x4352 .bf16) (ix2 i j) := by
  unfold iblk1
  rw [View.read_apply]
  show V c main_v13 _ = V c main_v13 _
  congr 1
  funext a
  apply Fin.ext
  match a with
  | ⟨0, _⟩ => show 0 * 1024 + 1 * i.val = i.val; omega
  | ⟨1, _⟩ => show 0 * 4352 + 1 * j.val = j.val; omega

/-- The whole of the query gain, at every grid point. -/
theorem read5 (c : Dev nD) (b : Fin 32) (q : Fin 8) (i : Fin 1) (j : Fin 384) :
    (iblk1 V c 5 (pt b q) : Vec Ideal S1x384 .f32) (ix2 i j) = (V c main_v19 : Vec Ideal S1x384 .f32) (ix2 i j) := by
  unfold iblk1
  rw [View.read_apply]
  show V c main_v19 _ = V c main_v19 _
  congr 1
  funext a
  apply Fin.ext
  match a with
  | ⟨0, _⟩ => show 0 * 1 + 1 * i.val = i.val; omega
  | ⟨1, _⟩ => show 0 * 384 + 1 * j.val = j.val; omega

/-- The whole of the latent gain, at every grid point. -/
theorem read6 (c : Dev nD) (b : Fin 32) (q : Fin 8) (i : Fin 1) (j : Fin 256) :
    (iblk1 V c 6 (pt b q) : Vec Ideal S1x256 .f32) (ix2 i j) = (V c main_v21 : Vec Ideal S1x256 .f32) (ix2 i j) := by
  unfold iblk1
  rw [View.read_apply]
  show V c main_v21 _ = V c main_v21 _
  congr 1
  funext a
  apply Fin.ext
  match a with
  | ⟨0, _⟩ => show 0 * 1 + 1 * i.val = i.val; omega
  | ⟨1, _⟩ => show 0 * 256 + 1 * j.val = j.val; omega

theorem index7 (b : Fin 32) (q : Fin 8) :
    win1_7.index (pt b q) 0 = 0 ∧ win1_7.index (pt b q) 1 = q.val ∧ win1_7.index (pt b q) 2 = 0 := by
  obtain ⟨h0, h1⟩ := pt_coords b q
  have := q.isLt
  refine ⟨rfl, ?_, rfl⟩
  show (BitVec.ofNat 32 (grid1.coords (pt b q) 1).val).toNat = _
  rw [h1, word_small _ (by omega)]

/-- The block of the first tables. -/
theorem read7 (c : Dev nD) (b : Fin 32) (q : Fin 8) (k : Fin 3) (r : Fin 256) (l : Fin 128) :
    (iblk1 V c 7 (pt b q) : Vec Ideal S3x256x128 .f32) (ix3 k r l) = (V c main_v76 : Vec Ideal S3x2048x128 .f32) (ix3 k (at_ q r) l) := by
  obtain ⟨h0, h1, h2⟩ := index7 b q
  unfold iblk1
  rw [View.read_apply]
  show V c main_v76 _ = V c main_v76 _
  congr 1
  funext a
  apply Fin.ext
  match a with
  | ⟨0, _⟩ => show win1_7.index (pt b q) 0 * 3 + 1 * k.val = k.val; rw [h0]; omega
  | ⟨1, _⟩ => show win1_7.index (pt b q) 1 * 256 + 1 * r.val = 256 * q.val + r.val; rw [h1]; omega
  | ⟨2, _⟩ => show win1_7.index (pt b q) 2 * 128 + 1 * l.val = l.val; rw [h2]; omega

theorem index8 (b : Fin 32) (q : Fin 8) :
    win1_8.index (pt b q) 0 = 0 ∧ win1_8.index (pt b q) 1 = q.val ∧ win1_8.index (pt b q) 2 = 0 := by
  obtain ⟨h0, h1⟩ := pt_coords b q
  have := q.isLt
  refine ⟨rfl, ?_, rfl⟩
  show (BitVec.ofNat 32 (grid1.coords (pt b q) 1).val).toNat = _
  rw [h1, word_small _ (by omega)]

/-- The block of the second tables. -/
theorem read8 (c : Dev nD) (b : Fin 32) (q : Fin 8) (k : Fin 3) (r : Fin 256) (l : Fin 128) :
    (iblk1 V c 8 (pt b q) : Vec Ideal S3x256x128 .f32) (ix3 k r l) = (V c main_v113 : Vec Ideal S3x2048x128 .f32) (ix3 k (at_ q r) l) := by
  obtain ⟨h0, h1, h2⟩ := index8 b q
  unfold iblk1
  rw [View.read_apply]
  show V c main_v113 _ = V c main_v113 _
  congr 1
  funext a
  apply Fin.ext
  match a with
  | ⟨0, _⟩ => show win1_8.index (pt b q) 0 * 3 + 1 * k.val = k.val; rw [h0]; omega
  | ⟨1, _⟩ => show win1_8.index (pt b q) 1 * 256 + 1 * r.val = 256 * q.val + r.val; rw [h1]; omega
  | ⟨2, _⟩ => show win1_8.index (pt b q) 2 * 128 + 1 * l.val = l.val; rw [h2]; omega

theorem index9 (b : Fin 32) (q : Fin 8) :
    win1_9.index (pt b q) 0 = b.val ∧ win1_9.index (pt b q) 1 = q.val ∧ win1_9.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read9 (b : Fin 32) (q : Fin 8) (X : Vec Ideal S1x256x384 .bf16) (Y : Vec Ideal S32x2048x384 .bf16)
    (h : ∀ (r : Fin 256) (e : Fin 384), X (ix3 0 r e) = Y (ix3 b (at_ q r) e)) :
    win1_9.cut (grid1.coords (pt b q)) X = (win1_9.blk (pt b q)).view.read (Elt Ideal) Y := by
  obtain ⟨h0, h1, h2⟩ := index9 b q
  funext j
  rw [View.read_apply]
  have j0 : (j 0).val < 1 := (j 0).isLt
  have j1 : (j 1).val < 256 := (j 1).isLt
  have j2 : (j 2).val < 384 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_9.index (pt b q) 0 * 1 + 1 * (j 0).val; rw [h0]; omega
    | ⟨1, _⟩ => show 256 * q.val + (j 1).val = win1_9.index (pt b q) 1 * 256 + 1 * (j 1).val; rw [h1]; omega
    | ⟨2, _⟩ => show (j 2).val = win1_9.index (pt b q) 2 * 384 + 1 * (j 2).val; rw [h2]; omega

/-- Every element of the array lies in some block. -/
theorem covered9 (i : S32x2048x384.Idx) : ∃ t : Fin cfg1.N, i ∈ ((View.whole main_v114_0).slice (win1_9.rect t)).set := by
  have i0 : (i 0).val < 32 := (i 0).isLt
  have i1 : (i 1).val < 2048 := (i 1).isLt
  have i2 : (i 2).val < 384 := (i 2).isLt
  have hq : (i 1).val / 256 < 8 := by omega
  obtain ⟨g0, g1, g2⟩ := index9 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_9.index (pt ⟨(i 0).val, i0⟩ ⟨(i 1).val / 256, hq⟩) 0 * 1 ≤ (i 0).val ∧ (i 0).val < win1_9.index (pt ⟨(i 0).val, i0⟩ ⟨(i 1).val / 256, hq⟩) 0 * 1 + 1
              rw [g0]; simp only; omega
  | ⟨1, _⟩ => show win1_9.index (pt ⟨(i 0).val, i0⟩ ⟨(i 1).val / 256, hq⟩) 1 * 256 ≤ (i 1).val ∧ (i 1).val < win1_9.index (pt ⟨(i 0).val, i0⟩ ⟨(i 1).val / 256, hq⟩) 1 * 256 + 256
              rw [g1]; simp only; omega
  | ⟨2, _⟩ => show win1_9.index (pt ⟨(i 0).val, i0⟩ ⟨(i 1).val / 256, hq⟩) 2 * 384 ≤ (i 2).val ∧ (i 2).val < win1_9.index (pt ⟨(i 0).val, i0⟩ ⟨(i 1).val / 256, hq⟩) 2 * 384 + 384
              rw [g2]; omega

/-- The array after the run, from what each grid point's block is. -/
theorem final9 (c : Dev nD) (G : Vec Ideal S32x2048x384 .bf16)
    (h : ∀ (b : Fin 32) (q : Fin 8) (r : Fin 256) (e : Fin 384),
      out1_9 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 9 cfg1.N = G := by
  refine (dat1 V c).arrAt_eq_of_cover 9 G (fun t hf => ?_) fun i => (covered9 i).elim fun t h => ⟨t, flush1_9 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 9).cut (grid1.coords t) ((dat1 V c).after 9 t) = _
  rw [after1_9, ht]
  exact cut_eq_read9 _ _ _ G (h _ _)

theorem index10 (b : Fin 32) (q : Fin 8) :
    win1_10.index (pt b q) 0 = b.val ∧ win1_10.index (pt b q) 1 = q.val ∧ win1_10.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read10 (b : Fin 32) (q : Fin 8) (X : Vec Ideal S1x256x256 .f32) (Y : Vec Ideal S32x2048x256 .f32)
    (h : ∀ (r : Fin 256) (e : Fin 256), X (ix3 0 r e) = Y (ix3 b (at_ q r) e)) :
    win1_10.cut (grid1.coords (pt b q)) X = (win1_10.blk (pt b q)).view.read (Elt Ideal) Y := by
  obtain ⟨h0, h1, h2⟩ := index10 b q
  funext j
  rw [View.read_apply]
  have j0 : (j 0).val < 1 := (j 0).isLt
  have j1 : (j 1).val < 256 := (j 1).isLt
  have j2 : (j 2).val < 256 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_10.index (pt b q) 0 * 1 + 1 * (j 0).val; rw [h0]; omega
    | ⟨1, _⟩ => show 256 * q.val + (j 1).val = win1_10.index (pt b q) 1 * 256 + 1 * (j 1).val; rw [h1]; omega
    | ⟨2, _⟩ => show (j 2).val = win1_10.index (pt b q) 2 * 256 + 1 * (j 2).val; rw [h2]; omega

/-- Every element of the array lies in some block. -/
theorem covered10 (i : S32x2048x256.Idx) : ∃ t : Fin cfg1.N, i ∈ ((View.whole main_v114_1).slice (win1_10.rect t)).set := by
  have i0 : (i 0).val < 32 := (i 0).isLt
  have i1 : (i 1).val < 2048 := (i 1).isLt
  have i2 : (i 2).val < 256 := (i 2).isLt
  have hq : (i 1).val / 256 < 8 := by omega
  obtain ⟨g0, g1, g2⟩ := index10 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_10.index (pt ⟨(i 0).val, i0⟩ ⟨(i 1).val / 256, hq⟩) 0 * 1 ≤ (i 0).val ∧ (i 0).val < win1_10.index (pt ⟨(i 0).val, i0⟩ ⟨(i 1).val / 256, hq⟩) 0 * 1 + 1
              rw [g0]; simp only; omega
  | ⟨1, _⟩ => show win1_10.index (pt ⟨(i 0).val, i0⟩ ⟨(i 1).val / 256, hq⟩) 1 * 256 ≤ (i 1).val ∧ (i 1).val < win1_10.index (pt ⟨(i 0).val, i0⟩ ⟨(i 1).val / 256, hq⟩) 1 * 256 + 256
              rw [g1]; simp only; omega
  | ⟨2, _⟩ => show win1_10.index (pt ⟨(i 0).val, i0⟩ ⟨(i 1).val / 256, hq⟩) 2 * 256 ≤ (i 2).val ∧ (i 2).val < win1_10.index (pt ⟨(i 0).val, i0⟩ ⟨(i 1).val / 256, hq⟩) 2 * 256 + 256
              rw [g2]; omega

/-- The array after the run, from what each grid point's block is. -/
theorem final10 (c : Dev nD) (G : Vec Ideal S32x2048x256 .f32)
    (h : ∀ (b : Fin 32) (q : Fin 8) (r : Fin 256) (e : Fin 256),
      out1_10 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 10 cfg1.N = G := by
  refine (dat1 V c).arrAt_eq_of_cover 10 G (fun t hf => ?_) fun i => (covered10 i).elim fun t h => ⟨t, flush1_10 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 10).cut (grid1.coords t) ((dat1 V c).after 10 t) = _
  rw [after1_10, ht]
  exact cut_eq_read10 _ _ _ G (h _ _)

theorem index11 (b : Fin 32) (q : Fin 8) :
    win1_11.index (pt b q) 0 = b.val ∧ win1_11.index (pt b q) 1 = q.val ∧ win1_11.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read11 (b : Fin 32) (q : Fin 8) (X : Vec Ideal S1x256x128 .f32) (Y : Vec Ideal S32x2048x128 .f32)
    (h : ∀ (r : Fin 256) (e : Fin 128), X (ix3 0 r e) = Y (ix3 b (at_ q r) e)) :
    win1_11.cut (grid1.coords (pt b q)) X = (win1_11.blk (pt b q)).view.read (Elt Ideal) Y := by
  obtain ⟨h0, h1, h2⟩ := index11 b q
  funext j
  rw [View.read_apply]
  have j0 : (j 0).val < 1 := (j 0).isLt
  have j1 : (j 1).val < 256 := (j 1).isLt
  have j2 : (j 2).val < 128 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_11.index (pt b q) 0 * 1 + 1 * (j 0).val; rw [h0]; omega
    | ⟨1, _⟩ => show 256 * q.val + (j 1).val = win1_11.index (pt b q) 1 * 256 + 1 * (j 1).val; rw [h1]; omega
    | ⟨2, _⟩ => show (j 2).val = win1_11.index (pt b q) 2 * 128 + 1 * (j 2).val; rw [h2]; omega

/-- Every element of the array lies in some block. -/
theorem covered11 (i : S32x2048x128.Idx) : ∃ t : Fin cfg1.N, i ∈ ((View.whole main_v114_2).slice (win1_11.rect t)).set := by
  have i0 : (i 0).val < 32 := (i 0).isLt
  have i1 : (i 1).val < 2048 := (i 1).isLt
  have i2 : (i 2).val < 128 := (i 2).isLt
  have hq : (i 1).val / 256 < 8 := by omega
  obtain ⟨g0, g1, g2⟩ := index11 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_11.index (pt ⟨(i 0).val, i0⟩ ⟨(i 1).val / 256, hq⟩) 0 * 1 ≤ (i 0).val ∧ (i 0).val < win1_11.index (pt ⟨(i 0).val, i0⟩ ⟨(i 1).val / 256, hq⟩) 0 * 1 + 1
              rw [g0]; simp only; omega
  | ⟨1, _⟩ => show win1_11.index (pt ⟨(i 0).val, i0⟩ ⟨(i 1).val / 256, hq⟩) 1 * 256 ≤ (i 1).val ∧ (i 1).val < win1_11.index (pt ⟨(i 0).val, i0⟩ ⟨(i 1).val / 256, hq⟩) 1 * 256 + 256
              rw [g1]; simp only; omega
  | ⟨2, _⟩ => show win1_11.index (pt ⟨(i 0).val, i0⟩ ⟨(i 1).val / 256, hq⟩) 2 * 128 ≤ (i 2).val ∧ (i 2).val < win1_11.index (pt ⟨(i 0).val, i0⟩ ⟨(i 1).val / 256, hq⟩) 2 * 128 + 128
              rw [g2]; omega

/-- The array after the run, from what each grid point's block is. -/
theorem final11 (c : Dev nD) (G : Vec Ideal S32x2048x128 .f32)
    (h : ∀ (b : Fin 32) (q : Fin 8) (r : Fin 256) (e : Fin 128),
      out1_11 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 11 cfg1.N = G := by
  refine (dat1 V c).arrAt_eq_of_cover 11 G (fun t hf => ?_) fun i => (covered11 i).elim fun t h => ⟨t, flush1_11 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 11).cut (grid1.coords t) ((dat1 V c).after 11 t) = _
  rw [after1_11, ht]
  exact cut_eq_read11 _ _ _ G (h _ _)

theorem index12 (b : Fin 32) (q : Fin 8) :
    win1_12.index (pt b q) 0 = b.val ∧ win1_12.index (pt b q) 1 = q.val ∧ win1_12.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read12 (b : Fin 32) (q : Fin 8) (X : Vec Ideal S1x256x512 .bf16) (Y : Vec Ideal S32x2048x512 .bf16)
    (h : ∀ (r : Fin 256) (e : Fin 512), X (ix3 0 r e) = Y (ix3 b (at_ q r) e)) :
    win1_12.cut (grid1.coords (pt b q)) X = (win1_12.blk (pt b q)).view.read (Elt Ideal) Y := by
  obtain ⟨h0, h1, h2⟩ := index12 b q
  funext j
  rw [View.read_apply]
  have j0 : (j 0).val < 1 := (j 0).isLt
  have j1 : (j 1).val < 256 := (j 1).isLt
  have j2 : (j 2).val < 512 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_12.index (pt b q) 0 * 1 + 1 * (j 0).val; rw [h0]; omega
    | ⟨1, _⟩ => show 256 * q.val + (j 1).val = win1_12.index (pt b q) 1 * 256 + 1 * (j 1).val; rw [h1]; omega
    | ⟨2, _⟩ => show (j 2).val = win1_12.index (pt b q) 2 * 512 + 1 * (j 2).val; rw [h2]; omega

/-- Every element of the array lies in some block. -/
theorem covered12 (i : S32x2048x512.Idx) : ∃ t : Fin cfg1.N, i ∈ ((View.whole main_v114_3).slice (win1_12.rect t)).set := by
  have i0 : (i 0).val < 32 := (i 0).isLt
  have i1 : (i 1).val < 2048 := (i 1).isLt
  have i2 : (i 2).val < 512 := (i 2).isLt
  have hq : (i 1).val / 256 < 8 := by omega
  obtain ⟨g0, g1, g2⟩ := index12 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_12.index (pt ⟨(i 0).val, i0⟩ ⟨(i 1).val / 256, hq⟩) 0 * 1 ≤ (i 0).val ∧ (i 0).val < win1_12.index (pt ⟨(i 0).val, i0⟩ ⟨(i 1).val / 256, hq⟩) 0 * 1 + 1
              rw [g0]; simp only; omega
  | ⟨1, _⟩ => show win1_12.index (pt ⟨(i 0).val, i0⟩ ⟨(i 1).val / 256, hq⟩) 1 * 256 ≤ (i 1).val ∧ (i 1).val < win1_12.index (pt ⟨(i 0).val, i0⟩ ⟨(i 1).val / 256, hq⟩) 1 * 256 + 256
              rw [g1]; simp only; omega
  | ⟨2, _⟩ => show win1_12.index (pt ⟨(i 0).val, i0⟩ ⟨(i 1).val / 256, hq⟩) 2 * 512 ≤ (i 2).val ∧ (i 2).val < win1_12.index (pt ⟨(i 0).val, i0⟩ ⟨(i 1).val / 256, hq⟩) 2 * 512 + 512
              rw [g2]; omega

/-- The array after the run, from what each grid point's block is. -/
theorem final12 (c : Dev nD) (G : Vec Ideal S32x2048x512 .bf16)
    (h : ∀ (b : Fin 32) (q : Fin 8) (r : Fin 256) (e : Fin 512),
      out1_12 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 12 cfg1.N = G := by
  refine (dat1 V c).arrAt_eq_of_cover 12 G (fun t hf => ?_) fun i => (covered12 i).elim fun t h => ⟨t, flush1_12 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 12).cut (grid1.coords t) ((dat1 V c).after 12 t) = _
  rw [after1_12, ht]
  exact cut_eq_read12 _ _ _ G (h _ _)

theorem index13 (b : Fin 32) (q : Fin 8) :
    win1_13.index (pt b q) 0 = b.val ∧ win1_13.index (pt b q) 1 = q.val ∧ win1_13.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read13 (b : Fin 32) (q : Fin 8) (X : Vec Ideal S1x256x512 .f32) (Y : Vec Ideal S32x2048x512 .f32)
    (h : ∀ (r : Fin 256) (e : Fin 512), X (ix3 0 r e) = Y (ix3 b (at_ q r) e)) :
    win1_13.cut (grid1.coords (pt b q)) X = (win1_13.blk (pt b q)).view.read (Elt Ideal) Y := by
  obtain ⟨h0, h1, h2⟩ := index13 b q
  funext j
  rw [View.read_apply]
  have j0 : (j 0).val < 1 := (j 0).isLt
  have j1 : (j 1).val < 256 := (j 1).isLt
  have j2 : (j 2).val < 512 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_13.index (pt b q) 0 * 1 + 1 * (j 0).val; rw [h0]; omega
    | ⟨1, _⟩ => show 256 * q.val + (j 1).val = win1_13.index (pt b q) 1 * 256 + 1 * (j 1).val; rw [h1]; omega
    | ⟨2, _⟩ => show (j 2).val = win1_13.index (pt b q) 2 * 512 + 1 * (j 2).val; rw [h2]; omega

/-- Every element of the array lies in some block. -/
theorem covered13 (i : S32x2048x512.Idx) : ∃ t : Fin cfg1.N, i ∈ ((View.whole main_v114_4).slice (win1_13.rect t)).set := by
  have i0 : (i 0).val < 32 := (i 0).isLt
  have i1 : (i 1).val < 2048 := (i 1).isLt
  have i2 : (i 2).val < 512 := (i 2).isLt
  have hq : (i 1).val / 256 < 8 := by omega
  obtain ⟨g0, g1, g2⟩ := index13 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_13.index (pt ⟨(i 0).val, i0⟩ ⟨(i 1).val / 256, hq⟩) 0 * 1 ≤ (i 0).val ∧ (i 0).val < win1_13.index (pt ⟨(i 0).val, i0⟩ ⟨(i 1).val / 256, hq⟩) 0 * 1 + 1
              rw [g0]; simp only; omega
  | ⟨1, _⟩ => show win1_13.index (pt ⟨(i 0).val, i0⟩ ⟨(i 1).val / 256, hq⟩) 1 * 256 ≤ (i 1).val ∧ (i 1).val < win1_13.index (pt ⟨(i 0).val, i0⟩ ⟨(i 1).val / 256, hq⟩) 1 * 256 + 256
              rw [g1]; simp only; omega
  | ⟨2, _⟩ => show win1_13.index (pt ⟨(i 0).val, i0⟩ ⟨(i 1).val / 256, hq⟩) 2 * 512 ≤ (i 2).val ∧ (i 2).val < win1_13.index (pt ⟨(i 0).val, i0⟩ ⟨(i 1).val / 256, hq⟩) 2 * 512 + 512
              rw [g2]; omega

/-- The array after the run, from what each grid point's block is. -/
theorem final13 (c : Dev nD) (G : Vec Ideal S32x2048x512 .f32)
    (h : ∀ (b : Fin 32) (q : Fin 8) (r : Fin 256) (e : Fin 512),
      out1_13 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 13 cfg1.N = G := by
  refine (dat1 V c).arrAt_eq_of_cover 13 G (fun t hf => ?_) fun i => (covered13 i).elim fun t h => ⟨t, flush1_13 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 13).cut (grid1.coords t) ((dat1 V c).after 13 t) = _
  rw [after1_13, ht]
  exact cut_eq_read13 _ _ _ G (h _ _)

theorem index14 (b : Fin 32) (q : Fin 8) :
    win1_14.index (pt b q) 0 = b.val ∧ win1_14.index (pt b q) 1 = q.val ∧ win1_14.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read14 (b : Fin 32) (q : Fin 8) (X : Vec Ideal S1x256x512 .f32) (Y : Vec Ideal S32x2048x512 .f32)
    (h : ∀ (r : Fin 256) (e : Fin 512), X (ix3 0 r e) = Y (ix3 b (at_ q r) e)) :
    win1_14.cut (grid1.coords (pt b q)) X = (win1_14.blk (pt b q)).view.read (Elt Ideal) Y := by
  obtain ⟨h0, h1, h2⟩ := index14 b q
  funext j
  rw [View.read_apply]
  have j0 : (j 0).val < 1 := (j 0).isLt
  have j1 : (j 1).val < 256 := (j 1).isLt
  have j2 : (j 2).val < 512 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_14.index (pt b q) 0 * 1 + 1 * (j 0).val; rw [h0]; omega
    | ⟨1, _⟩ => show 256 * q.val + (j 1).val = win1_14.index (pt b q) 1 * 256 + 1 * (j 1).val; rw [h1]; omega
    | ⟨2, _⟩ => show (j 2).val = win1_14.index (pt b q) 2 * 512 + 1 * (j 2).val; rw [h2]; omega

/-- Every element of the array lies in some block. -/
theorem covered14 (i : S32x2048x512.Idx) : ∃ t : Fin cfg1.N, i ∈ ((View.whole main_v114_5).slice (win1_14.rect t)).set := by
  have i0 : (i 0).val < 32 := (i 0).isLt
  have i1 : (i 1).val < 2048 := (i 1).isLt
  have i2 : (i 2).val < 512 := (i 2).isLt
  have hq : (i 1).val / 256 < 8 := by omega
  obtain ⟨g0, g1, g2⟩ := index14 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_14.index (pt ⟨(i 0).val, i0⟩ ⟨(i 1).val / 256, hq⟩) 0 * 1 ≤ (i 0).val ∧ (i 0).val < win1_14.index (pt ⟨(i 0).val, i0⟩ ⟨(i 1).val / 256, hq⟩) 0 * 1 + 1
              rw [g0]; simp only; omega
  | ⟨1, _⟩ => show win1_14.index (pt ⟨(i 0).val, i0⟩ ⟨(i 1).val / 256, hq⟩) 1 * 256 ≤ (i 1).val ∧ (i 1).val < win1_14.index (pt ⟨(i 0).val, i0⟩ ⟨(i 1).val / 256, hq⟩) 1 * 256 + 256
              rw [g1]; simp only; omega
  | ⟨2, _⟩ => show win1_14.index (pt ⟨(i 0).val, i0⟩ ⟨(i 1).val / 256, hq⟩) 2 * 512 ≤ (i 2).val ∧ (i 2).val < win1_14.index (pt ⟨(i 0).val, i0⟩ ⟨(i 1).val / 256, hq⟩) 2 * 512 + 512
              rw [g2]; omega

/-- The array after the run, from what each grid point's block is. -/
theorem final14 (c : Dev nD) (G : Vec Ideal S32x2048x512 .f32)
    (h : ∀ (b : Fin 32) (q : Fin 8) (r : Fin 256) (e : Fin 512),
      out1_14 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 14 cfg1.N = G := by
  refine (dat1 V c).arrAt_eq_of_cover 14 G (fun t hf => ?_) fun i => (covered14 i).elim fun t h => ⟨t, flush1_14 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 14).cut (grid1.coords t) ((dat1 V c).after 14 t) = _
  rw [after1_14, ht]
  exact cut_eq_read14 _ _ _ G (h _ _)

theorem index15 (b : Fin 32) (q : Fin 8) :
    win1_15.index (pt b q) 0 = b.val ∧ win1_15.index (pt b q) 1 = q.val ∧ win1_15.index (pt b q) 2 = 0 := by
  obtain ⟨h0, h1⟩ := pt_coords b q
  have := b.isLt
  have := q.isLt
  refine ⟨?_, ?_, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's contents at the block's rows reads as them there. -/
theorem cut_eq_read15 (b : Fin 32) (q : Fin 8) (X : Vec Ideal S1x256x2048 .bf16) (Y : Vec Ideal S32x2048x2048 .bf16)
    (h : ∀ (r : Fin 256) (e : Fin 2048), X (ix3 0 r e) = Y (ix3 b (at_ q r) e)) :
    win1_15.cut (grid1.coords (pt b q)) X = (win1_15.blk (pt b q)).view.read (Elt Ideal) Y := by
  obtain ⟨h0, h1, h2⟩ := index15 b q
  funext j
  rw [View.read_apply]
  have j0 : (j 0).val < 1 := (j 0).isLt
  have j1 : (j 1).val < 256 := (j 1).isLt
  have j2 : (j 2).val < 2048 := (j 2).isLt
  refine Eq.trans (b := X (ix3 0 ⟨(j 1).val, j1⟩ ⟨(j 2).val, j2⟩)) ?_ ?_
  · show X _ = X _
    congr 1
    funext a
    apply Fin.ext
    match a with
    | ⟨0, _⟩ => show (j 0).val = 0; omega
    | ⟨1, _⟩ => rfl
    | ⟨2, _⟩ => rfl
  · rw [h]
    show Y _ = Y _
    congr 1
    funext a
    apply Fin.ext
    match a with
    | ⟨0, _⟩ => show b.val = win1_15.index (pt b q) 0 * 1 + 1 * (j 0).val; rw [h0]; omega
    | ⟨1, _⟩ => show 256 * q.val + (j 1).val = win1_15.index (pt b q) 1 * 256 + 1 * (j 1).val; rw [h1]; omega
    | ⟨2, _⟩ => show (j 2).val = win1_15.index (pt b q) 2 * 2048 + 1 * (j 2).val; rw [h2]; omega

/-- Every element of the array lies in some block. -/
theorem covered15 (i : S32x2048x2048.Idx) : ∃ t : Fin cfg1.N, i ∈ ((View.whole main_v114_6).slice (win1_15.rect t)).set := by
  have i0 : (i 0).val < 32 := (i 0).isLt
  have i1 : (i 1).val < 2048 := (i 1).isLt
  have i2 : (i 2).val < 2048 := (i 2).isLt
  have hq : (i 1).val / 256 < 8 := by omega
  obtain ⟨g0, g1, g2⟩ := index15 ⟨(i 0).val, i0⟩ ⟨(i 1).val / 256, hq⟩
  refine ⟨pt ⟨(i 0).val, i0⟩ ⟨(i 1).val / 256, hq⟩, ?_⟩
  rw [View.set_slice_whole, Rect.mem_set_unit]
  intro a
  match a with
  | ⟨0, _⟩ => show win1_15.index (pt ⟨(i 0).val, i0⟩ ⟨(i 1).val / 256, hq⟩) 0 * 1 ≤ (i 0).val ∧ (i 0).val < win1_15.index (pt ⟨(i 0).val, i0⟩ ⟨(i 1).val / 256, hq⟩) 0 * 1 + 1
              rw [g0]; simp only; omega
  | ⟨1, _⟩ => show win1_15.index (pt ⟨(i 0).val, i0⟩ ⟨(i 1).val / 256, hq⟩) 1 * 256 ≤ (i 1).val ∧ (i 1).val < win1_15.index (pt ⟨(i 0).val, i0⟩ ⟨(i 1).val / 256, hq⟩) 1 * 256 + 256
              rw [g1]; simp only; omega
  | ⟨2, _⟩ => show win1_15.index (pt ⟨(i 0).val, i0⟩ ⟨(i 1).val / 256, hq⟩) 2 * 2048 ≤ (i 2).val ∧ (i 2).val < win1_15.index (pt ⟨(i 0).val, i0⟩ ⟨(i 1).val / 256, hq⟩) 2 * 2048 + 2048
              rw [g2]; omega

/-- The array after the run, from what each grid point's block is. -/
theorem final15 (c : Dev nD) (G : Vec Ideal S32x2048x2048 .bf16)
    (h : ∀ (b : Fin 32) (q : Fin 8) (r : Fin 256) (e : Fin 2048),
      out1_15 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = G (ix3 b (at_ q r) e)) :
    (dat1 V c).arrAt 15 cfg1.N = G := by
  refine (dat1 V c).arrAt_eq_of_cover 15 G (fun t hf => ?_) fun i => (covered15 i).elim fun t h => ⟨t, flush1_15 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 15).cut (grid1.coords t) ((dat1 V c).after 15 t) = _
  rw [after1_15, ht]
  exact cut_eq_read15 _ _ _ G (h _ _)

theorem index16 (b : Fin 32) (q : Fin 8) :
    win1_16.index (pt b q) 0 = b.val ∧ win1_16.index (pt b q) 1 = q.val ∧ win1_16.index (pt b q) 2 = 0 ∧ win1_16.index (pt b q) 3 = 0 := by
  obtain ⟨h0, h1⟩ := pt_coords b q
  have := b.isLt
  have := q.isLt
  refine ⟨?_, ?_, rfl, rfl⟩
  · show (BitVec.ofNat 32 (grid1.coords (pt b q) 0).val).toNat = _
    rw [h0, word_small _ (by omega)]
  · show (BitVec.ofNat 32 (grid1.coords (pt b q) 1).val).toNat = _
    rw [h1, word_small _ (by omega)]

/-- An array that agrees with a block's mean row at the block's place reads as it there. -/
theorem cut_eq_read16 (b : Fin 32) (q : Fin 8) (X : Vec Ideal S1x1x1x512 .f32) (Y : Vec Ideal S32x8x1x512 .f32)
    (h : ∀ (e : Fin 512), X (ix4 0 0 0 e) = Y (ix4 b q 0 e)) :
    win1_16.cut (grid1.coords (pt b q)) X = (win1_16.blk (pt b q)).view.read (Elt Ideal) Y := by
  obtain ⟨h0, h1, h2, h3⟩ := index16 b q
  funext j
  rw [View.read_apply]
  have j0 : (j 0).val < 1 := (j 0).isLt
  have j1 : (j 1).val < 1 := (j 1).isLt
  have j2 : (j 2).val < 1 := (j 2).isLt
  have j3 : (j 3).val < 512 := (j 3).isLt
  refine Eq.trans (b := X (ix4 0 0 0 ⟨(j 3).val, j3⟩)) ?_ ?_
  · show X _ = X _
    congr 1
    funext a
    apply Fin.ext
    match a with
    | ⟨0, _⟩ => show (j 0).val = 0; omega
    | ⟨1, _⟩ => show (j 1).val = 0; omega
    | ⟨2, _⟩ => show (j 2).val = 0; omega
    | ⟨3, _⟩ => rfl
  · rw [h]
    show Y _ = Y _
    congr 1
    funext a
    apply Fin.ext
    match a with
    | ⟨0, _⟩ => show b.val = win1_16.index (pt b q) 0 * 1 + 1 * (j 0).val; rw [h0]; omega
    | ⟨1, _⟩ => show q.val = win1_16.index (pt b q) 1 * 1 + 1 * (j 1).val; rw [h1]; omega
    | ⟨2, _⟩ => show 0 = win1_16.index (pt b q) 2 * 1 + 1 * (j 2).val; rw [h2]; omega
    | ⟨3, _⟩ => show (j 3).val = win1_16.index (pt b q) 3 * 512 + 1 * (j 3).val; rw [h3]; omega

/-- Every element of the array of means lies in some block. -/
theorem covered16 (i : S32x8x1x512.Idx) : ∃ t : Fin cfg1.N, i ∈ ((View.whole main_v114_7).slice (win1_16.rect t)).set := by
  have i0 : (i 0).val < 32 := (i 0).isLt
  have i1 : (i 1).val < 8 := (i 1).isLt
  have i2 : (i 2).val < 1 := (i 2).isLt
  have i3 : (i 3).val < 512 := (i 3).isLt
  obtain ⟨g0, g1, g2, g3⟩ := index16 ⟨(i 0).val, i0⟩ ⟨(i 1).val, i1⟩
  refine ⟨pt ⟨(i 0).val, i0⟩ ⟨(i 1).val, i1⟩, ?_⟩
  rw [View.set_slice_whole, Rect.mem_set_unit]
  intro a
  match a with
  | ⟨0, _⟩ => show win1_16.index (pt ⟨(i 0).val, i0⟩ ⟨(i 1).val, i1⟩) 0 * 1 ≤ (i 0).val ∧ (i 0).val < win1_16.index (pt ⟨(i 0).val, i0⟩ ⟨(i 1).val, i1⟩) 0 * 1 + 1
              rw [g0]; simp only; omega
  | ⟨1, _⟩ => show win1_16.index (pt ⟨(i 0).val, i0⟩ ⟨(i 1).val, i1⟩) 1 * 1 ≤ (i 1).val ∧ (i 1).val < win1_16.index (pt ⟨(i 0).val, i0⟩ ⟨(i 1).val, i1⟩) 1 * 1 + 1
              rw [g1]; simp only; omega
  | ⟨2, _⟩ => show win1_16.index (pt ⟨(i 0).val, i0⟩ ⟨(i 1).val, i1⟩) 2 * 1 ≤ (i 2).val ∧ (i 2).val < win1_16.index (pt ⟨(i 0).val, i0⟩ ⟨(i 1).val, i1⟩) 2 * 1 + 1
              rw [g2]; omega
  | ⟨3, _⟩ => show win1_16.index (pt ⟨(i 0).val, i0⟩ ⟨(i 1).val, i1⟩) 3 * 512 ≤ (i 3).val ∧ (i 3).val < win1_16.index (pt ⟨(i 0).val, i0⟩ ⟨(i 1).val, i1⟩) 3 * 512 + 512
              rw [g3]; omega

/-- The array of means after the run, from what each grid point's row is. -/
theorem final16 (c : Dev nD) (G : Vec Ideal S32x8x1x512 .f32)
    (h : ∀ (b : Fin 32) (q : Fin 8) (e : Fin 512), out1_16 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix4 0 0 0 e) = G (ix4 b q 0 e)) :
    (dat1 V c).arrAt 16 cfg1.N = G := by
  refine (dat1 V c).arrAt_eq_of_cover 16 G (fun t hf => ?_) fun i => (covered16 i).elim fun t h => ⟨t, flush1_16 t, h⟩
  have hlt : t.val < 256 := lt_of_lt_of_eq t.isLt N_1
  have ht : t = pt ⟨t.val / 8, by omega⟩ ⟨t.val % 8, by omega⟩ :=
    Fin.ext (by show t.val = 8 * (t.val / 8) + t.val % 8; omega)
  show (cfg1.win 16).cut (grid1.coords t) ((dat1 V c).after 16 t) = _
  rw [after1_16, ht]
  exact cut_eq_read16 _ _ _ G (h _ _)

/-! Each load reads its block, or its part of it. -/

theorem zero4 : (![0, 0, 0, 0] : Fin 4 → Nat) = fun _ => 0 := by decide
theorem ld0 {e : EltTy} (X : S1x256x1024.Idx → Elt Ideal e) : View.ld X r1_0 = X := View.ld_unit_zero zero3 _ X
theorem ld1 {e : EltTy} (X : S1x1024.Idx → Elt Ideal e) : View.ld X r1_1 = X := View.ld_unit_zero zero2 _ X
theorem ld2 {e : EltTy} (X : S1x1x1024.Idx → Elt Ideal e) : View.ld X r1_2 = X := View.ld_unit_zero zero3 _ X
theorem ld4 {e : EltTy} (X : S1x384.Idx → Elt Ideal e) : View.ld X r1_4 = X := View.ld_unit_zero zero2 _ X
theorem ld7 {e : EltTy} (X : S1x256.Idx → Elt Ideal e) : View.ld X r1_7 = X := View.ld_unit_zero zero2 _ X

theorem ld3 {e : EltTy} (X : S1024x4352.Idx → Elt Ideal e) (i : Fin 1024) (j : Fin 384) :
    (View.ld X r1_3 : S1024x384.Idx → Elt Ideal e) (ix2 i j) = X (ix2 i ⟨0 + j.val, by omega⟩) := by
  show X _ = X _
  congr 1
  funext a
  apply Fin.ext
  match a with
  | ⟨0, _⟩ => show 0 + 1 * i.val = i.val; omega
  | ⟨1, _⟩ => show 0 + 1 * j.val = 0 + j.val; omega

theorem ld6 {e : EltTy} (X : S1024x4352.Idx → Elt Ideal e) (i : Fin 1024) (j : Fin 256) :
    (View.ld X r1_6 : S1024x256.Idx → Elt Ideal e) (ix2 i j) = X (ix2 i ⟨384 + j.val, by omega⟩) := by
  show X _ = X _
  congr 1
  funext a
  apply Fin.ext
  match a with
  | ⟨0, _⟩ => show 0 + 1 * i.val = i.val; omega
  | ⟨1, _⟩ => show 384 + 1 * j.val = 384 + j.val; omega

theorem ld9 {e : EltTy} (X : S1024x4352.Idx → Elt Ideal e) (i : Fin 1024) (j : Fin 128) :
    (View.ld X r1_9 : S1024x128.Idx → Elt Ideal e) (ix2 i j) = X (ix2 i ⟨640 + j.val, by omega⟩) := by
  show X _ = X _
  congr 1
  funext a
  apply Fin.ext
  match a with
  | ⟨0, _⟩ => show 0 + 1 * i.val = i.val; omega
  | ⟨1, _⟩ => show 640 + 1 * j.val = 640 + j.val; omega

theorem ld14 {e : EltTy} (X : S1024x4352.Idx → Elt Ideal e) (i : Fin 1024) (j : Fin 512) :
    (View.ld X r1_14 : S1024x512.Idx → Elt Ideal e) (ix2 i j) = X (ix2 i ⟨768 + j.val, by omega⟩) := by
  show X _ = X _
  congr 1
  funext a
  apply Fin.ext
  match a with
  | ⟨0, _⟩ => show 0 + 1 * i.val = i.val; omega
  | ⟨1, _⟩ => show 768 + 1 * j.val = 768 + j.val; omega

theorem ld16 {e : EltTy} (X : S1024x4352.Idx → Elt Ideal e) (i : Fin 1024) (j : Fin 512) :
    (View.ld X r1_16 : S1024x512.Idx → Elt Ideal e) (ix2 i j) = X (ix2 i ⟨1280 + j.val, by omega⟩) := by
  show X _ = X _
  congr 1
  funext a
  apply Fin.ext
  match a with
  | ⟨0, _⟩ => show 0 + 1 * i.val = i.val; omega
  | ⟨1, _⟩ => show 1280 + 1 * j.val = 1280 + j.val; omega

theorem ld18 {e : EltTy} (X : S1024x4352.Idx → Elt Ideal e) (i : Fin 1024) (j : Fin 512) :
    (View.ld X r1_18 : S1024x512.Idx → Elt Ideal e) (ix2 i j) = X (ix2 i ⟨1792 + j.val, by omega⟩) := by
  show X _ = X _
  congr 1
  funext a
  apply Fin.ext
  match a with
  | ⟨0, _⟩ => show 0 + 1 * i.val = i.val; omega
  | ⟨1, _⟩ => show 1792 + 1 * j.val = 1792 + j.val; omega

theorem ld19 {e : EltTy} (X : S1024x4352.Idx → Elt Ideal e) (i : Fin 1024) (j : Fin 2048) :
    (View.ld X r1_19 : S1024x2048.Idx → Elt Ideal e) (ix2 i j) = X (ix2 i ⟨2304 + j.val, by omega⟩) := by
  show X _ = X _
  congr 1
  funext a
  apply Fin.ext
  match a with
  | ⟨0, _⟩ => show 0 + 1 * i.val = i.val; omega
  | ⟨1, _⟩ => show 2304 + 1 * j.val = 2304 + j.val; omega

theorem ld10 {e : EltTy} (X : S3x256x128.Idx → Elt Ideal e) (r : Fin 256) (l : Fin 128) :
    (View.ld X r1_10 : S1x256x128.Idx → Elt Ideal e) (ix3 0 r l) = X (ix3 0 r l) := by
  show X _ = X _
  congr 1
  funext a
  apply Fin.ext
  match a with
  | ⟨0, _⟩ => show 0 + 1 * 0 = 0; omega
  | ⟨1, _⟩ => show 0 + 1 * r.val = r.val; omega
  | ⟨2, _⟩ => show 0 + 1 * l.val = l.val; omega

theorem ld11 {e : EltTy} (X : S3x256x128.Idx → Elt Ideal e) (r : Fin 256) (l : Fin 128) :
    (View.ld X r1_11 : S1x256x128.Idx → Elt Ideal e) (ix3 0 r l) = X (ix3 1 r l) := by
  show X _ = X _
  congr 1
  funext a
  apply Fin.ext
  match a with
  | ⟨0, _⟩ => show 1 + 1 * 0 = 1; omega
  | ⟨1, _⟩ => show 0 + 1 * r.val = r.val; omega
  | ⟨2, _⟩ => show 0 + 1 * l.val = l.val; omega

theorem ld12 {e : EltTy} (X : S3x256x128.Idx → Elt Ideal e) (r : Fin 256) (l : Fin 128) :
    (View.ld X r1_12 : S1x256x128.Idx → Elt Ideal e) (ix3 0 r l) = X (ix3 2 r l) := by
  show X _ = X _
  congr 1
  funext a
  apply Fin.ext
  match a with
  | ⟨0, _⟩ => show 2 + 1 * 0 = 2; omega
  | ⟨1, _⟩ => show 0 + 1 * r.val = r.val; omega
  | ⟨2, _⟩ => show 0 + 1 * l.val = l.val; omega

/-! The rows of the results, as functions of the arrays the call is handed. -/

/-- The normalised, scaled and shifted row of a token. -/
def hid (x : Vec Ideal S32x2048x1024 .f32) (g : Vec Ideal S1x1024 .f32) (sc sh : Vec Ideal S32x1x1024 .f32) (b : Fin 32) (t : Fin 2048) : Fin 1024 → EReal :=
  normRow (fun j => x (ix3 b t j)) (fun j => g (ix2 0 j)) (fun j => sc (ix3 b 0 j)) (fun j => sh (ix3 b 0 j))

/-- The token's row, of the arrays handed over. -/
def hidV (c : Dev nD) : Fin 32 → Fin 2048 → Fin 1024 → EReal := hid (V c main_arg0) (V c main_v17) (V c main_v34) (V c main_v33)

/-- `n` columns of the weights from column `o` on. -/
def cols (c : Dev nD) (o n : Nat) (h : o + n ≤ 4352) : Fin 1024 → Fin n → EReal :=
  fun i j => (V c main_v13 : Vec Ideal S1024x4352 .bf16) (ix2 i ⟨o + j.val, by omega⟩)

/-- A table's row at a token. -/
def tabq (c : Dev nD) (k : Fin 3) (t : Fin 2048) : Fin 128 → EReal := fun l => (V c main_v76 : Vec Ideal S3x2048x128 .f32) (ix3 k t l)
def tabm (c : Dev nD) (k : Fin 3) (t : Fin 2048) : Fin 128 → EReal := fun l => (V c main_v113 : Vec Ideal S3x2048x128 .f32) (ix3 k t l)

/-- The turn of a row of 512 lanes, each group of 128 by the same tables. -/
def wideRow (z : Fin 512 → EReal) (c a b : Fin 128 → EReal) (l : Fin 512) : EReal :=
  laneRow 120 8 (fun j => z (lane ⟨l.val / 128, by omega⟩ j)) c a b ⟨l.val % 128, Nat.mod_lt _ (by decide)⟩

def row9 (c : Dev nD) (b : Fin 32) (t : Fin 2048) : Fin 384 → EReal :=
  gainRow (Ideal.ofBits .f32 0x43C00000#32) (projRow (hidV V c b t) (cols V c 0 384 (by decide))) (fun j => (V c main_v19 : Vec Ideal S1x384 .f32) (ix2 0 j))
def row10 (c : Dev nD) (b : Fin 32) (t : Fin 2048) : Fin 256 → EReal :=
  gainRow (Ideal.ofBits .f32 0x43800000#32) (projRow (hidV V c b t) (cols V c 384 256 (by decide))) (fun j => (V c main_v21 : Vec Ideal S1x256 .f32) (ix2 0 j))
def row11 (c : Dev nD) (b : Fin 32) (t : Fin 2048) : Fin 128 → EReal :=
  laneRow 112 16 (projRow (hidV V c b t) (cols V c 640 128 (by decide))) (tabq V c 0 t) (tabq V c 1 t) (tabq V c 2 t)
def row12 (c : Dev nD) (b : Fin 32) (t : Fin 2048) : Fin 512 → EReal :=
  wideRow (projRow (hidV V c b t) (cols V c 768 512 (by decide))) (tabm V c 0 t) (tabm V c 1 t) (tabm V c 2 t)
def row13 (c : Dev nD) (b : Fin 32) (t : Fin 2048) : Fin 512 → EReal :=
  wideRow (projRow (hidV V c b t) (cols V c 1280 512 (by decide))) (tabm V c 0 t) (tabm V c 1 t) (tabm V c 2 t)
def row14 (c : Dev nD) (b : Fin 32) (t : Fin 2048) : Fin 512 → EReal := projRow (hidV V c b t) (cols V c 1792 512 (by decide))
def row15 (c : Dev nD) (b : Fin 32) (t : Fin 2048) (e : Fin 2048) : EReal := Ideal.logistic (projRow (hidV V c b t) (cols V c 2304 2048 (by decide)) e)
def row16 (c : Dev nD) (b : Fin 32) (q : Fin 8) (e : Fin 512) : EReal :=
  Ideal.div (∑ r : Fin 256, row13 V c b (at_ q r) e) (Ideal.ofBits .f32 0x43800000#32)

theorem projRow_congr {n : Nat} {h h' : Fin 1024 → EReal} {w w' : Fin 1024 → Fin n → EReal} (hh : ∀ j, h j = h' j) (hw : ∀ i j, w i j = w' i j) :
    projRow h w = projRow h' w' := by
  obtain rfl := funext hh
  obtain rfl := funext fun i => funext (hw i)
  rfl

theorem gainRow_congr {n : Nat} (k : EReal) {z z' g g' : Fin n → EReal} (hz : z = z') (hg : ∀ j, g j = g' j) (e : Fin n) :
    gainRow k z g e = gainRow k z' g' e := by
  obtain rfl := hz
  obtain rfl := funext hg
  rfl

theorem laneRow_congr (u d : Nat) {z z' c c' a a' b b' : Fin 128 → EReal} (hz : z = z') (hc : ∀ l, c l = c' l) (ha : ∀ l, a l = a' l) (hb : ∀ l, b l = b' l)
    (l : Fin 128) : laneRow u d z c a b l = laneRow u d z' c' a' b' l := by
  obtain rfl := hz
  obtain rfl := funext hc
  obtain rfl := funext ha
  obtain rfl := funext hb
  rfl

theorem wideRow_congr {z z' : Fin 512 → EReal} {c c' a a' b b' : Fin 128 → EReal} (hz : z = z') (hc : ∀ l, c l = c' l) (ha : ∀ l, a l = a' l) (hb : ∀ l, b l = b' l)
    (l : Fin 512) : wideRow z c a b l = wideRow z' c' a' b' l := by
  obtain rfl := hz
  obtain rfl := funext hc
  obtain rfl := funext ha
  obtain rfl := funext hb
  rfl

theorem pay20_wide (h : FVec Ideal S256x1024 .bf16) (w : Vec Ideal S1024x512 .bf16) (c a b : Vec Ideal S1x256x128 .f32) (r : Fin 256) (l : Fin 512) :
    k1_pay20 (k1_pay13 h w) (k1_pay14 c) (k1_pay15 a) (k1_pay16 b) (k1_pay17 h w c a b) (k1_pay18 h w) (k1_pay19 h w c) 120#32 (ix3 0 r l)
      = wideRow (projRow (fun i => h (ix2 r i)) (fun i j => w (ix2 i j))) (fun j => c (ix3 0 r j)) (fun j => a (ix3 0 r j)) (fun j => b (ix3 0 r j)) l := by
  have hl : l = lane ⟨l.val / 128, by omega⟩ ⟨l.val % 128, Nat.mod_lt _ (by decide)⟩ := Fin.ext (by show l.val = 128 * (l.val / 128) + l.val % 128; omega)
  exact (congrArg (fun y => k1_pay20 (k1_pay13 h w) (k1_pay14 c) (k1_pay15 a) (k1_pay16 b) (k1_pay17 h w c a b) (k1_pay18 h w) (k1_pay19 h w c) 120#32 (ix3 0 r y)) hl).trans
    (pay20_apply h w c a b r _ _)

theorem pay27_wide (h : FVec Ideal S256x1024 .bf16) (w : Vec Ideal S1024x512 .bf16) (c a b : Vec Ideal S1x256x128 .f32) (r : Fin 256) (l : Fin 512) :
    k1_pay27 (k1_pay21 h w) (k1_pay22 c) (k1_pay23 a) (k1_pay24 b) (k1_pay25 h w) (k1_pay26 h w c) 120#32 (ix2 r l)
      = wideRow (projRow (fun i => h (ix2 r i)) (fun i j => w (ix2 i j))) (fun j => c (ix3 0 r j)) (fun j => a (ix3 0 r j)) (fun j => b (ix3 0 r j)) l := by
  have hl : l = lane ⟨l.val / 128, by omega⟩ ⟨l.val % 128, Nat.mod_lt _ (by decide)⟩ := Fin.ext (by show l.val = 128 * (l.val / 128) + l.val % 128; omega)
  exact (congrArg (fun y => k1_pay27 (k1_pay21 h w) (k1_pay22 c) (k1_pay23 a) (k1_pay24 b) (k1_pay25 h w) (k1_pay26 h w c) 120#32 (ix2 r y)) hl).trans
    (pay27_apply h w c a b r _ _)

/-- The normalised rows of a grid point's block. -/
theorem block_h (c : Dev nD) (b : Fin 32) (q : Fin 8) (r : Fin 256) (e : Fin 1024) :
    k1_pay30 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix2 r e) = hidV V c b (at_ q r) e := by
  unfold k1_pay30
  rw [ld0, ld1, ld2, ld2]
  refine (pay3_apply (iblk1 V c 0 (pt b q)) (iblk1 V c 3 (pt b q)) (iblk1 V c 2 (pt b q)) (iblk1 V c 1 (pt b q)) r e).trans ?_
  unfold hidV hid
  simp only [read0, read1, read2, read3]

theorem block9 (c : Dev nD) (b : Fin 32) (q : Fin 8) (r : Fin 256) (e : Fin 384) :
    out1_9 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row9 V c b (at_ q r) e := by
  refine (congrFun (View.canon_unit_zero zero3 _ _) (ix3 0 r e)).trans ?_
  refine (pay8_apply _ _ _ _ _ _ r e).trans ?_
  exact gainRow_congr _ (projRow_congr (block_h V c b q r) fun i j => (ld3 (iblk1 V c 4 (pt b q)) i j).trans (read4 V c b q i _)) (fun j => (congrFun (ld4 (iblk1 V c 5 (pt b q))) (ix2 0 j)).trans (read5 V c b q 0 j)) e

theorem block10 (c : Dev nD) (b : Fin 32) (q : Fin 8) (r : Fin 256) (e : Fin 256) :
    out1_10 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row10 V c b (at_ q r) e := by
  refine (congrFun (View.canon_unit_zero zero3 _ _) (ix3 0 r e)).trans ?_
  refine (pay9_apply _ _ _ r e).trans ?_
  exact gainRow_congr _ (projRow_congr (block_h V c b q r) fun i j => (ld6 (iblk1 V c 4 (pt b q)) i j).trans (read4 V c b q i _)) (fun j => (congrFun (ld7 (iblk1 V c 6 (pt b q))) (ix2 0 j)).trans (read6 V c b q 0 j)) e

theorem block11 (c : Dev nD) (b : Fin 32) (q : Fin 8) (r : Fin 256) (e : Fin 128) :
    out1_11 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row11 V c b (at_ q r) e := by
  refine (congrFun (View.canon_unit_zero zero3 _ _) (ix3 0 r e)).trans ?_
  refine (pay12_apply _ _ _ _ _ r e).trans ?_
  exact laneRow_congr 112 16 (projRow_congr (block_h V c b q r) fun i j => (ld9 (iblk1 V c 4 (pt b q)) i j).trans (read4 V c b q i _)) (fun l => (ld10 (iblk1 V c 7 (pt b q)) r l).trans (read7 V c b q 0 r l)) (fun l => (ld11 (iblk1 V c 7 (pt b q)) r l).trans (read7 V c b q 1 r l)) (fun l => (ld12 (iblk1 V c 7 (pt b q)) r l).trans (read7 V c b q 2 r l)) e

theorem block12 (c : Dev nD) (b : Fin 32) (q : Fin 8) (r : Fin 256) (e : Fin 512) :
    out1_12 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row12 V c b (at_ q r) e := by
  refine (congrFun (View.canon_unit_zero zero3 _ _) (ix3 0 r e)).trans ?_
  refine (pay20_wide _ _ _ _ _ r e).trans ?_
  exact wideRow_congr (projRow_congr (block_h V c b q r) fun i j => (ld14 (iblk1 V c 4 (pt b q)) i j).trans (read4 V c b q i _)) (fun l => (ld10 (iblk1 V c 8 (pt b q)) r l).trans (read8 V c b q 0 r l)) (fun l => (ld11 (iblk1 V c 8 (pt b q)) r l).trans (read8 V c b q 1 r l)) (fun l => (ld12 (iblk1 V c 8 (pt b q)) r l).trans (read8 V c b q 2 r l)) e

theorem block_k (c : Dev nD) (b : Fin 32) (q : Fin 8) (r : Fin 256) (e : Fin 512) :
    k1_pay27 (k1_pay31 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q))) (k1_pay32 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q))) (k1_pay33 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q))) (k1_pay34 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q))) (k1_pay35 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q))) (k1_pay36 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q))) 120#32 (ix2 r e) = row13 V c b (at_ q r) e := by
  refine (pay27_wide _ _ _ _ _ r e).trans ?_
  exact wideRow_congr (projRow_congr (block_h V c b q r) fun i j => (ld16 (iblk1 V c 4 (pt b q)) i j).trans (read4 V c b q i _)) (fun l => (ld10 (iblk1 V c 8 (pt b q)) r l).trans (read8 V c b q 0 r l)) (fun l => (ld11 (iblk1 V c 8 (pt b q)) r l).trans (read8 V c b q 1 r l)) (fun l => (ld12 (iblk1 V c 8 (pt b q)) r l).trans (read8 V c b q 2 r l)) e

theorem block13 (c : Dev nD) (b : Fin 32) (q : Fin 8) (r : Fin 256) (e : Fin 512) :
    out1_13 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row13 V c b (at_ q r) e := by
  refine (congrFun (View.canon_unit_zero zero3 _ _) (ix3 0 r e)).trans ?_
  exact (pay28_apply _ _ _ _ _ _ _ r e).trans (block_k V c b q r e)

theorem block14 (c : Dev nD) (b : Fin 32) (q : Fin 8) (r : Fin 256) (e : Fin 512) :
    out1_14 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row14 V c b (at_ q r) e := by
  refine (congrFun (View.canon_unit_zero zero3 _ _) (ix3 0 r e)).trans ?_
  refine (pay1_apply _ _ r e).trans ?_
  exact congrFun (projRow_congr (block_h V c b q r) fun i j => (ld18 (iblk1 V c 4 (pt b q)) i j).trans (read4 V c b q i _)) e

theorem block15 (c : Dev nD) (b : Fin 32) (q : Fin 8) (r : Fin 256) (e : Fin 2048) :
    out1_15 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix3 0 r e) = row15 V c b (at_ q r) e := by
  refine (congrFun (View.canon_unit_zero zero3 _ _) (ix3 0 r e)).trans ?_
  refine (pay2_apply _ _ r e).trans ?_
  exact congrArg Ideal.logistic (congrFun (projRow_congr (block_h V c b q r) fun i j => (ld19 (iblk1 V c 4 (pt b q)) i j).trans (read4 V c b q i _)) e)

theorem block16 (c : Dev nD) (b : Fin 32) (q : Fin 8) (e : Fin 512) :
    out1_16 (iblk1 V c 0 (pt b q)) (iblk1 V c 1 (pt b q)) (iblk1 V c 2 (pt b q)) (iblk1 V c 3 (pt b q)) (iblk1 V c 4 (pt b q)) (iblk1 V c 5 (pt b q)) (iblk1 V c 6 (pt b q)) (iblk1 V c 7 (pt b q)) (iblk1 V c 8 (pt b q)) (ix4 0 0 0 e) = row16 V c b q e := by
  refine (congrFun (View.canon_unit_zero zero4 _ _) (ix4 0 0 0 e)).trans ?_
  refine (pay29_apply _ _ _ _ _ _ _ e).trans ?_
  unfold row16
  simp only [block_k]

theorem array9 (c : Dev nD) (b : Fin 32) (t : Fin 2048) (e : Fin 384) :
    ((dat1 V c).arrAt 9 cfg1.N : Vec Ideal S32x2048x384 .bf16) (ix3 b t e) = row9 V c b t e :=
  congrFun (final9 V c (fun i => row9 V c (i 0) (i 1) (i 2)) (block9 V c)) (ix3 b t e)
theorem array10 (c : Dev nD) (b : Fin 32) (t : Fin 2048) (e : Fin 256) :
    ((dat1 V c).arrAt 10 cfg1.N : Vec Ideal S32x2048x256 .f32) (ix3 b t e) = row10 V c b t e :=
  congrFun (final10 V c (fun i => row10 V c (i 0) (i 1) (i 2)) (block10 V c)) (ix3 b t e)
theorem array11 (c : Dev nD) (b : Fin 32) (t : Fin 2048) (e : Fin 128) :
    ((dat1 V c).arrAt 11 cfg1.N : Vec Ideal S32x2048x128 .f32) (ix3 b t e) = row11 V c b t e :=
  congrFun (final11 V c (fun i => row11 V c (i 0) (i 1) (i 2)) (block11 V c)) (ix3 b t e)
theorem array12 (c : Dev nD) (b : Fin 32) (t : Fin 2048) (e : Fin 512) :
    ((dat1 V c).arrAt 12 cfg1.N : Vec Ideal S32x2048x512 .bf16) (ix3 b t e) = row12 V c b t e :=
  congrFun (final12 V c (fun i => row12 V c (i 0) (i 1) (i 2)) (block12 V c)) (ix3 b t e)
theorem array13 (c : Dev nD) (b : Fin 32) (t : Fin 2048) (e : Fin 512) :
    ((dat1 V c).arrAt 13 cfg1.N : Vec Ideal S32x2048x512 .f32) (ix3 b t e) = row13 V c b t e :=
  congrFun (final13 V c (fun i => row13 V c (i 0) (i 1) (i 2)) (block13 V c)) (ix3 b t e)
theorem array14 (c : Dev nD) (b : Fin 32) (t : Fin 2048) (e : Fin 512) :
    ((dat1 V c).arrAt 14 cfg1.N : Vec Ideal S32x2048x512 .f32) (ix3 b t e) = row14 V c b t e :=
  congrFun (final14 V c (fun i => row14 V c (i 0) (i 1) (i 2)) (block14 V c)) (ix3 b t e)
theorem array15 (c : Dev nD) (b : Fin 32) (t : Fin 2048) (e : Fin 2048) :
    ((dat1 V c).arrAt 15 cfg1.N : Vec Ideal S32x2048x2048 .bf16) (ix3 b t e) = row15 V c b t e :=
  congrFun (final15 V c (fun i => row15 V c (i 0) (i 1) (i 2)) (block15 V c)) (ix3 b t e)
theorem array16 (c : Dev nD) (b : Fin 32) (q : Fin 8) (e : Fin 512) :
    ((dat1 V c).arrAt 16 cfg1.N : Vec Ideal S32x8x1x512 .f32) (ix4 b q 0 e) = row16 V c b q e :=
  congrFun (final16 V c (fun i => row16 V c (i 0) (i 1) (i 3)) (block16 V c)) (ix4 b q 0 e)

end Cert.StatesIdeal.Run

end
-- ==== Proof.StatesAda.lean ====
module

public import proofs.«01_k».proof.Proof.StatesArr

/-! The modulation array of the state projection: four blocks of columns, each the conditioning rows through their unit times the weights, plus the bias. -/

@[expose] public section

set_option maxRecDepth 16384

noncomputable section

namespace Cert.StatesIdeal.Run

open Idealize.ShloMosaic Idealize.ShloMosaic.TcCoe Idealize.SL.Sem
open Cert.StatesIdeal Cert.StatesIdeal.Gen

variable (V : (c : Dev nD) → (b : Ref sig .tc) → Buf (Elt Ideal) ((c : Thread nD τ).loc b))

/-- The grid point of the `p`-th block of columns. -/
def cpt (p : Fin 4) : Fin cfg0.N := ⟨p.val, by have hN : cfg0.N = 4 := N_0; omega⟩

theorem cpt_coords (p : Fin 4) : (grid0.coords (cpt p) 0).val = p.val := by
  have e0 : (grid0.coords (cpt p) 0).val = (cpt p).val / 1 % 4 := Pipeline.Grid.coords_val _ 0 (by decide) rfl
  have hv : (cpt p).val = p.val := rfl
  rw [hv] at e0
  omega

/-- A column, from its block and its place there. -/
abbrev col_ (p : Fin 4) (n : Fin 1536) : Fin 6144 := ⟨1536 * p.val + n.val, by omega⟩

theorem cread0 (c : Dev nD) (p : Fin 4) (r : Fin 160) (j : Fin 1024) :
    (iblk0 V c 0 (cpt p) : Vec Ideal S160x1024 .f32) (ix2 r j) = (V c main_v22 : Vec Ideal S160x1024 .f32) (ix2 r j) := by
  unfold iblk0
  rw [View.read_apply]
  show V c main_v22 _ = V c main_v22 _
  congr 1
  funext a
  apply Fin.ext
  match a with
  | ⟨0, _⟩ => show 0 * 160 + 1 * r.val = r.val; omega
  | ⟨1, _⟩ => show 0 * 1024 + 1 * j.val = j.val; omega

theorem cindex1 (p : Fin 4) : win0_1.index (cpt p) 0 = 0 ∧ win0_1.index (cpt p) 1 = p.val := by
  have h0 := cpt_coords p
  refine ⟨rfl, ?_⟩
  show (BitVec.ofNat 32 (grid0.coords (cpt p) 0).val).toNat = _
  rw [h0, word_small _ (by omega)]

theorem cread1 (c : Dev nD) (p : Fin 4) (j : Fin 1024) (n : Fin 1536) :
    (iblk0 V c 1 (cpt p) : Vec Ideal S1024x1536 .bf16) (ix2 j n) = (V c main_v15 : Vec Ideal S1024x6144 .bf16) (ix2 j (col_ p n)) := by
  obtain ⟨h0, h1⟩ := cindex1 p
  unfold iblk0
  rw [View.read_apply]
  show V c main_v15 _ = V c main_v15 _
  congr 1
  funext a
  apply Fin.ext
  match a with
  | ⟨0, _⟩ => show win0_1.index (cpt p) 0 * 1024 + 1 * j.val = j.val; rw [h0]; omega
  | ⟨1, _⟩ => show win0_1.index (cpt p) 1 * 1536 + 1 * n.val = 1536 * p.val + n.val; rw [h1]; omega

theorem cindex2 (p : Fin 4) : win0_2.index (cpt p) 0 = 0 ∧ win0_2.index (cpt p) 1 = p.val := by
  have h0 := cpt_coords p
  refine ⟨rfl, ?_⟩
  show (BitVec.ofNat 32 (grid0.coords (cpt p) 0).val).toNat = _
  rw [h0, word_small _ (by omega)]

theorem cread2 (c : Dev nD) (p : Fin 4) (n : Fin 1536) :
    (iblk0 V c 2 (cpt p) : Vec Ideal S1x1536 .f32) (ix2 0 n) = (V c main_v24 : Vec Ideal S1x6144 .f32) (ix2 0 (col_ p n)) := by
  obtain ⟨h0, h1⟩ := cindex2 p
  unfold iblk0
  rw [View.read_apply]
  show V c main_v24 _ = V c main_v24 _
  congr 1
  funext a
  apply Fin.ext
  match a with
  | ⟨0, _⟩ => show win0_2.index (cpt p) 0 * 1 + 1 * 0 = 0; rw [h0]
  | ⟨1, _⟩ => show win0_2.index (cpt p) 1 * 1536 + 1 * n.val = 1536 * p.val + n.val; rw [h1]; omega

theorem cindex3 (p : Fin 4) : win0_3.index (cpt p) 0 = 0 ∧ win0_3.index (cpt p) 1 = p.val := by
  have h0 := cpt_coords p
  refine ⟨rfl, ?_⟩
  show (BitVec.ofNat 32 (grid0.coords (cpt p) 0).val).toNat = _
  rw [h0, word_small _ (by omega)]

theorem ccut (p : Fin 4) (X : Vec Ideal S160x1536 .f32) (Y : Vec Ideal S160x6144 .f32)
    (h : ∀ (r : Fin 160) (n : Fin 1536), X (ix2 r n) = Y (ix2 r (col_ p n))) :
    win0_3.cut (grid0.coords (cpt p)) X = (win0_3.blk (cpt p)).view.read (Elt Ideal) Y := by
  obtain ⟨h0, h1⟩ := cindex3 p
  funext j
  rw [View.read_apply]
  have j0 : (j 0).val < 160 := (j 0).isLt
  have j1 : (j 1).val < 1536 := (j 1).isLt
  refine Eq.trans (b := X (ix2 ⟨(j 0).val, j0⟩ ⟨(j 1).val, j1⟩)) ?_ ?_
  · show X _ = X _
    congr 1
    funext a
    apply Fin.ext
    match a with
    | ⟨0, _⟩ => rfl
    | ⟨1, _⟩ => rfl
  · rw [h]
    show Y _ = Y _
    congr 1
    funext a
    apply Fin.ext
    match a with
    | ⟨0, _⟩ => show (j 0).val = win0_3.index (cpt p) 0 * 160 + 1 * (j 0).val; rw [h0]; omega
    | ⟨1, _⟩ => show 1536 * p.val + (j 1).val = win0_3.index (cpt p) 1 * 1536 + 1 * (j 1).val; rw [h1]; omega

theorem ccovered (i : S160x6144.Idx) : ∃ t : Fin cfg0.N, i ∈ ((View.whole main_v25).slice (win0_3.rect t)).set := by
  have i0 : (i 0).val < 160 := (i 0).isLt
  have i1 : (i 1).val < 6144 := (i 1).isLt
  have hq : (i 1).val / 1536 < 4 := by omega
  obtain ⟨g0, g1⟩ := cindex3 ⟨(i 1).val / 1536, hq⟩
  refine ⟨cpt ⟨(i 1).val / 1536, hq⟩, ?_⟩
  rw [View.set_slice_whole, Rect.mem_set_unit]
  intro a
  match a with
  | ⟨0, _⟩ => show win0_3.index (cpt ⟨(i 1).val / 1536, hq⟩) 0 * 160 ≤ (i 0).val ∧ (i 0).val < win0_3.index (cpt ⟨(i 1).val / 1536, hq⟩) 0 * 160 + 160
              rw [g0]; omega
  | ⟨1, _⟩ => show win0_3.index (cpt ⟨(i 1).val / 1536, hq⟩) 1 * 1536 ≤ (i 1).val ∧ (i 1).val < win0_3.index (cpt ⟨(i 1).val / 1536, hq⟩) 1 * 1536 + 1536
              rw [g1]; simp only; omega

/-- The modulation array's row, from the arrays the call finds. -/
def adaRow (c : Dev nD) (r : Fin 160) (n : Fin 6144) : EReal :=
  modRow (fun j => (V c main_v22 : Vec Ideal S160x1024 .f32) (ix2 r j)) (fun j n => (V c main_v15 : Vec Ideal S1024x6144 .bf16) (ix2 j n))
    (fun n => (V c main_v24 : Vec Ideal S1x6144 .f32) (ix2 0 n)) n

theorem cblock (c : Dev nD) (p : Fin 4) (r : Fin 160) (n : Fin 1536) :
    out0_3 (iblk0 V c 0 (cpt p)) (iblk0 V c 1 (cpt p)) (iblk0 V c 2 (cpt p)) (ix2 r n) = adaRow V c r (col_ p n) := by
  refine (congrFun (View.canon_unit_zero zero2 _ _) (ix2 r n)).trans ?_
  have e0 : View.ld (iblk0 V c 0 (cpt p)) r0_0 = iblk0 V c 0 (cpt p) := View.ld_unit_zero zero2 _ _
  have e1 : View.ld (iblk0 V c 1 (cpt p)) r0_1 = iblk0 V c 1 (cpt p) := View.ld_unit_zero zero2 _ _
  have e2 : View.ld (iblk0 V c 2 (cpt p)) r0_2 = iblk0 V c 2 (cpt p) := View.ld_unit_zero zero2 _ _
  refine (congrFun (show k0_pay1 (View.ld (iblk0 V c 0 (cpt p)) r0_0) (View.ld (iblk0 V c 1 (cpt p)) r0_1) (View.ld (iblk0 V c 2 (cpt p)) r0_2)
    = k0_pay1 (iblk0 V c 0 (cpt p)) (iblk0 V c 1 (cpt p)) (iblk0 V c 2 (cpt p)) by rw [e0, e1, e2]) (ix2 r n)).trans ?_
  refine (ada_apply (iblk0 V c 0 (cpt p)) (iblk0 V c 1 (cpt p)) (iblk0 V c 2 (cpt p)) r n).trans ?_
  unfold adaRow modRow
  simp only [cread0, cread1, cread2]

/-- The modulation array after the call. -/
theorem ada_array (c : Dev nD) (r : Fin 160) (n : Fin 6144) :
    ((dat0 V c).arrAt 3 cfg0.N : Vec Ideal S160x6144 .f32) (ix2 r n) = adaRow V c r n := by
  suffices h : (dat0 V c).arrAt 3 cfg0.N = fun i : S160x6144.Idx => adaRow V c (i 0) (i 1) from congrFun h (ix2 r n)
  refine (dat0 V c).arrAt_eq_of_cover 3 _ (fun t hf => ?_) fun i => (ccovered i).elim fun t h => ⟨t, flush0_3 t, h⟩
  have hlt : t.val < 4 := lt_of_lt_of_eq t.isLt N_0
  have ht : t = cpt ⟨t.val, hlt⟩ := rfl
  show (cfg0.win 3).cut (grid0.coords t) ((dat0 V c).after 3 t) = _
  rw [after0_3, ht]
  exact ccut _ _ (fun i : S160x6144.Idx => adaRow V c (i 0) (i 1)) (cblock V c _)

end Cert.StatesIdeal.Run

end
-- ==== Proof.StatesHost.lean ====
module

public import proofs.«01_k».proof.Proof.StatesAda
public import Idealize.ShloMosaic.Lib.StableHlo.RunClose
public import Idealize.ShloMosaic.Lib.Routing.OpsOne
public import Idealize.ShloMosaic.Lib.Routing.OpsSet
public import Idealize.ShloMosaic.Lib.Pointwise.Index

/-! What the host lays out for the state projection's calls: the regrouped weights, the gains, the modulation's pieces, and the tables of the turns. -/

@[expose] public section

set_option maxRecDepth 16384

noncomputable section

namespace Cert.StatesIdeal.Run

open Idealize.ShloMosaic Idealize.ShloMosaic.TcCoe Idealize.ShloMosaic.StableHlo Idealize.SL.Sem
open Cert.StatesIdeal Cert.StatesIdeal.Gen

/-- The input weights with the axis of one dropped. -/
def kFlat (w : FVec Ideal S1x1024x4256 .f32) : FVec Ideal S1024x4256 .f32 := shapeCast S1024x4256 w shapeCasts_S1x1024x4256_S1024x4256

/-- The shared key's columns, in the upper half of 128 lanes. -/
def kPad (w : FVec Ideal S1024x4256 .f32) : FVec Ideal S1024x128 .f32 :=
  Host.scatter scatter_S1024x128_S1_S1024x32_01_n_1_0 (fun _ b => b) (broadcastInDim S1024x128 ![] bcast_S_S1024x128 (constant S_ .f32 0x00000000#32) : FVec Ideal S1024x128 .f32)
    (broadcastInDim S1 ![] bcast_S_S1 (constantI S_ 32 64#32)) (extractStridedSlice S1024x32 ![0, 640] w slices_S1024x4256_S1024x32_0_640)

/-- The groups of columns side by side, in the narrow format. -/
def kCat (w : FVec Ideal S1024x4256 .f32) (p : FVec Ideal S1024x128 .f32) : FVec Ideal S1024x4352 .bf16 :=
  truncf .bf16 (concatenate S1024x4352 1 [⟨S1024x384, extractStridedSlice S1024x384 ![0, 0] w slices_S1024x4256_S1024x384_0_0⟩,
    ⟨S1024x256, extractStridedSlice S1024x256 ![0, 384] w slices_S1024x4256_S1024x256_0_384⟩, ⟨S1024x128, p⟩,
    ⟨S1024x512, extractStridedSlice S1024x512 ![0, 672] w slices_S1024x4256_S1024x512_0_672⟩,
    ⟨S1024x512, extractStridedSlice S1024x512 ![0, 1184] w slices_S1024x4256_S1024x512_0_1184⟩,
    ⟨S1024x512, extractStridedSlice S1024x512 ![0, 1696] w slices_S1024x4256_S1024x512_0_1696⟩,
    ⟨S1024x1024, extractStridedSlice S1024x1024 ![0, 2208] w slices_S1024x4256_S1024x1024_0_2208⟩,
    ⟨S1024x1024, extractStridedSlice S1024x1024 ![0, 3232] w slices_S1024x4256_S1024x1024_0_3232⟩]
    concatenates_S1024x384_S1024x256_S1024x128_S1024x512_S1024x512_S1024x512_S1024x1024_S1024x1024_S1024x4352_d1 : FVec Ideal S1024x4352 .f32) bitsLt_bf16_f32

/-- The regrouped weights. -/
def kW (w : FVec Ideal S1x1024x4256 .f32) : FVec Ideal S1024x4352 .bf16 := kCat (kFlat w) (kPad (kFlat w))

theorem cat8_congr {x0 y0 : FVec Ideal S1024x384 .f32} {x1 y1 : FVec Ideal S1024x256 .f32} {x2 y2 : FVec Ideal S1024x128 .f32} {x3 y3 : FVec Ideal S1024x512 .f32} {x4 y4 : FVec Ideal S1024x512 .f32} {x5 y5 : FVec Ideal S1024x512 .f32} {x6 y6 : FVec Ideal S1024x1024 .f32} {x7 y7 : FVec Ideal S1024x1024 .f32} (h0 : x0 = y0) (h1 : x1 = y1) (h2 : x2 = y2) (h3 : x3 = y3) (h4 : x4 = y4) (h5 : x5 = y5) (h6 : x6 = y6) (h7 : x7 = y7) :
    (concatenate S1024x4352 1 [⟨S1024x384, x0⟩, ⟨S1024x256, x1⟩, ⟨S1024x128, x2⟩, ⟨S1024x512, x3⟩, ⟨S1024x512, x4⟩, ⟨S1024x512, x5⟩, ⟨S1024x1024, x6⟩, ⟨S1024x1024, x7⟩] concatenates_S1024x384_S1024x256_S1024x128_S1024x512_S1024x512_S1024x512_S1024x1024_S1024x1024_S1024x4352_d1 : FVec Ideal S1024x4352 .f32)
      = (concatenate S1024x4352 1 [⟨S1024x384, y0⟩, ⟨S1024x256, y1⟩, ⟨S1024x128, y2⟩, ⟨S1024x512, y3⟩, ⟨S1024x512, y4⟩, ⟨S1024x512, y5⟩, ⟨S1024x1024, y6⟩, ⟨S1024x1024, y7⟩] concatenates_S1024x384_S1024x256_S1024x128_S1024x512_S1024x512_S1024x512_S1024x1024_S1024x1024_S1024x4352_d1 : FVec Ideal S1024x4352 .f32) := by
  subst h0 h1 h2 h3 h4 h5 h6 h7
  rfl

section
variable (W : Valuation τ sig (Elt Ideal))

theorem host_w : after hostOps0 W (Proc.devRef .tc main_v13) = kW (W (Proc.devRef .tc main_arg6)) := by
  after_results_simp_entrywise
  unfold kW kCat kPad kFlat
  refine congrArg (fun v => truncf .bf16 v bitsLt_bf16_f32) (cat8_congr ?_ ?_ ?_ ?_ ?_ ?_ ?_ ?_)
  all_goals dsimp only [Matrix.cons_val]
  all_goals after_results_simp_entrywise
  all_goals rfl

theorem host_wa : after hostOps0 W (Proc.devRef .tc main_v15)
    = (truncf .bf16 (shapeCast S1024x6144 (W (Proc.devRef .tc main_arg3) : FVec Ideal S1x1024x6144 .f32) shapeCasts_S1x1024x6144_S1024x6144 : FVec Ideal S1024x6144 .f32) bitsLt_bf16_f32 : FVec Ideal S1024x6144 .bf16) := by
  after_results_entrywise []

theorem host_bi : after hostOps0 W (Proc.devRef .tc main_v24)
    = (broadcastInDim S1x6144 ![1] bcast_S6144_S1x6144_1 (shapeCast S6144 (W (Proc.devRef .tc main_arg4) : FVec Ideal S1x6144 .f32) shapeCasts_S1x6144_S6144 : FVec Ideal S6144 .f32) : FVec Ideal S1x6144 .f32) := by
  after_results_entrywise []

theorem host_gm : after hostOps0 W (Proc.devRef .tc main_v17)
    = (broadcastInDim S1x1024 ![1] bcast_S1024_S1x1024_1 (shapeCast S1024 (W (Proc.devRef .tc main_arg5) : FVec Ideal S1x1024 .f32) shapeCasts_S1x1024_S1024 : FVec Ideal S1024 .f32) : FVec Ideal S1x1024 .f32) := by
  after_results_entrywise []

theorem host_gq : after hostOps0 W (Proc.devRef .tc main_v19)
    = (broadcastInDim S1x384 ![1] bcast_S384_S1x384_1 (shapeCast S384 (W (Proc.devRef .tc main_arg7) : FVec Ideal S1x384 .f32) shapeCasts_S1x384_S384 : FVec Ideal S384 .f32) : FVec Ideal S1x384 .f32) := by
  after_results_entrywise []

theorem host_gk : after hostOps0 W (Proc.devRef .tc main_v21)
    = (broadcastInDim S1x256 ![1] bcast_S256_S1x256_1 (shapeCast S256 (W (Proc.devRef .tc main_arg8) : FVec Ideal S1x256 .f32) shapeCasts_S1x256_S256 : FVec Ideal S256 .f32) : FVec Ideal S1x256 .f32) := by
  after_results_entrywise []

theorem host_cd : after hostOps0 W (Proc.devRef .tc main_v22)
    = (concatenate S160x1024 0 [⟨S32x1024, (W (Proc.devRef .tc main_arg1) : FVec Ideal S32x1024 .f32)⟩, ⟨S128x1024, (W (Proc.devRef .tc main_arg2) : FVec Ideal S128x1024 .f32)⟩] concatenates_S32x1024_S128x1024_S160x1024_d0 : FVec Ideal S160x1024 .f32) := by
  after_results_entrywise []
end

/-- Where an update of the padding lands: 64 columns to the right. -/
theorem pad_lands (w : Fin 1024) (k : Fin 32) (w' : Fin 1024) (e : Fin 128) :
    scatter_S1024x128_S1_S1024x32_01_n_1_0.resultIdx? (ix2 w k) (broadcastInDim S1 ![] bcast_S_S1 (constantI S_ 32 64#32)) = some (ix2 w' e) ↔ w = w' ∧ 64 + k.val = e.val := by
  have hwin0 : scatter_S1024x128_S1_S1024x32_01_n_1_0.window (ix2 w k) 0 = w.val := by
    unfold ScatterDims.window
    rw [dif_pos (by decide)]
    rfl
  have hwin1 : scatter_S1024x128_S1_S1024x32_01_n_1_0.window (ix2 w k) 1 = k.val := by
    unfold ScatterDims.window
    rw [dif_pos (by decide)]
    rfl
  have hstart0 : scatter_S1024x128_S1_S1024x32_01_n_1_0.start (ix2 w k) (broadcastInDim S1 ![] bcast_S_S1 (constantI S_ 32 64#32)) 0 = 0 := by
    unfold ScatterDims.start
    rw [dif_neg (by decide)]
  have hstart1 : scatter_S1024x128_S1_S1024x32_01_n_1_0.start (ix2 w k) (broadcastInDim S1 ![] bcast_S_S1 (constantI S_ 32 64#32)) 1 = 64 := by
    unfold ScatterDims.start
    rw [dif_pos (by decide)]
    show (64#32 : BitVec 32).toInt = 64
    decide
  refine (Routing.resultIdx?_ix2 scatter_S1024x128_S1_S1024x32_01_n_1_0 (ix2 w k) _ w' e).trans ?_
  rw [hstart0, hwin0, hstart1, hwin1, Fin.ext_iff]
  omega

theorem kPad_apply (w : FVec Ideal S1024x4256 .f32) (i : Fin 1024) (j : Fin 32) :
    kPad w (ix2 i ⟨64 + j.val, by omega⟩) = w (ix2 i ⟨640 + j.val, by omega⟩) := by
  unfold kPad
  refine Routing.scatter_set_hit _ _ _ _ _ _ (fun k hk => ?_) (ix2 i j) ((pad_lands i j i ⟨64 + j.val, by omega⟩).2 ⟨rfl, rfl⟩)
  rw [eq_ix2 k] at hk ⊢
  obtain ⟨h0, h1⟩ := (pad_lands _ _ _ _).1 hk
  have h1' : k 1 = j := Fin.ext (by have : 64 + (k 1).val = 64 + j.val := h1; omega)
  rw [h0, h1']
  pointwise

theorem kFlat_apply (w : FVec Ideal S1x1024x4256 .f32) (i : Fin 1024) (j : Fin 4256) : kFlat w (ix2 i j) = w (ix3 0 i j) := by
  pointwise [kFlat]

theorem kCat_q (w : FVec Ideal S1024x4256 .f32) (p : FVec Ideal S1024x128 .f32) (i : Fin 1024) (j : Fin 384) :
    kCat w p (ix2 i ⟨0 + j.val, by omega⟩) = w (ix2 i ⟨0 + j.val, by omega⟩) := by
  pointwise [kCat]

theorem kCat_kv (w : FVec Ideal S1024x4256 .f32) (p : FVec Ideal S1024x128 .f32) (i : Fin 1024) (j : Fin 256) :
    kCat w p (ix2 i ⟨384 + j.val, by omega⟩) = w (ix2 i ⟨384 + j.val, by omega⟩) := by
  pointwise [kCat]

theorem kCat_mq (w : FVec Ideal S1024x4256 .f32) (p : FVec Ideal S1024x128 .f32) (i : Fin 1024) (j : Fin 512) :
    kCat w p (ix2 i ⟨768 + j.val, by omega⟩) = w (ix2 i ⟨672 + j.val, by omega⟩) := by
  pointwise [kCat]
  rw [dif_neg (by omega), dif_neg (by omega), dif_neg (by omega)]
  rw [dif_pos (by omega)]
  refine congrArg (fun e => w (ix2 i e)) (Fin.ext ?_)
  show 672 + (768 + j.val - 384 - 256 - 128) = 672 + j.val
  omega

theorem kCat_mk (w : FVec Ideal S1024x4256 .f32) (p : FVec Ideal S1024x128 .f32) (i : Fin 1024) (j : Fin 512) :
    kCat w p (ix2 i ⟨1280 + j.val, by omega⟩) = w (ix2 i ⟨1184 + j.val, by omega⟩) := by
  pointwise [kCat]
  rw [dif_neg (by omega), dif_neg (by omega), dif_neg (by omega), dif_neg (by omega)]
  rw [dif_pos (by omega)]
  refine congrArg (fun e => w (ix2 i e)) (Fin.ext ?_)
  show 1184 + (1280 + j.val - 384 - 256 - 128 - 512) = 1184 + j.val
  omega

theorem kCat_mv (w : FVec Ideal S1024x4256 .f32) (p : FVec Ideal S1024x128 .f32) (i : Fin 1024) (j : Fin 512) :
    kCat w p (ix2 i ⟨1792 + j.val, by omega⟩) = w (ix2 i ⟨1696 + j.val, by omega⟩) := by
  pointwise [kCat]
  rw [dif_neg (by omega), dif_neg (by omega), dif_neg (by omega), dif_neg (by omega), dif_neg (by omega)]
  rw [dif_pos (by omega)]
  refine congrArg (fun e => w (ix2 i e)) (Fin.ext ?_)
  show 1696 + (1792 + j.val - 384 - 256 - 128 - 512 - 512) = 1696 + j.val
  omega

theorem kCat_pe (w : FVec Ideal S1024x4256 .f32) (p : FVec Ideal S1024x128 .f32) (i : Fin 1024) (j : Fin 128) :
    kCat w p (ix2 i ⟨640 + j.val, by omega⟩) = p (ix2 i j) := by
  pointwise [kCat]
  rw [dif_neg (by omega), dif_neg (by omega)]
  rw [dif_pos (by omega)]
  refine congrArg (fun e => p (ix2 i e)) (Fin.ext ?_)
  show 640 + j.val - 384 - 256 = j.val
  omega

theorem kCat_g (w : FVec Ideal S1024x4256 .f32) (p : FVec Ideal S1024x128 .f32) (i : Fin 1024) (j : Fin 2048) :
    kCat w p (ix2 i ⟨2304 + j.val, by omega⟩) = w (ix2 i ⟨2208 + j.val, by omega⟩) := by
  pointwise [kCat]
  rw [dif_neg (by omega), dif_neg (by omega), dif_neg (by omega), dif_neg (by omega), dif_neg (by omega), dif_neg (by omega)]
  by_cases h : 2304 + j.val - 384 - 256 - 128 - 512 - 512 - 512 < 1024
  · rw [dif_pos h]
    refine congrArg (fun e => w (ix2 i e)) (Fin.ext ?_)
    show 2208 + (2304 + j.val - 384 - 256 - 128 - 512 - 512 - 512) = 2208 + j.val
    omega
  · rw [dif_neg h]
    refine congrArg (fun e => w (ix2 i e)) (Fin.ext ?_)
    show 3232 + (2304 + j.val - 384 - 256 - 128 - 512 - 512 - 512 - 1024) = 2208 + j.val
    omega

theorem kW_q (w : FVec Ideal S1x1024x4256 .f32) (i : Fin 1024) (j : Fin 384) : kW w (ix2 i ⟨0 + j.val, by omega⟩) = w (ix3 0 i ⟨0 + j.val, by omega⟩) :=
  (kCat_q _ _ i j).trans (kFlat_apply w i _)

theorem kW_kv (w : FVec Ideal S1x1024x4256 .f32) (i : Fin 1024) (j : Fin 256) : kW w (ix2 i ⟨384 + j.val, by omega⟩) = w (ix3 0 i ⟨384 + j.val, by omega⟩) :=
  (kCat_kv _ _ i j).trans (kFlat_apply w i _)

theorem kW_mq (w : FVec Ideal S1x1024x4256 .f32) (i : Fin 1024) (j : Fin 512) : kW w (ix2 i ⟨768 + j.val, by omega⟩) = w (ix3 0 i ⟨672 + j.val, by omega⟩) :=
  (kCat_mq _ _ i j).trans (kFlat_apply w i _)

theorem kW_mk (w : FVec Ideal S1x1024x4256 .f32) (i : Fin 1024) (j : Fin 512) : kW w (ix2 i ⟨1280 + j.val, by omega⟩) = w (ix3 0 i ⟨1184 + j.val, by omega⟩) :=
  (kCat_mk _ _ i j).trans (kFlat_apply w i _)

theorem kW_mv (w : FVec Ideal S1x1024x4256 .f32) (i : Fin 1024) (j : Fin 512) : kW w (ix2 i ⟨1792 + j.val, by omega⟩) = w (ix3 0 i ⟨1696 + j.val, by omega⟩) :=
  (kCat_mv _ _ i j).trans (kFlat_apply w i _)

theorem kW_g (w : FVec Ideal S1x1024x4256 .f32) (i : Fin 1024) (j : Fin 2048) : kW w (ix2 i ⟨2304 + j.val, by omega⟩) = w (ix3 0 i ⟨2208 + j.val, by omega⟩) :=
  (kCat_g _ _ i j).trans (kFlat_apply w i _)

theorem kW_pe (w : FVec Ideal S1x1024x4256 .f32) (i : Fin 1024) (j : Fin 32) : kW w (ix2 i ⟨640 + (64 + j.val), by omega⟩) = w (ix3 0 i ⟨640 + j.val, by omega⟩) :=
  (kCat_pe _ _ i ⟨64 + j.val, by omega⟩).trans ((kPad_apply _ i j).trans (kFlat_apply w i _))

section
variable (W : Valuation τ sig (Elt Ideal))

theorem read_wa (j : Fin 1024) (n : Fin 6144) : (after hostOps0 W (Proc.devRef .tc main_v15) : FVec Ideal S1024x6144 .bf16) (ix2 j n) = (W (Proc.devRef .tc main_arg3) : FVec Ideal S1x1024x6144 .f32) (ix3 0 j n) := by
  rw [host_wa]
  pointwise

theorem read_bi (n : Fin 6144) : (after hostOps0 W (Proc.devRef .tc main_v24) : FVec Ideal S1x6144 .f32) (ix2 0 n) = (W (Proc.devRef .tc main_arg4) : FVec Ideal S1x6144 .f32) (ix2 0 n) := by
  rw [host_bi]
  pointwise

theorem read_gm (n : Fin 1024) : (after hostOps0 W (Proc.devRef .tc main_v17) : FVec Ideal S1x1024 .f32) (ix2 0 n) = (W (Proc.devRef .tc main_arg5) : FVec Ideal S1x1024 .f32) (ix2 0 n) := by
  rw [host_gm]
  pointwise

theorem read_gq (n : Fin 384) : (after hostOps0 W (Proc.devRef .tc main_v19) : FVec Ideal S1x384 .f32) (ix2 0 n) = (W (Proc.devRef .tc main_arg7) : FVec Ideal S1x384 .f32) (ix2 0 n) := by
  rw [host_gq]
  pointwise

theorem read_gk (n : Fin 256) : (after hostOps0 W (Proc.devRef .tc main_v21) : FVec Ideal S1x256 .f32) (ix2 0 n) = (W (Proc.devRef .tc main_arg8) : FVec Ideal S1x256 .f32) (ix2 0 n) := by
  rw [host_gk]
  pointwise

theorem read_cd (b : Fin 32) (n : Fin 1024) : (after hostOps0 W (Proc.devRef .tc main_v22) : FVec Ideal S160x1024 .f32) (ix2 ⟨b.val, by omega⟩ n) = (W (Proc.devRef .tc main_arg1) : FVec Ideal S32x1024 .f32) (ix2 b n) := by
  rw [host_cd]
  pointwise
end

end Cert.StatesIdeal.Run

end
-- ==== Proof.StatesTab.lean ====
module

public import proofs.«01_k».proof.Proof.StatesAda
public import Idealize.ShloMosaic.Lib.StableHlo.RunClose
public import Idealize.ShloMosaic.Lib.Routing.OpsOne
public import Idealize.ShloMosaic.Lib.Routing.OpsSet
public import Idealize.ShloMosaic.Lib.Pointwise.Index

/-! What the host lays out for the state projection's calls: the regrouped weights, the gains, the modulation's pieces, and the tables of the turns. -/

@[expose] public section

set_option maxRecDepth 16384

noncomputable section

namespace Cert.StatesIdeal.Run

open Idealize.ShloMosaic Idealize.ShloMosaic.TcCoe Idealize.ShloMosaic.StableHlo Idealize.SL.Sem
open Cert.StatesIdeal Cert.StatesIdeal.Gen

section
variable (W : Valuation τ sig (Elt Ideal))

theorem host_sh : after hostOps1 W (Proc.devRef .tc main_v33)
    = (broadcastInDim S32x1x1024 ![0, 2] bcast_S32x1024_S32x1x1024_0_2 (extractStridedSlice S32x1024 ![0, 0] (extractStridedSlice S32x6144 ![0, 0] (W (Proc.devRef .tc main_v25) : FVec Ideal S160x6144 .f32) slices_S160x6144_S32x6144_0_0) slices_S32x6144_S32x1024_0_0) : FVec Ideal S32x1x1024 .f32) := by
  after_results_entrywise []

theorem host_sc : after hostOps1 W (Proc.devRef .tc main_v34)
    = (broadcastInDim S32x1x1024 ![0, 2] bcast_S32x1024_S32x1x1024_0_2 (extractStridedSlice S32x1024 ![0, 1024] (extractStridedSlice S32x6144 ![0, 0] (W (Proc.devRef .tc main_v25) : FVec Ideal S160x6144 .f32) slices_S160x6144_S32x6144_0_0) slices_S32x6144_S32x1024_0_1024) : FVec Ideal S32x1x1024 .f32) := by
  after_results_entrywise []

theorem read_sh (b : Fin 32) (n : Fin 1024) : (after hostOps1 W (Proc.devRef .tc main_v33) : FVec Ideal S32x1x1024 .f32) (ix3 b 0 n) = (W (Proc.devRef .tc main_v25) : FVec Ideal S160x6144 .f32) (ix2 ⟨b.val, by omega⟩ ⟨n.val, by omega⟩) := by
  rw [host_sh]
  pointwise

theorem read_sc (b : Fin 32) (n : Fin 1024) : (after hostOps1 W (Proc.devRef .tc main_v34) : FVec Ideal S32x1x1024 .f32) (ix3 b 0 n) = (W (Proc.devRef .tc main_v25) : FVec Ideal S160x6144 .f32) (ix2 ⟨b.val, by omega⟩ ⟨1024 + n.val, by omega⟩) := by
  rw [host_sc]
  pointwise
end

/-- The angles of the shared key's turn. -/
def ang16 : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.exp (Host.divf (mulf (broadcastInDim S16 ![] bcast_S_S16 (constant S_ .f32 0xC151F533#32)) (sitofp .f32 (iotaInDim S16 32 0))) (broadcastInDim S16 ![] bcast_S_S16 (constant S_ .f32 0x41800000#32))))))

/-- The angles of the heads' turn. -/
def ang8 : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.exp (Host.divf (mulf (broadcastInDim S8 ![] bcast_S_S8 (constant S_ .f32 0xC151F533#32)) (sitofp .f32 (iotaInDim S8 32 0))) (broadcastInDim S8 ![] bcast_S_S8 (constant S_ .f32 0x41000000#32))))))

def c16 (co : FVec Ideal S2048x16 .f32) : FVec Ideal S2048x128 .f32 :=
  concatenate S2048x128 1 [⟨S2048x64, (broadcastInDim S2048x64 ![] bcast_S_S2048x64 (constant S_ .f32 0x3F800000#32) : FVec Ideal S2048x64 .f32)⟩, ⟨S2048x16, co⟩, ⟨S2048x16, co⟩, ⟨S2048x32, (broadcastInDim S2048x32 ![] bcast_S_S2048x32 (constant S_ .f32 0x3F800000#32) : FVec Ideal S2048x32 .f32)⟩] concatenates_S2048x64_S2048x16_S2048x16_S2048x32_S2048x128_d1
def a16 (si : FVec Ideal S2048x16 .f32) : FVec Ideal S2048x128 .f32 :=
  concatenate S2048x128 1 [⟨S2048x64, (broadcastInDim S2048x64 ![] bcast_S_S2048x64 (constant S_ .f32 0x00000000#32) : FVec Ideal S2048x64 .f32)⟩, ⟨S2048x16, Host.negf si⟩, ⟨S2048x48, (broadcastInDim S2048x48 ![] bcast_S_S2048x48 (constant S_ .f32 0x00000000#32) : FVec Ideal S2048x48 .f32)⟩] concatenates_S2048x64_S2048x16_S2048x48_S2048x128_d1
def b16 (si : FVec Ideal S2048x16 .f32) : FVec Ideal S2048x128 .f32 :=
  concatenate S2048x128 1 [⟨S2048x80, (broadcastInDim S2048x80 ![] bcast_S_S2048x80 (constant S_ .f32 0x00000000#32) : FVec Ideal S2048x80 .f32)⟩, ⟨S2048x16, si⟩, ⟨S2048x32, (broadcastInDim S2048x32 ![] bcast_S_S2048x32 (constant S_ .f32 0x00000000#32) : FVec Ideal S2048x32 .f32)⟩] concatenates_S2048x80_S2048x16_S2048x32_S2048x128_d1
def c8 (co : FVec Ideal S2048x8 .f32) : FVec Ideal S2048x64 .f32 :=
  concatenate S2048x64 1 [⟨S2048x0, (broadcastInDim S2048x0 ![] bcast_S_S2048x0 (constant S_ .f32 0x3F800000#32) : FVec Ideal S2048x0 .f32)⟩, ⟨S2048x8, co⟩, ⟨S2048x8, co⟩, ⟨S2048x48, (broadcastInDim S2048x48 ![] bcast_S_S2048x48 (constant S_ .f32 0x3F800000#32) : FVec Ideal S2048x48 .f32)⟩] concatenates_S2048x0_S2048x8_S2048x8_S2048x48_S2048x64_d1
def a8 (si : FVec Ideal S2048x8 .f32) : FVec Ideal S2048x64 .f32 :=
  concatenate S2048x64 1 [⟨S2048x0, (broadcastInDim S2048x0 ![] bcast_S_S2048x0 (constant S_ .f32 0x00000000#32) : FVec Ideal S2048x0 .f32)⟩, ⟨S2048x8, Host.negf si⟩, ⟨S2048x56, (broadcastInDim S2048x56 ![] bcast_S_S2048x56 (constant S_ .f32 0x00000000#32) : FVec Ideal S2048x56 .f32)⟩] concatenates_S2048x0_S2048x8_S2048x56_S2048x64_d1
def b8 (si : FVec Ideal S2048x8 .f32) : FVec Ideal S2048x64 .f32 :=
  concatenate S2048x64 1 [⟨S2048x8, (broadcastInDim S2048x8 ![] bcast_S_S2048x8 (constant S_ .f32 0x00000000#32) : FVec Ideal S2048x8 .f32)⟩, ⟨S2048x8, si⟩, ⟨S2048x48, (broadcastInDim S2048x48 ![] bcast_S_S2048x48 (constant S_ .f32 0x00000000#32) : FVec Ideal S2048x48 .f32)⟩] concatenates_S2048x8_S2048x8_S2048x48_S2048x64_d1

/-- A table as its place's rows of 128 lanes. -/
def up16 (x : FVec Ideal S2048x128 .f32) : FVec Ideal S2048x128 .f32 :=
  shapeCast S2048x128 (broadcastInDim S1x2048x1x128 ![0, 1, 2, 3] bcast_S1x2048x1x128_S1x2048x1x128_0_1_2_3 (shapeCast S1x2048x1x128 x shapeCasts_S2048x128_S1x2048x1x128)) shapeCasts_S1x2048x1x128_S2048x128
/-- A table of one head's 64 lanes, twice side by side. -/
def up8 (x : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 x shapeCasts_S2048x64_S1x2048x1x64)) shapeCasts_S1x2048x2x64_S2048x128
/-- Three tables, one after the other. -/
def tab3 (a b c : FVec Ideal S2048x128 .f32) : FVec Ideal S3x2048x128 .f32 :=
  concatenate S3x2048x128 0 [⟨S1x2048x128, broadcastInDim S1x2048x128 ![1, 2] bcast_S2048x128_S1x2048x128_1_2 a⟩, ⟨S1x2048x128, broadcastInDim S1x2048x128 ![1, 2] bcast_S2048x128_S1x2048x128_1_2 b⟩, ⟨S1x2048x128, broadcastInDim S1x2048x128 ![1, 2] bcast_S2048x128_S1x2048x128_1_2 c⟩] concatenates_S1x2048x128_S1x2048x128_S1x2048x128_S3x2048x128_d0

section
variable (W : Valuation τ sig (Elt Ideal))

set_option maxHeartbeats 4000000 in
theorem host_tq : after hostOps1 W (Proc.devRef .tc main_v76) = tab3 (up16 (c16 (Host.cos ang16))) (up16 (a16 (Host.sin ang16))) (up16 (b16 (Host.sin ang16))) := by
  after_results_entrywise (rounds := 2) []

set_option maxHeartbeats 4000000 in
theorem host_tm : after hostOps1 W (Proc.devRef .tc main_v113) = tab3 (up8 (c8 (Host.cos ang8))) (up8 (a8 (Host.sin ang8))) (up8 (b8 (Host.sin ang8))) := by
  after_results_entrywise (rounds := 2) []
end

theorem ang16_apply (t : Fin 2048) (j : Fin 16) : ang16 (ix2 t j) = angle (Ideal.ofBits .f32 0x41800000#32) t.val j.val := by
  unfold angle
  pointwise [ang16]

theorem ang8_apply (t : Fin 2048) (j : Fin 8) : ang8 (ix2 t j) = angle (Ideal.ofBits .f32 0x41000000#32) t.val j.val := by
  unfold angle
  pointwise [ang8]

theorem tab3_0 (a b c : FVec Ideal S2048x128 .f32) (t : Fin 2048) (l : Fin 128) : tab3 a b c (ix3 0 t l) = a (ix2 t l) := by
  pointwise [tab3]
theorem tab3_1 (a b c : FVec Ideal S2048x128 .f32) (t : Fin 2048) (l : Fin 128) : tab3 a b c (ix3 1 t l) = b (ix2 t l) := by
  pointwise [tab3]
theorem tab3_2 (a b c : FVec Ideal S2048x128 .f32) (t : Fin 2048) (l : Fin 128) : tab3 a b c (ix3 2 t l) = c (ix2 t l) := by
  pointwise [tab3]
theorem up16_apply (x : FVec Ideal S2048x128 .f32) (t : Fin 2048) (l : Fin 128) : up16 x (ix2 t l) = x (ix2 t l) := by
  pointwise [up16]
theorem up8_apply (x : FVec Ideal S2048x64 .f32) (t : Fin 2048) (l : Fin 128) : up8 x (ix2 t l) = x (ix2 t ⟨l.val % 64, Nat.mod_lt _ (by decide)⟩) := by
  pointwise [up8]

theorem c16_lo (co : FVec Ideal S2048x16 .f32) (t : Fin 2048) (j : Fin 16) : c16 co (ix2 t ⟨64 + j.val, by omega⟩) = co (ix2 t j) := by
  pointwise [c16]
theorem c16_hi (co : FVec Ideal S2048x16 .f32) (t : Fin 2048) (j : Fin 16) : c16 co (ix2 t ⟨80 + j.val, by omega⟩) = co (ix2 t j) := by
  pointwise [c16]
  rw [dif_neg (by omega), dif_neg (by omega)]
  rw [dif_pos (by omega)]
  refine congrArg (fun e => co (ix2 t e)) (Fin.ext ?_)
  show 80 + j.val - 64 - 16 = j.val
  omega
theorem a16_lo (si : FVec Ideal S2048x16 .f32) (t : Fin 2048) (j : Fin 16) : a16 si (ix2 t ⟨64 + j.val, by omega⟩) = -(si (ix2 t j)) := by
  pointwise [a16]
theorem a16_hi (si : FVec Ideal S2048x16 .f32) (t : Fin 2048) (j : Fin 16) : a16 si (ix2 t ⟨80 + j.val, by omega⟩) = 0 := by
  pointwise [a16]
  rw [dif_neg (by omega), dif_neg (by omega)]
theorem b16_lo (si : FVec Ideal S2048x16 .f32) (t : Fin 2048) (j : Fin 16) : b16 si (ix2 t ⟨64 + j.val, by omega⟩) = 0 := by
  pointwise [b16]
  rw [dif_pos (by omega)]
theorem b16_hi (si : FVec Ideal S2048x16 .f32) (t : Fin 2048) (j : Fin 16) : b16 si (ix2 t ⟨80 + j.val, by omega⟩) = si (ix2 t j) := by
  pointwise [b16]

theorem c8_lo (co : FVec Ideal S2048x8 .f32) (t : Fin 2048) (j : Fin 8) : c8 co (ix2 t ⟨j.val, by omega⟩) = co (ix2 t j) := by
  pointwise [c8]
  rw [dif_neg (by omega)]
theorem c8_hi (co : FVec Ideal S2048x8 .f32) (t : Fin 2048) (j : Fin 8) : c8 co (ix2 t ⟨8 + j.val, by omega⟩) = co (ix2 t j) := by
  pointwise [c8]
  rw [dif_neg (by omega)]
theorem c8_up (co : FVec Ideal S2048x8 .f32) (t : Fin 2048) (j : Fin 48) : c8 co (ix2 t ⟨16 + j.val, by omega⟩) = 1 := by
  pointwise [c8]
  rw [dif_neg (by omega), dif_neg (by omega), dif_neg (by omega)]
theorem a8_lo (si : FVec Ideal S2048x8 .f32) (t : Fin 2048) (j : Fin 8) : a8 si (ix2 t ⟨j.val, by omega⟩) = -(si (ix2 t j)) := by
  pointwise [a8]
  rw [dif_neg (by omega)]
theorem a8_up (si : FVec Ideal S2048x8 .f32) (t : Fin 2048) (j : Fin 56) : a8 si (ix2 t ⟨8 + j.val, by omega⟩) = 0 := by
  pointwise [a8]
  rw [dif_neg (by omega)]
theorem b8_lo (si : FVec Ideal S2048x8 .f32) (t : Fin 2048) (j : Fin 8) : b8 si (ix2 t ⟨j.val, by omega⟩) = 0 := by
  pointwise [b8]
theorem b8_hi (si : FVec Ideal S2048x8 .f32) (t : Fin 2048) (j : Fin 8) : b8 si (ix2 t ⟨8 + j.val, by omega⟩) = si (ix2 t j) := by
  pointwise [b8]
theorem b8_up (si : FVec Ideal S2048x8 .f32) (t : Fin 2048) (j : Fin 48) : b8 si (ix2 t ⟨16 + j.val, by omega⟩) = 0 := by
  pointwise [b8]
  rw [dif_neg (by omega), dif_neg (by omega)]

end Cert.StatesIdeal.Run

end
-- ==== Proof.StatesTurn.lean ====
module

public import proofs.«01_k».proof.Proof.States

/-! The turn of a row by three tables is the turn by angles. -/

@[expose] public section

noncomputable section

namespace Cert.StatesIdeal.Run

open Idealize.ShloMosaic

theorem lane_turn16 (z c a b : Fin 128 → EReal) (co si : Fin 16 → EReal)
    (hc1 : ∀ j : Fin 16, c ⟨64 + j.val, by omega⟩ = co j) (hc2 : ∀ j : Fin 16, c ⟨80 + j.val, by omega⟩ = co j)
    (ha1 : ∀ j : Fin 16, a ⟨64 + j.val, by omega⟩ = -(si j)) (ha2 : ∀ j : Fin 16, a ⟨80 + j.val, by omega⟩ = 0)
    (hb1 : ∀ j : Fin 16, b ⟨64 + j.val, by omega⟩ = 0) (hb2 : ∀ j : Fin 16, b ⟨80 + j.val, by omega⟩ = si j) (j : Fin 32) :
    laneRow 112 16 z c a b ⟨64 + j.val, by omega⟩ = turn 16 (fun j : Fin 32 => z ⟨64 + j.val, by omega⟩) (by decide) co si j := by
  unfold laneRow turn
  by_cases h1 : j.val < 16
  · rw [dif_pos h1, show c ⟨64 + j.val, by omega⟩ = co ⟨j.val, h1⟩ from hc1 ⟨j.val, h1⟩, show a ⟨64 + j.val, by omega⟩ = -(si ⟨j.val, h1⟩) from ha1 ⟨j.val, h1⟩,
      show b ⟨64 + j.val, by omega⟩ = 0 from hb1 ⟨j.val, h1⟩, mul_zero, add_zero, mul_neg, ← sub_eq_add_neg]
    have e : (⟨(64 + j.val + 128 - 112) % 128, Nat.mod_lt _ (by decide)⟩ : Fin 128) = ⟨64 + (16 + j.val), by omega⟩ :=
      Fin.ext (by show (64 + j.val + 128 - 112) % 128 = 64 + (16 + j.val); omega)
    rw [e]
  · have h2 : j.val - 16 < 16 := by omega
    have e0 : (⟨64 + j.val, by omega⟩ : Fin 128) = ⟨80 + (j.val - 16), by omega⟩ := Fin.ext (by show 64 + j.val = 80 + (j.val - 16); omega)
    rw [dif_neg h1, dif_pos h2, show c ⟨64 + j.val, by omega⟩ = co ⟨j.val - 16, h2⟩ from (congrArg c e0).trans (hc2 ⟨j.val - 16, h2⟩),
      show a ⟨64 + j.val, by omega⟩ = 0 from (congrArg a e0).trans (ha2 ⟨j.val - 16, h2⟩),
      show b ⟨64 + j.val, by omega⟩ = si ⟨j.val - 16, h2⟩ from (congrArg b e0).trans (hb2 ⟨j.val - 16, h2⟩), mul_zero, add_zero]
    have e : (⟨(64 + j.val + 128 - 16) % 128, Nat.mod_lt _ (by decide)⟩ : Fin 128) = ⟨64 + (j.val - 16), by omega⟩ :=
      Fin.ext (by show (64 + j.val + 128 - 16) % 128 = 64 + (j.val - 16); omega)
    rw [e]

theorem lane_turn8 (z : Fin 128 → EReal) (c a b : Fin 64 → EReal) (co si : Fin 8 → EReal)
    (hc1 : ∀ j : Fin 8, c ⟨j.val, by omega⟩ = co j) (hc2 : ∀ j : Fin 8, c ⟨8 + j.val, by omega⟩ = co j) (hc3 : ∀ j : Fin 48, c ⟨16 + j.val, by omega⟩ = 1)
    (ha1 : ∀ j : Fin 8, a ⟨j.val, by omega⟩ = -(si j)) (ha2 : ∀ j : Fin 56, a ⟨8 + j.val, by omega⟩ = 0)
    (hb1 : ∀ j : Fin 8, b ⟨j.val, by omega⟩ = 0) (hb2 : ∀ j : Fin 8, b ⟨8 + j.val, by omega⟩ = si j) (hb3 : ∀ j : Fin 48, b ⟨16 + j.val, by omega⟩ = 0)
    (s : Fin 2) (j : Fin 64) :
    laneRow 120 8 z (fun l => c ⟨l.val % 64, Nat.mod_lt _ (by decide)⟩) (fun l => a ⟨l.val % 64, Nat.mod_lt _ (by decide)⟩) (fun l => b ⟨l.val % 64, Nat.mod_lt _ (by decide)⟩)
        ⟨64 * s.val + j.val, by omega⟩
      = turn 8 (fun j : Fin 64 => z ⟨64 * s.val + j.val, by omega⟩) (by decide) co si j := by
  unfold laneRow turn
  have e0 : (⟨(64 * s.val + j.val) % 64, Nat.mod_lt _ (by decide)⟩ : Fin 64) = j := Fin.ext (by show (64 * s.val + j.val) % 64 = j.val; omega)
  show z _ * c ⟨(64 * s.val + j.val) % 64, _⟩ + z _ * a ⟨(64 * s.val + j.val) % 64, _⟩ + z _ * b ⟨(64 * s.val + j.val) % 64, _⟩ = _
  rw [e0]
  by_cases h1 : j.val < 8
  · rw [dif_pos h1, show c j = co ⟨j.val, h1⟩ from hc1 ⟨j.val, h1⟩, show a j = -(si ⟨j.val, h1⟩) from ha1 ⟨j.val, h1⟩,
      show b j = 0 from hb1 ⟨j.val, h1⟩, mul_zero, add_zero, mul_neg, ← sub_eq_add_neg]
    have e : (⟨(64 * s.val + j.val + 128 - 120) % 128, Nat.mod_lt _ (by decide)⟩ : Fin 128) = ⟨64 * s.val + (8 + j.val), by omega⟩ :=
      Fin.ext (by show (64 * s.val + j.val + 128 - 120) % 128 = 64 * s.val + (8 + j.val); omega)
    rw [e]
  · have e1 : j = ⟨8 + (j.val - 8), by omega⟩ := Fin.ext (by show j.val = 8 + (j.val - 8); omega)
    rw [dif_neg h1, show a j = 0 from (congrArg a e1).trans (ha2 ⟨j.val - 8, by omega⟩), mul_zero, add_zero]
    by_cases h2 : j.val - 8 < 8
    · rw [dif_pos h2, show c j = co ⟨j.val - 8, h2⟩ from (congrArg c e1).trans (hc2 ⟨j.val - 8, h2⟩),
        show b j = si ⟨j.val - 8, h2⟩ from (congrArg b e1).trans (hb2 ⟨j.val - 8, h2⟩)]
      have e : (⟨(64 * s.val + j.val + 128 - 8) % 128, Nat.mod_lt _ (by decide)⟩ : Fin 128) = ⟨64 * s.val + (j.val - 8), by omega⟩ :=
        Fin.ext (by show (64 * s.val + j.val + 128 - 8) % 128 = 64 * s.val + (j.val - 8); omega)
      rw [e]
    · have e2 : j = ⟨16 + (j.val - 16), by omega⟩ := Fin.ext (by show j.val = 16 + (j.val - 16); omega)
      rw [dif_neg h2, show c j = 1 from (congrArg c e2).trans (hc3 ⟨j.val - 16, by omega⟩), show b j = 0 from (congrArg b e2).trans (hb3 ⟨j.val - 16, by omega⟩),
        mul_zero, add_zero, mul_one]

end Cert.StatesIdeal.Run

end
-- ==== Proof.StatesRows.lean ====
module

public import proofs.«01_k».proof.Proof.StatesHost
public import proofs.«01_k».proof.Proof.StatesTab
public import proofs.«01_k».proof.Proof.StatesTurn

/-! The rows the kernel leaves, from the arguments at launch: each is a piece of the token's projected row. -/

@[expose] public section

set_option maxRecDepth 16384

noncomputable section

namespace Cert.StatesIdeal.Run

open Idealize.ShloMosaic Idealize.ShloMosaic.TcCoe Idealize.ShloMosaic.StableHlo Idealize.SL.Sem
open Cert.StatesIdeal Cert.StatesIdeal.Gen
open Cert.PostIdeal.Run (normRow meanRow)

variable (m : (ℓ : Loc nD τ sig) → Buf (Elt Ideal) ℓ) (ρ : Dev nD → PrngReg)

theorem modRow_congr {n : Nat} {cd cd' : Fin 1024 → EReal} {w w' : Fin 1024 → Fin n → EReal} {bi bi' : Fin n → EReal}
    (h0 : ∀ j, cd j = cd' j) (h1 : ∀ i j, w i j = w' i j) (h2 : ∀ j, bi j = bi' j) (e : Fin n) : modRow cd w bi e = modRow cd' w' bi' e := by
  obtain rfl := funext h0
  obtain rfl := funext fun i => funext (h1 i)
  obtain rfl := funext h2
  rfl

/-- The launch's arguments, as the rows the specifications take. -/
def xA (c : Dev nD) (b : Fin 32) (t : Fin 2048) : Fin 1024 → EReal := fun j => (W0 m ρ c (Proc.devRef .tc main_arg0) : FVec Ideal S32x2048x1024 .f32) (ix3 b t j)
def gA (c : Dev nD) : Fin 1024 → EReal := fun j => (W0 m ρ c (Proc.devRef .tc main_arg5) : FVec Ideal S1x1024 .f32) (ix2 0 j)
def cA (c : Dev nD) (b : Fin 32) : Fin 1024 → EReal := fun j => (W0 m ρ c (Proc.devRef .tc main_arg1) : FVec Ideal S32x1024 .f32) (ix2 b j)
def waA (c : Dev nD) : Fin 1024 → Fin 6144 → EReal := fun i j => (W0 m ρ c (Proc.devRef .tc main_arg3) : FVec Ideal S1x1024x6144 .f32) (ix3 0 i j)
def biA (c : Dev nD) : Fin 6144 → EReal := fun j => (W0 m ρ c (Proc.devRef .tc main_arg4) : FVec Ideal S1x6144 .f32) (ix2 0 j)
def wA (c : Dev nD) : Fin 1024 → Fin 4256 → EReal := fun i j => (W0 m ρ c (Proc.devRef .tc main_arg6) : FVec Ideal S1x1024x4256 .f32) (ix3 0 i j)
def gqA (c : Dev nD) : Fin 384 → EReal := fun j => (W0 m ρ c (Proc.devRef .tc main_arg7) : FVec Ideal S1x384 .f32) (ix2 0 j)
def gkA (c : Dev nD) : Fin 256 → EReal := fun j => (W0 m ρ c (Proc.devRef .tc main_arg8) : FVec Ideal S1x256 .f32) (ix2 0 j)

/-- The token's projected row. -/
def zK (c : Dev nD) (b : Fin 32) (t : Fin 2048) : Fin 4256 → EReal := zRow (xA m ρ c b t) (gA m ρ c) (cA m ρ c b) (waA m ρ c) (biA m ρ c) (wA m ρ c)

theorem mod_read (c : Dev nD) (b : Fin 32) (n : Fin 6144) :
    (W2 m ρ c (Proc.devRef .tc main_v25) : FVec Ideal S160x6144 .f32) (ix2 ⟨b.val, by omega⟩ n) = modRow (cA m ρ c b) (waA m ρ c) (biA m ρ c) n := by
  refine (congrFun (W2_arr m ρ c 3) (ix2 ⟨b.val, by omega⟩ n)).trans ((ada_array (V1 m ρ) c ⟨b.val, by omega⟩ n).trans ?_)
  unfold adaRow
  exact modRow_congr (fun j => read_cd (W0 m ρ c) b j) (fun i j => read_wa (W0 m ρ c) i j) (fun j => read_bi (W0 m ρ c) j) n

/-- An array the first stretch leaves is what the second call finds. -/
theorem V3_of (c : Dev nD) (r : Ref sig .tc) (h1 : r ∉ hostOps1_W) (h0 : ∀ w, Pipeline.arrRef spec0 w ≠ r) :
    V3 m ρ c r = after hostOps0 (W0 m ρ c) (Proc.devRef .tc r) := (W3_of m ρ c r h1).trans (W2_of_ne m ρ c r h0)

theorem hid_read (c : Dev nD) (b : Fin 32) (t : Fin 2048) :
    hidV (V3 m ρ) c b t = normRow (xA m ρ c b t) (gA m ρ c) (fun j => modRow (cA m ρ c b) (waA m ρ c) (biA m ρ c) ⟨1024 + j.val, by omega⟩)
      (fun j => modRow (cA m ρ c b) (waA m ρ c) (biA m ρ c) ⟨j.val, by omega⟩) := by
  unfold hidV hid
  have e0 : (fun j => (V3 m ρ c main_arg0 : Vec Ideal S32x2048x1024 .f32) (ix3 b t j)) = xA m ρ c b t :=
    funext fun j => congrFun (W3_args m ρ c main_arg0 (by simp [argRefs])) (ix3 b t j)
  have e1 : (fun j => (V3 m ρ c main_v17 : Vec Ideal S1x1024 .f32) (ix2 0 j)) = gA m ρ c :=
    funext fun j => (congrFun (V3_of m ρ c main_v17 (by decide) (by decide)) (ix2 0 j)).trans (read_gm (W0 m ρ c) j)
  have e2 : (fun j => (V3 m ρ c main_v34 : Vec Ideal S32x1x1024 .f32) (ix3 b 0 j)) = fun j => modRow (cA m ρ c b) (waA m ρ c) (biA m ρ c) ⟨1024 + j.val, by omega⟩ :=
    funext fun j => (read_sc (W2 m ρ c) b j).trans (mod_read m ρ c b _)
  have e3 : (fun j => (V3 m ρ c main_v33 : Vec Ideal S32x1x1024 .f32) (ix3 b 0 j)) = fun j => modRow (cA m ρ c b) (waA m ρ c) (biA m ρ c) ⟨j.val, by omega⟩ :=
    funext fun j => (read_sh (W2 m ρ c) b j).trans (mod_read m ρ c b _)
  rw [e0, e1, e2, e3]

theorem v13_read (c : Dev nD) (i : Fin 1024) (n : Fin 4352) :
    (V3 m ρ c main_v13 : Vec Ideal S1024x4352 .bf16) (ix2 i n) = kW (W0 m ρ c (Proc.devRef .tc main_arg6)) (ix2 i n) :=
  congrFun ((V3_of m ρ c main_v13 (by decide) (by decide)).trans (host_w (W0 m ρ c))) (ix2 i n)

/-- The projection onto the regrouped columns, at a column that is one of the argument's. -/
theorem proj_read (c : Dev nD) (b : Fin 32) (t : Fin 2048) (o n : Nat) (ho : o + n ≤ 4352) (e : Fin n) (d : Fin 4256)
    (h : ∀ i, kW (W0 m ρ c (Proc.devRef .tc main_arg6)) (ix2 i ⟨o + e.val, by omega⟩) = wA m ρ c i d) :
    projRow (hidV (V3 m ρ) c b t) (cols (V3 m ρ) c o n ho) e = zK m ρ c b t d := by
  unfold zK zRow
  rw [hid_read]
  unfold projRow
  refine Finset.sum_congr rfl fun i _ => congrArg _ ?_
  exact (v13_read m ρ c i _).trans (h i)

theorem k_qn (c : Dev nD) (b : Fin 32) (t : Fin 2048) (e : Fin 384) :
    row9 (V3 m ρ) c b t e = gainRow (Ideal.ofBits .f32 0x43C00000#32) (fun j => zK m ρ c b t ⟨0 + j.val, by omega⟩) (gqA m ρ c) e :=
  gainRow_congr _ (funext fun j => proj_read m ρ c b t 0 384 (by decide) j _ fun i => kW_q _ i j)
    (fun j => (congrFun (V3_of m ρ c main_v19 (by decide) (by decide)) (ix2 0 j)).trans (read_gq (W0 m ρ c) j)) e

theorem k_lat (c : Dev nD) (b : Fin 32) (t : Fin 2048) (e : Fin 256) :
    row10 (V3 m ρ) c b t e = gainRow (Ideal.ofBits .f32 0x43800000#32) (fun j => zK m ρ c b t ⟨384 + j.val, by omega⟩) (gkA m ρ c) e :=
  gainRow_congr _ (funext fun j => proj_read m ρ c b t 384 256 (by decide) j _ fun i => kW_kv _ i j)
    (fun j => (congrFun (V3_of m ρ c main_v21 (by decide) (by decide)) (ix2 0 j)).trans (read_gk (W0 m ρ c) j)) e

theorem k_v (c : Dev nD) (b : Fin 32) (t : Fin 2048) (e : Fin 512) : row14 (V3 m ρ) c b t e = zK m ρ c b t ⟨1696 + e.val, by omega⟩ :=
  proj_read m ρ c b t 1792 512 (by decide) e _ fun i => kW_mv _ i e

theorem k_gate (c : Dev nD) (b : Fin 32) (t : Fin 2048) (e : Fin 2048) : row15 (V3 m ρ) c b t e = Ideal.logistic (zK m ρ c b t ⟨2208 + e.val, by omega⟩) :=
  congrArg Ideal.logistic (proj_read m ρ c b t 2304 2048 (by decide) e _ fun i => kW_g _ i e)

/-- The cosines and sines of a place's turn. -/
def co (h : Nat) (k : EReal) (t : Nat) (j : Fin h) : EReal := Ideal.cos (angle k t j.val)
def si (h : Nat) (k : EReal) (t : Nat) (j : Fin h) : EReal := Ideal.sin (angle k t j.val)

theorem cos16 (t : Fin 2048) (j : Fin 16) : (Host.cos ang16 : FVec Ideal S2048x16 .f32) (ix2 t j) = co 16 (Ideal.ofBits .f32 0x41800000#32) t.val j :=
  congrArg Ideal.cos (ang16_apply t j)
theorem sin16 (t : Fin 2048) (j : Fin 16) : (Host.sin ang16 : FVec Ideal S2048x16 .f32) (ix2 t j) = si 16 (Ideal.ofBits .f32 0x41800000#32) t.val j :=
  congrArg Ideal.sin (ang16_apply t j)
theorem cos8 (t : Fin 2048) (j : Fin 8) : (Host.cos ang8 : FVec Ideal S2048x8 .f32) (ix2 t j) = co 8 (Ideal.ofBits .f32 0x41000000#32) t.val j :=
  congrArg Ideal.cos (ang8_apply t j)
theorem sin8 (t : Fin 2048) (j : Fin 8) : (Host.sin ang8 : FVec Ideal S2048x8 .f32) (ix2 t j) = si 8 (Ideal.ofBits .f32 0x41000000#32) t.val j :=
  congrArg Ideal.sin (ang8_apply t j)

theorem tq0 (c : Dev nD) (t : Fin 2048) (l : Fin 128) : tabq (V3 m ρ) c 0 t l = c16 (Host.cos ang16) (ix2 t l) :=
  (congrFun (host_tq (W2 m ρ c)) (ix3 0 t l)).trans ((tab3_0 _ _ _ t l).trans (up16_apply _ t l))
theorem tq1 (c : Dev nD) (t : Fin 2048) (l : Fin 128) : tabq (V3 m ρ) c 1 t l = a16 (Host.sin ang16) (ix2 t l) :=
  (congrFun (host_tq (W2 m ρ c)) (ix3 1 t l)).trans ((tab3_1 _ _ _ t l).trans (up16_apply _ t l))
theorem tq2 (c : Dev nD) (t : Fin 2048) (l : Fin 128) : tabq (V3 m ρ) c 2 t l = b16 (Host.sin ang16) (ix2 t l) :=
  (congrFun (host_tq (W2 m ρ c)) (ix3 2 t l)).trans ((tab3_2 _ _ _ t l).trans (up16_apply _ t l))
theorem tm0 (c : Dev nD) (t : Fin 2048) (l : Fin 128) : tabm (V3 m ρ) c 0 t l = c8 (Host.cos ang8) (ix2 t ⟨l.val % 64, Nat.mod_lt _ (by decide)⟩) :=
  (congrFun (host_tm (W2 m ρ c)) (ix3 0 t l)).trans ((tab3_0 _ _ _ t l).trans (up8_apply _ t l))
theorem tm1 (c : Dev nD) (t : Fin 2048) (l : Fin 128) : tabm (V3 m ρ) c 1 t l = a8 (Host.sin ang8) (ix2 t ⟨l.val % 64, Nat.mod_lt _ (by decide)⟩) :=
  (congrFun (host_tm (W2 m ρ c)) (ix3 1 t l)).trans ((tab3_1 _ _ _ t l).trans (up8_apply _ t l))
theorem tm2 (c : Dev nD) (t : Fin 2048) (l : Fin 128) : tabm (V3 m ρ) c 2 t l = b8 (Host.sin ang8) (ix2 t ⟨l.val % 64, Nat.mod_lt _ (by decide)⟩) :=
  (congrFun (host_tm (W2 m ρ c)) (ix3 2 t l)).trans ((tab3_2 _ _ _ t l).trans (up8_apply _ t l))

theorem turn_congr (h : Nat) {n : Nat} {z z' : Fin n → EReal} (hn : 2 * h ≤ n) (co si : Fin h → EReal) (hz : ∀ j, z j = z' j) (j : Fin n) :
    turn h z hn co si j = turn h z' hn co si j := by
  obtain rfl := funext hz
  rfl

theorem k_pe (c : Dev nD) (b : Fin 32) (t : Fin 2048) (j : Fin 32) :
    row11 (V3 m ρ) c b t ⟨64 + j.val, by omega⟩
      = turn 16 (fun j => zK m ρ c b t ⟨640 + j.val, by omega⟩) (by decide) (co 16 (Ideal.ofBits .f32 0x41800000#32) t.val) (si 16 (Ideal.ofBits .f32 0x41800000#32) t.val) j := by
  refine (lane_turn16 _ _ _ _ (co 16 (Ideal.ofBits .f32 0x41800000#32) t.val) (si 16 (Ideal.ofBits .f32 0x41800000#32) t.val)
    (fun j => (tq0 m ρ c t _).trans ((c16_lo _ t j).trans (cos16 t j))) (fun j => (tq0 m ρ c t _).trans ((c16_hi _ t j).trans (cos16 t j)))
    (fun j => (tq1 m ρ c t _).trans ((a16_lo _ t j).trans (congrArg Neg.neg (sin16 t j)))) (fun j => (tq1 m ρ c t _).trans (a16_hi _ t j))
    (fun j => (tq2 m ρ c t _).trans (b16_lo _ t j)) (fun j => (tq2 m ρ c t _).trans ((b16_hi _ t j).trans (sin16 t j))) j).trans ?_
  exact turn_congr 16 _ _ _ (fun j => proj_read m ρ c b t 640 128 (by decide) ⟨64 + j.val, by omega⟩ _ fun i => kW_pe _ i j) j

/-- The turn of a row of eight heads, one head's lane at a time. -/
theorem wide_turn (c : Dev nD) (t : Fin 2048) (z : Fin 512 → EReal) (u : Fin 8) (j : Fin 64) :
    wideRow z (tabm (V3 m ρ) c 0 t) (tabm (V3 m ρ) c 1 t) (tabm (V3 m ρ) c 2 t) ⟨u.val * 64 + j.val, by omega⟩
      = turn 8 (fun j : Fin 64 => z ⟨u.val * 64 + j.val, by omega⟩) (by decide) (co 8 (Ideal.ofBits .f32 0x41000000#32) t.val) (si 8 (Ideal.ofBits .f32 0x41000000#32) t.val) j := by
  rw [show tabm (V3 m ρ) c 0 t = fun l => c8 (Host.cos ang8) (ix2 t ⟨l.val % 64, Nat.mod_lt _ (by decide)⟩) from funext (tm0 m ρ c t),
    show tabm (V3 m ρ) c 1 t = fun l => a8 (Host.sin ang8) (ix2 t ⟨l.val % 64, Nat.mod_lt _ (by decide)⟩) from funext (tm1 m ρ c t),
    show tabm (V3 m ρ) c 2 t = fun l => b8 (Host.sin ang8) (ix2 t ⟨l.val % 64, Nat.mod_lt _ (by decide)⟩) from funext (tm2 m ρ c t)]
  unfold wideRow
  have hp : (u.val * 64 + j.val) / 128 = u.val / 2 := by omega
  have e : (⟨(u.val * 64 + j.val) % 128, Nat.mod_lt _ (by decide)⟩ : Fin 128) = ⟨64 * (⟨u.val % 2, Nat.mod_lt _ (by decide)⟩ : Fin 2).val + j.val, by
      show 64 * (u.val % 2) + j.val < 128; omega⟩ := Fin.ext (by show (u.val * 64 + j.val) % 128 = 64 * (u.val % 2) + j.val; omega)
  rw [e]
  refine (lane_turn8 _ (fun l => c8 (Host.cos ang8) (ix2 t l)) (fun l => a8 (Host.sin ang8) (ix2 t l)) (fun l => b8 (Host.sin ang8) (ix2 t l))
    (co 8 (Ideal.ofBits .f32 0x41000000#32) t.val) (si 8 (Ideal.ofBits .f32 0x41000000#32) t.val)
    (fun j => (c8_lo _ t j).trans (cos8 t j)) (fun j => (c8_hi _ t j).trans (cos8 t j)) (fun j => c8_up _ t j)
    (fun j => (a8_lo _ t j).trans (congrArg Neg.neg (sin8 t j))) (fun j => a8_up _ t j)
    (fun j => b8_lo _ t j) (fun j => (b8_hi _ t j).trans (sin8 t j)) (fun j => b8_up _ t j) ⟨u.val % 2, Nat.mod_lt _ (by decide)⟩ j).trans ?_
  refine turn_congr 8 _ _ _ (fun j => congrArg z (Fin.ext ?_)) j
  show 128 * ((u.val * 64 + _) / 128) + (64 * (u.val % 2) + j.val) = u.val * 64 + j.val
  omega

theorem k_mq (c : Dev nD) (b : Fin 32) (t : Fin 2048) (u : Fin 8) (j : Fin 64) :
    row12 (V3 m ρ) c b t ⟨u.val * 64 + j.val, by omega⟩
      = turn 8 (fun j : Fin 64 => zK m ρ c b t ⟨672 + (u.val * 64 + j.val), by omega⟩) (by decide) (co 8 (Ideal.ofBits .f32 0x41000000#32) t.val) (si 8 (Ideal.ofBits .f32 0x41000000#32) t.val) j :=
  (wide_turn m ρ c t _ u j).trans (turn_congr 8 _ _ _ (fun j => proj_read m ρ c b t 768 512 (by decide) ⟨u.val * 64 + j.val, by omega⟩ _ fun i => kW_mq _ i ⟨u.val * 64 + j.val, by omega⟩) j)

theorem k_mk (c : Dev nD) (b : Fin 32) (t : Fin 2048) (u : Fin 8) (j : Fin 64) :
    row13 (V3 m ρ) c b t ⟨u.val * 64 + j.val, by omega⟩
      = turn 8 (fun j : Fin 64 => zK m ρ c b t ⟨1184 + (u.val * 64 + j.val), by omega⟩) (by decide) (co 8 (Ideal.ofBits .f32 0x41000000#32) t.val) (si 8 (Ideal.ofBits .f32 0x41000000#32) t.val) j :=
  (wide_turn m ρ c t _ u j).trans (turn_congr 8 _ _ _ (fun j => proj_read m ρ c b t 1280 512 (by decide) ⟨u.val * 64 + j.val, by omega⟩ _ fun i => kW_mk _ i ⟨u.val * 64 + j.val, by omega⟩) j)

end Cert.StatesIdeal.Run

end
-- ==== Proof.StatesRun.lean ====
module

public import proofs.«01_k».proof.Proof.Gen.StatesIdeal.Frame
public import proofs.«01_k».proof.Proof.States

/-! The run of the state projection, with every array of the core at the end. -/

@[expose] public section

set_option maxRecDepth 16384

noncomputable section

namespace Cert.StatesIdeal.Run

open Cert.StatesIdeal Cert.StatesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the core's arrays at the last boundary's contents and the counters at zero. -/
theorem ends : θ_run (defs (F := Ideal)) (onTc (τ := τ) (main (F := Ideal))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

end Cert.StatesIdeal.Run

end
-- ==== Proof.StatesClaim.lean ====
module

public import proofs.«01_k».proof.Defs
public import proofs.«01_k».proof.Proof.Gen.StatesReferenceIdeal
public import proofs.«01_k».proof.Proof.StatesRef
public import proofs.«01_k».proof.Proof.StatesRows
public import proofs.«01_k».proof.Proof.StatesRun
public import Idealize.ShloMosaic.Lib.Claim
public import Idealize.ShloMosaic.Adequacy
public import Idealize.ShloMosaic.Init

/-! The claims of the projection that makes the new states. -/

@[expose] public section

set_option maxRecDepth 16384

noncomputable section

namespace Cert.StatesIdeal.Run

open Idealize.ShloMosaic Idealize.ShloMosaic.TcCoe Idealize.ShloMosaic.StableHlo Idealize.SL.Sem
open Cert.StatesIdeal Cert.StatesIdeal.Gen

/-! The results, read off the last boundary's contents. -/

section
variable (W : Valuation τ sig (Elt Ideal))

theorem fin_lat : after hostOps2 W (Proc.devRef .tc main_v115) = (shapeCast S1x32x2048x256 (W (Proc.devRef .tc main_v114_1) : FVec Ideal S32x2048x256 .f32) shapeCasts_S32x2048x256_S1x32x2048x256 : FVec Ideal S1x32x2048x256 .f32) := by
  after_results_entrywise []

theorem fin_pe : after hostOps2 W (Proc.devRef .tc main_v117) = (shapeCast S1x32x2048x32 (extractStridedSlice S32x2048x32 ![0, 0, 64] (W (Proc.devRef .tc main_v114_2) : FVec Ideal S32x2048x128 .f32) slices_S32x2048x128_S32x2048x32_0_0_64) shapeCasts_S32x2048x32_S1x32x2048x32 : FVec Ideal S1x32x2048x32 .f32) := by
  after_results_entrywise []

theorem fin_k : after hostOps2 W (Proc.devRef .tc main_v118) = (shapeCast S1x32x2048x8x64 (W (Proc.devRef .tc main_v114_4) : FVec Ideal S32x2048x512 .f32) shapeCasts_S32x2048x512_S1x32x2048x8x64 : FVec Ideal S1x32x2048x8x64 .f32) := by
  after_results_entrywise []

theorem fin_v : after hostOps2 W (Proc.devRef .tc main_v119) = (shapeCast S1x32x2048x8x64 (W (Proc.devRef .tc main_v114_5) : FVec Ideal S32x2048x512 .f32) shapeCasts_S32x2048x512_S1x32x2048x8x64 : FVec Ideal S1x32x2048x8x64 .f32) := by
  after_results_entrywise []
end

theorem cast_lat (x : FVec Ideal S32x2048x256 .f32) (b : Fin 32) (t : Fin 2048) (e : Fin 256) :
    shapeCast S1x32x2048x256 x shapeCasts_S32x2048x256_S1x32x2048x256 (ix4 0 b t e) = x (ix3 b t e) := by pointwise
theorem cast_pe (x : FVec Ideal S32x2048x128 .f32) (b : Fin 32) (t : Fin 2048) (e : Fin 32) :
    shapeCast S1x32x2048x32 (extractStridedSlice S32x2048x32 ![0, 0, 64] x slices_S32x2048x128_S32x2048x32_0_0_64) shapeCasts_S32x2048x32_S1x32x2048x32 (ix4 0 b t e) = x (ix3 b t ⟨64 + e.val, by omega⟩) := by pointwise
theorem cast_h (x : FVec Ideal S32x2048x512 .f32) (b : Fin 32) (t : Fin 2048) (u : Fin 8) (j : Fin 64) :
    shapeCast S1x32x2048x8x64 x shapeCasts_S32x2048x512_S1x32x2048x8x64 (ix5 0 b t u j) = x (ix3 b t ⟨u.val * 64 + j.val, by omega⟩) := by pointwise

section
variable (m : (ℓ : Loc nD τ sig) → Buf (Elt Ideal) ℓ) (ρ : Dev nD → PrngReg)

theorem end_lat (c : Dev nD) (b : Fin 32) (t : Fin 2048) (e : Fin 256) : (W5 m ρ c (Proc.devRef .tc main_v115) : FVec Ideal S1x32x2048x256 .f32) (ix4 0 b t e) = row10 (V3 m ρ) c b t e :=
  (congrFun (fin_lat (W4 m ρ c)) (ix4 0 b t e)).trans ((cast_lat _ b t e).trans ((congrFun (W4_arr m ρ c 10) (ix3 b t e)).trans (array10 (V3 m ρ) c b t e)))

theorem end_pe (c : Dev nD) (b : Fin 32) (t : Fin 2048) (e : Fin 32) : (W5 m ρ c (Proc.devRef .tc main_v117) : FVec Ideal S1x32x2048x32 .f32) (ix4 0 b t e) = row11 (V3 m ρ) c b t ⟨64 + e.val, by omega⟩ :=
  (congrFun (fin_pe (W4 m ρ c)) (ix4 0 b t e)).trans ((cast_pe _ b t e).trans ((congrFun (W4_arr m ρ c 11) (ix3 b t _)).trans (array11 (V3 m ρ) c b t _)))

theorem end_k (c : Dev nD) (b : Fin 32) (t : Fin 2048) (u : Fin 8) (j : Fin 64) : (W5 m ρ c (Proc.devRef .tc main_v118) : FVec Ideal S1x32x2048x8x64 .f32) (ix5 0 b t u j) = row13 (V3 m ρ) c b t ⟨u.val * 64 + j.val, by omega⟩ :=
  (congrFun (fin_k (W4 m ρ c)) (ix5 0 b t u j)).trans ((cast_h _ b t u j).trans ((congrFun (W4_arr m ρ c 13) (ix3 b t _)).trans (array13 (V3 m ρ) c b t _)))

theorem end_v (c : Dev nD) (b : Fin 32) (t : Fin 2048) (u : Fin 8) (j : Fin 64) : (W5 m ρ c (Proc.devRef .tc main_v119) : FVec Ideal S1x32x2048x8x64 .f32) (ix5 0 b t u j) = row14 (V3 m ρ) c b t ⟨u.val * 64 + j.val, by omega⟩ :=
  (congrFun (fin_v (W4 m ρ c)) (ix5 0 b t u j)).trans ((cast_h _ b t u j).trans ((congrFun (W4_arr m ρ c 14) (ix3 b t _)).trans (array14 (V3 m ρ) c b t _)))

theorem end_qn (c : Dev nD) (b : Fin 32) (t : Fin 2048) (e : Fin 384) : (W5 m ρ c (Proc.devRef .tc main_v114_0) : FVec Ideal S32x2048x384 .bf16) (ix3 b t e) = row9 (V3 m ρ) c b t e :=
  (congrFun ((W5_of m ρ c main_v114_0 (by decide)).trans (W4_arr m ρ c 9)) (ix3 b t e)).trans (array9 (V3 m ρ) c b t e)

theorem end_mq (c : Dev nD) (b : Fin 32) (t : Fin 2048) (e : Fin 512) : (W5 m ρ c (Proc.devRef .tc main_v114_3) : FVec Ideal S32x2048x512 .bf16) (ix3 b t e) = row12 (V3 m ρ) c b t e :=
  (congrFun ((W5_of m ρ c main_v114_3 (by decide)).trans (W4_arr m ρ c 12)) (ix3 b t e)).trans (array12 (V3 m ρ) c b t e)

theorem end_gate (c : Dev nD) (b : Fin 32) (t : Fin 2048) (e : Fin 2048) : (W5 m ρ c (Proc.devRef .tc main_v114_6) : FVec Ideal S32x2048x2048 .bf16) (ix3 b t e) = row15 (V3 m ρ) c b t e :=
  (congrFun ((W5_of m ρ c main_v114_6 (by decide)).trans (W4_arr m ρ c 15)) (ix3 b t e)).trans (array15 (V3 m ρ) c b t e)

theorem end_mean (c : Dev nD) (b : Fin 32) (q : Fin 8) (e : Fin 512) : (W5 m ρ c (Proc.devRef .tc main_v114_7) : FVec Ideal S32x8x1x512 .f32) (ix4 b q 0 e) = row16 (V3 m ρ) c b q e :=
  (congrFun ((W5_of m ρ c main_v114_7 (by decide)).trans (W4_arr m ρ c 16)) (ix4 b q 0 e)).trans (array16 (V3 m ρ) c b q e)
end

/-! An index is its coordinates. -/

theorem idx_lead3 {a b d : ℕ} (i : (⟨4, ![1, a, b, d]⟩ : Shape).Idx) : i = ix4 0 (i 1) (i 2) (i 3) := by
  funext k
  match k with
  | ⟨0, _⟩ => exact Subsingleton.elim (α := Fin 1) _ _
  | ⟨1, _⟩ => rfl
  | ⟨2, _⟩ => rfl
  | ⟨3, _⟩ => rfl

theorem idx_lead4 {a b d e : ℕ} (i : (⟨5, ![1, a, b, d, e]⟩ : Shape).Idx) : i = ix5 0 (i 1) (i 2) (i 3) (i 4) := by
  funext k
  match k with
  | ⟨0, _⟩ => exact Subsingleton.elim (α := Fin 1) _ _
  | ⟨1, _⟩ => rfl
  | ⟨2, _⟩ => rfl
  | ⟨3, _⟩ => rfl
  | ⟨4, _⟩ => rfl

theorem idx_mid {a b d : ℕ} (i : (⟨4, ![a, b, 1, d]⟩ : Shape).Idx) : i = ix4 (i 0) (i 1) 0 (i 3) := by
  funext k
  match k with
  | ⟨0, _⟩ => rfl
  | ⟨1, _⟩ => rfl
  | ⟨2, _⟩ => exact Subsingleton.elim (α := Fin 1) _ _
  | ⟨3, _⟩ => rfl

theorem idx_three {a b c : ℕ} (i : (⟨3, ![a, b, c]⟩ : Shape).Idx) : i = ix3 (i 0) (i 1) (i 2) := by
  funext k
  match k with
  | ⟨0, _⟩ => rfl
  | ⟨1, _⟩ => rfl
  | ⟨2, _⟩ => rfl

/-- The reference's run keeps its arguments and leaves every semaphore at zero. -/
theorem frame_reference : Cert.quiescent_StatesReferenceIdeal := fun m g _ =>
  (θ_run _ _ _).mono (fun r h => ⟨fun c => (h c).2.2.2.2.2.2.2.2, sem_eq_zero_of_no_sems (by decide) r.2⟩)
    (Cert.StatesReferenceIdeal.Value.run m g)

section
variable (m : (ℓ : Loc nD τ sig) → Buf (Elt Ideal) ℓ) (ρ : Dev nD → PrngReg)
  (V0 : Valuation Cert.StatesReferenceIdeal.τ Cert.StatesReferenceIdeal.sig (Elt Ideal)) (c : Dev nD)

open Cert.StatesReferenceIdeal.Run in
/-- The reference's heads' turned keys, flat, are the kernel's row. -/
theorem flat_k (hz : ∀ b t, zA V0 b t = zK m ρ c b t) (b : Fin 32) (t : Fin 2048) (e : Fin 512) :
    (refRotY (Cert.StatesReferenceIdeal.Value.res_main_v126 V0)) (ix4 b t ⟨e.val / 64, by omega⟩ ⟨e.val % 64, Nat.mod_lt _ (by decide)⟩) = row13 (V3 m ρ) c b t e := by
  have he : e = ⟨(⟨e.val / 64, by omega⟩ : Fin 8).val * 64 + (⟨e.val % 64, Nat.mod_lt _ (by decide)⟩ : Fin 64).val, by
      show e.val / 64 * 64 + e.val % 64 < 512; omega⟩ := Fin.ext (by show e.val = e.val / 64 * 64 + e.val % 64; omega)
  refine (r_mk V0 b t ⟨e.val / 64, by omega⟩ ⟨e.val % 64, Nat.mod_lt _ (by decide)⟩).trans (Eq.trans ?_ (congrArg (row13 (V3 m ρ) c b t) he).symm)
  rw [hz]
  exact (k_mk m ρ c b t ⟨e.val / 64, by omega⟩ ⟨e.val % 64, Nat.mod_lt _ (by decide)⟩).symm

open Cert.StatesReferenceIdeal.Run in
theorem flat_q (hz : ∀ b t, zA V0 b t = zK m ρ c b t) (b : Fin 32) (t : Fin 2048) (e : Fin 512) :
    (refRotY (Cert.StatesReferenceIdeal.Value.res_main_v91 V0)) (ix4 b t ⟨e.val / 64, by omega⟩ ⟨e.val % 64, Nat.mod_lt _ (by decide)⟩) = row12 (V3 m ρ) c b t e := by
  have he : e = ⟨(⟨e.val / 64, by omega⟩ : Fin 8).val * 64 + (⟨e.val % 64, Nat.mod_lt _ (by decide)⟩ : Fin 64).val, by
      show e.val / 64 * 64 + e.val % 64 < 512; omega⟩ := Fin.ext (by show e.val = e.val / 64 * 64 + e.val % 64; omega)
  refine (r_mq V0 b t ⟨e.val / 64, by omega⟩ ⟨e.val % 64, Nat.mod_lt _ (by decide)⟩).trans (Eq.trans ?_ (congrArg (row12 (V3 m ρ) c b t) he).symm)
  rw [hz]
  exact (k_mq m ρ c b t ⟨e.val / 64, by omega⟩ ⟨e.val % 64, Nat.mod_lt _ (by decide)⟩).symm
theorem eq_lat (hz : ∀ b t, Cert.StatesReferenceIdeal.Run.zA V0 b t = zK m ρ c b t) (e8 : ∀ j, (V0 (Proc.devRef .tc Cert.StatesReferenceIdeal.main_arg8) : FVec Ideal S1x256 .f32) (ix2 0 j) = gkA m ρ c j) (b : Fin 32) (t : Fin 2048) (e : Fin 256) :
    Cert.StatesReferenceIdeal.Run.refLat (Cert.StatesReferenceIdeal.Value.res_main_v34 V0) (V0 (Proc.devRef .tc Cert.StatesReferenceIdeal.main_arg8)) (ix4 0 b t e) = (W5 m ρ c (Proc.devRef .tc main_v115) : FVec Ideal S1x32x2048x256 .f32) (ix4 0 b t e) := by
  refine (Cert.StatesReferenceIdeal.Run.r_lat V0 b t e).trans (Eq.trans ?_ ((end_lat m ρ c b t e).trans (k_lat m ρ c b t e)).symm)
  rw [hz]
  exact gainRow_congr _ rfl e8 _

theorem eq_pe (hz : ∀ b t, Cert.StatesReferenceIdeal.Run.zA V0 b t = zK m ρ c b t)  (b : Fin 32) (t : Fin 2048) (e : Fin 32) :
    Cert.StatesReferenceIdeal.Run.refKpeY (Cert.StatesReferenceIdeal.Value.res_main_v55 V0) (ix4 0 b t e) = (W5 m ρ c (Proc.devRef .tc main_v117) : FVec Ideal S1x32x2048x32 .f32) (ix4 0 b t e) := by
  refine (Cert.StatesReferenceIdeal.Run.r_pe V0 b t e).trans (Eq.trans ?_ ((end_pe m ρ c b t e).trans (k_pe m ρ c b t e)).symm)
  rw [hz]
  rfl

theorem eq_k (hz : ∀ b t, Cert.StatesReferenceIdeal.Run.zA V0 b t = zK m ρ c b t)  (b : Fin 32) (t : Fin 2048) (u : Fin 8) (j : Fin 64) :
    Cert.StatesReferenceIdeal.Run.refLead (Cert.StatesReferenceIdeal.Run.refRotY (Cert.StatesReferenceIdeal.Value.res_main_v126 V0)) (ix5 0 b t u j) = (W5 m ρ c (Proc.devRef .tc main_v118) : FVec Ideal S1x32x2048x8x64 .f32) (ix5 0 b t u j) := by
  refine (Cert.StatesReferenceIdeal.Run.refLead_apply _ _ _ _ _).trans ((Cert.StatesReferenceIdeal.Run.r_mk V0 b t u j).trans (Eq.trans ?_ ((end_k m ρ c b t u j).trans (k_mk m ρ c b t u j)).symm))
  rw [hz]
  rfl

theorem eq_v (hz : ∀ b t, Cert.StatesReferenceIdeal.Run.zA V0 b t = zK m ρ c b t)  (b : Fin 32) (t : Fin 2048) (u : Fin 8) (j : Fin 64) :
    Cert.StatesReferenceIdeal.Run.refV (Cert.StatesReferenceIdeal.Value.res_main_v32 V0) (ix5 0 b t u j) = (W5 m ρ c (Proc.devRef .tc main_v119) : FVec Ideal S1x32x2048x8x64 .f32) (ix5 0 b t u j) := by
  refine (Cert.StatesReferenceIdeal.Run.r_v V0 b t u j).trans (Eq.trans ?_ ((end_v m ρ c b t u j).trans (k_v m ρ c b t _)).symm)
  rw [hz]

theorem eq_qn (hz : ∀ b t, Cert.StatesReferenceIdeal.Run.zA V0 b t = zK m ρ c b t) (e7 : ∀ j, (V0 (Proc.devRef .tc Cert.StatesReferenceIdeal.main_arg7) : FVec Ideal S1x384 .f32) (ix2 0 j) = gqA m ρ c j) (b : Fin 32) (t : Fin 2048) (e : Fin 384) :
    Cert.StatesReferenceIdeal.Run.refQn (Cert.StatesReferenceIdeal.Value.res_main_v33 V0) (V0 (Proc.devRef .tc Cert.StatesReferenceIdeal.main_arg7)) (ix3 b t e) = (W5 m ρ c (Proc.devRef .tc main_v114_0) : FVec Ideal S32x2048x384 .bf16) (ix3 b t e) := by
  refine (Cert.StatesReferenceIdeal.Run.r_qn V0 b t e).trans (Eq.trans ?_ ((end_qn m ρ c b t e).trans (k_qn m ρ c b t e)).symm)
  rw [hz]
  exact gainRow_congr _ (funext fun j => congrArg (zK m ρ c b t) (Fin.ext (Nat.zero_add _).symm)) e7 _

theorem eq_mq (hz : ∀ b t, Cert.StatesReferenceIdeal.Run.zA V0 b t = zK m ρ c b t)  (b : Fin 32) (t : Fin 2048) (e : Fin 512) :
    Cert.StatesReferenceIdeal.Run.refFlat (Cert.StatesReferenceIdeal.Run.refRotY (Cert.StatesReferenceIdeal.Value.res_main_v91 V0)) (ix3 b t e) = (W5 m ρ c (Proc.devRef .tc main_v114_3) : FVec Ideal S32x2048x512 .bf16) (ix3 b t e) := by
  exact (Cert.StatesReferenceIdeal.Run.refFlat_apply _ _ _ _).trans ((flat_q m ρ V0 c hz b t e).trans (end_mq m ρ c b t e).symm)

theorem eq_gate (hz : ∀ b t, Cert.StatesReferenceIdeal.Run.zA V0 b t = zK m ρ c b t)  (b : Fin 32) (t : Fin 2048) (e : Fin 2048) :
    Cert.StatesReferenceIdeal.Run.refGate (Cert.StatesReferenceIdeal.Value.res_main_v32 V0) (ix3 b t e) = (W5 m ρ c (Proc.devRef .tc main_v114_6) : FVec Ideal S32x2048x2048 .bf16) (ix3 b t e) := by
  refine (Cert.StatesReferenceIdeal.Run.r_gate V0 b t e).trans (Eq.trans ?_ ((end_gate m ρ c b t e).trans (k_gate m ρ c b t e)).symm)
  rw [hz]

theorem eq_mean (hz : ∀ b t, Cert.StatesReferenceIdeal.Run.zA V0 b t = zK m ρ c b t)  (b : Fin 32) (q : Fin 8) (e : Fin 512) :
    Cert.StatesReferenceIdeal.Run.refMean (Cert.StatesReferenceIdeal.Run.refRotY (Cert.StatesReferenceIdeal.Value.res_main_v126 V0)) (ix4 b q 0 e) = (W5 m ρ c (Proc.devRef .tc main_v114_7) : FVec Ideal S32x8x1x512 .f32) (ix4 b q 0 e) := by
  refine (Cert.StatesReferenceIdeal.Run.refMean_apply _ _ _ _).trans (Eq.trans ?_ (end_mean m ρ c b q e).symm)
  unfold row16
  refine congrArg (fun s => Ideal.div s (Ideal.ofBits .f32 0x43800000#32)) (Finset.sum_congr rfl fun r _ => ?_)
  refine (flat_k m ρ V0 c hz b _ e).trans ?_
  exact congrArg (fun t => row13 (V3 m ρ) c b t e) (Fin.ext (congrArg (· + r.val) (Nat.mul_comm _ 256)))

end

/-- Where the arguments agree, so do the projected rows. -/
theorem same_z (m : (ℓ : Loc nD τ sig) → Buf (Elt Ideal) ℓ) (g : Dev nD → PrngReg)
    (m' : (ℓ : Loc Cert.StatesReferenceIdeal.nD Cert.StatesReferenceIdeal.τ Cert.StatesReferenceIdeal.sig) → Buf (Elt Ideal) ℓ) (c : Dev nD)
    (e0 : m' ((c.tc : Thread Cert.StatesReferenceIdeal.nD Cert.StatesReferenceIdeal.τ).loc Cert.StatesReferenceIdeal.main_arg0) = m ((c.tc : Thread nD τ).loc main_arg0))
    (e1 : m' ((c.tc : Thread Cert.StatesReferenceIdeal.nD Cert.StatesReferenceIdeal.τ).loc Cert.StatesReferenceIdeal.main_arg1) = m ((c.tc : Thread nD τ).loc main_arg1))
    (e3 : m' ((c.tc : Thread Cert.StatesReferenceIdeal.nD Cert.StatesReferenceIdeal.τ).loc Cert.StatesReferenceIdeal.main_arg3) = m ((c.tc : Thread nD τ).loc main_arg3))
    (e4 : m' ((c.tc : Thread Cert.StatesReferenceIdeal.nD Cert.StatesReferenceIdeal.τ).loc Cert.StatesReferenceIdeal.main_arg4) = m ((c.tc : Thread nD τ).loc main_arg4))
    (e5 : m' ((c.tc : Thread Cert.StatesReferenceIdeal.nD Cert.StatesReferenceIdeal.τ).loc Cert.StatesReferenceIdeal.main_arg5) = m ((c.tc : Thread nD τ).loc main_arg5))
    (e6 : m' ((c.tc : Thread Cert.StatesReferenceIdeal.nD Cert.StatesReferenceIdeal.τ).loc Cert.StatesReferenceIdeal.main_arg6) = m ((c.tc : Thread nD τ).loc main_arg6)) (b : Fin 32) (t : Fin 2048) :
    Cert.StatesReferenceIdeal.Run.zA (StableHlo.launchContents m' c) b t = zK m g c b t := by
  unfold Cert.StatesReferenceIdeal.Run.zA zK
  show zRow (fun j => (m' ((c.tc : Thread Cert.StatesReferenceIdeal.nD Cert.StatesReferenceIdeal.τ).loc Cert.StatesReferenceIdeal.main_arg0) : FVec Ideal S32x2048x1024 .f32) (ix3 b t j))
    (fun j => (m' ((c.tc : Thread Cert.StatesReferenceIdeal.nD Cert.StatesReferenceIdeal.τ).loc Cert.StatesReferenceIdeal.main_arg5) : FVec Ideal S1x1024 .f32) (ix2 0 j))
    (fun j => (m' ((c.tc : Thread Cert.StatesReferenceIdeal.nD Cert.StatesReferenceIdeal.τ).loc Cert.StatesReferenceIdeal.main_arg1) : FVec Ideal S32x1024 .f32) (ix2 b j))
    (fun i j => (m' ((c.tc : Thread Cert.StatesReferenceIdeal.nD Cert.StatesReferenceIdeal.τ).loc Cert.StatesReferenceIdeal.main_arg3) : FVec Ideal S1x1024x6144 .f32) (ix3 0 i j))
    (fun j => (m' ((c.tc : Thread Cert.StatesReferenceIdeal.nD Cert.StatesReferenceIdeal.τ).loc Cert.StatesReferenceIdeal.main_arg4) : FVec Ideal S1x6144 .f32) (ix2 0 j))
    (fun i j => (m' ((c.tc : Thread Cert.StatesReferenceIdeal.nD Cert.StatesReferenceIdeal.τ).loc Cert.StatesReferenceIdeal.main_arg6) : FVec Ideal S1x1024x4256 .f32) (ix3 0 i j)) = _
  rw [e0, e1, e3, e4, e5, e6]
  rfl

/-- The two programs' eight results are equal. -/
theorem equal_results : Cert.algebraic_StatesIdeal_StatesReferenceIdeal := by
  intro m g m' g' _ hag
  refine ⟨fun c => W5 m g c (Proc.devRef .tc main_v115), fun c => W5 m g c (Proc.devRef .tc main_v117), fun c => W5 m g c (Proc.devRef .tc main_v118),
    fun c => W5 m g c (Proc.devRef .tc main_v119), fun c => W5 m g c (Proc.devRef .tc main_v114_0), fun c => W5 m g c (Proc.devRef .tc main_v114_3),
    fun c => W5 m g c (Proc.devRef .tc main_v114_6), fun c => W5 m g c (Proc.devRef .tc main_v114_7),
    (θ_run _ _ _).mono (fun _ h c => ⟨h.1 c _ (mem_uc main_v115 (by decide)), h.1 c _ (mem_uc main_v117 (by decide)), h.1 c _ (mem_uc main_v118 (by decide)),
      h.1 c _ (mem_uc main_v119 (by decide)), h.1 c _ (mem_uc main_v114_0 (by decide)), h.1 c _ (mem_uc main_v114_3 (by decide)),
      h.1 c _ (mem_uc main_v114_6 (by decide)), h.1 c _ (mem_uc main_v114_7 (by decide)),
      (h.1 c _ (mem_uc main_arg0 (by decide))).trans (W5_main_arg0 m g c), (h.1 c _ (mem_uc main_arg1 (by decide))).trans (W5_main_arg1 m g c),
      (h.1 c _ (mem_uc main_arg2 (by decide))).trans (W5_main_arg2 m g c), (h.1 c _ (mem_uc main_arg3 (by decide))).trans (W5_main_arg3 m g c),
      (h.1 c _ (mem_uc main_arg4 (by decide))).trans (W5_main_arg4 m g c), (h.1 c _ (mem_uc main_arg5 (by decide))).trans (W5_main_arg5 m g c),
      (h.1 c _ (mem_uc main_arg6 (by decide))).trans (W5_main_arg6 m g c), (h.1 c _ (mem_uc main_arg7 (by decide))).trans (W5_main_arg7 m g c),
      (h.1 c _ (mem_uc main_arg8 (by decide))).trans (W5_main_arg8 m g c)⟩) (ends m g),
    (θ_run _ _ _).mono (fun _ h c => ⟨((h c).1).trans ?_, ((h c).2.1).trans ?_, ((h c).2.2.1).trans ?_, ((h c).2.2.2.1).trans ?_, ((h c).2.2.2.2.1).trans ?_,
      ((h c).2.2.2.2.2.1).trans ?_, ((h c).2.2.2.2.2.2.1).trans ?_, ((h c).2.2.2.2.2.2.2.1).trans ?_, (h c).2.2.2.2.2.2.2.2⟩) (Cert.StatesReferenceIdeal.Value.run m' g')⟩
  all_goals obtain ⟨e0, e1, e2, e3, e4, e5, e6, e7, e8⟩ := hag c
  all_goals have hz := same_z m g m' c e0 e1 e3 e4 e5 e6
  · refine Eq.trans (b := Cert.StatesReferenceIdeal.Run.refLat (Cert.StatesReferenceIdeal.Value.res_main_v34 (StableHlo.launchContents m' c)) ((StableHlo.launchContents m' c) (Proc.devRef .tc Cert.StatesReferenceIdeal.main_arg8))) rfl ?_
    funext i
    rw [idx_lead3 i]
    exact eq_lat m g (StableHlo.launchContents m' c) c hz (fun j => congrFun e8 (ix2 0 j)) _ _ _
  · refine Eq.trans (b := Cert.StatesReferenceIdeal.Run.refKpeY (Cert.StatesReferenceIdeal.Value.res_main_v55 (StableHlo.launchContents m' c))) rfl ?_
    funext i
    rw [idx_lead3 i]
    exact eq_pe m g (StableHlo.launchContents m' c) c hz _ _ _
  · refine Eq.trans (b := Cert.StatesReferenceIdeal.Run.refLead (Cert.StatesReferenceIdeal.Run.refRotY (Cert.StatesReferenceIdeal.Value.res_main_v126 (StableHlo.launchContents m' c)))) rfl ?_
    funext i
    rw [idx_lead4 i]
    exact eq_k m g (StableHlo.launchContents m' c) c hz _ _ _ _
  · refine Eq.trans (b := Cert.StatesReferenceIdeal.Run.refV (Cert.StatesReferenceIdeal.Value.res_main_v32 (StableHlo.launchContents m' c))) rfl ?_
    funext i
    rw [idx_lead4 i]
    exact eq_v m g (StableHlo.launchContents m' c) c hz _ _ _ _
  · refine Eq.trans (b := Cert.StatesReferenceIdeal.Run.refQn (Cert.StatesReferenceIdeal.Value.res_main_v33 (StableHlo.launchContents m' c)) ((StableHlo.launchContents m' c) (Proc.devRef .tc Cert.StatesReferenceIdeal.main_arg7))) rfl ?_
    funext i
    rw [idx_three i]
    exact eq_qn m g (StableHlo.launchContents m' c) c hz (fun j => congrFun e7 (ix2 0 j)) _ _ _
  · refine Eq.trans (b := Cert.StatesReferenceIdeal.Run.refFlat (Cert.StatesReferenceIdeal.Run.refRotY (Cert.StatesReferenceIdeal.Value.res_main_v91 (StableHlo.launchContents m' c)))) rfl ?_
    funext i
    rw [idx_three i]
    exact eq_mq m g (StableHlo.launchContents m' c) c hz _ _ _
  · refine Eq.trans (b := Cert.StatesReferenceIdeal.Run.refGate (Cert.StatesReferenceIdeal.Value.res_main_v32 (StableHlo.launchContents m' c))) rfl ?_
    funext i
    rw [idx_three i]
    exact eq_gate m g (StableHlo.launchContents m' c) c hz _ _ _
  · refine Eq.trans (b := Cert.StatesReferenceIdeal.Run.refMean (Cert.StatesReferenceIdeal.Run.refRotY (Cert.StatesReferenceIdeal.Value.res_main_v126 (StableHlo.launchContents m' c)))) rfl ?_
    funext i
    rw [idx_mid i]
    exact eq_mean m g (StableHlo.launchContents m' c) c hz _ _ _

end Cert.StatesIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Online
public import proofs.«01_k».proof.Proof.RefValue
public import proofs.«01_k».proof.Proof.Finite
public import proofs.«01_k».proof.Proof.Bits
public import proofs.«01_k».proof.Proof.PostClaim
public import proofs.«01_k».proof.Proof.StatesClaim
public import proofs.«01_k».proof.Proof.Gen.States
public import proofs.«01_k».proof.Proof.Gen.States.Frame
public import proofs.«01_k».proof.Proof.Gen.StatesIdeal
public import proofs.«01_k».proof.Proof.Gen.StatesIdeal.Frame
public import proofs.«01_k».proof.Proof.Gen.StatesReferenceIdeal
public import Idealize.ShloMosaic.Lib.Claim
public import Idealize.ShloMosaic.Adequacy
public import Idealize.ShloMosaic.Init

@[expose] public section

noncomputable section

namespace Cert.Proof

open Idealize.ShloMosaic Idealize.SL.Sem

/-- The reference's run keeps its arguments and leaves every semaphore at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩)
    (Cert.ReferenceIdeal.Value.run m g)

/-- The two programs' results are equal. -/
theorem equal_results : Cert.algebraic_KernelIdeal_ReferenceIdeal_pre_finite_scores := by
  intro m g m' g' hpre hag
  have hk := θ_run_and (Cert.KernelIdeal.Run.run_result m g) (Cert.KernelIdeal.Run.frame m g)
  refine ⟨fun c => Cert.KernelIdeal.Run.result m c, (θ_run _ _ _).mono (fun _ h c => ⟨h.1 c, (h.2.1 c).1, (h.2.1 c).2.1, (h.2.1 c).2.2⟩) hk,
    (θ_run _ _ _).mono (fun _ h c => ⟨((h c).1).trans ?_, (h c).2.1, (h c).2.2.1, (h c).2.2.2⟩) (Cert.ReferenceIdeal.Value.run m' g')⟩
  obtain ⟨fq, fk⟩ := Cert.Pre_finite_scores.Run.real_of_pre _ _ _ (hpre c)
  obtain ⟨e0, e1, e2⟩ := hag c
  rw [Cert.ReferenceIdeal.Run.res_eq, e0, e1, e2]
  funext i
  have hi : i = ix3 (i 0) (i 1) (i 2) := by
    funext a
    match a with
    | ⟨0, _⟩ => rfl
    | ⟨1, _⟩ => rfl
    | ⟨2, _⟩ => rfl
  rw [hi]
  exact (Cert.ReferenceIdeal.Run.ref_apply _ _ _ _ _ _).trans
    (Cert.KernelIdeal.Run.result_apply m c _ _ _ rfl rfl rfl fq fk _ _ _).symm

theorem claim : Cert.Claim :=
  ⟨Cert.Kernel.Gen.facts, Cert.KernelIdeal.Gen.facts, Cert.ReferenceIdeal.Gen.facts,
    Cert.Post.Gen.facts, Cert.PostIdeal.Gen.facts, Cert.PostReferenceIdeal.Gen.facts,
    Cert.States.Gen.facts, Cert.StatesIdeal.Gen.facts, Cert.StatesReferenceIdeal.Gen.facts, Cert.Pre_finite_scores.Run.facts,
    fun m g _ => Cert.Kernel.Run.frame m g, fun m g _ => Cert.KernelIdeal.Run.frame m g, fun m g _ => Cert.KernelIdeal.Run.frame m g,
    fun m g _ => frame_reference m g, fun m g _ => frame_reference m g,
    fun m g _ => Cert.Post.Gen.frame m g, fun m g _ => Cert.PostIdeal.Gen.frame m g, Cert.PostIdeal.Run.frame_reference,
    fun m g _ => Cert.States.Gen.frame m g, fun m g _ => Cert.StatesIdeal.Gen.frame m g, Cert.StatesIdeal.Run.frame_reference,
    IdealRules.named_const.statement Cert.KernelIdeal.κ "mask" .f32 0xF149F2CA#32 ⊥ rfl, equal_results,
    trivial, Cert.PostIdeal.Run.equal_results,
    trivial, Cert.StatesIdeal.Run.equal_results⟩

end Cert.Proof

end
